-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "mask" .f32 0xF149F2CA#32 ⊥
  ∧ IdealRules.named_const.Statement Cert.KernelIdeal.κ "unfold" .f32 0x3E7D75E0#32 ((Real.sqrt ((Real.sqrt 128)⁻¹ * (Real.log 2)) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v60_3)) (v4 : (c : Dev Cert.KernelIdeal.nD) → Buf (Elt Ideal) ((c.tc : Thread Cert.KernelIdeal.nD Cert.KernelIdeal.τ).loc Cert.KernelIdeal.main_v60_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v60_3) = v3 c
          ∧ r.2.mem ((c.tc : Thread Cert.KernelIdeal.nD Cert.KernelIdeal.τ).loc Cert.KernelIdeal.main_v60_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v4)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v4) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v5) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v1) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v3) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v4_2)) (v1 : (c : Dev Cert.ActIdeal.nD) → Buf (Elt Ideal) ((c.tc : Thread Cert.ActIdeal.nD Cert.ActIdeal.τ).loc Cert.ActIdeal.main_v7)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v4_2) = v0 c
          ∧ r.2.mem ((c.tc : Thread Cert.ActIdeal.nD Cert.ActIdeal.τ).loc Cert.ActIdeal.main_v7) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v12) = v0 c
          ∧ r.2.mem ((c.tc : Thread Cert.ActRefIdeal.nD Cert.ActRefIdeal.τ).loc Cert.ActRefIdeal.main_v16) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v7_0)) (v1 : (c : Dev Cert.DhIdeal.nD) → Buf (Elt Ideal) ((c.tc : Thread Cert.DhIdeal.nD Cert.DhIdeal.τ).loc Cert.DhIdeal.main_v7_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v7_0) = v0 c
          ∧ r.2.mem ((c.tc : Thread Cert.DhIdeal.nD Cert.DhIdeal.τ).loc Cert.DhIdeal.main_v7_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v38) = v0 c
          ∧ r.2.mem ((c.tc : Thread Cert.DhRefIdeal.nD Cert.DhRefIdeal.τ).loc Cert.DhRefIdeal.main_v39) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v1) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v3)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v3) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v4) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v5_0)) (v1 : (c : Dev Cert.InDxIdeal.nD) → Buf (Elt Ideal) ((c.tc : Thread Cert.InDxIdeal.nD Cert.InDxIdeal.τ).loc Cert.InDxIdeal.main_v5_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v5_0) = v0 c
          ∧ r.2.mem ((c.tc : Thread Cert.InDxIdeal.nD Cert.InDxIdeal.τ).loc Cert.InDxIdeal.main_v5_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v39) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_Attn_AttnIdeal : Prop :=
  IdealRules.named_const.Statement Cert.AttnIdeal.κ "mask" .f32 0xF149F2CA#32 ⊥
  ∧ IdealRules.named_const.Statement Cert.AttnIdeal.κ "log2e" .f32 0x3FB8AA3B#32 (((Real.log 2)⁻¹ : ℝ) : EReal)
  ∧ IdealRules.named_const.Statement Cert.AttnIdeal.κ "ln2" .f32 0x3F317218#32 ((Real.log 2 : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v20_0)) (v1 : (c : Dev Cert.AttnIdeal.nD) → Buf (Elt Ideal) ((c.tc : Thread Cert.AttnIdeal.nD Cert.AttnIdeal.τ).loc Cert.AttnIdeal.main_v20_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v20_0) = v0 c
          ∧ r.2.mem ((c.tc : Thread Cert.AttnIdeal.nD Cert.AttnIdeal.τ).loc Cert.AttnIdeal.main_v20_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33) = v0 c
          ∧ r.2.mem ((c.tc : Thread Cert.AttnRefIdeal.nD Cert.AttnRefIdeal.τ).loc Cert.AttnRefIdeal.main_v36) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDown : Cert.Down.Facts) (hDownIdeal : Cert.DownIdeal.Facts) (hDownRefIdeal : Cert.DownRefIdeal.Facts) (hAct : Cert.Act.Facts) (hActIdeal : Cert.ActIdeal.Facts) (hActRefIdeal : Cert.ActRefIdeal.Facts) (hDh : Cert.Dh.Facts) (hDhIdeal : Cert.DhIdeal.Facts) (hDhRefIdeal : Cert.DhRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hIn : Cert.In.Facts) (hInIdeal : Cert.InIdeal.Facts) (hInRefIdeal : Cert.InRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hAttn : Cert.Attn.Facts) (hAttnIdeal : Cert.AttnIdeal.Facts) (hAttnRefIdeal : Cert.AttnRefIdeal.Facts) (hPre_finite : Cert.Pre_finite.Facts) (hPre_finite_act : Cert.Pre_finite_act.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Down (hDown := hDown)
    ∧ quiescent_DownIdeal (hDownIdeal := hDownIdeal)
    ∧ quiescent_DownRefIdeal (hDownRefIdeal := hDownRefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Dh (hDh := hDh)
    ∧ quiescent_DhIdeal (hDhIdeal := hDhIdeal)
    ∧ quiescent_DhRefIdeal (hDhRefIdeal := hDhRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_In (hIn := hIn)
    ∧ quiescent_InIdeal (hInIdeal := hInIdeal)
    ∧ quiescent_InRefIdeal (hInRefIdeal := hInRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_Down_DownIdeal
    ∧ algebraic_DownIdeal_DownRefIdeal (hDownIdeal := hDownIdeal) (hDownRefIdeal := hDownRefIdeal)
    ∧ preserves_Act_ActIdeal
    ∧ algebraic_ActIdeal_ActRefIdeal_pre_finite_act (hActIdeal := hActIdeal) (hActRefIdeal := hActRefIdeal) (hPre_finite_act := hPre_finite_act)
    ∧ preserves_Dh_DhIdeal
    ∧ algebraic_DhIdeal_DhRefIdeal (hDhIdeal := hDhIdeal) (hDhRefIdeal := hDhRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_In_InIdeal
    ∧ algebraic_InIdeal_InRefIdeal (hInIdeal := hInIdeal) (hInRefIdeal := hInRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
-- ==== Pre_finite.lean ====
abbrev S8192x2048 : Shape := ⟨2, ![8192, 2048]⟩
abbrev S16x8192 : Shape := ⟨2, ![16, 8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_arg4 : FVec F S8192x2048 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S8192x2048 .f32) (main_arg3 : FVec F S16x8192 .f32) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_v13 main_v16
-- ==== Pre_finite_act.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S2048x11264 .f32) (main_arg2 : FVec F S5632x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_finite_attn.lean ====
abbrev S8192x2048 : Shape := ⟨2, ![8192, 2048]⟩
abbrev S16x8192 : Shape := ⟨2, ![16, 8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S8192x2048 .f32) (main_arg3 : FVec F S16x8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_v13 main_v16
-- ==== Kernel.lean ====
abbrev S8192x2048 : Shape := ⟨2, ![8192, 2048]⟩
abbrev S16x8192 : Shape := ⟨2, ![16, 8192]⟩
abbrev S_ : Shape := ⟨0, ![]⟩
abbrev S8192x16x128 : Shape := ⟨3, ![8192, 16, 128]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩
abbrev S8192x16 : Shape := ⟨2, ![8192, 16]⟩
abbrev S8192x256 : Shape := ⟨2, ![8192, 256]⟩
abbrev S2x1x8192 : Shape := ⟨3, ![2, 1, 8192]⟩
abbrev S512x256 : Shape := ⟨2, ![512, 256]⟩
abbrev S2x512x1 : Shape := ⟨3, ![2, 512, 1]⟩
abbrev S512x128 : Shape := ⟨2, ![512, 128]⟩
abbrev S1x1x512 : Shape := ⟨3, ![1, 1, 512]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 85
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .bf16⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S8192x2048, .bf16⟩
  | .hbm, ⟨28, _⟩ => ⟨S8192x2048, .bf16⟩
  | .hbm, ⟨29, _⟩ => ⟨S8192x16x128, .f32⟩
  | .hbm, ⟨30, _⟩ => ⟨S8192x16x128, .f32⟩
  | .hbm, ⟨31, _⟩ => ⟨S16x8192x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16x8192x8192, .f32⟩
  | .hbm, ⟨37, _⟩ => ⟨S16x8192x8192, .f32⟩
  | .hbm, ⟨38, _⟩ => ⟨S16x8192x1, .f32⟩
  | .hbm, ⟨39, _⟩ => ⟨S16x1x8192, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S16x8192x8192, .f32⟩
  | .hbm, ⟨44, _⟩ => ⟨S8192, .i32⟩
  | .hbm, ⟨45, _⟩ => ⟨S8192x1, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .f32⟩
  | .hbm, ⟨51, _⟩ => ⟨S_, .f32⟩
  | .hbm, ⟨52, _⟩ => ⟨S16x8192x8192, .i1⟩
  | .hbm, ⟨53, _⟩ => ⟨S16x8192x8192, .f32⟩
  | .hbm, ⟨54, _⟩ => ⟨S16x8192x8192, .f32⟩
  | .hbm, ⟨55, _⟩ => ⟨S_, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192, .f32⟩
  | .hbm, ⟨67, _⟩ => ⟨S16x8192, .f32⟩
  | .hbm, ⟨68, _⟩ => ⟨S8192x16x128, .f32⟩
  | .hbm, ⟨69, _⟩ => ⟨S16x128x8192, .f32⟩
  | .hbm, ⟨70, _⟩ => ⟨S8192x16x128, .f32⟩
  | .hbm, ⟨71, _⟩ => ⟨S8192x16x128, .f32⟩
  | .hbm, ⟨72, _⟩ => ⟨S8192x16x128, .f32⟩
  | .hbm, ⟨73, _⟩ => ⟨S_, .f32⟩
  | .hbm, ⟨74, _⟩ => ⟨S8192x16, .f32⟩
  | .hbm, ⟨75, _⟩ => ⟨S16x1x8192, .f32⟩
  | .hbm, ⟨76, _⟩ => ⟨S16x1x8192, .f32⟩
  | .hbm, ⟨77, _⟩ => ⟨S16x8192, .f32⟩
  | .hbm, ⟨78, _⟩ => ⟨S16x1x8192, .f32⟩
  | .hbm, ⟨79, _⟩ => ⟨S16x8192x1, .f32⟩
  | .hbm, ⟨80, _⟩ => ⟨S8192x2048, .f32⟩
  | .hbm, ⟨81, _⟩ => ⟨S8192x2048, .f32⟩
  | .hbm, ⟨82, _⟩ => ⟨S8192x2048, .bf16⟩
  | .hbm, ⟨83, _⟩ => ⟨S16x8192x1, .f32⟩
  | .hbm, ⟨84, _⟩ => ⟨S16x1x8192, .f32⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S2x1x8192, .f32⟩
  | .local _ .vmem, ⟨5, _⟩ => ⟨S2x1x8192, .f32⟩
  | .local _ .vmem, ⟨6, _⟩ => ⟨S2x1x8192, .f32⟩
  | .local _ .vmem, ⟨7, _⟩ => ⟨S2x1x8192, .f32⟩
  | .local _ .vmem, ⟨8, _⟩ => ⟨S2x1x8192, .f32⟩
  | .local _ .vmem, ⟨9, _⟩ => ⟨S2x1x8192, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S2x512x1, .f32⟩
  | .local _ .vmem, ⟨15, _⟩ => ⟨S2x512x1, .f32⟩
  | .local _ .vmem, ⟨16, _⟩ => ⟨S8192x256, .f32⟩
  | .local _ .vmem, ⟨17, _⟩ => ⟨S8192x256, .f32⟩
  | .local _ .vmem, ⟨18, _⟩ => ⟨S512x256, .f32⟩
  | .local _ .vmem, ⟨19, _⟩ => ⟨S512x256, .f32⟩
  | .local _ .vmem, ⟨20, _⟩ => ⟨S512x256, .bf16⟩
  | .local _ .vmem, ⟨21, _⟩ => ⟨S512x256, .bf16⟩
  | .local _ .vmem, ⟨22, _⟩ => ⟨S2x512x1, .f32⟩
  | .local _ .vmem, ⟨23, _⟩ => ⟨S2x512x1, .f32⟩
  | .local _ .vmem, ⟨24, _⟩ => ⟨S2x1x8192, .f32⟩
  | .local _ .vmem, ⟨25, _⟩ => ⟨S2x1x8192, .f32⟩
  | .local _ .vmem, ⟨26, _⟩ => ⟨S512x256, .f32⟩
  | .local _ .vmem, ⟨27, _⟩ => ⟨S512x256, .f32⟩
  | .local _ .vmem, ⟨28, _⟩ => ⟨S2x512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60_0 : Ref sig .tc := ⟨.hbm, 80, rfl⟩
abbrev main_v60_1 : Ref sig .tc := ⟨.hbm, 81, rfl⟩
abbrev main_v60_2 : Ref sig .tc := ⟨.hbm, 82, rfl⟩
abbrev main_v60_3 : Ref sig .tc := ⟨.hbm, 83, rfl⟩
abbrev main_v60_4 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v19 : Index := Scalar.indexCast v16
  let c0_11 : Index := 0#32
  ![v19.toNat, 0]
def k0_off2 (i : grid0.Coords) : Fin 3 → Nat :=
  let c0_13 : Index := 0#32
  let c0_14 : Index := 0#32
  let arg1 : BitVec 32 := BitVec.ofNat 32 (i 1).val
  let c512_i32 : BitVec 32 := 512#32
  let v15 : BitVec 32 := Scalar.muli arg1 c512_i32
  let v16 : BitVec 32 := v15
  let v25 : Index := Scalar.indexCast v16
  ![0, 0, v25.toNat]
def k0_off3 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v99 : Index := Scalar.indexCast v16
  let c128_55 : Index := 128#32
  ![v99.toNat, 128]
def k0_off4 (i : grid0.Coords) : Fin 3 → Nat :=
  let c1 : Index := 1#32
  let c0_57 : Index := 0#32
  let arg1 : BitVec 32 := BitVec.ofNat 32 (i 1).val
  let c512_i32 : BitVec 32 := 512#32
  let v15 : BitVec 32 := Scalar.muli arg1 c512_i32
  let v16 : BitVec 32 := v15
  let v105 : Index := Scalar.indexCast v16
  ![1, 0, v105.toNat]
@[reducible] def k0_t1_loop (i : grid0.Coords) : Scf.Loop 32 :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_99 : BitVec 32 := 1#32
  ⟨v177, v182, c1_i32_99⟩
def k0_mult2 (i : grid0.Coords) (k0_t1 : Fin (k0_t1_loop i).trips) : BitVec 32 :=
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  v194
def k0_off5 (i : grid0.Coords) (k0_t1 : Fin (k0_t1_loop i).trips) : Fin 2 → Nat :=
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v198 : Index := Scalar.indexCast v195
  let c0_120 : Index := 0#32
  ![v198.toNat, 0]
def k0_off6 (i : grid0.Coords) (k0_t1 : Fin (k0_t1_loop i).trips) : Fin 3 → Nat :=
  let c0_122 : Index := 0#32
  let c0_123 : Index := 0#32
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v204 : Index := Scalar.indexCast v195
  ![0, 0, v204.toNat]
def k0_off7 (i : grid0.Coords) (k0_t1 : Fin (k0_t1_loop i).trips) : Fin 2 → Nat :=
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v273 : Index := Scalar.indexCast v195
  let c128_164 : Index := 128#32
  ![v273.toNat, 128]
def k0_off8 (i : grid0.Coords) (k0_t1 : Fin (k0_t1_loop i).trips) : Fin 3 → Nat :=
  let c1_166 : Index := 1#32
  let c0_167 : Index := 0#32
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v279 : Index := Scalar.indexCast v195
  ![1, 0, v279.toNat]
@[reducible] def k0_t2_loop (i : grid0.Coords) : Scf.Loop 32 :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let v179 : BitVec 32 := Scalar.addi v177 v178
  let c1_i32_100 : BitVec 32 := 1#32
  ⟨v182, v179, c1_i32_100⟩
def k0_mult3 (i : grid0.Coords) (k0_t2 : Fin (k0_t2_loop i).trips) : BitVec 32 :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  v194
def k0_off9 (i : grid0.Coords) (k0_t2 : Fin (k0_t2_loop i).trips) : Fin 2 → Nat :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v198 : Index := Scalar.indexCast v195
  let c0_120 : Index := 0#32
  ![v198.toNat, 0]
def k0_off10 (i : grid0.Coords) (k0_t2 : Fin (k0_t2_loop i).trips) : Fin 3 → Nat :=
  let c0_122 : Index := 0#32
  let c0_123 : Index := 0#32
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v204 : Index := Scalar.indexCast v195
  ![0, 0, v204.toNat]
def k0_off11 (i : grid0.Coords) (k0_t2 : Fin (k0_t2_loop i).trips) : Fin 2 → Nat :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v273 : Index := Scalar.indexCast v195
  let c128_164 : Index := 128#32
  ![v273.toNat, 128]
def k0_off12 (i : grid0.Coords) (k0_t2 : Fin (k0_t2_loop i).trips) : Fin 3 → Nat :=
  let c1_166 : Index := 1#32
  let c0_167 : Index := 0#32
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v279 : Index := Scalar.indexCast v195
  ![1, 0, v279.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | "unfold" => some ((Real.sqrt ((Real.sqrt 128)⁻¹ * (Real.log 2)) : ℝ) : EReal)
  | _ => none
-- ==== ReferenceIdeal.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩
abbrev S16x8192x128 : Shape := ⟨3, ![16, 8192, 128]⟩

abbrev nBuf : Space → Nat
  | .hbm => 120
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x2048, .f32⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S16x8192x1, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S8192, .i32⟩
  | .hbm, ⟨22, _⟩ => ⟨S8192x1, .i32⟩
  | .hbm, ⟨23, _⟩ => ⟨S1x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S_, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S16x8192x1, .f32⟩
  | .hbm, ⟨37, _⟩ => ⟨S16x8192x8192, .f32⟩
  | .hbm, ⟨38, _⟩ => ⟨S16x8192x8192, .i1⟩
  | .hbm, ⟨39, _⟩ => ⟨S16x8192x8192, .f32⟩
  | .hbm, ⟨40, _⟩ => ⟨S_, .f32⟩
  | .hbm, ⟨41, _⟩ => ⟨S16x8192, .f32⟩
  | .hbm, ⟨42, _⟩ => ⟨S_, .f32⟩
  | .hbm, ⟨43, _⟩ => ⟨S16x8192, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S16x8192, .i1⟩
  | .hbm, ⟨48, _⟩ => ⟨S_, .f32⟩
  | .hbm, ⟨49, _⟩ => ⟨S16x8192, .f32⟩
  | .hbm, ⟨50, _⟩ => ⟨S16x8192, .i1⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S_, .f32⟩
  | .hbm, ⟨56, _⟩ => ⟨S16x8192, .f32⟩
  | .hbm, ⟨57, _⟩ => ⟨S16x8192, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S_, .f32⟩
  | .hbm, ⟨64, _⟩ => ⟨S16x8192, .f32⟩
  | .hbm, ⟨65, _⟩ => ⟨S16x8192x1, .f32⟩
  | .hbm, ⟨66, _⟩ => ⟨S16x8192x8192, .f32⟩
  | .hbm, ⟨67, _⟩ => ⟨S16x8192x8192, .f32⟩
  | .hbm, ⟨68, _⟩ => ⟨S16x8192x1, .f32⟩
  | .hbm, ⟨69, _⟩ => ⟨S_, .f32⟩
  | .hbm, ⟨70, _⟩ => ⟨S16x8192x1, .f32⟩
  | .hbm, ⟨71, _⟩ => ⟨S16x8192x1, .f32⟩
  | .hbm, ⟨72, _⟩ => ⟨S16x128x8192, .f32⟩
  | .hbm, ⟨73, _⟩ => ⟨S8192x16x128, .f32⟩
  | .hbm, ⟨74, _⟩ => ⟨S8192x2048, .f32⟩
  | .hbm, ⟨75, _⟩ => ⟨S8192x16x128, .f32⟩
  | .hbm, ⟨76, _⟩ => ⟨S16x128x8192, .f32⟩
  | .hbm, ⟨77, _⟩ => ⟨S16x8192x8192, .f32⟩
  | .hbm, ⟨78, _⟩ => ⟨S16x128x8192, .f32⟩
  | .hbm, ⟨79, _⟩ => ⟨S8192x16x128, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192, .f32⟩
  | .hbm, ⟨85, _⟩ => ⟨S16x8192x1, .f32⟩
  | .hbm, ⟨86, _⟩ => ⟨S16x8192x1, .f32⟩
  | .hbm, ⟨87, _⟩ => ⟨S16x8192x8192, .f32⟩
  | .hbm, ⟨88, _⟩ => ⟨S16x8192x8192, .f32⟩
  | .hbm, ⟨89, _⟩ => ⟨S_, .f32⟩
  | .hbm, ⟨90, _⟩ => ⟨S16x8192, .f32⟩
  | .hbm, ⟨91, _⟩ => ⟨S16x8192x8192, .f32⟩
  | .hbm, ⟨92, _⟩ => ⟨S16x8192x8192, .f32⟩
  | .hbm, ⟨93, _⟩ => ⟨S16x8192x8192, .f32⟩
  | .hbm, ⟨94, _⟩ => ⟨S_, .f32⟩
  | .hbm, ⟨95, _⟩ => ⟨S16x8192x8192, .f32⟩
  | .hbm, ⟨96, _⟩ => ⟨S16x8192x8192, .f32⟩
  | .hbm, ⟨97, _⟩ => ⟨S_, .f32⟩
  | .hbm, ⟨98, _⟩ => ⟨S16x8192, .f32⟩
  | .hbm, ⟨99, _⟩ => ⟨S16x8192x1, .f32⟩
  | .hbm, ⟨100, _⟩ => ⟨S16x8192x8192, .f32⟩
  | .hbm, ⟨101, _⟩ => ⟨S_, .f32⟩
  | .hbm, ⟨102, _⟩ => ⟨S16x8192, .f32⟩
  | .hbm, ⟨103, _⟩ => ⟨S16x1x8192, .f32⟩
  | .hbm, ⟨104, _⟩ => ⟨S_, .f32⟩
  | .hbm, ⟨105, _⟩ => ⟨S16x8192, .f32⟩
  | .hbm, ⟨106, _⟩ => ⟨S_, .f32⟩
  | .hbm, ⟨107, _⟩ => ⟨S16x8192, .f32⟩
  | .hbm, ⟨108, _⟩ => ⟨S16x8192x8192, .f32⟩
  | .hbm, ⟨109, _⟩ => ⟨S16x8192x8192, .f32⟩
  | .hbm, ⟨110, _⟩ => ⟨S16x8192x128, .f32⟩
  | .hbm, ⟨111, _⟩ => ⟨S8192x16x128, .f32⟩
  | .hbm, ⟨112, _⟩ => ⟨S16x8192x128, .f32⟩
  | .hbm, ⟨113, _⟩ => ⟨S8192x16x128, .f32⟩
  | .hbm, ⟨114, _⟩ => ⟨S8192x2048, .f32⟩
  | .hbm, ⟨115, _⟩ => ⟨S8192x2048, .f32⟩
  | .hbm, ⟨116, _⟩ => ⟨S8192x2048, .f32⟩
  | .hbm, ⟨117, _⟩ => ⟨S8192x2048, .bf16⟩
  | .hbm, ⟨118, _⟩ => ⟨S16x8192x1, .f32⟩
  | .hbm, ⟨119, _⟩ => ⟨S16x1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_call0_v0 : Ref sig .tc := ⟨.hbm, 28, rfl⟩
abbrev main_v20_1 : Ref sig .tc := ⟨.hbm, 29, rfl⟩
abbrev main_call0_v2 : Ref sig .tc := ⟨.hbm, 30, rfl⟩
abbrev main_v20_0 : Ref sig .tc := ⟨.hbm, 31, rfl⟩
abbrev main_call0_cst : Ref sig .tc := ⟨.hbm, 32, rfl⟩
abbrev main_v20_2 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== DwUp.lean ====
abbrev S8192x2048 : Shape := ⟨2, ![8192, 2048]⟩
abbrev S2048x11264 : Shape := ⟨2, ![2048, 11264]⟩
abbrev S8192x11264 : Shape := ⟨2, ![8192, 11264]⟩
abbrev S8192x2x5632 : Shape := ⟨3, ![8192, 2, 5632]⟩
abbrev S2x8192x5632 : Shape := ⟨3, ![2, 8192, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x2x5632, .f32⟩
  | .hbm, ⟨4, _⟩ => ⟨S2x8192x5632, .f32⟩
  | .hbm, ⟨5, _⟩ => ⟨S2x8192x5632, .bf16⟩
  | .hbm, ⟨6, _⟩ => ⟨S8192x2048, .bf16⟩
  | .hbm, ⟨7, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S11264x2048, .f32⟩
  | .hbm, ⟨5, _⟩ => ⟨S2048x11264, .f32⟩
  | .hbm, ⟨6, _⟩ => ⟨S2048x8x1408, .f32⟩
  | .hbm, ⟨7, _⟩ => ⟨S8x2048x1408, .f32⟩
  | .hbm, ⟨8, _⟩ => ⟨S8x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwDown.lean ====
abbrev S8192x5632 : Shape := ⟨2, ![8192, 5632]⟩
abbrev S5632x2048 : Shape := ⟨2, ![5632, 2048]⟩
abbrev S8192x2048 : Shape := ⟨2, ![8192, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Act.lean ====
abbrev S8192x2048 : Shape := ⟨2, ![8192, 2048]⟩
abbrev S2048x11264 : Shape := ⟨2, ![2048, 11264]⟩
abbrev S5632x2048 : Shape := ⟨2, ![5632, 2048]⟩
abbrev S2048x8x1408 : Shape := ⟨3, ![2048, 8, 1408]⟩
abbrev S8x2048x1408 : Shape := ⟨3, ![8, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S4x1408x2048 : Shape := ⟨3, ![4, 1408, 2048]⟩
abbrev S2x8192x5632 : Shape := ⟨3, ![2, 8192, 5632]⟩
abbrev S1x1408x2048 : Shape := ⟨3, ![1, 1408, 2048]⟩
abbrev S2x512x1408 : Shape := ⟨3, ![2, 512, 1408]⟩
abbrev S1x640x2048 : Shape := ⟨3, ![1, 640, 2048]⟩
abbrev S640x2048 : Shape := ⟨2, ![640, 2048]⟩
abbrev S512x640 : Shape := ⟨2, ![512, 640]⟩
abbrev S1x512x640 : Shape := ⟨3, ![1, 512, 640]⟩
abbrev S1x768x2048 : Shape := ⟨3, ![1, 768, 2048]⟩
abbrev S768x2048 : Shape := ⟨2, ![768, 2048]⟩
abbrev S512x768 : Shape := ⟨2, ![512, 768]⟩
abbrev S1x512x768 : Shape := ⟨3, ![1, 512, 768]⟩

abbrev nBuf : Space → Nat
  | .hbm => 14
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x2048, .bf16⟩
  | .hbm, ⟨5, _⟩ => ⟨S2048x8x1408, .f32⟩
  | .hbm, ⟨6, _⟩ => ⟨S8x2048x1408, .f32⟩
  | .hbm, ⟨7, _⟩ => ⟨S8x2048x1408, .bf16⟩
  | .hbm, ⟨8, _⟩ => ⟨S8192x5632, .bf16⟩
  | .hbm, ⟨9, _⟩ => ⟨S8192x5632, .bf16⟩
  | .hbm, ⟨10, _⟩ => ⟨S8192x5632, .bf16⟩
  | .hbm, ⟨11, _⟩ => ⟨S5632x2048, .bf16⟩
  | .hbm, ⟨12, _⟩ => ⟨S4x1408x2048, .bf16⟩
  | .hbm, ⟨13, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x2048, .f32⟩
  | .local _ .vmem, ⟨13, _⟩ => ⟨S512x2048, .f32⟩
  | .local _ .vmem, ⟨14, _⟩ => ⟨S1x1408x2048, .bf16⟩
  | .local _ .vmem, ⟨15, _⟩ => ⟨S1x1408x2048, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S2x512x1408, .bf16⟩
  | .local _ .vmem, ⟨21, _⟩ => ⟨S2x512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ActRefIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .bf16⟩
  | .hbm, ⟨40, _⟩ => ⟨S1x8192x5632, .f32⟩
  | .hbm, ⟨41, _⟩ => ⟨S1x8192x5632, .f32⟩
  | .hbm, ⟨42, _⟩ => ⟨S2x8192x5632, .f32⟩
  | .hbm, ⟨43, _⟩ => ⟨S2x8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]
-- ==== Dh.lean ====
abbrev S8192x2048 : Shape := ⟨2, ![8192, 2048]⟩
abbrev S2048 : Shape := ⟨1, ![2048]⟩
abbrev S2048x11264 : Shape := ⟨2, ![2048, 11264]⟩
abbrev S8192x11264 : Shape := ⟨2, ![8192, 11264]⟩
abbrev S8192x2x5632 : Shape := ⟨3, ![8192, 2, 5632]⟩
abbrev S2x8192x5632 : Shape := ⟨3, ![2, 8192, 5632]⟩
abbrev S2048x8x1408 : Shape := ⟨3, ![2048, 8, 1408]⟩
abbrev S8x2048x1408 : Shape := ⟨3, ![8, 2048, 1408]⟩
abbrev S1x2048 : Shape := ⟨2, ![1, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩
abbrev S128x2048 : Shape := ⟨2, ![128, 2048]⟩
abbrev S128 : Shape := ⟨1, ![128]⟩
abbrev S128x1 : Shape := ⟨2, ![128, 1]⟩

abbrev nBuf : Space → Nat
  | .hbm => 14
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S8192x11264, .f32⟩
  | .hbm, ⟨4, _⟩ => ⟨S8192x2048, .f32⟩
  | .hbm, ⟨5, _⟩ => ⟨S8192x2x5632, .f32⟩
  | .hbm, ⟨6, _⟩ => ⟨S2x8192x5632, .f32⟩
  | .hbm, ⟨7, _⟩ => ⟨S2x8192x5632, .bf16⟩
  | .hbm, ⟨8, _⟩ => ⟨S2048x8x1408, .f32⟩
  | .hbm, ⟨9, _⟩ => ⟨S8x2048x1408, .f32⟩
  | .hbm, ⟨10, _⟩ => ⟨S8x2048x1408, .bf16⟩
  | .hbm, ⟨11, _⟩ => ⟨S1x2048, .f32⟩
  | .hbm, ⟨12, _⟩ => ⟨S8192x2048, .f32⟩
  | .hbm, ⟨13, _⟩ => ⟨S1x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

@[reducible] def k0_t1_loop : Scf.Loop 32 :=
  let c0_i32_12 : BitVec 32 := 0#32
  let c4_i32 : BitVec 32 := 4#32
  let v16 : BitVec 32 := Scalar.addi c0_i32_12 c4_i32
  let c1_i32 : BitVec 32 := 1#32
  ⟨c0_i32_12, v16, c1_i32⟩
def k0_mult1 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c128_i32 : BitVec 32 := 128#32
  let v24 : BitVec 32 := Scalar.muli arg9 c128_i32
  v24
def k0_off1 (k0_t1 : Fin k0_t1_loop.trips) : Fin 2 → Nat :=
  let c0_i32_12 : BitVec 32 := 0#32
  let c1_i32 : BitVec 32 := 1#32
  let arg9 : BitVec 32 := Scf.iv c0_i32_12 c1_i32 k0_t1
  let c128_i32 : BitVec 32 := 128#32
  let v24 : BitVec 32 := Scalar.muli arg9 c128_i32
  let v25 : BitVec 32 := v24
  let v26 : Index := Scalar.indexCast v25
  let c0_18 : Index := 0#32
  ![v26.toNat, 0]
def k0_cond3 (i : grid0.Coords) : BitVec 1 :=
  let arg0 : BitVec 32 := BitVec.ofNat 32 (i 0).val
  let c0_i32_14 : BitVec 32 := 0#32
  let v18 : BitVec 1 := Scalar.cmpi .eq arg0 c0_i32_14
  let v19 : BitVec 32 := Scalar.extui v18
  let c0_i32_15 : BitVec 32 := 0#32
  let v20 : BitVec 1 := Scalar.cmpi .ne v19 c0_i32_15
  v20

def k0_cond4 (i : grid0.Coords) : BitVec 1 :=
  let arg0 : BitVec 32 := BitVec.ofNat 32 (i 0).val
  let c0_i32_16 : BitVec 32 := 0#32
  let v21 : BitVec 1 := Scalar.cmpi .sgt arg0 c0_i32_16
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhRefIdeal.lean ====
abbrev S8192x2048 : Shape := ⟨2, ![8192, 2048]⟩
abbrev S2048 : Shape := ⟨1, ![2048]⟩
abbrev S2048x11264 : Shape := ⟨2, ![2048, 11264]⟩
abbrev S8192x11264 : Shape := ⟨2, ![8192, 11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S8192x11264, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x11264, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDx.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S8192x2048 : Shape := ⟨2, ![8192, 2048]⟩
abbrev S2048x6160 : Shape := ⟨2, ![2048, 6160]⟩
abbrev S_ : Shape := ⟨0, ![]⟩
abbrev S2048x6272 : Shape := ⟨2, ![2048, 6272]⟩
abbrev S8192x6272 : Shape := ⟨2, ![8192, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S8192x2048, .bf16⟩
  | .hbm, ⟨3, _⟩ => ⟨S2048x6160, .bf16⟩
  | .hbm, ⟨4, _⟩ => ⟨S_, .i32⟩
  | .hbm, ⟨5, _⟩ => ⟨S_, .bf16⟩
  | .hbm, ⟨6, _⟩ => ⟨S2048x6272, .bf16⟩
  | .hbm, ⟨7, _⟩ => ⟨S8192x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x6160 : Shape := ⟨2, ![2048, 6160]⟩
abbrev S8192x6160 : Shape := ⟨2, ![8192, 6160]⟩
abbrev S_ : Shape := ⟨0, ![]⟩
abbrev S8192x6272 : Shape := ⟨2, ![8192, 6272]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S8192x6160, .f32⟩
  | .hbm, ⟨3, _⟩ => ⟨S_, .i32⟩
  | .hbm, ⟨4, _⟩ => ⟨S_, .f32⟩
  | .hbm, ⟨5, _⟩ => ⟨S8192x6272, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== InDw.lean ====
abbrev S8192x2048 : Shape := ⟨2, ![8192, 2048]⟩
abbrev S2048x6160 : Shape := ⟨2, ![2048, 6160]⟩
abbrev S8192x6160 : Shape := ⟨2, ![8192, 6160]⟩
abbrev S_ : Shape := ⟨0, ![]⟩
abbrev S8192x6272 : Shape := ⟨2, ![8192, 6272]⟩
abbrev S2048x6272 : Shape := ⟨2, ![2048, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S8192x6160, .f32⟩
  | .hbm, ⟨3, _⟩ => ⟨S8192x2048, .bf16⟩
  | .hbm, ⟨4, _⟩ => ⟨S_, .i32⟩
  | .hbm, ⟨5, _⟩ => ⟨S_, .f32⟩
  | .hbm, ⟨6, _⟩ => ⟨S8192x6272, .f32⟩
  | .hbm, ⟨7, _⟩ => ⟨S8192x6272, .bf16⟩
  | .hbm, ⟨8, _⟩ => ⟨S2048x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S2048x6160 : Shape := ⟨2, ![2048, 6160]⟩
abbrev S8192x6160 : Shape := ⟨2, ![8192, 6160]⟩
abbrev S6160x2048 : Shape := ⟨2, ![6160, 2048]⟩
abbrev S_ : Shape := ⟨0, ![]⟩
abbrev S2048x6272 : Shape := ⟨2, ![2048, 6272]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S8192x6160, .f32⟩
  | .hbm, ⟨3, _⟩ => ⟨S8192x6160, .f32⟩
  | .hbm, ⟨4, _⟩ => ⟨S6160x2048, .f32⟩
  | .hbm, ⟨5, _⟩ => ⟨S2048x6160, .f32⟩
  | .hbm, ⟨6, _⟩ => ⟨S2048x6160, .bf16⟩
  | .hbm, ⟨7, _⟩ => ⟨S_, .i32⟩
  | .hbm, ⟨8, _⟩ => ⟨S_, .bf16⟩
  | .hbm, ⟨9, _⟩ => ⟨S2048x6272, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== InDx.lean ====
abbrev S8192x2048 : Shape := ⟨2, ![8192, 2048]⟩
abbrev S2048 : Shape := ⟨1, ![2048]⟩
abbrev S2048x6160 : Shape := ⟨2, ![2048, 6160]⟩
abbrev S8192x6160 : Shape := ⟨2, ![8192, 6160]⟩
abbrev S_ : Shape := ⟨0, ![]⟩
abbrev S8192x6272 : Shape := ⟨2, ![8192, 6272]⟩
abbrev S2048x6272 : Shape := ⟨2, ![2048, 6272]⟩
abbrev S1x2048 : Shape := ⟨2, ![1, 2048]⟩
abbrev S512x896 : Shape := ⟨2, ![512, 896]⟩
abbrev S2048x896 : Shape := ⟨2, ![2048, 896]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6160, .f32⟩
  | .hbm, ⟨3, _⟩ => ⟨S8192x6160, .f32⟩
  | .hbm, ⟨4, _⟩ => ⟨S8192x2048, .f32⟩
  | .hbm, ⟨5, _⟩ => ⟨S_, .i32⟩
  | .hbm, ⟨6, _⟩ => ⟨S_, .f32⟩
  | .hbm, ⟨7, _⟩ => ⟨S8192x6272, .f32⟩
  | .hbm, ⟨8, _⟩ => ⟨S8192x6272, .bf16⟩
  | .hbm, ⟨9, _⟩ => ⟨S2048x6160, .bf16⟩
  | .hbm, ⟨10, _⟩ => ⟨S_, .i32⟩
  | .hbm, ⟨11, _⟩ => ⟨S_, .bf16⟩
  | .hbm, ⟨12, _⟩ => ⟨S2048x6272, .bf16⟩
  | .hbm, ⟨13, _⟩ => ⟨S1x2048, .f32⟩
  | .hbm, ⟨14, _⟩ => ⟨S8192x2048, .f32⟩
  | .hbm, ⟨15, _⟩ => ⟨S1x2048, .f32⟩
  | .local _ .vmem, ⟨0, _⟩ => ⟨S512x896, .bf16⟩
  | .local _ .vmem, ⟨1, _⟩ => ⟨S512x896, .bf16⟩
  | .local _ .vmem, ⟨2, _⟩ => ⟨S2048x896, .bf16⟩
  | .local _ .vmem, ⟨3, _⟩ => ⟨S2048x896, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v12 : BitVec 1 := Scalar.cmpi .eq arg1 c6_i32
  let v13 : BitVec 32 := Scalar.extui v12
  let c0_i32_8 : BitVec 32 := 0#32
  let v14 : BitVec 1 := Scalar.cmpi .ne v13 c0_i32_8
  v14

@[reducible] def k0_t1_loop : Scf.Loop 32 :=
  let c0_i32_10 : BitVec 32 := 0#32
  let c4_i32 : BitVec 32 := 4#32
  let v16 : BitVec 32 := Scalar.addi c0_i32_10 c4_i32
  let c1_i32 : BitVec 32 := 1#32
  ⟨c0_i32_10, v16, c1_i32⟩
def k0_mult1 (k0_t1 : Fin k0_t1_loop.trips) : BitVec 32 :=
  let c0_i32_10 : BitVec 32 := 0#32
  let c1_i32 : BitVec 32 := 1#32
  let arg9 : BitVec 32 := Scf.iv c0_i32_10 c1_i32 k0_t1
  let c128_i32 : BitVec 32 := 128#32
  let v24 : BitVec 32 := Scalar.muli arg9 c128_i32
  v24
def k0_off1 (k0_t1 : Fin k0_t1_loop.trips) : Fin 2 → Nat :=
  let c0_i32_10 : BitVec 32 := 0#32
  let c1_i32 : BitVec 32 := 1#32
  let arg9 : BitVec 32 := Scf.iv c0_i32_10 c1_i32 k0_t1
  let c128_i32 : BitVec 32 := 128#32
  let v24 : BitVec 32 := Scalar.muli arg9 c128_i32
  let v25 : BitVec 32 := v24
  let v26 : Index := Scalar.indexCast v25
  let c0_16 : Index := 0#32
  ![v26.toNat, 0]
def k0_cond3 (i : grid0.Coords) : BitVec 1 :=
  let arg0 : BitVec 32 := BitVec.ofNat 32 (i 0).val
  let c0_i32_12 : BitVec 32 := 0#32
  let v18 : BitVec 1 := Scalar.cmpi .eq arg0 c0_i32_12
  let v19 : BitVec 32 := Scalar.extui v18
  let c0_i32_13 : BitVec 32 := 0#32
  let v20 : BitVec 1 := Scalar.cmpi .ne v19 c0_i32_13
  v20

def k0_cond4 (i : grid0.Coords) : BitVec 1 :=
  let arg0 : BitVec 32 := BitVec.ofNat 32 (i 0).val
  let c0_i32_14 : BitVec 32 := 0#32
  let v21 : BitVec 1 := Scalar.cmpi .sgt arg0 c0_i32_14
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InDxRefIdeal.lean ====
abbrev S8192x2048 : Shape := ⟨2, ![8192, 2048]⟩
abbrev S2048 : Shape := ⟨1, ![2048]⟩
abbrev S2048x6160 : Shape := ⟨2, ![2048, 6160]⟩
abbrev S8192x6160 : Shape := ⟨2, ![8192, 6160]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6160, .f32⟩
  | .hbm, ⟨3, _⟩ => ⟨S8192x6160, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x6160, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Attn.lean ====
abbrev S8192x2048 : Shape := ⟨2, ![8192, 2048]⟩
abbrev S16x8192 : Shape := ⟨2, ![16, 8192]⟩
abbrev S_ : Shape := ⟨0, ![]⟩
abbrev S2048x8192 : Shape := ⟨2, ![2048, 8192]⟩
abbrev S16x1x8192 : Shape := ⟨3, ![16, 1, 8192]⟩
abbrev S16x8192x1 : Shape := ⟨3, ![16, 8192, 1]⟩
abbrev S512x256 : Shape := ⟨2, ![512, 256]⟩
abbrev S8192x256 : Shape := ⟨2, ![8192, 256]⟩
abbrev S256x8192 : Shape := ⟨2, ![256, 8192]⟩
abbrev S2x1x512 : Shape := ⟨3, ![2, 1, 512]⟩
abbrev S2x8192x1 : Shape := ⟨3, ![2, 8192, 1]⟩
abbrev S2x128x512 : Shape := ⟨3, ![2, 128, 512]⟩
abbrev S512x128 : Shape := ⟨2, ![512, 128]⟩
abbrev S128x512 : Shape := ⟨2, ![128, 512]⟩
abbrev S512x512 : Shape := ⟨2, ![512, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩

abbrev nBuf : Space → Nat
  | .hbm => 32
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .bf16⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S8192x2048, .bf16⟩
  | .hbm, ⟨27, _⟩ => ⟨S2048x8192, .bf16⟩
  | .hbm, ⟨28, _⟩ => ⟨S16x1x8192, .f32⟩
  | .hbm, ⟨29, _⟩ => ⟨S16x8192x1, .f32⟩
  | .hbm, ⟨30, _⟩ => ⟨S8192x2048, .bf16⟩
  | .hbm, ⟨31, _⟩ => ⟨S16x1x8192, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S256x8192, .bf16⟩
  | .local _ .vmem, ⟨5, _⟩ => ⟨S256x8192, .bf16⟩
  | .local _ .vmem, ⟨6, _⟩ => ⟨S2x1x512, .f32⟩
  | .local _ .vmem, ⟨7, _⟩ => ⟨S2x1x512, .f32⟩
  | .local _ .vmem, ⟨8, _⟩ => ⟨S2x8192x1, .f32⟩
  | .local _ .vmem, ⟨9, _⟩ => ⟨S2x8192x1, .f32⟩
  | .local _ .vmem, ⟨10, _⟩ => ⟨S512x256, .bf16⟩
  | .local _ .vmem, ⟨11, _⟩ => ⟨S512x256, .bf16⟩
  | .local _ .vmem, ⟨12, _⟩ => ⟨S2x1x512, .f32⟩
  | .local _ .vmem, ⟨13, _⟩ => ⟨S2x1x512, .f32⟩
  | .local _ .vmem, ⟨14, _⟩ => ⟨S2x1x512, .f32⟩
  | .local _ .vmem, ⟨15, _⟩ => ⟨S2x1x512, .f32⟩
  | .local _ .vmem, ⟨16, _⟩ => ⟨S2x128x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  v175
def k0_off1 (i : grid0.Coords) (k0_t1 : Fin (k0_t1_loop i).trips) : Fin 2 → Nat :=
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v177 : Index := Scalar.indexCast v176
  let c0_116 : Index := 0#32
  ![v177.toNat, 0]
def k0_off2 (i : grid0.Coords) (k0_t1 : Fin (k0_t1_loop i).trips) : Fin 2 → Nat :=
  let c0_117 : Index := 0#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v180 : Index := Scalar.indexCast v176
  ![0, v180.toNat]
def k0_off3 (i : grid0.Coords) (k0_t1 : Fin (k0_t1_loop i).trips) : Fin 3 → Nat :=
  let c0_121 : Index := 0#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v186 : Index := Scalar.indexCast v176
  let c0_122 : Index := 0#32
  ![0, v186.toNat, 0]
def k0_off4 (i : grid0.Coords) (k0_t1 : Fin (k0_t1_loop i).trips) : Fin 2 → Nat :=
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v225 : Index := Scalar.indexCast v176
  let c128_145 : Index := 128#32
  ![v225.toNat, 128]
def k0_off5 (i : grid0.Coords) (k0_t1 : Fin (k0_t1_loop i).trips) : Fin 2 → Nat :=
  let c128_146 : Index := 128#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v228 : Index := Scalar.indexCast v176
  ![128, v228.toNat]
def k0_off6 (i : grid0.Coords) (k0_t1 : Fin (k0_t1_loop i).trips) : Fin 3 → Nat :=
  let c1_150 : Index := 1#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v234 : Index := Scalar.indexCast v176
  let c0_151 : Index := 0#32
  ![1, v234.toNat, 0]
@[reducible] def k0_t2_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  v175
def k0_off7 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v177 : Index := Scalar.indexCast v176
  let c0_116 : Index := 0#32
  ![v177.toNat, 0]
def k0_off8 (i : grid0.Coords) (k0_t2 : Fin (k0_t2_loop i).trips) : Fin 2 → Nat :=
  let c0_117 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v180 : Index := Scalar.indexCast v176
  ![0, v180.toNat]
def k0_off9 (i : grid0.Coords) (k0_t2 : Fin (k0_t2_loop i).trips) : Fin 3 → Nat :=
  let c0_121 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v186 : Index := Scalar.indexCast v176
  let c0_122 : Index := 0#32
  ![0, v186.toNat, 0]
def k0_off10 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v225 : Index := Scalar.indexCast v176
  let c128_145 : Index := 128#32
  ![v225.toNat, 128]
def k0_off11 (i : grid0.Coords) (k0_t2 : Fin (k0_t2_loop i).trips) : Fin 2 → Nat :=
  let c128_146 : Index := 128#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v228 : Index := Scalar.indexCast v176
  ![128, v228.toNat]
def k0_off12 (i : grid0.Coords) (k0_t2 : Fin (k0_t2_loop i).trips) : Fin 3 → Nat :=
  let c1_150 : Index := 1#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v234 : Index := Scalar.indexCast v176
  let c0_151 : Index := 0#32
  ![1, v234.toNat, 0]
def k0_mult3 (i : grid0.Coords) : BitVec 32 :=
  let arg1 : BitVec 32 := BitVec.ofNat 32 (i 1).val
  let c512_i32 : BitVec 32 := 512#32
  let v17 : BitVec 32 := Scalar.muli arg1 c512_i32
  v17
def k0_off13 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v19 : Index := Scalar.indexCast v18
  let c0_13 : Index := 0#32
  ![v19.toNat, 0]
def k0_off14 (i : grid0.Coords) : Fin 2 → Nat :=
  let c0_14 : Index := 0#32
  let arg1 : BitVec 32 := BitVec.ofNat 32 (i 1).val
  let c512_i32 : BitVec 32 := 512#32
  let v17 : BitVec 32 := Scalar.muli arg1 c512_i32
  let v18 : BitVec 32 := v17
  let v22 : Index := Scalar.indexCast v18
  ![0, v22.toNat]
def k0_off15 (i : grid0.Coords) : Fin 3 → Nat :=
  let c0_18 : Index := 0#32
  let arg1 : BitVec 32 := BitVec.ofNat 32 (i 1).val
  let c512_i32 : BitVec 32 := 512#32
  let v17 : BitVec 32 := Scalar.muli arg1 c512_i32
  let v18 : BitVec 32 := v17
  let v28 : Index := Scalar.indexCast v18
  let c0_19 : Index := 0#32
  ![0, v28.toNat, 0]
def k0_off16 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v72 : Index := Scalar.indexCast v18
  let c128 : Index := 128#32
  ![v72.toNat, 128]
def k0_off17 (i : grid0.Coords) : Fin 2 → Nat :=
  let c128_43 : Index := 128#32
  let arg1 : BitVec 32 := BitVec.ofNat 32 (i 1).val
  let c512_i32 : BitVec 32 := 512#32
  let v17 : BitVec 32 := Scalar.muli arg1 c512_i32
  let v18 : BitVec 32 := v17
  let v75 : Index := Scalar.indexCast v18
  ![128, v75.toNat]
def k0_off18 (i : grid0.Coords) : Fin 3 → Nat :=
  let c1 : Index := 1#32
  let arg1 : BitVec 32 := BitVec.ofNat 32 (i 1).val
  let c512_i32 : BitVec 32 := 512#32
  let v17 : BitVec 32 := Scalar.muli arg1 c512_i32
  let v18 : BitVec 32 := v17
  let v81 : Index := Scalar.indexCast v18
  let c0_47 : Index := 0#32
  ![1, v81.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8192x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== AttnRefIdeal.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x16x128, .f32⟩
  | .hbm, ⟨5, _⟩ => ⟨S8192x16x128, .f32⟩
  | .hbm, ⟨6, _⟩ => ⟨S8192x16x128, .f32⟩
  | .hbm, ⟨7, _⟩ => ⟨S16x8192x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S16x8192x1, .f32⟩
  | .hbm, ⟨15, _⟩ => ⟨S16x1x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x128x8192, .f32⟩
  | .hbm, ⟨43, _⟩ => ⟨S8192x16x128, .f32⟩
  | .hbm, ⟨44, _⟩ => ⟨S8192x2048, .f32⟩
  | .hbm, ⟨45, _⟩ => ⟨S8192x2048, .bf16⟩
  | .hbm, ⟨46, _⟩ => ⟨S16x8192, .f32⟩
  | .hbm, ⟨47, _⟩ => ⟨S16x8192, .f32⟩
  | .hbm, ⟨48, _⟩ => ⟨S16x1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Blocks.lean ====
/-
  A sum over blocks is the sum over everything, and arrays read at natural numbers.
-/
module

public import Idealize.ShloMosaic.Lib.Pointwise
public import Idealize.ShloMosaic.Lib.WholeRead
public import Idealize.ShloMosaic.Lib.WritesUnit
public import Idealize.ShloMosaic.Lib.Pipeline.Value

@[expose] public section

noncomputable section

namespace Cert.Blocks
open Idealize.ShloMosaic

/-- The sums over `J` consecutive blocks of length `T` add up to the sum over all of them. -/
theorem sum_blocks (J T : ℕ) (f : ℕ → EReal) : ∑ s ∈ Finset.range J, ∑ r : Fin T, f (T * s + r.val) = ∑ k : Fin (J * T), f k.val := by
  rw [Fin.sum_univ_eq_sum_range]
  induction J with
  | zero => simp
  | succ J ih =>
    rw [Finset.sum_range_succ, ih, Nat.succ_mul, Finset.sum_range_add, Fin.sum_univ_eq_sum_range (fun r => f (T * J + r)) T, Nat.mul_comm T J]

/-- A matrix's entry at two natural numbers, taken modulo its extents. -/
def at2 {a b : ℕ} [NeZero a] [NeZero b] (X : (⟨2, ![a, b]⟩ : Shape).Idx → EReal) (i j : ℕ) : EReal := X (ix2 (Fin.ofNat a i) (Fin.ofNat b j))

theorem at2_eq {a b : ℕ} [NeZero a] [NeZero b] (X : (⟨2, ![a, b]⟩ : Shape).Idx → EReal) (z : (⟨2, ![a, b]⟩ : Shape).Idx) (i j : ℕ)
    (h0 : (z 0).val = i) (h1 : (z 1).val = j) : X z = at2 X i j := by
  unfold at2
  congr 1
  subst h0 h1
  rw [eq_ix2 z]
  congr 1 <;> exact Fin.ext (Nat.mod_eq_of_lt (Fin.isLt _)).symm

theorem hz2 : (![0, 0] : Fin 2 → Nat) = fun _ => 0 := funext fun a => by fin_cases a <;> rfl
theorem hz3 : (![0, 0, 0] : Fin 3 → Nat) = fun _ => 0 := funext fun a => by fin_cases a <;> rfl

end Cert.Blocks
-- ==== Proof.DwUpVal.lean ====
/-
  The gradient of the feed-forward layer's first weights: the kernel's accumulator over four blocks of rows ends at the
  sum over all rows, which is the reference's product.
-/
module

public import proofs.«01_k».proof.Defs
public import proofs.«01_k».proof.Proof.Blocks
public import proofs.«01_k».proof.Proof.Gen.DwUp
public import proofs.«01_k».proof.Proof.Gen.DwUpIdeal.Value
public import proofs.«01_k».proof.Proof.Gen.DwUpRefIdeal.Run
public import proofs.«01_k».proof.Proof.Gen.DwUpRefIdeal.Read

@[expose] public section

set_option maxRecDepth 16384
noncomputable section

namespace Cert.DwUpIdeal.Val
open Cert.DwUpIdeal Cert.DwUpIdeal.Gen Cert.DwUpIdeal.Value Cert.Blocks
open Idealize.ShloMosaic Idealize.ShloMosaic.TcCoe Idealize.ShloMosaic.Tactic Idealize.SL.Sem

section stores
variable {F : FTy → Type} [FloatOps F]
variable (c : Dev nD) (i : grid0.Coords) (a3 : Memref sig .tc .vmem S2048x1024 .bf16) (h3 : a3.IsWhole) (a4 : Memref sig .tc .vmem S1x2048x1408 .bf16) (h4 : a4.IsWhole)
  (a5 : Memref sig .tc .vmem S1x1024x1408 .bf16) (h5 : a5.IsWhole) (a6 : Memref sig .tc .vmem S1024x1408 .f32) (h6 : a6.IsWhole)
  (x0 : Vec F S2048x1024 .bf16) (x1 : Vec F S1x2048x1408 .bf16) (s : Vec F S1024x1408 .f32)

/-- The first point of a run leaves the product of its blocks over zero. -/
theorem sout_A (hc0 : cond0_0 i) (hc1 : ¬cond0_1 i) : sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) hz2, View.readCov_unit_zero (S := S1024x1408) _ hz2]
  simp only [View.readAt_eq_ld, h3.read_unread, h4.read_unread, View.ld_unit_zero (S := S2048x1024) hz2, View.ld_unit_zero (S := S1x2048x1408) hz3]

/-- A middle point adds the product of its blocks. -/
theorem sout_B (hc0 : ¬cond0_0 i) (hc1 : ¬cond0_1 i) : sout0_B_0 c i a3 h3 a4 h4 a5 h5 a6 h6 hc0 hc1 x0 x1 s = k0_pay2 s x0 x1 := by
  unfold sout0_B_0
  rw [View.read_writes_eq_canon _ _ _ (scover0_B_0 c i a3 h3 a4 h4 a5 h5 a6 h6 hc0 hc1 x0 x1 s)]
  unfold kernelRun0_B
  dsimp only
  rw [View.canon_unit_zero hz2]
  simp only [View.readAt_eq_ld, h3.read_unread, h4.read_unread, h6.read_unread, View.ld_unit_zero (S := S2048x1024) hz2, View.ld_unit_zero (S := S1x2048x1408) hz3,
    View.ld_unit_zero (S := S1024x1408) hz2]

/-- So does the last point of a run. -/
theorem sout_C (hc0 : ¬cond0_0 i) (hc1 : cond0_1 i) : sout0_C_0 c i a3 h3 a4 h4 a5 h5 a6 h6 hc0 hc1 x0 x1 s = k0_pay2 s x0 x1 := by
  unfold sout0_C_0
  rw [View.read_writes_eq_canon _ _ _ (scover0_C_0 c i a3 h3 a4 h4 a5 h5 a6 h6 hc0 hc1 x0 x1 s)]
  unfold kernelRun0_C
  dsimp only
  sl_unfold_words
  rw [View.canon_unit_zero hz2]
  simp only [View.readAt_eq_ld, h3.read_unread, h4.read_unread, h6.read_unread, View.ld_unit_zero (S := S2048x1024) hz2, View.ld_unit_zero (S := S1x2048x1408) hz3,
    View.ld_unit_zero (S := S1024x1408) hz2]

/-- And it stores the sum, in the narrow format, to the output. -/
theorem out_C (hc0 : ¬cond0_0 i) (hc1 : cond0_1 i) : out0_C_2 c i a3 h3 a4 h4 a5 h5 a6 h6 hc0 hc1 x0 x1 s = k0_pay3 (k0_pay2 s x0 x1) := by
  unfold out0_C_2
  rw [View.read_writes_eq_canon _ _ _ (cover0_C_2 c i a3 h3 a4 h4 a5 h5 a6 h6 hc0 hc1 x0 x1 s)]
  unfold kernelRun0_C
  dsimp only
  sl_unfold_words
  rw [View.canon_unit_zero hz3, View.readCov_unit_zero (S := S1024x1408) _ hz2]
  simp only [View.readAt_eq_ld, h3.read_unread, h4.read_unread, h6.read_unread, View.ld_unit_zero (S := S2048x1024) hz2, View.ld_unit_zero (S := S1x2048x1408) hz3,
    View.ld_unit_zero (S := S1024x1408) hz2]
end stores

/-! ## At the ideal values -/

theorem pay1_at (y : S1024x1408.Idx) : k0_pay1 (F := Ideal) y = 0 := by
  pointwise [k0_pay1]
theorem pay2_at (s : S1024x1408.Idx → EReal) (x0 : S2048x1024.Idx → EReal) (x1 : S1x2048x1408.Idx → EReal) (a : Fin 1024) (e : Fin 1408) :
    k0_pay2 (F := Ideal) s x0 x1 (ix2 a e) = s (ix2 a e) + ∑ r : Fin 2048, x0 (ix2 r a) * x1 (ix3 0 r e) := by
  pointwise [k0_pay2]
theorem pay3_at (s : S1024x1408.Idx → EReal) (z : Fin 1) (a : Fin 1024) (e : Fin 1408) : k0_pay3 (F := Ideal) s (ix3 z a e) = s (ix2 a e) := by
  pointwise [k0_pay3]

variable (m : (ℓ : Loc nD τ sig) → Buf (Elt Ideal) ℓ) (ρ : Dev nD → PrngReg)

theorem V_v3 (c : Dev nD) : V m c main_v3 = truncf (F := Ideal) (φ := .f32) .bf16 (m ((c : Thread nD τ).loc main_arg0)) bitsLt_bf16_f32 := by
  show StableHlo.after hostOps0 (fun b => m (c, b)) _ = _
  after_results_simp
theorem V_v2 (c : Dev nD) : V m c main_v2 = truncf (F := Ideal) (φ := .f32) .bf16 (transpose S2x8192x5632 [1, 0, 2]
    (shapeCast S8192x2x5632 (m ((c : Thread nD τ).loc main_arg2) : S8192x11264.Idx → EReal) shapeCasts_S8192x11264_S8192x2x5632) transposes_S8192x2x5632_S2x8192x5632_1_0_2) bitsLt_bf16_f32 := by
  show StableHlo.after hostOps0 (fun b => m (c, b)) _ = _
  after_results_simp
  rfl

/-- The layer's input and the gradient of its hidden values. -/
def hA (c : Dev nD) : S8192x2048.Idx → EReal := m ((c : Thread nD τ).loc main_arg0)
@[inherit_doc hA] def gA (c : Dev nD) : S8192x11264.Idx → EReal := m ((c : Thread nD τ).loc main_arg2)

theorem v2_at (c : Dev nD) (i : S2x8192x5632.Idx) (a b : ℕ) (ha : (i 1).val = a) (hb : 5632 * (i 0).val + (i 2).val = b) :
    (V m c main_v2 : S2x8192x5632.Idx → EReal) i = at2 (gA m c) a b := by
  rw [V_v2]
  show transpose S2x8192x5632 [1, 0, 2] (shapeCast S8192x2x5632 (gA m c) shapeCasts_S8192x11264_S8192x2x5632) transposes_S8192x2x5632_S2x8192x5632_1_0_2 i = _
  obtain ⟨p, s, q, rfl⟩ : ∃ (p : Fin 2) (s : Fin 8192) (q : Fin 5632), i = ix3 p s q := ⟨i 0, i 1, i 2, eq_ix3 i⟩
  refine (transpose_apply _ _ _ _ (ix3 s p q) (fun b => match b with | ⟨0, _⟩ => rfl | ⟨1, _⟩ => rfl | ⟨2, _⟩ => rfl)).trans ?_
  have hs := s.isLt
  have hp := p.isLt
  have hq := q.isLt
  rw [shapeCast_apply _ _ _ (ix2 s (⟨5632 * p.val + q.val, by omega⟩ : Fin 11264)) (by
    rewrite [Shape.rowMajor_val_two, Shape.rowMajor_val_three]
    show s.val * 11264 + (5632 * p.val + q.val) = (s.val * 2 + p.val) * 5632 + q.val
    omega)]
  exact at2_eq (gA m c) _ _ _ ha hb

theorem index0 (t : Fin cfg0.N) : win0_0.index t 0 = t.val % 4 ∧ win0_0.index t 1 = t.val / 32 :=
  (by decide +kernel : ∀ t : Fin grid0.N, win0_0.index t 0 = t.val % 4 ∧ win0_0.index t 1 = t.val / 32) t
theorem index1 (t : Fin cfg0.N) : win0_1.index t 0 = t.val / 4 % 8 / 4 ∧ win0_1.index t 1 = t.val % 4 ∧ win0_1.index t 2 = t.val / 4 % 8 % 4 :=
  (by decide +kernel : ∀ t : Fin grid0.N, win0_1.index t 0 = t.val / 4 % 8 / 4 ∧ win0_1.index t 1 = t.val % 4 ∧ win0_1.index t 2 = t.val / 4 % 8 % 4) t

/-- The block of the input that a point reads. -/
theorem blk0 (c : Dev nD) (t : Fin cfg0.N) (r : Fin 2048) (a : Fin 1024) :
    (iblk m c 0 t : Vec Ideal S2048x1024 _) (ix2 r a) = at2 (hA m c) (2048 * (t.val % 4) + r.val) (1024 * (t.val / 32) + a.val) := by
  have hi := index0 t
  unfold iblk
  rw [View.read_apply]
  refine Eq.trans (b := V m c main_v3 _) rfl ?_
  rw [V_v3]
  refine at2_eq (hA m c) _ _ _ ?_ ?_
  · show win0_0.index t 0 * 2048 + 1 * r.val = _; rw [hi.1]; omega
  · show win0_0.index t 1 * 1024 + 1 * a.val = _; rw [hi.2]; omega

/-- The block of the gradient that a point reads. -/
theorem blk1 (c : Dev nD) (t : Fin cfg0.N) (z : Fin 1) (r : Fin 2048) (e : Fin 1408) :
    (iblk m c 1 t : Vec Ideal S1x2048x1408 _) (ix3 z r e) = at2 (gA m c) (2048 * (t.val % 4) + r.val) (1408 * (t.val / 4 % 8) + e.val) := by
  have hi := index1 t
  unfold iblk
  rw [View.read_apply]
  refine Eq.trans (b := V m c main_v2 _) rfl ?_
  refine v2_at m c _ _ _ ?_ ?_
  · show win0_1.index t 1 * 2048 + 1 * r.val = _; rw [hi.2.1]; omega
  · show 5632 * (win0_1.index t 0 * 1 + 1 * z.val) + (win0_1.index t 2 * 1408 + 1 * e.val) = _; rw [hi.1, hi.2.2]; omega

/-- What point `n` adds to the accumulator. -/
def M (c : Dev nD) (n : ℕ) (y : S1024x1408.Idx) : EReal :=
  ∑ r : Fin 2048, at2 (hA m c) (2048 * (n % 4) + r.val) (1024 * (n / 32) + (y 0).val) * at2 (gA m c) (2048 * (n % 4) + r.val) (1408 * (n / 4 % 8) + (y 1).val)

theorem step (c : Dev nD) (t : Fin cfg0.N) (s : S1024x1408.Idx → EReal) (y : S1024x1408.Idx) :
    k0_pay2 (F := Ideal) s (iblk m c 0 t) (iblk m c 1 t) y = s y + M m c t.val y := by
  obtain ⟨a, e, rfl⟩ : ∃ (a : Fin 1024) (e : Fin 1408), y = ix2 a e := ⟨y 0, y 1, eq_ix2 y⟩
  rw [pay2_at]
  refine congrArg (s (ix2 a e) + ·) (Finset.sum_congr rfl fun r _ => ?_)
  rw [blk0, blk1]
  rfl

/-- The accumulator after a point: the sum of what its run's points added. -/
theorem acc_eq (c : Dev nD) (t : Fin cfg0.N) (y : S1024x1408.Idx) :
    (outsAt0 m c t.val t.isLt).2 y = ∑ s ∈ Finset.range (t.val % 4 + 1), M m c (4 * (t.val / 4) + s) y := by
  rw [soutsAt0_0_eq]
  rw [Pipeline.accAt_add_apply (ι := S1024x1408.Idx) (β := EReal) _ _ (fun _ => 0) (M m c) (4 * (t.val / 4)) 3 ?_ ?_ (t.val % 4) (by omega), zero_add]
  · intro h i
    unfold scAt0_0
    rw [dif_pos (by omega), dif_neg (by omega), sout_A, step m c ⟨_, h⟩, pay1_at]
  · intro n h acc i h0 h1
    unfold scAt0_0
    rw [dif_neg (by omega)]
    by_cases hc : n % 4 = 3
    · rw [dif_pos hc, sout_C, step m c ⟨_, h⟩]
    · rw [dif_neg hc, sout_B, step m c ⟨_, h⟩]

/-- The result: the product of the input and the gradient over all rows, in eight shards. -/
def res (c : Dev nD) : S8x2048x1408.Idx → EReal := fun i =>
  ∑ k : Fin 8192, at2 (hA m c) k.val (i 1).val * at2 (gA m c) k.val (1408 * (i 0).val + (i 2).val)

theorem G_eq (c : Dev nD) : G2 m c = res m c := by
  funext i
  obtain ⟨j, a, e, rfl⟩ : ∃ (j : Fin 8) (a : Fin 2048) (e : Fin 1408), i = ix3 j a e := ⟨i 0, i 1, i 2, eq_ix3 i⟩
  have hN : cfg0.N = 64 := N_0
  have hp : pt2Of (ix3 j a e) = 32 * (a.val / 1024) + 4 * j.val + 3 := by
    show 4 * (1 * (j.val / 1 - 0) + 8 * (a.val / 1024 - 0) + 16 * (e.val / 1408 - 0)) + 3 = _
    omega
  have hlt : pt2Of (ix3 j a e) < cfg0.N := by rw [hp, hN]; omega
  unfold G2
  rw [dif_pos hlt, ← outsAt0_sweep m c _ hlt]
  have h3 : pt2Of (ix3 j a e) % 4 = 3 := by rw [hp]; omega
  have e1 := outsAt0_C m c ⟨_, hlt⟩ (by show ¬ pt2Of (ix3 j a e) % 4 = 0; omega) h3
  have hl : loc2Of (ix3 j a e) = ix3 (⟨0, by decide⟩ : Fin 1) (⟨a.val % 1024, Nat.mod_lt _ (by decide)⟩ : Fin 1024) e := by
    funext k
    match k with
    | ⟨0, _⟩ => exact Fin.ext (by show j.val % 1 = 0; omega)
    | ⟨1, _⟩ => rfl
    | ⟨2, _⟩ => exact Fin.ext (by show e.val % 1408 = e.val; omega)
  have e2 := congrArg Prod.fst e1
  have e3 := congrArg Prod.snd e1
  dsimp only at e2 e3
  rw [out_C] at e2
  rw [sout_C] at e3
  rw [e2, hl, pay3_at, ← e3, acc_eq m c ⟨_, hlt⟩]
  show ∑ s ∈ Finset.range (pt2Of (ix3 j a e) % 4 + 1), M m c (4 * (pt2Of (ix3 j a e) / 4) + s) _ = _
  rw [h3]
  show _ = ∑ k : Fin 8192, at2 (hA m c) k.val a.val * at2 (gA m c) k.val (1408 * j.val + e.val)
  rw [← sum_blocks 4 2048 (fun k => at2 (hA m c) k a.val * at2 (gA m c) k (1408 * j.val + e.val))]
  refine Finset.sum_congr rfl fun s hs => Finset.sum_congr rfl fun r _ => ?_
  have hs := Finset.mem_range.mp hs
  have ha := a.isLt
  have hj := j.isLt
  rw [hp]
  show at2 _ (2048 * ((4 * ((32 * (a.val / 1024) + 4 * j.val + 3) / 4) + s) % 4) + r.val) (1024 * ((4 * ((32 * (a.val / 1024) + 4 * j.val + 3) / 4) + s) / 32) + a.val % 1024) *
    at2 _ (2048 * ((4 * ((32 * (a.val / 1024) + 4 * j.val + 3) / 4) + s) % 4) + r.val) (1408 * ((4 * ((32 * (a.val / 1024) + 4 * j.val + 3) / 4) + s) / 4 % 8) + e.val) = _
  congr 2 <;> omega

end Cert.DwUpIdeal.Val

namespace Cert.Proof.DwUp
open Idealize.ShloMosaic Idealize.ShloMosaic.TcCoe Idealize.SL.Sem
open Cert.Blocks Cert.DwUpRefIdeal.Read

/-- The two programs have the same bodies and the same pipelines. -/
theorem eq_defs₀ : Cert.DwUp.defs₀ (F := Bits) = Cert.DwUpIdeal.defs₀ (F := Bits) :=
  congrArg Defs.onTc (funext fun a => match a with | 0 => funext fun ⟨_, _⟩ => rfl)
@[inherit_doc eq_defs₀] theorem eq_defs : Cert.DwUp.defs (F := Bits) = Cert.DwUpIdeal.defs (F := Bits) := congrArg (Pipeline.defs Cert.DwUpIdeal.pcfgs) eq_defs₀
/-- So the kernel, as printed, runs and leaves its arguments and the machine's counters as they were, as the idealised one does. -/
theorem frame_kernel : Cert.quiescent_DwUp := by
  intro m ρ _
  rw [eq_defs]
  exact Cert.DwUpIdeal.Gen.frame (F := Bits) m ρ
/-- The idealised one does. -/
theorem frame_ideal : Cert.quiescent_DwUpIdeal := fun m ρ _ => Cert.DwUpIdeal.Gen.frame m ρ
/-- The reference does. -/
theorem frame_reference : Cert.quiescent_DwUpRefIdeal := fun m ρ _ =>
  (θ_run Cert.DwUpRefIdeal.defs _ _).mono (fun r h => ⟨fun c => (h c).2, sem_eq_zero_of_no_sems (by decide) r.2⟩) (Cert.DwUpRefIdeal.Value.run (F := Ideal) m ρ)

/-- The reference's result is the same sum. -/
theorem ref_eq (x0 : Cert.DwUpRefIdeal.S8192x2048.Idx → EReal) (x2 : Cert.DwUpRefIdeal.S8192x11264.Idx → EReal) (i : Cert.DwUpRefIdeal.S8x2048x1408.Idx) :
    val_main_v5 (F := Ideal) x0 x2 i = ∑ k : Fin 8192, at2 x0 k.val (i 1).val * at2 x2 k.val (1408 * (i 0).val + (i 2).val) := by
  rw [val_main_v5_apply]
  show val_main_v4 (F := Ideal) x0 x2 i = _
  rw [val_main_v4_apply, val_main_v3_apply, val_main_v2_apply, val_main_v1_apply]
  have h0 : (i 0).val < 8 := (i 0).isLt
  have h1 : (i 1).val < 2048 := (i 1).isLt
  have h2 : (i 2).val < 1408 := (i 2).isLt
  refine Finset.sum_congr rfl fun k _ => ?_
  rw [mul_comm]
  congr 1
  · refine at2_eq x0 _ _ _ rfl ?_
    show (((i 1).val * 8 + (i 0).val) * 1408 + (i 2).val) / 11264 = (i 1).val
    omega
  · refine at2_eq x2 _ _ _ rfl ?_
    show (((i 1).val * 8 + (i 0).val) * 1408 + (i 2).val) % 11264 = 1408 * (i 0).val + (i 2).val
    omega

/-- Over the extended reals the kernel computes the reference's gradient. -/
theorem algebraic : Cert.algebraic_DwUpIdeal_DwUpRefIdeal := by
  intro m ρ m' ρ' _ hagree
  refine ⟨Cert.DwUpIdeal.Val.res m, ?_, ?_⟩
  · refine (θ_run Cert.DwUpIdeal.defs _ _).mono (fun r h c => ?_) (Cert.DwUpIdeal.Value.run (F := Ideal) m ρ)
    exact ⟨(h c).1.trans (Cert.DwUpIdeal.Val.G_eq m c), (h c).2⟩
  · refine (θ_run Cert.DwUpRefIdeal.defs _ _).mono (fun r h c => ?_) (Cert.DwUpRefIdeal.Value.run (F := Ideal) m' ρ')
    obtain ⟨g0, _, g2⟩ := hagree c
    refine ⟨(h c).1.trans ?_, (h c).2⟩
    rw [val_main_v5_eq, g0, g2]
    funext i
    exact ref_eq _ _ i

end Cert.Proof.DwUp
-- ==== Proof.DwDownVal.lean ====
/-
  The gradient of the feed-forward layer's second weights: the kernel's accumulator over four blocks of rows ends at the
  sum over all rows, which is the reference's product.
-/
module

public import proofs.«01_k».proof.Defs
public import proofs.«01_k».proof.Proof.Blocks
public import proofs.«01_k».proof.Proof.Gen.DwDown
public import proofs.«01_k».proof.Proof.Gen.DwDownIdeal.Value
public import proofs.«01_k».proof.Proof.Gen.DwDownRefIdeal.Run
public import proofs.«01_k».proof.Proof.Gen.DwDownRefIdeal.Read

@[expose] public section

set_option maxRecDepth 16384
noncomputable section

namespace Cert.DwDownIdeal.Val
open Cert.DwDownIdeal Cert.DwDownIdeal.Gen Cert.DwDownIdeal.Value Cert.Blocks
open Idealize.ShloMosaic Idealize.ShloMosaic.TcCoe Idealize.ShloMosaic.Tactic Idealize.SL.Sem

section stores
variable {F : FTy → Type} [FloatOps F]
variable (c : Dev nD) (i : grid0.Coords) (a3 : Memref sig .tc .vmem S2048x1408 .bf16) (h3 : a3.IsWhole) (a4 : Memref sig .tc .vmem S2048x1024 .f32) (h4 : a4.IsWhole)
  (a5 : Memref sig .tc .vmem S1408x1024 .bf16) (h5 : a5.IsWhole) (a6 : Memref sig .tc .vmem S1408x1024 .f32) (h6 : a6.IsWhole)
  (x0 : Vec F S2048x1408 .bf16) (x1 : Vec F S2048x1024 .f32) (s : Vec F S1408x1024 .f32)

/-- The first point of a run leaves the product of its blocks over zero. -/
theorem sout_A (hc0 : cond0_0 i) (hc1 : ¬cond0_1 i) : sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz2, View.readCov_unit_zero (S := S1408x1024) _ hz2]
  simp only [View.readAt_eq_ld, h3.read_unread, h4.read_unread, View.ld_unit_zero (S := S2048x1408) hz2, View.ld_unit_zero (S := S2048x1024) hz2]

/-- A middle point adds the product of its blocks. -/
theorem sout_B (hc0 : ¬cond0_0 i) (hc1 : ¬cond0_1 i) : sout0_B_0 c i a3 h3 a4 h4 a5 h5 a6 h6 hc0 hc1 x0 x1 s = k0_pay2 s x0 x1 := by
  unfold sout0_B_0
  rw [View.read_writes_eq_canon _ _ _ (scover0_B_0 c i a3 h3 a4 h4 a5 h5 a6 h6 hc0 hc1 x0 x1 s)]
  unfold kernelRun0_B
  dsimp only
  rw [View.canon_unit_zero hz2]
  simp only [View.readAt_eq_ld, h3.read_unread, h4.read_unread, h6.read_unread, View.ld_unit_zero (S := S2048x1408) hz2, View.ld_unit_zero (S := S2048x1024) hz2,
    View.ld_unit_zero (S := S1408x1024) hz2]

/-- So does the last point of a run. -/
theorem sout_C (hc0 : ¬cond0_0 i) (hc1 : cond0_1 i) : sout0_C_0 c i a3 h3 a4 h4 a5 h5 a6 h6 hc0 hc1 x0 x1 s = k0_pay2 s x0 x1 := by
  unfold sout0_C_0
  rw [View.read_writes_eq_canon _ _ _ (scover0_C_0 c i a3 h3 a4 h4 a5 h5 a6 h6 hc0 hc1 x0 x1 s)]
  unfold kernelRun0_C
  dsimp only
  sl_unfold_words
  rw [View.canon_unit_zero hz2]
  simp only [View.readAt_eq_ld, h3.read_unread, h4.read_unread, h6.read_unread, View.ld_unit_zero (S := S2048x1408) hz2, View.ld_unit_zero (S := S2048x1024) hz2,
    View.ld_unit_zero (S := S1408x1024) hz2]

/-- And it stores the sum, in the narrow format, to the output. -/
theorem out_C (hc0 : ¬cond0_0 i) (hc1 : cond0_1 i) : out0_C_2 c i a3 h3 a4 h4 a5 h5 a6 h6 hc0 hc1 x0 x1 s = k0_pay3 (k0_pay2 s x0 x1) := by
  unfold out0_C_2
  rw [View.read_writes_eq_canon _ _ _ (cover0_C_2 c i a3 h3 a4 h4 a5 h5 a6 h6 hc0 hc1 x0 x1 s)]
  unfold kernelRun0_C
  dsimp only
  sl_unfold_words
  rw [View.canon_unit_zero hz2, View.readCov_unit_zero (S := S1408x1024) _ hz2]
  simp only [View.readAt_eq_ld, h3.read_unread, h4.read_unread, h6.read_unread, View.ld_unit_zero (S := S2048x1408) hz2, View.ld_unit_zero (S := S2048x1024) hz2,
    View.ld_unit_zero (S := S1408x1024) hz2]
end stores

/-! ## At the ideal values -/

theorem pay1_at (y : S1408x1024.Idx) : k0_pay1 (F := Ideal) y = 0 := by
  pointwise [k0_pay1]
theorem pay2_at (s : S1408x1024.Idx → EReal) (x0 : S2048x1408.Idx → EReal) (x1 : S2048x1024.Idx → EReal) (a : Fin 1408) (e : Fin 1024) :
    k0_pay2 (F := Ideal) s x0 x1 (ix2 a e) = s (ix2 a e) + ∑ r : Fin 2048, x0 (ix2 r a) * x1 (ix2 r e) := by
  pointwise [k0_pay2]

variable (m : (ℓ : Loc nD τ sig) → Buf (Elt Ideal) ℓ) (ρ : Dev nD → PrngReg)

theorem V_v0 (c : Dev nD) : V m c main_v0 = truncf (F := Ideal) (φ := .f32) .bf16 (m ((c : Thread nD τ).loc main_arg0)) bitsLt_bf16_f32 := by
  show StableHlo.after hostOps0 (fun b => m (c, b)) _ = _
  after_results_simp

/-- The layer's hidden activations and the gradient of its result. -/
def hA (c : Dev nD) : S8192x5632.Idx → EReal := m ((c : Thread nD τ).loc main_arg0)
@[inherit_doc hA] def gA (c : Dev nD) : S8192x2048.Idx → EReal := m ((c : Thread nD τ).loc main_arg2)

theorem index0 (t : Fin cfg0.N) : win0_0.index t 0 = t.val % 4 ∧ win0_0.index t 1 = t.val / 8 :=
  (by decide +kernel : ∀ t : Fin grid0.N, win0_0.index t 0 = t.val % 4 ∧ win0_0.index t 1 = t.val / 8) t
theorem index1 (t : Fin cfg0.N) : win0_1.index t 0 = t.val % 4 ∧ win0_1.index t 1 = t.val / 4 % 2 :=
  (by decide +kernel : ∀ t : Fin grid0.N, win0_1.index t 0 = t.val % 4 ∧ win0_1.index t 1 = t.val / 4 % 2) t

/-- The block of the activations that a point reads. -/
theorem blk0 (c : Dev nD) (t : Fin cfg0.N) (r : Fin 2048) (a : Fin 1408) :
    (iblk m c 0 t : Vec Ideal S2048x1408 _) (ix2 r a) = at2 (hA m c) (2048 * (t.val % 4) + r.val) (1408 * (t.val / 8) + a.val) := by
  have hi := index0 t
  unfold iblk
  rw [View.read_apply]
  refine Eq.trans (b := V m c main_v0 _) rfl ?_
  rw [V_v0]
  refine at2_eq (hA m c) _ _ _ ?_ ?_
  · show win0_0.index t 0 * 2048 + 1 * r.val = _; rw [hi.1]; omega
  · show win0_0.index t 1 * 1408 + 1 * a.val = _; rw [hi.2]; omega

/-- The block of the gradient that a point reads. -/
theorem blk1 (c : Dev nD) (t : Fin cfg0.N) (r : Fin 2048) (e : Fin 1024) :
    (iblk m c 1 t : Vec Ideal S2048x1024 _) (ix2 r e) = at2 (gA m c) (2048 * (t.val % 4) + r.val) (1024 * (t.val / 4 % 2) + e.val) := by
  have hi := index1 t
  unfold iblk
  rw [View.read_apply]
  refine Eq.trans (b := V m c main_arg2 _) rfl ?_
  rw [V_main_arg2]
  refine at2_eq (gA m c) _ _ _ ?_ ?_
  · show win0_1.index t 0 * 2048 + 1 * r.val = _; rw [hi.1]; omega
  · show win0_1.index t 1 * 1024 + 1 * e.val = _; rw [hi.2]; omega

/-- What point `n` adds to the accumulator. -/
def M (c : Dev nD) (n : ℕ) (y : S1408x1024.Idx) : EReal :=
  ∑ r : Fin 2048, at2 (hA m c) (2048 * (n % 4) + r.val) (1408 * (n / 8) + (y 0).val) * at2 (gA m c) (2048 * (n % 4) + r.val) (1024 * (n / 4 % 2) + (y 1).val)

theorem step (c : Dev nD) (t : Fin cfg0.N) (s : S1408x1024.Idx → EReal) (y : S1408x1024.Idx) :
    k0_pay2 (F := Ideal) s (iblk m c 0 t) (iblk m c 1 t) y = s y + M m c t.val y := by
  obtain ⟨a, e, rfl⟩ : ∃ (a : Fin 1408) (e : Fin 1024), y = ix2 a e := ⟨y 0, y 1, eq_ix2 y⟩
  rw [pay2_at]
  refine congrArg (s (ix2 a e) + ·) (Finset.sum_congr rfl fun r _ => ?_)
  rw [blk0, blk1]
  rfl

/-- The accumulator after a point: the sum of what its run's points added. -/
theorem acc_eq (c : Dev nD) (t : Fin cfg0.N) (y : S1408x1024.Idx) :
    (outsAt0 m c t.val t.isLt).2 y = ∑ s ∈ Finset.range (t.val % 4 + 1), M m c (4 * (t.val / 4) + s) y := by
  rw [soutsAt0_0_eq]
  rw [Pipeline.accAt_add_apply (ι := S1408x1024.Idx) (β := EReal) _ _ (fun _ => 0) (M m c) (4 * (t.val / 4)) 3 ?_ ?_ (t.val % 4) (by omega), zero_add]
  · intro h i
    unfold scAt0_0
    rw [dif_pos (by omega), dif_neg (by omega), sout_A, step m c ⟨_, h⟩, pay1_at]
  · intro n h acc i h0 h1
    unfold scAt0_0
    rw [dif_neg (by omega)]
    by_cases hc : n % 4 = 3
    · rw [dif_pos hc, sout_C, step m c ⟨_, h⟩]
    · rw [dif_neg hc, sout_B, step m c ⟨_, h⟩]

/-- The result: the product of the activations and the gradient over all rows. -/
def res (c : Dev nD) : S5632x2048.Idx → EReal := fun i => ∑ k : Fin 8192, at2 (hA m c) k.val (i 0).val * at2 (gA m c) k.val (i 1).val

theorem G_eq (c : Dev nD) : G2 m c = res m c := by
  funext i
  obtain ⟨f, d, rfl⟩ : ∃ (f : Fin 5632) (d : Fin 2048), i = ix2 f d := ⟨i 0, i 1, eq_ix2 i⟩
  have hN : cfg0.N = 32 := N_0
  have hp : pt2Of (ix2 f d) = 8 * (f.val / 1408) + 4 * (d.val / 1024) + 3 := by
    show 4 * (2 * (f.val / 1408 - 0) + 1 * (d.val / 1024 - 0)) + 3 = _
    omega
  have hlt : pt2Of (ix2 f d) < cfg0.N := by rw [hp, hN]; omega
  unfold G2
  rw [dif_pos hlt, ← outsAt0_sweep m c _ hlt]
  have h3 : pt2Of (ix2 f d) % 4 = 3 := by rw [hp]; omega
  have e1 := outsAt0_C m c ⟨_, hlt⟩ (by show ¬ pt2Of (ix2 f d) % 4 = 0; omega) h3
  have e2 := congrArg Prod.fst e1
  have e3 := congrArg Prod.snd e1
  dsimp only at e2 e3
  rw [out_C] at e2
  rw [sout_C] at e3
  rw [e2, ← e3]
  refine Eq.trans (acc_eq m c ⟨_, hlt⟩ (loc2Of (ix2 f d))) ?_
  show ∑ s ∈ Finset.range (pt2Of (ix2 f d) % 4 + 1), M m c (4 * (pt2Of (ix2 f d) / 4) + s) _ = _
  rw [h3]
  show _ = ∑ k : Fin 8192, at2 (hA m c) k.val f.val * at2 (gA m c) k.val d.val
  rw [← sum_blocks 4 2048 (fun k => at2 (hA m c) k f.val * at2 (gA m c) k d.val)]
  refine Finset.sum_congr rfl fun s hs => Finset.sum_congr rfl fun r _ => ?_
  have hs := Finset.mem_range.mp hs
  rw [hp]
  show at2 _ (2048 * ((4 * ((8 * (f.val / 1408) + 4 * (d.val / 1024) + 3) / 4) + s) % 4) + r.val) (1408 * ((4 * ((8 * (f.val / 1408) + 4 * (d.val / 1024) + 3) / 4) + s) / 8) + f.val % 1408) *
    at2 _ (2048 * ((4 * ((8 * (f.val / 1408) + 4 * (d.val / 1024) + 3) / 4) + s) % 4) + r.val) (1024 * ((4 * ((8 * (f.val / 1408) + 4 * (d.val / 1024) + 3) / 4) + s) / 4 % 2) + d.val % 1024) = _
  congr 2 <;> omega

end Cert.DwDownIdeal.Val

namespace Cert.Proof.DwDown
open Idealize.ShloMosaic Idealize.ShloMosaic.TcCoe Idealize.SL.Sem
open Cert.Blocks Cert.DwDownRefIdeal.Read

/-- The two programs have the same bodies and the same pipelines. -/
theorem eq_defs₀ : Cert.DwDown.defs₀ (F := Bits) = Cert.DwDownIdeal.defs₀ (F := Bits) :=
  congrArg Defs.onTc (funext fun a => match a with | 0 => funext fun ⟨_, _⟩ => rfl)
@[inherit_doc eq_defs₀] theorem eq_defs : Cert.DwDown.defs (F := Bits) = Cert.DwDownIdeal.defs (F := Bits) := congrArg (Pipeline.defs Cert.DwDownIdeal.pcfgs) eq_defs₀
/-- So the kernel, as printed, runs and leaves its arguments and the machine's counters as they were, as the idealised one does. -/
theorem frame_kernel : Cert.quiescent_DwDown := by
  intro m ρ _
  rw [eq_defs]
  exact Cert.DwDownIdeal.Gen.frame (F := Bits) m ρ
/-- The idealised one does. -/
theorem frame_ideal : Cert.quiescent_DwDownIdeal := fun m ρ _ => Cert.DwDownIdeal.Gen.frame m ρ
/-- The reference does. -/
theorem frame_reference : Cert.quiescent_DwDownRefIdeal := fun m ρ _ =>
  (θ_run Cert.DwDownRefIdeal.defs _ _).mono (fun r h => ⟨fun c => (h c).2, sem_eq_zero_of_no_sems (by decide) r.2⟩) (Cert.DwDownRefIdeal.Value.run (F := Ideal) m ρ)

/-- The reference's result is the same sum. -/
theorem ref_eq (x0 : Cert.DwDownRefIdeal.S8192x5632.Idx → EReal) (x2 : Cert.DwDownRefIdeal.S8192x2048.Idx → EReal) (i : Cert.DwDownRefIdeal.S5632x2048.Idx) :
    val_main_v3 (F := Ideal) x0 x2 i = ∑ k : Fin 8192, at2 x0 k.val (i 0).val * at2 x2 k.val (i 1).val := by
  rw [val_main_v3_apply]
  show val_main_v2 (F := Ideal) x0 x2 i = _
  rw [val_main_v2_apply, val_main_v1_apply]
  refine Finset.sum_congr rfl fun k _ => ?_
  rw [mul_comm]
  exact congr (congrArg _ (at2_eq x0 _ _ _ rfl rfl)) (at2_eq x2 _ _ _ rfl rfl)

/-- Over the extended reals the kernel computes the reference's gradient. -/
theorem algebraic : Cert.algebraic_DwDownIdeal_DwDownRefIdeal := by
  intro m ρ m' ρ' _ hagree
  refine ⟨Cert.DwDownIdeal.Val.res m, ?_, ?_⟩
  · refine (θ_run Cert.DwDownIdeal.defs _ _).mono (fun r h c => ?_) (Cert.DwDownIdeal.Value.run (F := Ideal) m ρ)
    exact ⟨(h c).1.trans (Cert.DwDownIdeal.Val.G_eq m c), (h c).2⟩
  · refine (θ_run Cert.DwDownRefIdeal.defs _ _).mono (fun r h c => ?_) (Cert.DwDownRefIdeal.Value.run (F := Ideal) m' ρ')
    obtain ⟨g0, _, g2⟩ := hagree c
    refine ⟨(h c).1.trans ?_, (h c).2⟩
    rw [val_main_v3_eq, g0, g2]
    funext i
    exact ref_eq _ _ i

end Cert.Proof.DwDown
-- ==== Proof.DownVal.lean ====
/-
  The feed-forward layer's second product: the kernel's accumulator starts at the layer's input and takes in two blocks of
  hidden values, so it ends at the input plus the whole product, which is the reference's.
-/
module

public import proofs.«01_k».proof.Defs
public import proofs.«01_k».proof.Proof.Blocks
public import proofs.«01_k».proof.Proof.Gen.Down
public import proofs.«01_k».proof.Proof.Gen.DownIdeal.Value
public import proofs.«01_k».proof.Proof.Gen.DownRefIdeal.Run
public import proofs.«01_k».proof.Proof.Gen.DownRefIdeal.Read

@[expose] public section

set_option maxRecDepth 16384
noncomputable section

namespace Cert.DownIdeal.Val
open Cert.DownIdeal Cert.DownIdeal.Gen Cert.DownIdeal.Value Cert.Blocks
open Idealize.ShloMosaic Idealize.ShloMosaic.TcCoe Idealize.ShloMosaic.Tactic Idealize.SL.Sem

theorem pay1_at (s : S1024x1024.Idx → EReal) (x0 : S1024x2816.Idx → EReal) (x1 : S2816x1024.Idx → EReal) (a e : Fin 1024) :
    k0_pay1 (F := Ideal) s x0 x1 (ix2 a e) = s (ix2 a e) + ∑ r : Fin 2816, x0 (ix2 a r) * x1 (ix2 r e) := by
  pointwise [k0_pay1]

variable (m : (ℓ : Loc nD τ sig) → Buf (Elt Ideal) ℓ) (ρ : Dev nD → PrngReg)

theorem V_v0 (c : Dev nD) : V m c main_v0 = truncf (F := Ideal) (φ := .f32) .bf16 (m ((c : Thread nD τ).loc main_arg0)) bitsLt_bf16_f32 := by
  show StableHlo.after hostOps0 (fun b => m (c, b)) _ = _
  after_results_simp
theorem V_v1 (c : Dev nD) : V m c main_v1 = truncf (F := Ideal) (φ := .f32) .bf16 (m ((c : Thread nD τ).loc main_arg1)) bitsLt_bf16_f32 := by
  show StableHlo.after hostOps0 (fun b => m (c, b)) _ = _
  after_results_simp

/-- The hidden activations, the second weights and the layer's input. -/
def hA (c : Dev nD) : S8192x5632.Idx → EReal := m ((c : Thread nD τ).loc main_arg0)
@[inherit_doc hA] def wA (c : Dev nD) : S5632x2048.Idx → EReal := m ((c : Thread nD τ).loc main_arg1)
@[inherit_doc hA] def xA (c : Dev nD) : S8192x2048.Idx → EReal := m ((c : Thread nD τ).loc main_arg2)

theorem index0 (t : Fin cfg0.N) : win0_0.index t 0 = t.val / 4 ∧ win0_0.index t 1 = t.val % 2 :=
  (by decide +kernel : ∀ t : Fin grid0.N, win0_0.index t 0 = t.val / 4 ∧ win0_0.index t 1 = t.val % 2) t
theorem index1 (t : Fin cfg0.N) : win0_1.index t 0 = t.val % 2 ∧ win0_1.index t 1 = t.val / 2 % 2 :=
  (by decide +kernel : ∀ t : Fin grid0.N, win0_1.index t 0 = t.val % 2 ∧ win0_1.index t 1 = t.val / 2 % 2) t
theorem index2 (t : Fin cfg0.N) : win0_2.index t 0 = t.val / 4 ∧ win0_2.index t 1 = t.val / 2 % 2 :=
  (by decide +kernel : ∀ t : Fin grid0.N, win0_2.index t 0 = t.val / 4 ∧ win0_2.index t 1 = t.val / 2 % 2) t

/-- The block of the activations that a point reads. -/
theorem blk0 (c : Dev nD) (t : Fin cfg0.N) (a : Fin 1024) (r : Fin 2816) :
    (iblk m c 0 t : Vec Ideal S1024x2816 _) (ix2 a r) = at2 (hA m c) (1024 * (t.val / 4) + a.val) (2816 * (t.val % 2) + r.val) := by
  have hi := index0 t
  unfold iblk
  rw [View.read_apply]
  refine Eq.trans (b := V m c main_v0 _) rfl ?_
  rw [V_v0]
  refine at2_eq (hA m c) _ _ _ ?_ ?_
  · show win0_0.index t 0 * 1024 + 1 * a.val = _; rw [hi.1]; omega
  · show win0_0.index t 1 * 2816 + 1 * r.val = _; rw [hi.2]; omega

/-- The block of the weights that a point reads. -/
theorem blk1 (c : Dev nD) (t : Fin cfg0.N) (r : Fin 2816) (e : Fin 1024) :
    (iblk m c 1 t : Vec Ideal S2816x1024 _) (ix2 r e) = at2 (wA m c) (2816 * (t.val % 2) + r.val) (1024 * (t.val / 2 % 2) + e.val) := by
  have hi := index1 t
  unfold iblk
  rw [View.read_apply]
  refine Eq.trans (b := V m c main_v1 _) rfl ?_
  rw [V_v1]
  refine at2_eq (wA m c) _ _ _ ?_ ?_
  · show win0_1.index t 0 * 2816 + 1 * r.val = _; rw [hi.1]; omega
  · show win0_1.index t 1 * 1024 + 1 * e.val = _; rw [hi.2]; omega

/-- The block of the layer's input that a point reads. -/
theorem blk2 (c : Dev nD) (t : Fin cfg0.N) (a e : Fin 1024) :
    (iblk m c 2 t : Vec Ideal S1024x1024 _) (ix2 a e) = at2 (xA m c) (1024 * (t.val / 4) + a.val) (1024 * (t.val / 2 % 2) + e.val) := by
  have hi := index2 t
  unfold iblk
  rw [View.read_apply]
  refine Eq.trans (b := V m c main_arg2 _) rfl ?_
  rw [V_main_arg2]
  refine at2_eq (xA m c) _ _ _ ?_ ?_
  · show win0_2.index t 0 * 1024 + 1 * a.val = _; rw [hi.1]; omega
  · show win0_2.index t 1 * 1024 + 1 * e.val = _; rw [hi.2]; omega

/-- What point `n` adds to the accumulator. -/
def M (c : Dev nD) (n : ℕ) (y : S1024x1024.Idx) : EReal :=
  ∑ r : Fin 2816, at2 (hA m c) (1024 * (n / 4) + (y 0).val) (2816 * (n % 2) + r.val) * at2 (wA m c) (2816 * (n % 2) + r.val) (1024 * (n / 2 % 2) + (y 1).val)

theorem step (c : Dev nD) (t : Fin cfg0.N) (s : S1024x1024.Idx → EReal) (y : S1024x1024.Idx) :
    k0_pay1 (F := Ideal) s (iblk m c 0 t) (iblk m c 1 t) y = s y + M m c t.val y := by
  obtain ⟨a, e, rfl⟩ : ∃ (a : Fin 1024) (e : Fin 1024), y = ix2 a e := ⟨y 0, y 1, eq_ix2 y⟩
  rw [pay1_at]
  refine congrArg (s (ix2 a e) + ·) (Finset.sum_congr rfl fun r _ => ?_)
  rw [blk0, blk1]
  rfl

/-- The result: the layer's input and the product of the activations and the weights. -/
def res (c : Dev nD) : S8192x2048.Idx → EReal := fun i =>
  at2 (xA m c) (i 0).val (i 1).val + ∑ k : Fin 5632, at2 (hA m c) (i 0).val k.val * at2 (wA m c) k.val (i 1).val

theorem G_eq (c : Dev nD) : G3 m c = res m c := by
  funext i
  obtain ⟨q, d, rfl⟩ : ∃ (q : Fin 8192) (d : Fin 2048), i = ix2 q d := ⟨i 0, i 1, eq_ix2 i⟩
  have hN : cfg0.N = 32 := N_0
  have hp : run3Of (ix2 q d) = 2 * (q.val / 1024) + d.val / 1024 := by
    show 2 * (q.val / 1024 - 0) + 1 * (d.val / 1024 - 0) = _
    omega
  have hlt : 2 * run3Of (ix2 q d) + 1 < cfg0.N := by rw [hp, hN]; omega
  unfold G3
  rw [dif_pos hlt]
  refine (Pipeline.accAt_add_apply (ι := S1024x1024.Idx) (β := EReal) (reset3 m c) (step3 m c)
    (fun y => at2 (xA m c) (1024 * (run3Of (ix2 q d) / 2) + (y 0).val) (1024 * (run3Of (ix2 q d) % 2) + (y 1).val)) (M m c)
    (2 * run3Of (ix2 q d)) 1 ?_ ?_ 1 (le_refl _) hlt (loc3Of (ix2 q d))).trans ?_
  · intro h y
    obtain ⟨a, e, rfl⟩ : ∃ (a : Fin 1024) (e : Fin 1024), y = ix2 a e := ⟨y 0, y 1, eq_ix2 y⟩
    refine (step m c ⟨_, h⟩ _ _).trans (congrArg (· + _) ((blk2 m c ⟨_, h⟩ a e).trans ?_))
    show at2 _ (1024 * (2 * run3Of (ix2 q d) / 4) + a.val) (1024 * (2 * run3Of (ix2 q d) / 2 % 2) + e.val) = at2 _ (1024 * (run3Of (ix2 q d) / 2) + a.val) (1024 * (run3Of (ix2 q d) % 2) + e.val)
    congr 2 <;> omega
  · intro n h acc y _ _
    exact step m c ⟨_, h⟩ _ _
  · rw [hp]
    refine congrArg₂ (fun x y : EReal => x + y) ?_ ?_
    · show at2 _ (1024 * ((2 * (q.val / 1024) + d.val / 1024) / 2) + q.val % 1024) (1024 * ((2 * (q.val / 1024) + d.val / 1024) % 2) + d.val % 1024) = at2 _ q.val d.val
      congr 1 <;> omega
    · show _ = ∑ k : Fin 5632, at2 (hA m c) q.val k.val * at2 (wA m c) k.val d.val
      rw [← sum_blocks 2 2816 (fun k => at2 (hA m c) q.val k * at2 (wA m c) k d.val)]
      refine Finset.sum_congr rfl fun s hs => Finset.sum_congr rfl fun r _ => ?_
      have hs := Finset.mem_range.mp hs
      show at2 _ (1024 * ((2 * (2 * (q.val / 1024) + d.val / 1024) + s) / 4) + q.val % 1024) (2816 * ((2 * (2 * (q.val / 1024) + d.val / 1024) + s) % 2) + r.val) *
        at2 _ (2816 * ((2 * (2 * (q.val / 1024) + d.val / 1024) + s) % 2) + r.val) (1024 * ((2 * (2 * (q.val / 1024) + d.val / 1024) + s) / 2 % 2) + d.val % 1024) = _
      congr 2 <;> omega

end Cert.DownIdeal.Val

namespace Cert.Proof.Down
open Idealize.ShloMosaic Idealize.ShloMosaic.TcCoe Idealize.SL.Sem
open Cert.Blocks Cert.DownRefIdeal.Read

/-- The two programs have the same bodies and the same pipelines. -/
theorem eq_defs₀ : Cert.Down.defs₀ (F := Bits) = Cert.DownIdeal.defs₀ (F := Bits) :=
  congrArg Defs.onTc (funext fun a => match a with | 0 => funext fun ⟨_, _⟩ => rfl)
@[inherit_doc eq_defs₀] theorem eq_defs : Cert.Down.defs (F := Bits) = Cert.DownIdeal.defs (F := Bits) := congrArg (Pipeline.defs Cert.DownIdeal.pcfgs) eq_defs₀
/-- So the kernel, as printed, runs and leaves its arguments and the machine's counters as they were, as the idealised one does. -/
theorem frame_kernel : Cert.quiescent_Down := by
  intro m ρ _
  rw [eq_defs]
  exact Cert.DownIdeal.Gen.frame (F := Bits) m ρ
/-- The idealised one does. -/
theorem frame_ideal : Cert.quiescent_DownIdeal := fun m ρ _ => Cert.DownIdeal.Gen.frame m ρ
/-- The reference does. -/
theorem frame_reference : Cert.quiescent_DownRefIdeal := fun m ρ _ =>
  (θ_run Cert.DownRefIdeal.defs _ _).mono (fun r h => ⟨fun c => (h c).2, sem_eq_zero_of_no_sems (by decide) r.2⟩) (Cert.DownRefIdeal.Value.run (F := Ideal) m ρ)

/-- The reference's result is the same. -/
theorem ref_eq (x0 : Cert.DownRefIdeal.S8192x5632.Idx → EReal) (x1 : Cert.DownRefIdeal.S5632x2048.Idx → EReal) (x2 : Cert.DownRefIdeal.S8192x2048.Idx → EReal) (i : Cert.DownRefIdeal.S8192x2048.Idx) :
    val_main_v1 (F := Ideal) x0 x1 x2 i = at2 x2 (i 0).val (i 1).val + ∑ k : Fin 5632, at2 x0 (i 0).val k.val * at2 x1 k.val (i 1).val := by
  rw [val_main_v1_apply]
  show x2 i + val_main_v0 (F := Ideal) x0 x1 i = _
  rw [val_main_v0_apply]
  refine congrArg₂ (fun x y : EReal => x + y) (at2_eq x2 _ _ _ rfl rfl) (Finset.sum_congr rfl fun k _ => ?_)
  exact congr (congrArg _ (at2_eq x0 _ _ _ rfl rfl)) (at2_eq x1 _ _ _ rfl rfl)

/-- Over the extended reals the kernel computes the reference's result. -/
theorem algebraic : Cert.algebraic_DownIdeal_DownRefIdeal := by
  intro m ρ m' ρ' _ hagree
  refine ⟨Cert.DownIdeal.Val.res m, ?_, ?_⟩
  · refine (θ_run Cert.DownIdeal.defs _ _).mono (fun r h c => ?_) (Cert.DownIdeal.Value.run (F := Ideal) m ρ)
    exact ⟨(h c).1.trans (Cert.DownIdeal.Val.G_eq m c), (h c).2⟩
  · refine (θ_run Cert.DownRefIdeal.defs _ _).mono (fun r h c => ?_) (Cert.DownRefIdeal.Value.run (F := Ideal) m' ρ')
    obtain ⟨g0, g1, g2⟩ := hagree c
    refine ⟨(h c).1.trans ?_, (h c).2⟩
    rw [val_main_v1_eq, g0, g1, g2]
    funext i
    exact ref_eq _ _ _ i

end Cert.Proof.Down
-- ==== Proof.Reals.lean ====
/-
  The forgetting attention and its gradients over the real numbers, and the identities that join the two ways of computing them.
-/
module

public import Idealize.ShloMosaic.PureOps.Ideal.Laws
public import Idealize.ShloMosaic.Lib.ValueIdx

@[expose] public section

noncomputable section

namespace Cert.Attn

variable (Q K W G : Fin 8192 → Fin 2048 → ℝ) (C M : Fin 16 → Fin 8192 → ℝ)

/-- Column `e` of head `h`. -/
def ch (h : Fin 16) (e : Fin 128) : Fin 2048 := ⟨128 * h.val + e.val, by omega⟩
/-- The head that column `x` belongs to. -/
def hd (x : Fin 2048) : Fin 16 := ⟨x.val / 128, by omega⟩
/-- The scale of the logits. -/
def sc : ℝ := (Real.sqrt 128)⁻¹
/-- The factor folded into the queries and into the keys. -/
def fold : ℝ := Real.sqrt (sc * (1 / Real.log 2))
/-- The factor that takes a gradient with respect to a folded operand back. -/
def unf : ℝ := Real.sqrt ((Real.sqrt 128)⁻¹ * Real.log 2)

/-- The logit of query `r` at key `a`. -/
def S (h : Fin 16) (r a : Fin 8192) : ℝ := (∑ e, Q r (ch h e) * K a (ch h e)) * sc + (C h r - C h a)
/-- The exponential of the masked logit, less the row's shift `M`. -/
def E (h : Fin 16) (r a : Fin 8192) : ℝ := if a.val ≤ r.val then Real.exp (S Q K C h r a - M h r) else 0
/-- The sum of the exponentials of a row. -/
def L (h : Fin 16) (r : Fin 8192) : ℝ := ∑ a, E Q K C M h r a
/-- The attention probability. -/
def Pr (h : Fin 16) (r a : Fin 8192) : ℝ := E Q K C M h r a * (1 / L Q K C M h r)
/-- The gradient of the probability. -/
def dp (h : Fin 16) (r a : Fin 8192) : ℝ := ∑ e, G r (ch h e) * W a (ch h e)
/-- The gradient of the logit. -/
def ds (h : Fin 16) (r a : Fin 8192) : ℝ :=
  Pr Q K C M h r a * (dp W G h r a - ∑ b, Pr Q K C M h r b * dp W G h r b)

/-- The gradient of the queries. -/
def gq (r : Fin 8192) (x : Fin 2048) : ℝ := ∑ a, ds Q K W G C M (hd x) r a * sc * K a x
/-- The gradient of the keys. -/
def gk (a : Fin 8192) (x : Fin 2048) : ℝ := ∑ r, ds Q K W G C M (hd x) r a * sc * Q r x
/-- The gradient of the values. -/
def gv (a : Fin 8192) (x : Fin 2048) : ℝ := ∑ r, G r x * Pr Q K C M (hd x) r a
/-- The gradient of a key's gate. -/
def gck (h : Fin 16) (a : Fin 8192) : ℝ := ∑ r, -ds Q K W G C M h r a
/-- The gradient of a query's gate. -/
def gcq (h : Fin 16) (r : Fin 8192) : ℝ := ∑ a, ds Q K W G C M h r a

/-- A sum of real numbers, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem L_pos (h : Fin 16) (r : Fin 8192) : 0 < L Q K C M h r := by
  unfold L
  refine Finset.sum_pos' (fun a _ => ?_) ⟨r, Finset.mem_univ _, ?_⟩
  · unfold E; split
    · exact (Real.exp_pos _).le
    · exact le_rfl
  · unfold E; rw [if_pos le_rfl]; exact Real.exp_pos _

theorem log_two_pos : 0 < Real.log 2 := Real.log_pos (by norm_num)
theorem sqrt_pos' : 0 < Real.sqrt 128 := Real.sqrt_pos.mpr (by norm_num)
theorem sc_pos : 0 < sc := inv_pos.mpr sqrt_pos'

theorem fold_fold : fold * fold * Real.log 2 = sc := by
  unfold fold
  rw [Real.mul_self_sqrt (mul_nonneg sc_pos.le (one_div_pos.mpr log_two_pos).le)]
  field_simp [log_two_pos.ne']

theorem fold_unf : fold * unf = sc := by
  have hl := log_two_pos
  have hs := sc_pos
  unfold fold unf
  rw [← Real.sqrt_mul (mul_nonneg hs.le (one_div_pos.mpr hl).le)]
  rw [show sc * (1 / Real.log 2) * ((Real.sqrt 128)⁻¹ * Real.log 2) = sc * sc by unfold sc; field_simp]
  exact Real.sqrt_mul_self hs.le

/-- The folded logit less the row's log-sum-exp is the logit less the shift and the logarithm of the row's sum. -/
theorem fold_score (h : Fin 16) (r a : Fin 8192) :
    (∑ e, K a (ch h e) * fold * (Q r (ch h e) * fold)) * Real.log 2
        + (C h r - (M h r + Real.log (L Q K C M h r)) - C h a)
      = S Q K C h r a - M h r - Real.log (L Q K C M h r) := by
  have e1 : (∑ e, K a (ch h e) * fold * (Q r (ch h e) * fold)) = (∑ e, Q r (ch h e) * K a (ch h e)) * (fold * fold) := by
    rw [Finset.sum_mul]; exact Finset.sum_congr rfl fun e _ => by ring
  rw [e1, mul_assoc, fold_fold]
  unfold S
  ring

/-- The exponential of it is the probability. -/
theorem exp_score (h : Fin 16) (r a : Fin 8192) (ha : a.val ≤ r.val) :
    Real.exp (S Q K C h r a - M h r - Real.log (L Q K C M h r)) = Pr Q K C M h r a := by
  rw [Real.exp_sub, Real.exp_log (L_pos Q K C M h r)]
  unfold Pr E
  rw [if_pos ha, div_eq_mul_one_div]

theorem Pr_masked (h : Fin 16) (r a : Fin 8192) (ha : ¬ a.val ≤ r.val) : Pr Q K C M h r a = 0 := by
  unfold Pr E; rw [if_neg ha, zero_mul]

/-- The sum over a head's columns of the output times its gradient is the row's sum of probabilities times their gradients. -/
theorem delta_eq (h : Fin 16) (r : Fin 8192) :
    (∑ e, (∑ a, W a (ch h e) * Pr Q K C M h r a) * G r (ch h e)) = ∑ b, Pr Q K C M h r b * dp W G h r b := by
  simp only [Finset.sum_mul, dp, Finset.mul_sum]
  rw [Finset.sum_comm]
  exact Finset.sum_congr rfl fun a _ => Finset.sum_congr rfl fun e _ => by ring

/-- The quotient rule's form of the gradient of the logit. -/
theorem ds_quotient (h : Fin 16) (r a : Fin 8192) :
    (dp W G h r a * (1 / L Q K C M h r)
        + -(∑ b, dp W G h r b * (1 * (1 / (L Q K C M h r * L Q K C M h r))) * E Q K C M h r b)) * E Q K C M h r a
      = ds Q K W G C M h r a := by
  have hL := (L_pos Q K C M h r).ne'
  have e1 : (∑ b, dp W G h r b * (1 * (1 / (L Q K C M h r * L Q K C M h r))) * E Q K C M h r b)
      = (∑ b, Pr Q K C M h r b * dp W G h r b) * (1 / L Q K C M h r) := by
    rw [Finset.sum_mul]
    refine Finset.sum_congr rfl fun b _ => ?_
    unfold Pr; field_simp
  rw [e1]
  unfold ds
  generalize (∑ b, Pr Q K C M h r b * dp W G h r b) = T
  unfold Pr
  ring

theorem ds_masked (h : Fin 16) (r a : Fin 8192) (ha : ¬ a.val ≤ r.val) : ds Q K W G C M h r a = 0 := by
  unfold ds; rw [Pr_masked Q K C M h r a ha, zero_mul]

/-- A sum over all keys, taken block by block. -/
theorem sum_blocks (f : Fin 8192 → ℝ) (b : ℕ → Fin 512 → Fin 8192) (hb : ∀ j, j < 16 → ∀ a, (b j a).val = 512 * j + a.val) :
    (∑ j ∈ Finset.range 16, ∑ a, f (b j a)) = ∑ a, f a := by
  rw [Finset.sum_range, ← Fintype.sum_prod_type', ← Equiv.sum_comp (finProdFinEquiv (m := 16) (n := 512)) f]
  refine Finset.sum_congr rfl fun p _ => congrArg f (Fin.ext ?_)
  rw [hb p.1.val p.1.isLt]
  show _ = p.2.val + 512 * p.1.val
  omega

end Cert.Attn
-- ==== Proof.RefVal.lean ====
/-
  The reference's values over the real numbers: what each of its stages holds when the arguments are finite.
-/
module

public import proofs.«01_k».proof.Proof.Reals
public import proofs.«01_k».proof.Proof.Gen.ReferenceIdeal.Read
public import Idealize.ShloMosaic.Lib.IdealHost
public import Idealize.ShloMosaic.Lib.Pointwise

@[expose] public section

set_option maxRecDepth 16384
noncomputable section

namespace Cert.Attn
open Idealize.ShloMosaic Cert.ReferenceIdeal Cert.ReferenceIdeal.Gen Cert.ReferenceIdeal.Read

variable (Q K W G : Fin 8192 → Fin 2048 → ℝ) (C : Fin 16 → Fin 8192 → ℝ)

/-- A real matrix as an array of the programs. -/
def mat (A : Fin 8192 → Fin 2048 → ℝ) : S8192x2048.Idx → EReal := fun i => ((A (i 0) (i 1) : ℝ) : EReal)
/-- The gates as an array of the programs. -/
def gate (A : Fin 16 → Fin 8192 → ℝ) : S16x8192.Idx → EReal := fun i => ((A (i 0) (i 1) : ℝ) : EReal)

theorem e2 {n0 n1 : ℕ} (i : (⟨2, ![n0, n1]⟩ : Shape).Idx) (a : Fin n0) (b : Fin n1) (h0 : (i 0).val = a.val) (h1 : (i 1).val = b.val) :
    i = ix2 a b := by
  funext x; match x with | ⟨0, _⟩ => exact Fin.ext h0 | ⟨1, _⟩ => exact Fin.ext h1
theorem e3 {n0 n1 n2 : ℕ} (i : (⟨3, ![n0, n1, n2]⟩ : Shape).Idx) (a : Fin n0) (b : Fin n1) (c : Fin n2) (h0 : (i 0).val = a.val)
    (h1 : (i 1).val = b.val) (h2 : (i 2).val = c.val) : i = ix3 a b c := by
  funext x; match x with | ⟨0, _⟩ => exact Fin.ext h0 | ⟨1, _⟩ => exact Fin.ext h1 | ⟨2, _⟩ => exact Fin.ext h2

theorem mat_split (A : Fin 8192 → Fin 2048 → ℝ) (i : S8192x2048.Idx) (r : Fin 8192) (h : Fin 16) (e : Fin 128)
    (h0 : (i 0).val = ((r.val * 16 + h.val) * 128 + e.val) / 2048) (h1 : (i 1).val = ((r.val * 16 + h.val) * 128 + e.val) % 2048) :
    mat A i = ((A r (ch h e) : ℝ) : EReal) := by
  rw [e2 i r (ch h e) (by rw [h0]; omega) (by rw [h1]; show _ = 128 * h.val + e.val; omega)]
  rfl

theorem ofBits_128 : Ideal.ofBits .f32 0x43000000#32 = ((128 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]
theorem div_real (x y : ℝ) (hy : y ≠ 0) : Ideal.div (x : EReal) (y : EReal) = ((x * (1 / y) : ℝ) : EReal) := by
  rw [Ideal.div_coe hy, EReal.coe_mul]
theorem sqrt_real (x : ℝ) (hx : 0 ≤ x) : Ideal.sqrt (x : EReal) = ((Real.sqrt x : ℝ) : EReal) := by
  rw [Ideal.sqrt_coe, if_neg (not_lt.mpr hx)]
theorem log_real (x : ℝ) (hx : 0 < x) : Ideal.log (x : EReal) = ((Real.log x : ℝ) : EReal) := by
  rw [Ideal.log_coe, if_neg (not_le.mpr hx)]
theorem coe_ite (p : Prop) [Decidable p] (x : ℝ) : (if p then (x : EReal) else 0) = ((if p then x else 0 : ℝ) : EReal) := by
  split <;> simp

/-- The comparison of two coordinates decides which of the two values is taken. -/
theorem select_ge (a r : Fin 8192) (x y : EReal) :
    Scalar.select (IntOp.cmpi CmpIPredicate.sge (BitVec.ofNat 32 r.val) (BitVec.ofNat 32 a.val)) x y
      = if a.val ≤ r.val then x else y := by
  have hb : (BitVec.ofNat 32 r.val).toInt = r.val := by
    rw [BitVec.toInt_ofNat', Int.bmod_eq_of_le] <;> omega
  have ha : (BitVec.ofNat 32 a.val).toInt = a.val := by
    rw [BitVec.toInt_ofNat', Int.bmod_eq_of_le] <;> omega
  have hc : IntOp.cmpi CmpIPredicate.sge (BitVec.ofNat 32 r.val) (BitVec.ofNat 32 a.val) = if a.val ≤ r.val then 1#1 else 0#1 := by
    simp only [IntOp.cmpi, BitVec.sle, ha, hb]
    by_cases hab : a.val ≤ r.val
    · simp [hab]
    · simp [hab]
  rw [hc]
  by_cases hab : a.val ≤ r.val
  · rw [if_pos hab, if_pos hab]; rfl
  · rw [if_neg hab, if_neg hab]; rfl

/-! ## The logits and the softmax -/

theorem r0 (r : Fin 8192) (h : Fin 16) (e : Fin 128) : val_main_v0 (F := Ideal) (mat Q) (ix3 r h e) = ((Q r (ch h e) : ℝ) : EReal) := by
  rw [val_main_v0_apply]; exact mat_split Q _ r h e rfl rfl
theorem r1 (r : Fin 8192) (h : Fin 16) (e : Fin 128) : val_main_v1 (F := Ideal) (mat K) (ix3 r h e) = ((K r (ch h e) : ℝ) : EReal) := by
  rw [val_main_v1_apply]; exact mat_split K _ r h e rfl rfl
theorem r2 (r : Fin 8192) (h : Fin 16) (e : Fin 128) : val_main_v2 (F := Ideal) (mat W) (ix3 r h e) = ((W r (ch h e) : ℝ) : EReal) := by
  rw [val_main_v2_apply]; exact mat_split W _ r h e rfl rfl
theorem r52 (r : Fin 8192) (h : Fin 16) (e : Fin 128) : val_main_v52 (F := Ideal) (mat G) (ix3 r h e) = ((G r (ch h e) : ℝ) : EReal) := by
  rw [val_main_v52_apply]; exact mat_split G _ r h e rfl rfl

theorem r5 (i : S_.Idx) : val_main_v5 (F := Ideal) i = ((sc : ℝ) : EReal) := by
  rw [val_main_v5_apply, val_main_v4_apply, val_main_cst_apply, val_main_cst_0_apply, Ideal.hostDivf_def, Ideal.hostUnary_sqrt_def,
    Ideal.ofBits_def, Ideal.ofBits_def, ofBits_128, Ideal.ofBits_one_f32, sqrt_real _ (by norm_num), ← EReal.coe_one,
    div_real _ _ sqrt_pos'.ne']
  unfold sc
  rw [one_mul, one_div]

theorem r3 (h : Fin 16) (r a : Fin 8192) :
    val_main_v3 (F := Ideal) (mat Q) (mat K) (ix3 h r a) = ((∑ e, Q r (ch h e) * K a (ch h e) : ℝ) : EReal) := by
  rw [val_main_v3_apply, ← coe_sum]
  refine Finset.sum_congr rfl fun e _ => ?_
  rw [e3 (lidx_main_v3 (ix3 h r a) e) r h e rfl rfl rfl, e3 (ridx_main_v3 (ix3 h r a) e) a h e rfl rfl rfl, r0, r1, EReal.coe_mul]

theorem r12 (h : Fin 16) (r a : Fin 8192) :
    val_main_v12 (F := Ideal) (gate C) (ix3 h r a) = ((C h r - C h a : ℝ) : EReal) := by
  rw [val_main_v12_apply, val_main_v10_apply, val_main_v11_apply, val_main_v8_apply, val_main_v9_apply, EReal.coe_sub]
  rfl

/-- The reference's logits. -/
theorem r13 (h : Fin 16) (r a : Fin 8192) :
    val_main_v13 (F := Ideal) (mat Q) (mat K) (gate C) (ix3 h r a) = ((S Q K C h r a : ℝ) : EReal) := by
  rw [val_main_v13_apply, val_main_v7_apply, val_main_v6_apply, r5, r3, r12]
  unfold S
  rw [EReal.coe_add, EReal.coe_mul]
  rfl

theorem r20 (h : Fin 16) (r a : Fin 8192) (x y : EReal) :
    Scalar.select (val_main_v20_1 (F := Ideal) (ix3 h r a)) x y = if a.val ≤ r.val then x else y := by
  rw [val_main_v20_1_apply, val_main_v19_apply, val_main_v17_apply, val_main_v18_apply, val_main_v15_apply, val_main_v16_apply,
    val_main_v14_apply, val_main_v14_apply]
  exact select_ge a r x y

/-- The reference's masked logits. -/
theorem r20_0 (h : Fin 16) (r a : Fin 8192) :
    val_main_v20_0 (F := Ideal) (mat Q) (mat K) (gate C) (ix3 h r a) = if a.val ≤ r.val then ((S Q K C h r a : ℝ) : EReal) else ⊥ := by
  rw [val_main_v20_0_apply, r20, r13, val_main_call0_v2_apply, val_main_call0_v0_apply, val_main_cst_1_apply, Ideal.ofBits_def, ofBits_bot]

/-- The greatest masked logit of a row. -/
def Mx (h : Fin 16) (r : Fin 8192) : ℝ := (val_main_v21 (F := Ideal) (mat Q) (mat K) (gate C) (ix2 h r)).toReal

theorem fold_max {ι : Type} (s : Finset ι) (f : ι → EReal) (hf : ∀ i ∈ s, f i ≠ ⊤) :
    s.fold (FloatOps.maximumf (F := Ideal) (φ := .f32)) (⊥ : EReal) f ≠ ⊤
      ∧ ∀ i ∈ s, f i ≤ s.fold (FloatOps.maximumf (F := Ideal) (φ := .f32)) (⊥ : EReal) f := by
  classical
  induction s using Finset.induction_on with
  | empty => exact ⟨by rw [Finset.fold_empty]; exact bot_ne_top, fun i hi => absurd hi (Finset.notMem_empty i)⟩
  | insert a s ha ih =>
    obtain ⟨h1, h2⟩ := ih fun i hi => hf i (Finset.mem_insert_of_mem hi)
    rw [Finset.fold_insert ha]
    show max (f a) _ ≠ ⊤ ∧ ∀ i ∈ insert a s, f i ≤ max (f a) _
    refine ⟨?_, fun i hi => ?_⟩
    · rcases max_choice (f a) (s.fold (FloatOps.maximumf (F := Ideal) (φ := .f32)) (⊥ : EReal) f) with h | h
      · rw [h]; exact hf a (Finset.mem_insert_self a s)
      · rw [h]; exact h1
    · rcases Finset.mem_insert.mp hi with rfl | hi
      · exact le_max_left _ _
      · exact (h2 i hi).trans (le_max_right _ _)

theorem red2 : S16x8192x8192.Reduces [2] S16x8192 := by decide

/-- A maximum along the last axis, from the least element. -/
theorem reduce_max (y : S16x8192x8192.Idx → EReal) (i0 : S_.Idx → EReal) (h0 : i0 (Shape.Idx.first h_S_) = ⊥) (h : Fin 16) (r : Fin 8192) :
    Host.reduce (FloatOps.maximumf (F := Ideal) (φ := .f32)) y i0 reducesTo_S16x8192x8192_S16x8192_d2 h_S_ (ix2 h r)
      = (Finset.univ : Finset (Fin 8192)).fold (FloatOps.maximumf (F := Ideal) (φ := .f32)) (⊥ : EReal) fun a => y (ix3 h r a) := by
  refine (Host.reduce_eq_fold_single (FloatOps.maximumf (F := Ideal) (φ := .f32)) y i0 reducesTo_S16x8192x8192_S16x8192_d2 red2 h_S_
    (ix2 h r)).trans ?_
  rw [h0]
  exact congrArg ((Finset.univ : Finset (Fin 8192)).fold (FloatOps.maximumf (F := Ideal) (φ := .f32)) (⊥ : EReal))
    (funext fun a => congrArg y (e3 (red2.lift (ix2 h r) a) h r a rfl rfl rfl))

/-- The greatest masked logit of a row is finite: every row may attend to itself. -/
theorem r21 (h : Fin 16) (r : Fin 8192) :
    val_main_v21 (F := Ideal) (mat Q) (mat K) (gate C) (ix2 h r) = ((Mx Q K C h r : ℝ) : EReal) := by
  have e : val_main_v21 (F := Ideal) (mat Q) (mat K) (gate C) (ix2 h r)
      = (Finset.univ : Finset (Fin 8192)).fold (FloatOps.maximumf (F := Ideal) (φ := .f32)) (⊥ : EReal)
          fun a => val_main_v20_0 (F := Ideal) (mat Q) (mat K) (gate C) (ix3 h r a) :=
    reduce_max (val_main_v20_0 (F := Ideal) (mat Q) (mat K) (gate C)) (val_main_cst_2 (F := Ideal))
      (by rw [val_main_cst_2_apply, Ideal.ofBits_def, ofBits_bot]) h r
  generalize hfe : (fun a => val_main_v20_0 (F := Ideal) (mat Q) (mat K) (gate C) (ix3 h r a)) = f at e
  have hv : ∀ a, f a = if a.val ≤ r.val then ((S Q K C h r a : ℝ) : EReal) else ⊥ := fun a => (congrFun hfe a).symm.trans (r20_0 Q K C h r a)
  obtain ⟨h1, h2⟩ := fold_max Finset.univ f fun a _ => by rw [hv a]; split; exacts [EReal.coe_ne_top _, bot_ne_top]
  have h3 := h2 r (Finset.mem_univ r)
  rw [hv r, if_pos le_rfl] at h3
  unfold Mx
  rw [← e] at h1 h3
  exact (EReal.coe_toReal h1 (ne_bot_of_le_ne_bot (EReal.coe_ne_bot _) h3)).symm

theorem r28 : val_main_v28 (F := Ideal) (mat Q) (mat K) (gate C) = val_main_v21 (F := Ideal) (mat Q) (mat K) (gate C) := by
  funext i
  rw [val_main_v28_apply, val_main_v27_apply, val_main_cst_4_apply, Ideal.ofBits_def, ofBits_bot]
  exact max_eq_right bot_le

/-- The reference's exponentials. -/
theorem r41 (h : Fin 16) (r a : Fin 8192) :
    val_main_v41 (F := Ideal) (mat Q) (mat K) (gate C) (ix3 h r a) = ((E Q K C (Mx Q K C) h r a : ℝ) : EReal) := by
  rw [val_main_v41_apply, val_main_v40_apply, val_main_v39_apply, val_main_v38_apply, r28,
    e2 (idx_main_v38 (idx_main_v39 (ix3 h r a))) h r rfl rfl, r21, r20_0, Ideal.hostUnary_exp_def, Ideal.subf_def]
  unfold E
  by_cases ha : a.val ≤ r.val
  · rw [if_pos ha, if_pos ha, ← EReal.coe_sub, Ideal.exp_coe]
  · rw [if_neg ha, if_neg ha, EReal.bot_sub, Ideal.exp_bot]; rfl

theorem r42 (h : Fin 16) (r : Fin 8192) :
    val_main_v42 (F := Ideal) (mat Q) (mat K) (gate C) (ix2 h r) = ((L Q K C (Mx Q K C) h r : ℝ) : EReal) := by
  rw [val_main_v42_apply, val_main_cst_10_apply, Ideal.ofBits_def, Ideal.ofBits_zero_f32, zero_add]
  unfold L
  rw [← coe_sum]
  refine Finset.sum_congr rfl fun a _ => ?_
  rw [e3 (idx_main_v42 (ix2 h r) a) h r a rfl rfl rfl, r41]

theorem r43 (h : Fin 16) (r : Fin 8192) (z : Fin 1) :
    val_main_v43 (F := Ideal) (mat Q) (mat K) (gate C) (ix3 h r z) = ((L Q K C (Mx Q K C) h r : ℝ) : EReal) := by
  rw [val_main_v43_apply, e2 (idx_main_v43 (ix3 h r z)) h r rfl rfl, r42]

/-- The reference's probabilities. -/
theorem r45 (h : Fin 16) (r a : Fin 8192) :
    val_main_v45 (F := Ideal) (mat Q) (mat K) (gate C) (ix3 h r a) = ((Pr Q K C (Mx Q K C) h r a : ℝ) : EReal) := by
  rw [val_main_v45_apply, val_main_v44_apply, e3 (idx_main_v44 (ix3 h r a)) h r 0 rfl rfl rfl, r43, r41, Ideal.hostDivf_def,
    div_real _ _ (L_pos Q K C (Mx Q K C) h r).ne']
  rfl

theorem r50 (r : Fin 8192) (h : Fin 16) (e : Fin 128) :
    val_main_v50 (F := Ideal) (mat Q) (mat K) (mat W) (gate C) (ix3 r h e)
      = ((∑ a, W a (ch h e) * Pr Q K C (Mx Q K C) h r a : ℝ) : EReal) := by
  rw [val_main_v50_apply, e3 (idx_main_v50 (ix3 r h e)) h e r rfl rfl rfl, val_main_v49_apply, ← coe_sum]
  refine Finset.sum_congr rfl fun a _ => ?_
  rw [e3 (lidx_main_v49 (ix3 h e r) a) a h e rfl rfl rfl, e3 (ridx_main_v49 (ix3 h e r) a) h r a rfl rfl rfl, r2, r45, EReal.coe_mul]

/-! ## The gradients -/

theorem r53 (h : Fin 16) (e : Fin 128) (r : Fin 8192) : val_main_v53 (F := Ideal) (mat G) (ix3 h e r) = ((G r (ch h e) : ℝ) : EReal) := by
  rw [val_main_v53_apply, e3 (idx_main_v53 (ix3 h e r)) r h e rfl rfl rfl, r52]

theorem r54 (h : Fin 16) (r a : Fin 8192) :
    val_main_v54 (F := Ideal) (mat W) (mat G) (ix3 h r a) = ((dp W G h r a : ℝ) : EReal) := by
  rw [val_main_v54_apply]
  unfold dp
  rw [← coe_sum]
  refine Finset.sum_congr rfl fun e _ => ?_
  rw [e3 (lidx_main_v54 (ix3 h r a) e) h e r rfl rfl rfl, e3 (ridx_main_v54 (ix3 h r a) e) a h e rfl rfl rfl, r53, r2, EReal.coe_mul]

theorem r48 (h : Fin 16) (r : Fin 8192) (z : Fin 1) :
    val_main_v48 (F := Ideal) (mat Q) (mat K) (gate C) (ix3 h r z)
      = ((1 * (1 / (L Q K C (Mx Q K C) h r * L Q K C (Mx Q K C) h r)) : ℝ) : EReal) := by
  have hL := (L_pos Q K C (Mx Q K C) h r).ne'
  rw [val_main_v48_apply, val_main_v47_apply, val_main_cst_11_apply, val_main_v46_apply, r43, Ideal.hostDivf_def, Ideal.mulf_def,
    Ideal.ofBits_def, Ideal.ofBits_one_f32, ← EReal.coe_mul, ← EReal.coe_one, div_real _ _ (mul_ne_zero hL hL)]

theorem r59 (h : Fin 16) (r a : Fin 8192) :
    val_main_v59 (F := Ideal) (mat Q) (mat K) (mat W) (gate C) (mat G) (ix3 h r a)
      = ((dp W G h r a * (1 * (1 / (L Q K C (Mx Q K C) h r * L Q K C (Mx Q K C) h r))) * E Q K C (Mx Q K C) h r a : ℝ) : EReal) := by
  rw [val_main_v59_apply, val_main_v58_apply, val_main_v57_apply, e3 (idx_main_v57 (ix3 h r a)) h r 0 rfl rfl rfl, r48, r54, r41,
    Ideal.mulf_def, Ideal.mulf_def, ← EReal.coe_mul, ← EReal.coe_mul]

theorem r62 (h : Fin 16) (r : Fin 8192) (z : Fin 1) :
    val_main_v62 (F := Ideal) (mat Q) (mat K) (mat W) (gate C) (mat G) (ix3 h r z)
      = ((-(∑ b, dp W G h r b * (1 * (1 / (L Q K C (Mx Q K C) h r * L Q K C (Mx Q K C) h r))) * E Q K C (Mx Q K C) h r b) : ℝ) : EReal) := by
  rw [val_main_v62_apply, val_main_v61_apply, e2 (idx_main_v61 (ix3 h r z)) h r (by show ((h.val * 8192 + r.val) * 1 + z.val) / 8192 = h.val; omega) (by show ((h.val * 8192 + r.val) * 1 + z.val) % 8192 = r.val; omega),
    val_main_v60_apply, val_main_cst_12_apply, Ideal.ofBits_def, Ideal.ofBits_zero_f32, zero_add, Ideal.hostNegf_def, EReal.coe_neg, ← coe_sum]
  refine congrArg Neg.neg (Finset.sum_congr rfl fun b _ => ?_)
  rw [e3 (idx_main_v60 (ix2 h r) b) h r b rfl rfl rfl, r59]

theorem r69 (h : Fin 16) (r a : Fin 8192) :
    val_main_v69 (F := Ideal) (mat Q) (mat K) (mat W) (gate C) (mat G) (ix3 h r a)
      = ((ds Q K W G C (Mx Q K C) h r a : ℝ) : EReal) := by
  rw [val_main_v69_apply, r20]
  by_cases ha : a.val ≤ r.val
  · rw [if_pos ha, val_main_v68_apply, val_main_v67_apply, val_main_v64_apply, val_main_v63_apply,
      e3 (idx_main_v63 (ix3 h r a)) h r 0 rfl rfl rfl, r43, r54, r41, val_main_v66_apply, e2 (idx_main_v66 (ix3 h r a)) h r rfl rfl,
      val_main_v65_apply, val_main_cst_13_apply, Ideal.ofBits_def, Ideal.ofBits_zero_f32, zero_add, Fin.sum_univ_one,
      e3 (idx_main_v65 (ix2 h r) 0) h r 0 rfl rfl rfl, r62, Ideal.hostDivf_def,
      div_real _ _ (L_pos Q K C (Mx Q K C) h r).ne', Ideal.addf_def, Ideal.mulf_def, ← EReal.coe_add, ← EReal.coe_mul, ds_quotient]
  · rw [if_neg ha, ds_masked _ _ _ _ _ _ h r a ha, val_main_call1_v0_apply, val_main_call1_cst_apply, Ideal.ofBits_def, Ideal.ofBits_zero_f32]; rfl

theorem r78 (h : Fin 16) (r a : Fin 8192) :
    val_main_v78 (F := Ideal) (mat Q) (mat K) (mat W) (gate C) (mat G) (ix3 h r a)
      = ((ds Q K W G C (Mx Q K C) h r a * sc : ℝ) : EReal) := by
  rw [val_main_v78_apply, r69, val_main_v77_apply, r5, Ideal.mulf_def, ← EReal.coe_mul]

/-- The place of column `x` within its head. -/
def wi (x : Fin 2048) : Fin 128 := ⟨x.val % 128, Nat.mod_lt _ (by decide)⟩
theorem ch_hd (x : Fin 2048) : ch (hd x) (wi x) = x := by
  apply Fin.ext; show 128 * (x.val / 128) + x.val % 128 = x.val; omega

/-- The reference's gradient of the queries. -/
theorem r85 : val_main_v85 (F := Ideal) (mat Q) (mat K) (mat W) (gate C) (mat G)
    = mat (gq Q K W G C (Mx Q K C)) := by
  funext i
  obtain ⟨r, x, rfl⟩ : ∃ (r : Fin 8192) (x : Fin 2048), i = ix2 r x := ⟨i 0, i 1, eq_ix2 i⟩
  rw [val_main_v85_apply, e3 (idx_main_v85 (ix2 r x)) r (hd x) (wi x) (by show (r.val * 2048 + x.val) / 2048 = r.val; omega) (by show (r.val * 2048 + x.val) / 128 % 16 = x.val / 128; omega) (by show (r.val * 2048 + x.val) % 128 = x.val % 128; omega),
    val_main_v82_apply, e3 (idx_main_v82 (ix3 r (hd x) (wi x))) (hd x) r (wi x) rfl rfl rfl, val_main_v81_apply]
  show _ = ((gq Q K W G C (Mx Q K C) r x : ℝ) : EReal)
  unfold gq
  rw [← coe_sum]
  refine Finset.sum_congr rfl fun a _ => ?_
  rw [e3 (lidx_main_v81 (ix3 (hd x) r (wi x)) a) (hd x) r a rfl rfl rfl, e3 (ridx_main_v81 (ix3 (hd x) r (wi x)) a) a (hd x) (wi x) rfl rfl rfl, r78, r1, ch_hd,
    ← EReal.coe_mul]

/-- The reference's gradient of the keys. -/
theorem r84 : val_main_v84 (F := Ideal) (mat Q) (mat K) (mat W) (gate C) (mat G)
    = mat (gk Q K W G C (Mx Q K C)) := by
  funext i
  obtain ⟨a, x, rfl⟩ : ∃ (r : Fin 8192) (x : Fin 2048), i = ix2 r x := ⟨i 0, i 1, eq_ix2 i⟩
  rw [val_main_v84_apply, e3 (idx_main_v84 (ix2 a x)) a (hd x) (wi x) (by show (a.val * 2048 + x.val) / 2048 = a.val; omega) (by show (a.val * 2048 + x.val) / 128 % 16 = x.val / 128; omega) (by show (a.val * 2048 + x.val) % 128 = x.val % 128; omega),
    val_main_v80_apply, e3 (idx_main_v80 (ix3 a (hd x) (wi x))) (hd x) a (wi x) rfl rfl rfl, val_main_v79_apply]
  show _ = ((gk Q K W G C (Mx Q K C) a x : ℝ) : EReal)
  unfold gk
  rw [← coe_sum]
  refine Finset.sum_congr rfl fun r _ => ?_
  rw [e3 (lidx_main_v79 (ix3 (hd x) a (wi x)) r) (hd x) r a rfl rfl rfl, e3 (ridx_main_v79 (ix3 (hd x) a (wi x)) r) r (hd x) (wi x) rfl rfl rfl, r78, r0, ch_hd,
    ← EReal.coe_mul]

/-- The reference's gradient of the values. -/
theorem r86 : val_main_v86 (F := Ideal) (mat Q) (mat K) (gate C) (mat G) = mat (gv Q K G C (Mx Q K C)) := by
  funext i
  obtain ⟨a, x, rfl⟩ : ∃ (r : Fin 8192) (x : Fin 2048), i = ix2 r x := ⟨i 0, i 1, eq_ix2 i⟩
  rw [val_main_v86_apply, val_main_v83_apply, e3 (idx_main_v83 (ix2 a x)) a (hd x) (wi x) (by show (a.val * 2048 + x.val) / 2048 = a.val; omega) (by show (a.val * 2048 + x.val) / 128 % 16 = x.val / 128; omega) (by show (a.val * 2048 + x.val) % 128 = x.val % 128; omega),
    val_main_v56_apply, e3 (idx_main_v56 (ix3 a (hd x) (wi x))) (hd x) (wi x) a rfl rfl rfl, val_main_v55_apply]
  show _ = ((gv Q K G C (Mx Q K C) a x : ℝ) : EReal)
  unfold gv
  rw [← coe_sum]
  refine Finset.sum_congr rfl fun r _ => ?_
  rw [e3 (lidx_main_v55 (ix3 (hd x) (wi x) a) r) (hd x) (wi x) r rfl rfl rfl, e3 (ridx_main_v55 (ix3 (hd x) (wi x) a) r) (hd x) r a rfl rfl rfl, r53, r45, ch_hd,
    EReal.coe_mul]

/-- The reference's gradient of the keys' gates. -/
theorem r87 (h : Fin 16) (a : Fin 8192) (z : Fin 1) :
    val_main_v87 (F := Ideal) (mat Q) (mat K) (mat W) (gate C) (mat G) (ix3 h a z) = ((gck Q K W G C (Mx Q K C) h a : ℝ) : EReal) := by
  rw [val_main_v87_apply, e2 (idx_main_v87 (ix3 h a z)) h a rfl rfl, val_main_v75_apply, val_main_cst_16_apply, Ideal.ofBits_def,
    Ideal.ofBits_zero_f32, zero_add, Fin.sum_univ_one, e3 (idx_main_v75 (ix2 h a) 0) h 0 a rfl rfl rfl, val_main_v74_apply,
    e2 (idx_main_v74 (ix3 h 0 a)) h a (by show ((h.val * 1 + 0) * 8192 + a.val) / 8192 = h.val; omega) (by show ((h.val * 1 + 0) * 8192 + a.val) % 8192 = a.val; omega), val_main_v73_apply, val_main_cst_15_apply, Ideal.ofBits_def,
    Ideal.ofBits_zero_f32, zero_add]
  unfold gck
  rw [← coe_sum]
  refine Finset.sum_congr rfl fun r _ => ?_
  rw [e3 (idx_main_v73 (ix2 h a) r) h r a rfl rfl rfl, val_main_v72_apply, r69, Ideal.hostNegf_def, EReal.coe_neg]
  rfl

/-- The reference's gradient of the queries' gates. -/
theorem r88 (h : Fin 16) (r : Fin 8192) (z : Fin 1) :
    val_main_v88 (F := Ideal) (mat Q) (mat K) (mat W) (gate C) (mat G) (ix3 h z r) = ((gcq Q K W G C (Mx Q K C) h r : ℝ) : EReal) := by
  rw [val_main_v88_apply, e2 (idx_main_v88 (ix3 h z r)) h r rfl rfl, val_main_v76_apply, val_main_cst_17_apply, Ideal.ofBits_def,
    Ideal.ofBits_zero_f32, zero_add, Fin.sum_univ_one, e3 (idx_main_v76 (ix2 h r) 0) h r 0 rfl rfl rfl, val_main_v71_apply,
    e2 (idx_main_v71 (ix3 h r 0)) h r (by show ((h.val * 8192 + r.val) * 1 + 0) / 8192 = h.val; omega) (by show ((h.val * 8192 + r.val) * 1 + 0) % 8192 = r.val; omega), val_main_v70_apply, val_main_cst_14_apply, Ideal.ofBits_def,
    Ideal.ofBits_zero_f32, zero_add]
  unfold gcq
  rw [← coe_sum]
  refine Finset.sum_congr rfl fun a _ => ?_
  rw [e3 (idx_main_v70 (ix2 h r) a) h r a rfl rfl rfl, r69]

end Cert.Attn
-- ==== Proof.Tile.lean ====
/-
  The attention backward pass of one key/value block, as mathematics over the extended reals, and what the kernel's
  named payloads compute at an index in those terms: the probabilities and the score gradients of one 512 x 512 tile,
  and the sums of products that go into the five accumulators.
-/
module

public import proofs.«01_k».proof.Proof.Gen.KernelIdeal.Skeleton
public import Idealize.ShloMosaic.Lib.Pointwise
public import Idealize.ShloMosaic.Lib.WholeRead
public import Idealize.ShloMosaic.Lib.WritesUnit

@[expose] public section

set_option maxRecDepth 16384
noncomputable section

namespace Cert.KernelIdeal.Val
open Cert.KernelIdeal.Gen
open Idealize.ShloMosaic

/-- The constant by which base-two logits become natural ones. -/
def ln2 : EReal := ((Real.log 2 : ℝ) : EReal)
/-- The constant that takes a gradient of the folded operand back to the unfolded one. -/
def unfoldC : EReal := ((Real.sqrt ((Real.sqrt 128)⁻¹ * (Real.log 2)) : ℝ) : EReal)

theorem named_ln2 : (Named.named (F := Ideal) κ "ln2" (φ := .f32) 0x3F317218#32) = ln2 :=
  IdealRules.named_const.ideal_named_scalar _ _ _ _ rfl
theorem named_unfold : (Named.named (F := Ideal) κ "unfold" (φ := .f32) 0x3E7D75E0#32) = unfoldC :=
  IdealRules.named_const.ideal_named_scalar _ _ _ _ rfl
theorem named_mask : (Named.named (F := Ideal) κ "mask" (φ := .f32) 0xF149F2CA#32) = (⊥ : EReal) :=
  IdealRules.named_const.ideal_named_scalar _ _ _ _ rfl

/-- Column `e` of head `h` of a pair of heads. -/
def col (h : Fin 2) (e : Fin 128) : Fin 256 := ⟨128 * h.val + e.val, by omega⟩
/-- The head of a pair that column `c` belongs to. -/
def half (c : Fin 256) : Fin 2 := ⟨c.val / 128, by omega⟩
/-- The place of column `c` within its head. -/
def within (c : Fin 256) : Fin 128 := ⟨c.val % 128, by omega⟩
/-- Query row `b` of tile `r`. -/
def row (r : ℕ) (b : Fin 512) : Fin 8192 := ⟨(512 * r + b.val) % 8192, Nat.mod_lt _ (by decide)⟩

theorem half_col (h : Fin 2) (e : Fin 128) : half (col h e) = h := by
  apply Fin.ext; simp only [half, col]; omega
theorem col_half (c : Fin 256) : col (half c) (within c) = c := by
  apply Fin.ext; simp only [half, col, within]; omega
theorem row_val (r : ℕ) (hr : r < 16) (b : Fin 512) : (row r b).val = 512 * r + b.val := by
  simp only [row]; omega

/-- What one grid point reads: all query rows of a pair of heads (`q`, the output's gradient `d`, the row gates `cr`,
the log-sum-exps `lse`, the row sums `dl`) and one block of keys (`k`, `v`, the key gates `ck`). -/
structure Blk where
  /-- the folded queries -/
  q : S8192x256.Idx → EReal
  /-- the gradient of the output -/
  d : S8192x256.Idx → EReal
  /-- the gates of the query rows -/
  cr : S2x1x8192.Idx → EReal
  /-- the log-sum-exp of each query row -/
  lse : S2x1x8192.Idx → EReal
  /-- the sum of output times its gradient, of each query row -/
  dl : S2x1x8192.Idx → EReal
  /-- the folded keys of the block -/
  k : S512x256.Idx → EReal
  /-- the values of the block -/
  v : S512x256.Idx → EReal
  /-- the gates of the block's keys -/
  ck : S2x512x1.Idx → EReal

namespace Blk
variable (B : Blk) (j r : ℕ) (h : Fin 2)

/-- The logit of query row `r` at key `a` of the block, less the row's log-sum-exp. -/
def score (h : Fin 2) (a : Fin 512) (r : Fin 8192) : EReal :=
  (∑ e, B.k (ix2 a (col h e)) * B.q (ix2 r (col h e))) * ln2 + (B.cr (ix3 h 0 r) - B.lse (ix3 h 0 r) - B.ck (ix3 h a 0))
/-- The attention probability; zero where the key comes after the query. -/
def P (j : ℕ) (h : Fin 2) (a : Fin 512) (r : Fin 8192) : EReal :=
  if 512 * j + a.val ≤ r.val then Ideal.exp (B.score h a r) else 0
/-- The gradient of the logit. -/
def D (j : ℕ) (h : Fin 2) (a : Fin 512) (r : Fin 8192) : EReal :=
  B.P j h a r * ((∑ e, B.v (ix2 a (col h e)) * B.d (ix2 r (col h e))) - B.dl (ix3 h 0 r))

/-- Tile `r` of the probabilities. -/
def tP : S512x512.Idx → EReal := fun z => B.P j h (z 0) (row r (z 1))
/-- Tile `r` of the logits' gradients. -/
def tD : S512x512.Idx → EReal := fun z => B.D j h (z 0) (row r (z 1))

/-- What tile `r` adds to the gradient of the values. -/
def tdv : S512x256.Idx → EReal := fun y => ∑ b, B.P j (half (y 1)) (y 0) (row r b) * B.d (ix2 (row r b) (y 1))
/-- What tile `r` adds to the gradient of the keys, before the constant. -/
def tdk : S512x256.Idx → EReal := fun y => ∑ b, B.D j (half (y 1)) (y 0) (row r b) * B.q (ix2 (row r b) (y 1))
/-- What tile `r` adds to the sums of the logits' gradients along a key. -/
def tdc : S2x512x1.Idx → EReal := fun y => ∑ b, B.D j (y 0) (y 1) (row r b)
/-- What the block adds to the gradient of the queries. -/
def cdq : S8192x256.Idx → EReal := fun y => (∑ a, B.D j (half (y 1)) a (y 0) * B.k (ix2 a (y 1))) * unfoldC
/-- What the block adds to the sums of the logits' gradients along a query row. -/
def ccq : S2x1x8192.Idx → EReal := fun y => ∑ a, B.D j (y 0) a (y 2)

/-- The loads of one tile. -/
def kL : S512x128.Idx → EReal := fun z => B.k (ix2 (z 0) (col h (z 1)))
@[inherit_doc kL] def vL : S512x128.Idx → EReal := fun z => B.v (ix2 (z 0) (col h (z 1)))
@[inherit_doc kL] def qL : S512x128.Idx → EReal := fun z => B.q (ix2 (row r (z 0)) (col h (z 1)))
@[inherit_doc kL] def dL : S512x128.Idx → EReal := fun z => B.d (ix2 (row r (z 0)) (col h (z 1)))
@[inherit_doc kL] def crL : S1x1x512.Idx → EReal := fun z => B.cr (ix3 h 0 (row r (z 2)))
@[inherit_doc kL] def lseL : S1x1x512.Idx → EReal := fun z => B.lse (ix3 h 0 (row r (z 2)))
@[inherit_doc kL] def dlL : S1x1x512.Idx → EReal := fun z => B.dl (ix3 h 0 (row r (z 2)))
@[inherit_doc kL] def ckL : S1x512x1.Idx → EReal := fun z => B.ck (ix3 h (z 1) 0)

/-- A probability is zero on the tiles before the block's own. -/
theorem P_lt (a : Fin 512) (q : Fin 8192) (hq : q.val < 512 * j) : B.P j h a q = 0 := if_neg (by omega)
theorem D_lt (a : Fin 512) (q : Fin 8192) (hq : q.val < 512 * j) : B.D j h a q = 0 := by
  unfold D; rw [B.P_lt j h a q hq, zero_mul]
theorem tdv_lt (hj : j < 16) (hr : r < j) : B.tdv j r = 0 := by
  funext y; refine Finset.sum_eq_zero fun b _ => ?_
  exact (congrArg (· * _) (B.P_lt j _ _ _ (by rw [row_val r (by omega)]; omega))).trans (zero_mul _)
theorem tdk_lt (hj : j < 16) (hr : r < j) : B.tdk j r = 0 := by
  funext y; refine Finset.sum_eq_zero fun b _ => ?_
  exact (congrArg (· * _) (B.D_lt j _ _ _ (by rw [row_val r (by omega)]; omega))).trans (zero_mul _)
theorem tdc_lt (hj : j < 16) (hr : r < j) : B.tdc j r = 0 := by
  funext y; refine Finset.sum_eq_zero fun b _ => ?_
  exact B.D_lt j _ _ _ (by rw [row_val r (by omega)]; omega)
theorem cdq_lt (y : S8192x256.Idx) (hy : (y 0).val < 512 * j) : B.cdq j y = 0 := by
  unfold cdq
  rw [Finset.sum_eq_zero fun a _ => by rw [B.D_lt j _ _ _ hy, zero_mul], zero_mul]
theorem ccq_lt (y : S2x1x8192.Idx) (hy : (y 2).val < 512 * j) : B.ccq j y = 0 := by
  unfold ccq
  exact Finset.sum_eq_zero fun a _ => B.D_lt j _ _ _ hy

end Blk

/-! ## The payloads at an index -/

/-- The comparison of two small coordinates decides which of the two values is taken. -/
theorem select_sge (a b : Fin 512) (x y : EReal) :
    Scalar.select (IntOp.cmpi CmpIPredicate.sge (BitVec.ofNat 32 b.val) (BitVec.ofNat 32 a.val)) x y
      = if a.val ≤ b.val then x else y := by
  have hb : (BitVec.ofNat 32 b.val).toInt = b.val := by
    rw [BitVec.toInt_ofNat', Int.bmod_eq_of_le] <;> omega
  have ha : (BitVec.ofNat 32 a.val).toInt = a.val := by
    rw [BitVec.toInt_ofNat', Int.bmod_eq_of_le] <;> omega
  have hc : IntOp.cmpi CmpIPredicate.sge (BitVec.ofNat 32 b.val) (BitVec.ofNat 32 a.val) = if a.val ≤ b.val then 1#1 else 0#1 := by
    simp only [IntOp.cmpi, BitVec.sle, ha, hb]
    by_cases hab : a.val ≤ b.val
    · simp [hab]
    · simp [hab]
  rw [hc]
  by_cases hab : a.val ≤ b.val
  · rw [if_pos hab, if_pos hab]; rfl
  · rw [if_neg hab, if_neg hab]; rfl

section Pay
variable (B : Blk) (j r : ℕ) (h : Fin 2)

theorem pay9_tile (hr : r < 16) (hj : j < r) :
    k0_pay9 (F := Ideal) (B.kL h) (B.qL r h) (B.crL r h) (B.lseL r h) (B.ckL h) = B.tP j r h := by
  funext z
  obtain ⟨a, b, rfl⟩ : ∃ (a b : Fin 512), z = ix2 a b := ⟨z 0, z 1, eq_ix2 z⟩
  pointwise [k0_pay9, k0_pay6, k0_pay7]
  rw [named_ln2]
  show _ = B.P j h a (row r b)
  unfold Blk.P
  rw [if_pos (by rw [row_val r hr]; omega)]
  rfl
theorem pay22_tile (hr : r < 16) (hj : j < r) :
    k0_pay22 (F := Ideal) (B.kL h) (B.qL r h) (B.crL r h) (B.lseL r h) (B.ckL h) = B.tP j r h := pay9_tile B j r h hr hj

theorem pay10_tile (hr : r < 16) (hj : j < r) :
    k0_pay10 (F := Ideal) (B.kL h) (B.qL r h) (B.dL r h) (B.crL r h) (B.lseL r h) (B.dlL r h) (B.ckL h) (B.vL h) = B.tD j r h := by
  funext z
  obtain ⟨a, b, rfl⟩ : ∃ (a b : Fin 512), z = ix2 a b := ⟨z 0, z 1, eq_ix2 z⟩
  unfold k0_pay10
  rw [pay9_tile B j r h hr hj]
  pointwise [k0_pay8]
  rfl
theorem pay23_tile (hr : r < 16) (hj : j < r) :
    k0_pay23 (F := Ideal) (B.kL h) (B.qL r h) (B.dL r h) (B.crL r h) (B.lseL r h) (B.dlL r h) (B.ckL h) (B.vL h) = B.tD j r h :=
  pay10_tile B j r h hr hj

/-- The block's own tile, where a key after the query is masked. -/
theorem pay61_tile (hj : j < 16) :
    k0_pay61 (F := Ideal) (k0_pay57 (B.kL h)) (k0_pay58 (B.qL j h)) (k0_pay60 (B.crL j h) (B.lseL j h)) (B.ckL h) = B.tP j j h := by
  funext z
  obtain ⟨a, b, rfl⟩ : ∃ (a b : Fin 512), z = ix2 a b := ⟨z 0, z 1, eq_ix2 z⟩
  pointwise [k0_pay61, k0_pay57, k0_pay58, k0_pay60]
  rw [named_ln2, named_mask, select_sge]
  show _ = B.P j h a (row j b)
  unfold Blk.P
  rw [row_val j hj]
  by_cases hab : a.val ≤ b.val
  · rw [if_pos hab, if_pos (by omega)]; rfl
  · rw [if_neg hab, if_neg (by omega)]; rfl
theorem pay72_tile (hj : j < 16) :
    k0_pay72 (F := Ideal) (k0_pay69 (B.kL h)) (k0_pay70 (B.qL j h)) (B.crL j h) (B.lseL j h) (B.ckL h) = B.tP j j h :=
  pay61_tile B j h hj
theorem pay62_tile (hj : j < 16) :
    k0_pay62 (F := Ideal) (k0_pay57 (B.kL h)) (k0_pay58 (B.qL j h)) (k0_pay59 (B.dL j h)) (k0_pay60 (B.crL j h) (B.lseL j h)) (B.dlL j h) (B.ckL h) (B.vL h) = B.tD j j h := by
  funext z
  obtain ⟨a, b, rfl⟩ : ∃ (a b : Fin 512), z = ix2 a b := ⟨z 0, z 1, eq_ix2 z⟩
  unfold k0_pay62
  rw [pay61_tile B j h hj]
  pointwise [k0_pay59]
  rfl
theorem pay73_tile (hj : j < 16) :
    k0_pay73 (F := Ideal) (k0_pay69 (B.kL h)) (k0_pay70 (B.qL j h)) (k0_pay71 (B.dL j h)) (B.crL j h) (B.lseL j h) (B.dlL j h) (B.ckL h) (B.vL h) = B.tD j j h :=
  pay62_tile B j h hj

/-! ### The accumulations: what each stored payload holds at an index -/

theorem pay12_tile (X : S512x256.Idx → EReal) (a : Fin 512) (e : Fin 128) :
    k0_pay12 (F := Ideal) (k0_pay8 (B.dL r h)) (B.tP j r h) (fun z => X (ix2 (z 0) (col h (z 1)))) (ix2 a e)
      = X (ix2 a (col h e)) + B.tdv j r (ix2 a (col h e)) := by
  pointwise [k0_pay12, k0_pay8]
  unfold Blk.tdv
  simp only [half_col, ix2_0, ix2_1]
  rfl
theorem pay25_tile (X : S512x256.Idx → EReal) (a : Fin 512) (e : Fin 128) :
    k0_pay25 (F := Ideal) (k0_pay21 (B.dL r h)) (B.tP j r h) (fun z => X (ix2 (z 0) (col h (z 1)))) (ix2 a e)
      = X (ix2 a (col h e)) + B.tdv j r (ix2 a (col h e)) := pay12_tile B j r h X a e
theorem pay64_tile (hj : j < 16) (X : S512x256.Idx → EReal) (a : Fin 512) (e : Fin 128) :
    k0_pay64 (F := Ideal) (k0_pay57 (B.kL h)) (k0_pay58 (B.qL j h)) (k0_pay59 (B.dL j h)) (k0_pay60 (B.crL j h) (B.lseL j h)) (B.ckL h) (fun z => X (ix2 (z 0) (col h (z 1)))) (ix2 a e)
      = X (ix2 a (col h e)) + B.tdv j j (ix2 a (col h e)) := by
  rw [← pay12_tile B j j h X a e, ← pay61_tile B j h hj]; rfl
theorem pay75_tile (hj : j < 16) (X : S512x256.Idx → EReal) (a : Fin 512) (e : Fin 128) :
    k0_pay75 (F := Ideal) (k0_pay69 (B.kL h)) (k0_pay70 (B.qL j h)) (k0_pay71 (B.dL j h)) (B.crL j h) (B.lseL j h) (B.ckL h) (fun z => X (ix2 (z 0) (col h (z 1)))) (ix2 a e)
      = X (ix2 a (col h e)) + B.tdv j j (ix2 a (col h e)) := by
  rw [← pay12_tile B j j h X a e, ← pay72_tile B j h hj]; rfl

theorem pay13_tile (X : S512x256.Idx → EReal) (a : Fin 512) (e : Fin 128) :
    k0_pay13 (F := Ideal) (k0_pay7 (B.qL r h)) (B.tD j r h) (fun z => X (ix2 (z 0) (col h (z 1)))) (ix2 a e)
      = X (ix2 a (col h e)) + B.tdk j r (ix2 a (col h e)) := by
  pointwise [k0_pay13, k0_pay7]
  unfold Blk.tdk
  simp only [half_col, ix2_0, ix2_1]
  rfl
theorem pay26_tile (X : S512x256.Idx → EReal) (a : Fin 512) (e : Fin 128) :
    k0_pay26 (F := Ideal) (k0_pay20 (B.qL r h)) (B.tD j r h) (fun z => X (ix2 (z 0) (col h (z 1)))) (ix2 a e)
      = X (ix2 a (col h e)) + B.tdk j r (ix2 a (col h e)) := pay13_tile B j r h X a e
theorem pay65_tile (hj : j < 16) (X : S512x256.Idx → EReal) (a : Fin 512) (e : Fin 128) :
    k0_pay65 (F := Ideal) (k0_pay57 (B.kL h)) (k0_pay58 (B.qL j h)) (k0_pay59 (B.dL j h)) (k0_pay60 (B.crL j h) (B.lseL j h)) (B.dlL j h) (B.ckL h) (B.vL h) (fun z => X (ix2 (z 0) (col h (z 1)))) (ix2 a e)
      = X (ix2 a (col h e)) + B.tdk j j (ix2 a (col h e)) := by
  rw [← pay13_tile B j j h X a e, ← pay62_tile B j h hj]; rfl
theorem pay76_tile (X : S512x256.Idx → EReal) (a : Fin 512) (e : Fin 128) :
    k0_pay76 (F := Ideal) (k0_pay70 (B.qL r h)) (B.tD j r h) (fun z => X (ix2 (z 0) (col h (z 1)))) (ix2 a e)
      = X (ix2 a (col h e)) + B.tdk j r (ix2 a (col h e)) := pay13_tile B j r h X a e

theorem pay14_tile (X : S8192x256.Idx → EReal) (b : Fin 512) (e : Fin 128) :
    k0_pay14 (F := Ideal) (k0_pay6 (B.kL h)) (B.tD j r h) (fun z => X (ix2 (row r (z 0)) (col h (z 1)))) (ix2 b e)
      = X (ix2 (row r b) (col h e)) + B.cdq j (ix2 (row r b) (col h e)) := by
  pointwise [k0_pay14, k0_pay6]
  rw [named_unfold]
  unfold Blk.cdq
  simp only [half_col, ix2_0, ix2_1]
  rfl
theorem pay27_tile (X : S8192x256.Idx → EReal) (b : Fin 512) (e : Fin 128) :
    k0_pay27 (F := Ideal) (k0_pay19 (B.kL h)) (B.tD j r h) (fun z => X (ix2 (row r (z 0)) (col h (z 1)))) (ix2 b e)
      = X (ix2 (row r b) (col h e)) + B.cdq j (ix2 (row r b) (col h e)) := pay14_tile B j r h X b e
theorem pay66_tile (X : S8192x256.Idx → EReal) (b : Fin 512) (e : Fin 128) :
    k0_pay66 (F := Ideal) (k0_pay57 (B.kL h)) (B.tD j r h) (fun z => X (ix2 (row r (z 0)) (col h (z 1)))) (ix2 b e)
      = X (ix2 (row r b) (col h e)) + B.cdq j (ix2 (row r b) (col h e)) := pay14_tile B j r h X b e
theorem pay77_tile (X : S8192x256.Idx → EReal) (b : Fin 512) (e : Fin 128) :
    k0_pay77 (F := Ideal) (k0_pay69 (B.kL h)) (B.tD j r h) (fun z => X (ix2 (row r (z 0)) (col h (z 1)))) (ix2 b e)
      = X (ix2 (row r b) (col h e)) + B.cdq j (ix2 (row r b) (col h e)) := pay14_tile B j r h X b e

theorem pay15_tile (X : S2x512x1.Idx → EReal) (a : Fin 512) :
    k0_pay15 (F := Ideal) (B.tD j r h) (fun z => X (ix3 h (z 1) 0)) (ix3 0 a 0) = X (ix3 h a 0) + B.tdc j r (ix3 h a 0) := by
  pointwise [k0_pay15]
  rfl
theorem pay28_tile (X : S2x512x1.Idx → EReal) (a : Fin 512) :
    k0_pay28 (F := Ideal) (B.tD j r h) (fun z => X (ix3 h (z 1) 0)) (ix3 0 a 0) = X (ix3 h a 0) + B.tdc j r (ix3 h a 0) :=
  pay15_tile B j r h X a
theorem pay67_tile (X : S2x512x1.Idx → EReal) (a : Fin 512) :
    k0_pay67 (F := Ideal) (B.tD j r h) (fun z => X (ix3 h (z 1) 0)) (ix3 0 a 0) = X (ix3 h a 0) + B.tdc j r (ix3 h a 0) :=
  pay15_tile B j r h X a
theorem pay78_tile (X : S2x512x1.Idx → EReal) (a : Fin 512) :
    k0_pay78 (F := Ideal) (B.tD j r h) (fun z => X (ix3 h (z 1) 0)) (ix3 0 a 0) = X (ix3 h a 0) + B.tdc j r (ix3 h a 0) :=
  pay15_tile B j r h X a

theorem pay18_tile (X : S2x1x8192.Idx → EReal) (b : Fin 512) :
    k0_pay18 (F := Ideal) (k0_pay16 (fun z => X (ix3 h 0 (row r (z 2))))) (k0_pay17 (B.tD j r h)) (ix3 0 0 b)
      = X (ix3 h 0 (row r b)) + B.ccq j (ix3 h 0 (row r b)) := by
  pointwise [k0_pay18, k0_pay16, k0_pay17]
  rfl
theorem pay1_tile (X : S2x1x8192.Idx → EReal) (b : Fin 512) :
    k0_pay1 (F := Ideal) (B.tD j r h) (fun z => X (ix3 h 0 (row r (z 2)))) (ix3 0 0 b)
      = X (ix3 h 0 (row r b)) + B.ccq j (ix3 h 0 (row r b)) := pay18_tile B j r h X b
theorem pay68_tile (X : S2x1x8192.Idx → EReal) (b : Fin 512) :
    k0_pay68 (F := Ideal) (B.tD j r h) (fun z => X (ix3 h 0 (row r (z 2)))) (ix3 0 0 b)
      = X (ix3 h 0 (row r b)) + B.ccq j (ix3 h 0 (row r b)) := pay18_tile B j r h X b
theorem pay79_tile (X : S2x1x8192.Idx → EReal) (b : Fin 512) :
    k0_pay79 (F := Ideal) (B.tD j r h) (fun z => X (ix3 h 0 (row r (z 2)))) (ix3 0 0 b)
      = X (ix3 h 0 (row r b)) + B.ccq j (ix3 h 0 (row r b)) := pay18_tile B j r h X b

theorem pay3_at (X : S512x256.Idx → EReal) (y : S512x256.Idx) : k0_pay3 (F := Ideal) X y = X y * unfoldC := by
  pointwise [k0_pay3]
  rw [named_unfold]
theorem pay4_eq (X : S512x256.Idx → EReal) : k0_pay4 (F := Ideal) X = X := rfl
theorem pay5_at (X : S2x512x1.Idx → EReal) (y : S2x512x1.Idx) : k0_pay5 (F := Ideal) X y = 0 - X y := by
  pointwise [k0_pay5]
theorem pay52_at (y : S8192x256.Idx) : k0_pay52 (F := Ideal) y = 0 := by pointwise [k0_pay52]
theorem pay53_at (y : S2x1x8192.Idx) : k0_pay53 (F := Ideal) y = 0 := by pointwise [k0_pay53]
theorem pay54_at (y : S512x256.Idx) : k0_pay54 (F := Ideal) y = 0 := by pointwise [k0_pay54]
theorem pay55_at (y : S512x256.Idx) : k0_pay55 (F := Ideal) y = 0 := by pointwise [k0_pay55]
theorem pay56_at (y : S2x512x1.Idx) : k0_pay56 (F := Ideal) y = 0 := by pointwise [k0_pay56]
end Pay

end Cert.KernelIdeal.Val
end
-- ==== Proof.Views.lean ====
/-
  The kernel's loads and stores by coordinates: what a load of one tile of a staging buffer reads, and what a buffer
  holds after the two heads' tiles have been stored into it.
-/
module

public import proofs.«01_k».proof.Proof.Tile

@[expose] public section

set_option maxRecDepth 16384
noncomputable section

namespace Cert.KernelIdeal.Val
open Cert.KernelIdeal.Gen
open Idealize.ShloMosaic

/-! ## Loads -/

section Load
variable {e : EltTy}

/-- Rows of tile `r`, columns of head `h`, of a buffer of all query rows. -/
theorem ld_rows (m : Memref sig .tc .vmem S8192x256 e) (hm : m.IsWhole) (X : S8192x256.Idx → Elt Ideal e) {off : Fin 2 → ℕ}
    (inb : ∀ a, off a + S512x128.size a ≤ S8192x256.size a) (r : ℕ) (hr : r < 16) (h : Fin 2) (ho : off = ![512 * r, 128 * h.val]) :
    View.readAt (Elt Ideal) m.view (Rect.unit (s := S8192x256) off S512x128.size inb).toLoadRect (hm.unread X)
      = fun z : S512x128.Idx => X (ix2 (row r (z 0)) (col h (z 1))) := by
  subst ho
  funext z
  rw [Memref.IsWhole.readAt_unread]
  refine congrArg X (funext fun a => Fin.ext ?_)
  match a with
  | ⟨0, _⟩ =>
    exact (congrArg (512 * r + ·) (Nat.one_mul _)).trans (row_val r hr (z 0)).symm
  | ⟨1, _⟩ =>
    show 128 * h.val + 1 * (z 1).val = 128 * h.val + (z 1).val
    rw [Nat.one_mul]

/-- The columns of head `h` of a buffer of one block. -/
theorem ld_cols (m : Memref sig .tc .vmem S512x256 e) (hm : m.IsWhole) (X : S512x256.Idx → Elt Ideal e) {off : Fin 2 → ℕ}
    (inb : ∀ a, off a + S512x128.size a ≤ S512x256.size a) (h : Fin 2) (ho : off = ![0, 128 * h.val]) :
    View.readAt (Elt Ideal) m.view (Rect.unit (s := S512x256) off S512x128.size inb).toLoadRect (hm.unread X)
      = fun z : S512x128.Idx => X (ix2 (z 0) (col h (z 1))) := by
  subst ho
  funext z
  rw [Memref.IsWhole.readAt_unread]
  refine congrArg X (funext fun a => Fin.ext ?_)
  match a with
  | ⟨0, _⟩ =>
    show 0 + 1 * (z 0).val = (z 0).val
    omega
  | ⟨1, _⟩ =>
    show 128 * h.val + 1 * (z 1).val = 128 * h.val + (z 1).val
    rw [Nat.one_mul]

/-- The entries of tile `r` of head `h` of a row vector. -/
theorem ld_lane (m : Memref sig .tc .vmem S2x1x8192 e) (hm : m.IsWhole) (X : S2x1x8192.Idx → Elt Ideal e) {off : Fin 3 → ℕ}
    (inb : ∀ a, off a + S1x1x512.size a ≤ S2x1x8192.size a) (r : ℕ) (hr : r < 16) (h : Fin 2) (ho : off = ![h.val, 0, 512 * r]) :
    View.readAt (Elt Ideal) m.view (Rect.unit (s := S2x1x8192) off S1x1x512.size inb).toLoadRect (hm.unread X)
      = fun z : S1x1x512.Idx => X (ix3 h 0 (row r (z 2))) := by
  subst ho
  funext z
  rw [Memref.IsWhole.readAt_unread]
  refine congrArg X (funext fun a => Fin.ext ?_)
  match a with
  | ⟨0, _⟩ =>
    show h.val + 1 * (z 0).val = h.val
    have : (z 0).val < 1 := (z 0).isLt
    omega
  | ⟨1, _⟩ =>
    show 0 + 1 * (z 1).val = 0
    have : (z 1).val < 1 := (z 1).isLt
    omega
  | ⟨2, _⟩ =>
    exact (congrArg (512 * r + ·) (Nat.one_mul _)).trans (row_val r hr (z 2)).symm

/-- The entries of head `h` of a column vector. -/
theorem ld_key (m : Memref sig .tc .vmem S2x512x1 e) (hm : m.IsWhole) (X : S2x512x1.Idx → Elt Ideal e) {off : Fin 3 → ℕ}
    (inb : ∀ a, off a + S1x512x1.size a ≤ S2x512x1.size a) (h : Fin 2) (ho : off = ![h.val, 0, 0]) :
    View.readAt (Elt Ideal) m.view (Rect.unit (s := S2x512x1) off S1x512x1.size inb).toLoadRect (hm.unread X)
      = fun z : S1x512x1.Idx => X (ix3 h (z 1) 0) := by
  subst ho
  funext z
  rw [Memref.IsWhole.readAt_unread]
  refine congrArg X (funext fun a => Fin.ext ?_)
  match a with
  | ⟨0, _⟩ =>
    show h.val + 1 * (z 0).val = h.val
    have : (z 0).val < 1 := (z 0).isLt
    omega
  | ⟨1, _⟩ =>
    show 0 + 1 * (z 1).val = (z 1).val
    omega
  | ⟨2, _⟩ =>
    show 0 + 1 * (z 2).val = 0
    have : (z 2).val < 1 := (z 2).isLt
    omega
end Load

/-! ## Stores -/

section Store
variable {e : EltTy}

/-- Both heads' columns stored: the buffer holds what the two stores say. -/
theorem rd_cols (v : View sig .tc .vmem S512x256 e) (f : v.ty.Contents (Elt Ideal)) (L : List (View.Piece (Elt Ideal) S512x256 e))
    {o0 o1 : Fin 2 → ℕ} (i0 : ∀ a, o0 a + S512x128.size a ≤ S512x256.size a) (i1 : ∀ a, o1 a + S512x128.size a ≤ S512x256.size a)
    (A C : S512x128.Idx → Elt Ideal e) (G : S512x256.Idx → Elt Ideal e) (h0 : o0 = ![0, 0]) (h1 : o1 = ![0, 128])
    (hA : ∀ a c, A (ix2 a c) = G (ix2 a (col 0 c))) (hC : ∀ a c, C (ix2 a c) = G (ix2 a (col 1 c))) :
    v.read (Elt Ideal) (v.writes (Elt Ideal) f (⟨Rect.unit (s := S512x256) o1 S512x128.size i1, C⟩ :: ⟨Rect.unit (s := S512x256) o0 S512x128.size i0, A⟩ :: L)) = G := by
  funext y
  obtain ⟨a, c, rfl⟩ : ∃ (a : Fin 512) (c : Fin 256), y = ix2 a c := ⟨y 0, y 1, eq_ix2 y⟩
  by_cases hc : c.val < 128
  · rw [View.read_writes_cons_unit_of_not_mem v f i1 C _ _ h1 1 (.inl hc),
      View.read_writes_cons_unit_of_mem v f i0 A L (ix2 a c) (ix2 a ⟨c.val, hc⟩) h0 (fun x => by
        match x with
        | ⟨0, _⟩ => exact (Nat.zero_add _).symm
        | ⟨1, _⟩ => exact (Nat.zero_add _).symm)]
    rw [hA]; congr 2; apply Fin.ext; show 128 * 0 + c.val = c.val; omega
  · rw [View.read_writes_cons_unit_of_mem v f i1 C _ (ix2 a c) (ix2 a ⟨c.val - 128, by omega⟩) h1 (fun x => by
        match x with
        | ⟨0, _⟩ => exact (Nat.zero_add _).symm
        | ⟨1, _⟩ => show c.val = 128 + (c.val - 128); omega)]
    rw [hC]; congr 2; apply Fin.ext; show 128 * 1 + (c.val - 128) = c.val; omega

/-- Both heads' columns of the rows of tile `r` stored, the other rows as they were. -/
theorem rd_rows (v : View sig .tc .vmem S8192x256 e) (f : v.ty.Contents (Elt Ideal)) (L : List (View.Piece (Elt Ideal) S8192x256 e))
    {o0 o1 : Fin 2 → ℕ} (i0 : ∀ a, o0 a + S512x128.size a ≤ S8192x256.size a) (i1 : ∀ a, o1 a + S512x128.size a ≤ S8192x256.size a)
    (A C : S512x128.Idx → Elt Ideal e) (G : S8192x256.Idx → Elt Ideal e) (r : ℕ) (hr : r < 16) (h0 : o0 = ![512 * r, 0]) (h1 : o1 = ![512 * r, 128])
    (hA : ∀ a c, A (ix2 a c) = G (ix2 (row r a) (col 0 c))) (hC : ∀ a c, C (ix2 a c) = G (ix2 (row r a) (col 1 c)))
    (hL : ∀ y : S8192x256.Idx, ((y 0).val < 512 * r ∨ 512 * r + 512 ≤ (y 0).val) → v.read (Elt Ideal) (v.writes (Elt Ideal) f L) y = G y) :
    v.read (Elt Ideal) (v.writes (Elt Ideal) f (⟨Rect.unit (s := S8192x256) o1 S512x128.size i1, C⟩ :: ⟨Rect.unit (s := S8192x256) o0 S512x128.size i0, A⟩ :: L)) = G := by
  funext y
  by_cases hy : (y 0).val < 512 * r ∨ 512 * r + 512 ≤ (y 0).val
  · rw [View.read_writes_cons_unit_of_not_mem v f i1 C _ _ h1 0 hy, View.read_writes_cons_unit_of_not_mem v f i0 A _ _ h0 0 hy]
    exact hL y hy
  · obtain ⟨a, c, rfl⟩ : ∃ (a : Fin 8192) (c : Fin 256), y = ix2 a c := ⟨y 0, y 1, eq_ix2 y⟩
    have ha : ¬ (a.val < 512 * r ∨ 512 * r + 512 ≤ a.val) := hy
    have hrow : row r ⟨a.val - 512 * r, by omega⟩ = a := by
      apply Fin.ext; rw [row_val r hr]; show 512 * r + (a.val - 512 * r) = a.val; omega
    by_cases hc : c.val < 128
    · rw [View.read_writes_cons_unit_of_not_mem v f i1 C _ _ h1 1 (.inl hc),
        View.read_writes_cons_unit_of_mem v f i0 A L (ix2 a c) (ix2 ⟨a.val - 512 * r, by omega⟩ ⟨c.val, hc⟩) h0 (fun x => by
          match x with
          | ⟨0, _⟩ => show a.val = 512 * r + (a.val - 512 * r); omega
          | ⟨1, _⟩ => exact (Nat.zero_add _).symm)]
      rw [hA, hrow]; congr 2; apply Fin.ext; show 128 * 0 + c.val = c.val; omega
    · rw [View.read_writes_cons_unit_of_mem v f i1 C _ (ix2 a c) (ix2 ⟨a.val - 512 * r, by omega⟩ ⟨c.val - 128, by omega⟩) h1 (fun x => by
          match x with
          | ⟨0, _⟩ => show a.val = 512 * r + (a.val - 512 * r); omega
          | ⟨1, _⟩ => show c.val = 128 + (c.val - 128); omega)]
      rw [hC, hrow]; congr 2; apply Fin.ext; show 128 * 1 + (c.val - 128) = c.val; omega

/-- Both heads of a column vector stored. -/
theorem rd_key (v : View sig .tc .vmem S2x512x1 e) (f : v.ty.Contents (Elt Ideal)) (L : List (View.Piece (Elt Ideal) S2x512x1 e))
    {o0 o1 : Fin 3 → ℕ} (i0 : ∀ a, o0 a + S1x512x1.size a ≤ S2x512x1.size a) (i1 : ∀ a, o1 a + S1x512x1.size a ≤ S2x512x1.size a)
    (A C : S1x512x1.Idx → Elt Ideal e) (G : S2x512x1.Idx → Elt Ideal e) (h0 : o0 = ![0, 0, 0]) (h1 : o1 = ![1, 0, 0])
    (hA : ∀ a, A (ix3 0 a 0) = G (ix3 0 a 0)) (hC : ∀ a, C (ix3 0 a 0) = G (ix3 1 a 0)) :
    v.read (Elt Ideal) (v.writes (Elt Ideal) f (⟨Rect.unit (s := S2x512x1) o1 S1x512x1.size i1, C⟩ :: ⟨Rect.unit (s := S2x512x1) o0 S1x512x1.size i0, A⟩ :: L)) = G := by
  funext y
  obtain ⟨h, a, u, rfl⟩ : ∃ (h : Fin 2) (a : Fin 512) (u : Fin 1), y = ix3 h a u := ⟨y 0, y 1, y 2, eq_ix3 y⟩
  obtain rfl : u = 0 := Subsingleton.elim _ _
  by_cases hc : h.val < 1
  · obtain rfl : h = 0 := Fin.ext (by show h.val = 0; omega)
    rw [View.read_writes_cons_unit_of_not_mem v f i1 C _ _ h1 0 (.inl (by show (0 : ℕ) < 1; exact Nat.zero_lt_one)),
      View.read_writes_cons_unit_of_mem v f i0 A L (ix3 0 a 0) (ix3 0 a 0) h0 (fun x => by
        match x with
        | ⟨0, _⟩ => rfl
        | ⟨1, _⟩ => exact (Nat.zero_add _).symm
        | ⟨2, _⟩ => rfl)]
    exact hA a
  · obtain rfl : h = 1 := Fin.ext (by show h.val = 1; omega)
    rw [View.read_writes_cons_unit_of_mem v f i1 C _ (ix3 1 a 0) (ix3 0 a 0) h1 (fun x => by
        match x with
        | ⟨0, _⟩ => rfl
        | ⟨1, _⟩ => exact (Nat.zero_add _).symm
        | ⟨2, _⟩ => rfl)]
    exact hC a

/-- Both heads' entries of tile `r` of a row vector stored, the other entries as they were. -/
theorem rd_lane (v : View sig .tc .vmem S2x1x8192 e) (f : v.ty.Contents (Elt Ideal)) (L : List (View.Piece (Elt Ideal) S2x1x8192 e))
    {o0 o1 : Fin 3 → ℕ} (i0 : ∀ a, o0 a + S1x1x512.size a ≤ S2x1x8192.size a) (i1 : ∀ a, o1 a + S1x1x512.size a ≤ S2x1x8192.size a)
    (A C : S1x1x512.Idx → Elt Ideal e) (G : S2x1x8192.Idx → Elt Ideal e) (r : ℕ) (hr : r < 16) (h0 : o0 = ![0, 0, 512 * r]) (h1 : o1 = ![1, 0, 512 * r])
    (hA : ∀ a, A (ix3 0 0 a) = G (ix3 0 0 (row r a))) (hC : ∀ a, C (ix3 0 0 a) = G (ix3 1 0 (row r a)))
    (hL : ∀ y : S2x1x8192.Idx, ((y 2).val < 512 * r ∨ 512 * r + 512 ≤ (y 2).val) → v.read (Elt Ideal) (v.writes (Elt Ideal) f L) y = G y) :
    v.read (Elt Ideal) (v.writes (Elt Ideal) f (⟨Rect.unit (s := S2x1x8192) o1 S1x1x512.size i1, C⟩ :: ⟨Rect.unit (s := S2x1x8192) o0 S1x1x512.size i0, A⟩ :: L)) = G := by
  funext y
  by_cases hy : (y 2).val < 512 * r ∨ 512 * r + 512 ≤ (y 2).val
  · rw [View.read_writes_cons_unit_of_not_mem v f i1 C _ _ h1 2 hy, View.read_writes_cons_unit_of_not_mem v f i0 A _ _ h0 2 hy]
    exact hL y hy
  · obtain ⟨h, u, a, rfl⟩ : ∃ (h : Fin 2) (u : Fin 1) (a : Fin 8192), y = ix3 h u a := ⟨y 0, y 1, y 2, eq_ix3 y⟩
    obtain rfl : u = 0 := Subsingleton.elim _ _
    have ha : ¬ (a.val < 512 * r ∨ 512 * r + 512 ≤ a.val) := hy
    have hrow : row r ⟨a.val - 512 * r, by omega⟩ = a := by
      apply Fin.ext; rw [row_val r hr]; show 512 * r + (a.val - 512 * r) = a.val; omega
    by_cases hc : h.val < 1
    · obtain rfl : h = 0 := Fin.ext (by show h.val = 0; omega)
      rw [View.read_writes_cons_unit_of_not_mem v f i1 C _ _ h1 0 (.inl (by show (0 : ℕ) < 1; exact Nat.zero_lt_one)),
        View.read_writes_cons_unit_of_mem v f i0 A L (ix3 0 0 a) (ix3 0 0 ⟨a.val - 512 * r, by omega⟩) h0 (fun x => by
          match x with
          | ⟨0, _⟩ => rfl
          | ⟨1, _⟩ => rfl
          | ⟨2, _⟩ => show a.val = 512 * r + (a.val - 512 * r); omega)]
      rw [hA, hrow]
    · obtain rfl : h = 1 := Fin.ext (by show h.val = 1; omega)
      rw [View.read_writes_cons_unit_of_mem v f i1 C _ (ix3 1 0 a) (ix3 0 0 ⟨a.val - 512 * r, by omega⟩) h1 (fun x => by
          match x with
          | ⟨0, _⟩ => rfl
          | ⟨1, _⟩ => rfl
          | ⟨2, _⟩ => show a.val = 512 * r + (a.val - 512 * r); omega)]
      rw [hC, hrow]
end Store

/-! ## What one tile adds -/

namespace Blk
variable (B : Blk) (j r n : ℕ)

/-- The query gradient after tile `r` has been added. -/
def s10 (x : S8192x256.Idx → EReal) : S8192x256.Idx → EReal :=
  fun y => if (y 0).val < 512 * r ∨ 512 * r + 512 ≤ (y 0).val then x y else x y + B.cdq j y
/-- The query-side gate gradient after tile `r` has been added. -/
def s14 (x : S2x1x8192.Idx → EReal) : S2x1x8192.Idx → EReal :=
  fun y => if (y 2).val < 512 * r ∨ 512 * r + 512 ≤ (y 2).val then x y else x y + B.ccq j y
/-- The key gradient's accumulator after tile `r`. -/
def s15 (x : S512x256.Idx → EReal) : S512x256.Idx → EReal := fun y => x y + B.tdk j r y
/-- The value gradient's accumulator after tile `r`. -/
def s16 (x : S512x256.Idx → EReal) : S512x256.Idx → EReal := fun y => x y + B.tdv j r y
/-- The key-side gate gradient's accumulator after tile `r`. -/
def s17 (x : S2x512x1.Idx → EReal) : S2x512x1.Idx → EReal := fun y => x y + B.tdc j r y

theorem s10_row (x : S8192x256.Idx → EReal) (hr : r < 16) (b : Fin 512) (c : Fin 256) :
    B.s10 j r x (ix2 (row r b) c) = x (ix2 (row r b) c) + B.cdq j (ix2 (row r b) c) :=
  if_neg (by show ¬ ((row r b).val < _ ∨ _ ≤ (row r b).val); rw [row_val r hr]; omega)
theorem s10_out (x : S8192x256.Idx → EReal) (y : S8192x256.Idx) (hy : (y 0).val < 512 * r ∨ 512 * r + 512 ≤ (y 0).val) :
    B.s10 j r x y = x y := if_pos hy
theorem s14_row (x : S2x1x8192.Idx → EReal) (hr : r < 16) (h : Fin 2) (b : Fin 512) :
    B.s14 j r x (ix3 h 0 (row r b)) = x (ix3 h 0 (row r b)) + B.ccq j (ix3 h 0 (row r b)) :=
  if_neg (by show ¬ ((row r b).val < _ ∨ _ ≤ (row r b).val); rw [row_val r hr]; omega)
theorem s14_out (x : S2x1x8192.Idx → EReal) (y : S2x1x8192.Idx) (hy : (y 2).val < 512 * r ∨ 512 * r + 512 ≤ (y 2).val) :
    B.s14 j r x y = x y := if_pos hy

/-- The query gradient once the tiles before `n` have been added. -/
def a10 (x : S8192x256.Idx → EReal) : S8192x256.Idx → EReal := fun y => x y + if (y 0).val < 512 * n then B.cdq j y else 0
/-- The query-side gate gradient once the tiles before `n` have been added. -/
def a14 (x : S2x1x8192.Idx → EReal) : S2x1x8192.Idx → EReal := fun y => x y + if (y 2).val < 512 * n then B.ccq j y else 0
/-- The key gradient's accumulator once the tiles before `n` have been added. -/
def a15 : S512x256.Idx → EReal := fun y => ∑ r ∈ Finset.range n, B.tdk j r y
/-- The value gradient's accumulator once the tiles before `n` have been added. -/
def a16 : S512x256.Idx → EReal := fun y => ∑ r ∈ Finset.range n, B.tdv j r y
/-- The key-side gate gradient's accumulator once the tiles before `n` have been added. -/
def a17 : S2x512x1.Idx → EReal := fun y => ∑ r ∈ Finset.range n, B.tdc j r y

theorem s10_a10 (x : S8192x256.Idx → EReal) : B.s10 j n (B.a10 j n x) = B.a10 j (n + 1) x := by
  funext y
  unfold s10 a10
  by_cases hy : (y 0).val < 512 * n ∨ 512 * n + 512 ≤ (y 0).val
  · rw [if_pos hy]
    by_cases h1 : (y 0).val < 512 * n
    · rw [if_pos h1, if_pos (by omega)]
    · rw [if_neg h1, if_neg (by omega)]
  · rw [if_neg hy, if_neg (by omega), if_pos (by omega), add_zero]
theorem s14_a14 (x : S2x1x8192.Idx → EReal) : B.s14 j n (B.a14 j n x) = B.a14 j (n + 1) x := by
  funext y
  unfold s14 a14
  by_cases hy : (y 2).val < 512 * n ∨ 512 * n + 512 ≤ (y 2).val
  · rw [if_pos hy]
    by_cases h1 : (y 2).val < 512 * n
    · rw [if_pos h1, if_pos (by omega)]
    · rw [if_neg h1, if_neg (by omega)]
  · rw [if_neg hy, if_neg (by omega), if_pos (by omega), add_zero]
theorem s15_a15 : B.s15 j n (B.a15 j n) = B.a15 j (n + 1) := funext fun _ => (Finset.sum_range_succ _ _).symm
theorem s16_a16 : B.s16 j n (B.a16 j n) = B.a16 j (n + 1) := funext fun _ => (Finset.sum_range_succ _ _).symm
theorem s17_a17 : B.s17 j n (B.a17 j n) = B.a17 j (n + 1) := funext fun _ => (Finset.sum_range_succ _ _).symm

/-! Before the block's own tile nothing is added. -/

theorem a10_own (hj : j < 16) (x : S8192x256.Idx → EReal) : B.a10 j j x = x := by
  funext y
  unfold a10
  by_cases h1 : (y 0).val < 512 * j
  · rw [if_pos h1, B.cdq_lt j y h1, add_zero]
  · rw [if_neg h1, add_zero]
theorem a14_own (hj : j < 16) (x : S2x1x8192.Idx → EReal) : B.a14 j j x = x := by
  funext y
  unfold a14
  by_cases h1 : (y 2).val < 512 * j
  · rw [if_pos h1, B.ccq_lt j y h1, add_zero]
  · rw [if_neg h1, add_zero]
theorem a15_own (hj : j < 16) : B.a15 j j = fun _ => 0 := funext fun y =>
  Finset.sum_eq_zero fun r hr => congrFun (B.tdk_lt j r hj (Finset.mem_range.1 hr)) y
theorem a16_own (hj : j < 16) : B.a16 j j = fun _ => 0 := funext fun y =>
  Finset.sum_eq_zero fun r hr => congrFun (B.tdv_lt j r hj (Finset.mem_range.1 hr)) y
theorem a17_own (hj : j < 16) : B.a17 j j = fun _ => 0 := funext fun y =>
  Finset.sum_eq_zero fun r hr => congrFun (B.tdc_lt j r hj (Finset.mem_range.1 hr)) y

/-- After the last tile every row has its contribution. -/
theorem a10_all (x : S8192x256.Idx → EReal) : B.a10 j 16 x = fun y => x y + B.cdq j y := funext fun y =>
  congrArg (x y + ·) (if_pos (y 0).isLt)
theorem a14_all (x : S2x1x8192.Idx → EReal) : B.a14 j 16 x = fun y => x y + B.ccq j y := funext fun y =>
  congrArg (x y + ·) (if_pos (y 2).isLt)
end Blk

end Cert.KernelIdeal.Val
end
-- ==== Proof.Trip.lean ====
/-
  One trip of the kernel's loop over the tiles after the block's own, and the loop by its invariant.
-/
module

public import proofs.«01_k».proof.Proof.Views
public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.LoopRemainder

@[expose] public section

set_option maxRecDepth 16384
set_option maxHeartbeats 4000000
noncomputable section

namespace Cert.KernelIdeal.Val
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- One trip adds the contributions of tile `j + 1 + k` to the five buffers it writes. -/
theorem trip (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S2x1x8192 .f32) (harg4 : arg4.IsWhole) (arg5 : Memref sig .tc .vmem S2x1x8192 .f32) (harg5 : arg5.IsWhole) (arg6 : Memref sig .tc .vmem S2x1x8192 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x1 .f32) (harg9 : arg9.IsWhole) (arg10 : Memref sig .tc .vmem S8192x256 .f32) (harg10 : arg10.IsWhole) (arg11 : Memref sig .tc .vmem S512x256 .f32) (harg11 : arg11.IsWhole) (arg12 : Memref sig .tc .vmem S512x256 .bf16) (harg12 : arg12.IsWhole) (arg13 : Memref sig .tc .vmem S2x512x1 .f32) (harg13 : arg13.IsWhole) (arg14 : Memref sig .tc .vmem S2x1x8192 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S2x512x1 .f32) (harg17 : arg17.IsWhole) (v177 : BitVec 32) (k : Fin (k0_t1_loop i).trips) (hr : (i 1).val + 1 + k.val < 16) (B : Blk) (x10 : Vec Ideal S8192x256 .f32) (x14 : Vec Ideal S2x1x8192 .f32) (x15 : Vec Ideal S512x256 .f32) (x16 : Vec Ideal S512x256 .f32) (x17 : Vec Ideal S2x512x1 .f32) (E : Set ℕ) (K : Unit → sProp 𝕄) :
   iprop(owns (c : Thread nD τ) arg2 fullShare B.q ∗ owns (c : Thread nD τ) arg3 fullShare B.d ∗ owns (c : Thread nD τ) arg4 fullShare B.cr ∗ owns (c : Thread nD τ) arg5 fullShare B.lse ∗ owns (c : Thread nD τ) arg6 fullShare B.dl ∗ owns (c : Thread nD τ) arg7 fullShare B.k ∗ owns (c : Thread nD τ) arg8 fullShare B.v ∗ owns (c : Thread nD τ) arg9 fullShare B.ck ∗ owns (c : Thread nD τ) arg10 fullShare (x10) ∗ owns (c : Thread nD τ) arg14 fullShare (x14) ∗ owns (c : Thread nD τ) arg15 fullShare (x15) ∗ owns (c : Thread nD τ) arg16 fullShare (x16) ∗ owns (c : Thread nD τ) arg17 fullShare (x17) ∗ ((owns (c : Thread nD τ) arg2 fullShare B.q ∗ owns (c : Thread nD τ) arg3 fullShare B.d ∗ owns (c : Thread nD τ) arg4 fullShare B.cr ∗ owns (c : Thread nD τ) arg5 fullShare B.lse ∗ owns (c : Thread nD τ) arg6 fullShare B.dl ∗ owns (c : Thread nD τ) arg7 fullShare B.k ∗ owns (c : Thread nD τ) arg8 fullShare B.v ∗ owns (c : Thread nD τ) arg9 fullShare B.ck ∗ owns (c : Thread nD τ) arg10 fullShare (B.s10 (i 1).val ((i 1).val + 1 + k.val) x10) ∗ owns (c : Thread nD τ) arg14 fullShare (B.s14 (i 1).val ((i 1).val + 1 + k.val) x14) ∗ owns (c : Thread nD τ) arg15 fullShare (B.s15 (i 1).val ((i 1).val + 1 + k.val) x15) ∗ owns (c : Thread nD τ) arg16 fullShare (B.s16 (i 1).val ((i 1).val + 1 + k.val) x16) ∗ owns (c : Thread nD τ) arg17 fullShare (B.s17 (i 1).val ((i 1).val + 1 + k.val) x17)) -∗ K ⟨⟩)) ⊢ wp frame (wpE (defs₀ (F := Ideal)) Variants.none (c : Thread nD τ) none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v177 k ⟨⟩) K := by
  unfold k0_t1_body
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16; obtain rfl := harg17.eq_unread hf17
  have hj : (i 1).val < (i 1).val + 1 + k.val := by omega
  have e : 512 * (i 1).val + 512 * k.val + 512 = 512 * ((i 1).val + 1 + k.val) := by omega
  have o5 : k0_off5 i k = ![512 * ((i 1).val + 1 + k.val), 0] := by rw [k0_off5_eq, e]
  have o6 : k0_off6 i k = ![0, 0, 512 * ((i 1).val + 1 + k.val)] := by rw [k0_off6_eq, e]
  have o7 : k0_off7 i k = ![512 * ((i 1).val + 1 + k.val), 128] := by rw [k0_off7_eq, e]
  have o8 : k0_off8 i k = ![1, 0, 512 * ((i 1).val + 1 + k.val)] := by rw [k0_off8_eq, e]
  have l2_0 : View.readAt (Elt Ideal) arg2.view (Rect.unit (s := S8192x256) (k0_off5 i k) S512x128.size (k0_off5_inb i k)).toLoadRect (harg2.unread B.q)
      = B.qL ((i 1).val + 1 + k.val) 0 := ld_rows arg2 harg2 B.q (k0_off5_inb i k) ((i 1).val + 1 + k.val) hr 0 o5
  have l3_0 : View.readAt (Elt Ideal) arg3.view (Rect.unit (s := S8192x256) (k0_off5 i k) S512x128.size (k0_off5_inb i k)).toLoadRect (harg3.unread B.d)
      = B.dL ((i 1).val + 1 + k.val) 0 := ld_rows arg3 harg3 B.d (k0_off5_inb i k) ((i 1).val + 1 + k.val) hr 0 o5
  have l4_0 : View.readAt (Elt Ideal) arg4.view (Rect.unit (s := S2x1x8192) (k0_off6 i k) S1x1x512.size (k0_off6_inb i k)).toLoadRect (harg4.unread B.cr)
      = B.crL ((i 1).val + 1 + k.val) 0 := ld_lane arg4 harg4 B.cr (k0_off6_inb i k) ((i 1).val + 1 + k.val) hr 0 o6
  have l5_0 : View.readAt (Elt Ideal) arg5.view (Rect.unit (s := S2x1x8192) (k0_off6 i k) S1x1x512.size (k0_off6_inb i k)).toLoadRect (harg5.unread B.lse)
      = B.lseL ((i 1).val + 1 + k.val) 0 := ld_lane arg5 harg5 B.lse (k0_off6_inb i k) ((i 1).val + 1 + k.val) hr 0 o6
  have l6_0 : View.readAt (Elt Ideal) arg6.view (Rect.unit (s := S2x1x8192) (k0_off6 i k) S1x1x512.size (k0_off6_inb i k)).toLoadRect (harg6.unread B.dl)
      = B.dlL ((i 1).val + 1 + k.val) 0 := ld_lane arg6 harg6 B.dl (k0_off6_inb i k) ((i 1).val + 1 + k.val) hr 0 o6
  have l7_0 : View.readAt (Elt Ideal) arg7.view (Rect.unit (s := S512x256) ![0, 0] S512x128.size inb_S512x256_S512x128_0_0).toLoadRect (harg7.unread B.k)
      = B.kL 0 := ld_cols arg7 harg7 B.k inb_S512x256_S512x128_0_0 0 rfl
  have l8_0 : View.readAt (Elt Ideal) arg8.view (Rect.unit (s := S512x256) ![0, 0] S512x128.size inb_S512x256_S512x128_0_0).toLoadRect (harg8.unread B.v)
      = B.vL 0 := ld_cols arg8 harg8 B.v inb_S512x256_S512x128_0_0 0 rfl
  have l9_0 : View.readAt (Elt Ideal) arg9.view (Rect.unit (s := S2x512x1) ![0, 0, 0] S1x512x1.size inb_S2x512x1_S1x512x1_0_0_0).toLoadRect (harg9.unread B.ck)
      = B.ckL 0 := ld_key arg9 harg9 B.ck inb_S2x512x1_S1x512x1_0_0_0 0 rfl
  have l2_1 : View.readAt (Elt Ideal) arg2.view (Rect.unit (s := S8192x256) (k0_off7 i k) S512x128.size (k0_off7_inb i k)).toLoadRect (harg2.unread B.q)
      = B.qL ((i 1).val + 1 + k.val) 1 := ld_rows arg2 harg2 B.q (k0_off7_inb i k) ((i 1).val + 1 + k.val) hr 1 o7
  have l3_1 : View.readAt (Elt Ideal) arg3.view (Rect.unit (s := S8192x256) (k0_off7 i k) S512x128.size (k0_off7_inb i k)).toLoadRect (harg3.unread B.d)
      = B.dL ((i 1).val + 1 + k.val) 1 := ld_rows arg3 harg3 B.d (k0_off7_inb i k) ((i 1).val + 1 + k.val) hr 1 o7
  have l4_1 : View.readAt (Elt Ideal) arg4.view (Rect.unit (s := S2x1x8192) (k0_off8 i k) S1x1x512.size (k0_off8_inb i k)).toLoadRect (harg4.unread B.cr)
      = B.crL ((i 1).val + 1 + k.val) 1 := ld_lane arg4 harg4 B.cr (k0_off8_inb i k) ((i 1).val + 1 + k.val) hr 1 o8
  have l5_1 : View.readAt (Elt Ideal) arg5.view (Rect.unit (s := S2x1x8192) (k0_off8 i k) S1x1x512.size (k0_off8_inb i k)).toLoadRect (harg5.unread B.lse)
      = B.lseL ((i 1).val + 1 + k.val) 1 := ld_lane arg5 harg5 B.lse (k0_off8_inb i k) ((i 1).val + 1 + k.val) hr 1 o8
  have l6_1 : View.readAt (Elt Ideal) arg6.view (Rect.unit (s := S2x1x8192) (k0_off8 i k) S1x1x512.size (k0_off8_inb i k)).toLoadRect (harg6.unread B.dl)
      = B.dlL ((i 1).val + 1 + k.val) 1 := ld_lane arg6 harg6 B.dl (k0_off8_inb i k) ((i 1).val + 1 + k.val) hr 1 o8
  have l7_1 : View.readAt (Elt Ideal) arg7.view (Rect.unit (s := S512x256) ![0, 128] S512x128.size inb_S512x256_S512x128_0_128).toLoadRect (harg7.unread B.k)
      = B.kL 1 := ld_cols arg7 harg7 B.k inb_S512x256_S512x128_0_128 1 rfl
  have l8_1 : View.readAt (Elt Ideal) arg8.view (Rect.unit (s := S512x256) ![0, 128] S512x128.size inb_S512x256_S512x128_0_128).toLoadRect (harg8.unread B.v)
      = B.vL 1 := ld_cols arg8 harg8 B.v inb_S512x256_S512x128_0_128 1 rfl
  have l9_1 : View.readAt (Elt Ideal) arg9.view (Rect.unit (s := S2x512x1) ![1, 0, 0] S1x512x1.size inb_S2x512x1_S1x512x1_1_0_0).toLoadRect (harg9.unread B.ck)
      = B.ckL 1 := ld_key arg9 harg9 B.ck inb_S2x512x1_S1x512x1_1_0_0 1 rfl
  have w10_0 := ld_rows arg10 harg10 x10 (k0_off5_inb i k) ((i 1).val + 1 + k.val) hr 0 o5
  have w14_0 := ld_lane arg14 harg14 x14 (k0_off6_inb i k) ((i 1).val + 1 + k.val) hr 0 o6
  have w15_0 := ld_cols arg15 harg15 x15 inb_S512x256_S512x128_0_0 0 rfl
  have w16_0 := ld_cols arg16 harg16 x16 inb_S512x256_S512x128_0_0 0 rfl
  have w17_0 := ld_key arg17 harg17 x17 inb_S2x512x1_S1x512x1_0_0_0 0 rfl
  have w10_1 := ld_rows arg10 harg10 x10 (k0_off7_inb i k) ((i 1).val + 1 + k.val) hr 1 o7
  have w14_1 := ld_lane arg14 harg14 x14 (k0_off8_inb i k) ((i 1).val + 1 + k.val) hr 1 o8
  have w15_1 := ld_cols arg15 harg15 x15 inb_S512x256_S512x128_0_128 1 rfl
  have w16_1 := ld_cols arg16 harg16 x16 inb_S512x256_S512x128_0_128 1 rfl
  have w17_1 := ld_key arg17 harg17 x17 inb_S2x512x1_S1x512x1_1_0_0 1 rfl
  have tD0 := pay10_tile B (i 1).val ((i 1).val + 1 + k.val) 0 hr hj
  have tD1 := pay23_tile B (i 1).val ((i 1).val + 1 + k.val) 1 hr hj
  have tP0 := pay9_tile B (i 1).val ((i 1).val + 1 + k.val) 0 hr hj
  have tP1 := pay22_tile B (i 1).val ((i 1).val + 1 + k.val) 1 hr hj
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro
    refine rd_rows arg10.view _ [] (k0_off5_inb i k) (k0_off7_inb i k) _ _ _ ((i 1).val + 1 + k.val) hr o5 o7 ?_ ?_ (fun y hy => ?_)
    · intro a e
      exact (congrFun (congrArg (fun T => k0_pay14 (F := Ideal) (k0_pay6 (B.kL 0)) T _) tD0) _).trans ((pay14_tile B (i 1).val ((i 1).val + 1 + k.val) 0 x10 a e).trans (B.s10_row _ ((i 1).val + 1 + k.val) x10 hr a (col 0 e)).symm)
    · intro a e
      exact (congrFun (congrArg (fun T => k0_pay27 (F := Ideal) (k0_pay19 (B.kL 1)) T _) tD1) _).trans ((pay27_tile B (i 1).val ((i 1).val + 1 + k.val) 1 x10 a e).trans (B.s10_row _ ((i 1).val + 1 + k.val) x10 hr a (col 1 e)).symm)
    · exact (congrFun (harg10.read_unread x10) y).trans (B.s10_out _ _ x10 y hy).symm
  isplitl [H14]
  · iexists _; isplitr; swap; · iexact H14
    ipureintro
    refine rd_lane arg14.view _ [] (k0_off6_inb i k) (k0_off8_inb i k) _ _ _ ((i 1).val + 1 + k.val) hr o6 o8 ?_ ?_ (fun y hy => ?_)
    · intro a
      exact (congrFun (congrArg (fun T => k0_pay18 (F := Ideal) (k0_pay16 _) (k0_pay17 T)) tD0) _).trans ((pay18_tile B (i 1).val ((i 1).val + 1 + k.val) 0 x14 a).trans (B.s14_row _ ((i 1).val + 1 + k.val) x14 hr 0 a).symm)
    · intro a
      exact (congrFun (congrArg (fun T => k0_pay1 (F := Ideal) T _) tD1) _).trans ((pay1_tile B (i 1).val ((i 1).val + 1 + k.val) 1 x14 a).trans (B.s14_row _ ((i 1).val + 1 + k.val) x14 hr 1 a).symm)
    · exact (congrFun (harg14.read_unread x14) y).trans (B.s14_out _ _ x14 y hy).symm
  isplitl [H15]
  · iexists _; isplitr; swap; · iexact H15
    ipureintro
    refine rd_cols arg15.view _ [] inb_S512x256_S512x128_0_0 inb_S512x256_S512x128_0_128 _ _ _ rfl rfl ?_ ?_
    · intro a e
      exact (congrFun (congrArg (fun T => k0_pay13 (F := Ideal) (k0_pay7 (B.qL _ 0)) T _) tD0) _).trans ((pay13_tile B (i 1).val ((i 1).val + 1 + k.val) 0 x15 a e).trans rfl)
    · intro a e
      exact (congrFun (congrArg (fun T => k0_pay26 (F := Ideal) (k0_pay20 (B.qL _ 1)) T _) tD1) _).trans ((pay26_tile B (i 1).val ((i 1).val + 1 + k.val) 1 x15 a e).trans rfl)
  isplitl [H16]
  · iexists _; isplitr; swap; · iexact H16
    ipureintro
    refine rd_cols arg16.view _ [] inb_S512x256_S512x128_0_0 inb_S512x256_S512x128_0_128 _ _ _ rfl rfl ?_ ?_
    · intro a e
      exact (congrFun (congrArg (fun T => k0_pay12 (F := Ideal) (k0_pay8 (B.dL _ 0)) T _) tP0) _).trans ((pay12_tile B (i 1).val ((i 1).val + 1 + k.val) 0 x16 a e).trans rfl)
    · intro a e
      exact (congrFun (congrArg (fun T => k0_pay25 (F := Ideal) (k0_pay21 (B.dL _ 1)) T _) tP1) _).trans ((pay25_tile B (i 1).val ((i 1).val + 1 + k.val) 1 x16 a e).trans rfl)
  · iexists _; isplitr; swap; · iexact H17
    ipureintro
    refine rd_key arg17.view _ [] inb_S2x512x1_S1x512x1_0_0_0 inb_S2x512x1_S1x512x1_1_0_0 _ _ _ rfl rfl ?_ ?_
    · intro a
      exact (congrFun (congrArg (fun T => k0_pay15 (F := Ideal) T _) tD0) _).trans ((pay15_tile B (i 1).val ((i 1).val + 1 + k.val) 0 x17 a).trans rfl)
    · intro a
      exact (congrFun (congrArg (fun T => k0_pay28 (F := Ideal) T _) tD1) _).trans ((pay28_tile B (i 1).val ((i 1).val + 1 + k.val) 1 x17 a).trans rfl)

end Cert.KernelIdeal.Val
end
-- ==== Proof.Loop.lean ====
/-
  The kernel's loop by its invariant, and what the kernel's fills leave.
-/
module

public import proofs.«01_k».proof.Proof.Trip
public import Idealize.ShloMosaic.Lib.Pipeline.ReadBack

@[expose] public section

set_option maxRecDepth 16384
set_option maxHeartbeats 4000000
noncomputable section

namespace Cert.KernelIdeal.Val
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The loop runs over the tiles after the block's own. -/
theorem trips_eq : ∀ i : grid0.Coords, (k0_t1_loop i).trips = 15 - (i 1).val := by decide +kernel
/-- The first block is the one at which the shared outputs are cleared. -/
theorem first_iff : ∀ i : grid0.Coords, (Scalar.cmpi .ne (Scalar.extui (Scalar.cmpi .eq (BitVec.ofNat 32 (i 1).val) 0#32) : BitVec 32) 0#32) = 1#1 ↔ (i 1).val = 0 := by decide +kernel

/-- The loop by its invariant: before trip `k` the tiles before `j + 1 + k` have been added. -/
@[instance_reducible] def loopI (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S2x1x8192 .f32) (harg4 : arg4.IsWhole) (arg5 : Memref sig .tc .vmem S2x1x8192 .f32) (harg5 : arg5.IsWhole) (arg6 : Memref sig .tc .vmem S2x1x8192 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x1 .f32) (harg9 : arg9.IsWhole) (arg10 : Memref sig .tc .vmem S8192x256 .f32) (harg10 : arg10.IsWhole) (arg11 : Memref sig .tc .vmem S512x256 .f32) (harg11 : arg11.IsWhole) (arg12 : Memref sig .tc .vmem S512x256 .bf16) (harg12 : arg12.IsWhole) (arg13 : Memref sig .tc .vmem S2x512x1 .f32) (harg13 : arg13.IsWhole) (arg14 : Memref sig .tc .vmem S2x1x8192 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S2x512x1 .f32) (harg17 : arg17.IsWhole) (v177 : BitVec 32) (B : Blk) (x10 : Vec Ideal S8192x256 .f32) (x14 : Vec Ideal S2x1x8192 .f32) (E : Set ℕ) :
    Idealize.ShloMosaic.LoopInv (M := 𝕄) Idealize.ShloMosaic.frame (wpE (defs₀ (F := Ideal)) Variants.none (c : Thread nD τ) none) E
      (k0_t1_loop i).lb (k0_t1_loop i).ub (k0_t1_loop i).st (k0_t1_ok i) () (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v177) where
  inv k _ := iprop(owns (c : Thread nD τ) arg2 fullShare B.q ∗ owns (c : Thread nD τ) arg3 fullShare B.d ∗ owns (c : Thread nD τ) arg4 fullShare B.cr ∗ owns (c : Thread nD τ) arg5 fullShare B.lse ∗ owns (c : Thread nD τ) arg6 fullShare B.dl ∗ owns (c : Thread nD τ) arg7 fullShare B.k ∗ owns (c : Thread nD τ) arg8 fullShare B.v ∗ owns (c : Thread nD τ) arg9 fullShare B.ck ∗ owns (c : Thread nD τ) arg10 fullShare (B.a10 (i 1).val ((i 1).val + 1 + k) x10) ∗ owns (c : Thread nD τ) arg14 fullShare (B.a14 (i 1).val ((i 1).val + 1 + k) x14) ∗ owns (c : Thread nD τ) arg15 fullShare (B.a15 (i 1).val ((i 1).val + 1 + k)) ∗ owns (c : Thread nD τ) arg16 fullShare (B.a16 (i 1).val ((i 1).val + 1 + k)) ∗ owns (c : Thread nD τ) arg17 fullShare (B.a17 (i 1).val ((i 1).val + 1 + k)))
  step k acc := by
    have ht := trips_eq i
    have hk : k.val < 15 - (i 1).val := lt_of_lt_of_eq k.isLt ht
    have hr : (i 1).val + 1 + k.val < 16 := by omega
    iintro ⟨H2, H3, H4, H5, H6, H7, H8, H9, H10, H14, H15, H16, H17⟩
    iapply (trip c i arg2 _ arg3 _ arg4 _ arg5 _ arg6 _ arg7 _ arg8 _ arg9 _ arg10 _ arg11 _ arg12 _ arg13 _ arg14 _ arg15 _ arg16 _ arg17 _ v177 k hr B _ _ _ _ _ E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H14]; · iexact H14
    isplitl [H15]; · iexact H15
    isplitl [H16]; · iexact H16
    isplitl [H17]; · iexact H17
    rw [B.s10_a10, B.s14_a14, B.s15_a15, B.s16_a16, B.s17_a17]
    iintro ⟨H2, H3, H4, H5, H6, H7, H8, H9, H10, H14, H15, H16, H17⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H14]; · iexact H14
    isplitl [H15]; · iexact H15
    isplitl [H16]; · iexact H16
    iexact H17

/-- After the loop every tile has been added. -/
theorem loopI_exit (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S2x1x8192 .f32) (harg4 : arg4.IsWhole) (arg5 : Memref sig .tc .vmem S2x1x8192 .f32) (harg5 : arg5.IsWhole) (arg6 : Memref sig .tc .vmem S2x1x8192 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x1 .f32) (harg9 : arg9.IsWhole) (arg10 : Memref sig .tc .vmem S8192x256 .f32) (harg10 : arg10.IsWhole) (arg11 : Memref sig .tc .vmem S512x256 .f32) (harg11 : arg11.IsWhole) (arg12 : Memref sig .tc .vmem S512x256 .bf16) (harg12 : arg12.IsWhole) (arg13 : Memref sig .tc .vmem S2x512x1 .f32) (harg13 : arg13.IsWhole) (arg14 : Memref sig .tc .vmem S2x1x8192 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S2x512x1 .f32) (harg17 : arg17.IsWhole) (v177 : BitVec 32) (B : Blk) (x10 : Vec Ideal S8192x256 .f32) (x14 : Vec Ideal S2x1x8192 .f32) (E : Set ℕ) (acc : Unit) (n : ℕ) (hn : (i 1).val + 1 + (k0_t1_loop i).trips = n) :
    (loopI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v177 B x10 x14 E).inv (Scf.trips (k0_t1_loop i).lb (k0_t1_loop i).ub (k0_t1_loop i).st) acc ⊢ iprop(owns (c : Thread nD τ) arg2 fullShare B.q ∗ owns (c : Thread nD τ) arg3 fullShare B.d ∗ owns (c : Thread nD τ) arg4 fullShare B.cr ∗ owns (c : Thread nD τ) arg5 fullShare B.lse ∗ owns (c : Thread nD τ) arg6 fullShare B.dl ∗ owns (c : Thread nD τ) arg7 fullShare B.k ∗ owns (c : Thread nD τ) arg8 fullShare B.v ∗ owns (c : Thread nD τ) arg9 fullShare B.ck ∗ owns (c : Thread nD τ) arg10 fullShare (B.a10 (i 1).val n x10) ∗ owns (c : Thread nD τ) arg14 fullShare (B.a14 (i 1).val n x14) ∗ owns (c : Thread nD τ) arg15 fullShare (B.a15 (i 1).val n) ∗ owns (c : Thread nD τ) arg16 fullShare (B.a16 (i 1).val n) ∗ owns (c : Thread nD τ) arg17 fullShare (B.a17 (i 1).val n)) := by
  subst hn
  exact .rfl

/-- A load of the whole buffer. -/
theorem ld_whole2 (m : Memref sig .tc .vmem S512x256 .f32) (hm : m.IsWhole) (X : S512x256.Idx → EReal) (inb : ∀ a, ![0, 0] a + ![512, 256] a ≤ S512x256.size a) :
    View.readAt (Elt Ideal) m.view (Rect.unit (s := S512x256) ![0, 0] ![512, 256] inb).toLoadRect (hm.unread (Val := Elt Ideal) X) = X := by
  funext z
  rw [Memref.IsWhole.readAt_unread]
  refine congrArg X (funext fun a => Fin.ext ?_)
  match a with
  | ⟨0, _⟩ => show 0 + 1 * (z 0).val = (z 0).val; omega
  | ⟨1, _⟩ => show 0 + 1 * (z 1).val = (z 1).val; omega
@[inherit_doc ld_whole2] theorem ld_whole3 (m : Memref sig .tc .vmem S2x512x1 .f32) (hm : m.IsWhole) (X : S2x512x1.Idx → EReal) (inb : ∀ a, ![0, 0, 0] a + ![2, 512, 1] a ≤ S2x512x1.size a) :
    View.readAt (Elt Ideal) m.view (Rect.unit (s := S2x512x1) ![0, 0, 0] ![2, 512, 1] inb).toLoadRect (hm.unread (Val := Elt Ideal) X) = X := by
  funext z
  rw [Memref.IsWhole.readAt_unread]
  refine congrArg X (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

/-- Reading a fill back. -/
theorem fill15 (v : View sig .tc .vmem S512x256 .f32) :
    View.readCov (Val := Elt Ideal) v [⟨Rect.unit (s := S512x256) ![0, 0] S512x256.size inb_S512x256_S512x256_0_0, k0_pay54 (F := Ideal)⟩] (Rect.unit (s := S512x256) ![0, 0] S512x128.size inb_S512x256_S512x128_0_0).toLoadRect = fun _ => (0 : EReal) :=
  (View.readCov_fill v _ _ _ _ (by decide)).trans (funext fun _ => pay54_at _)
theorem fill15' (v : View sig .tc .vmem S512x256 .f32) (A : S512x128.Idx → EReal) :
    View.readCov (Val := Elt Ideal) v [⟨Rect.unit (s := S512x256) ![0, 0] S512x128.size inb_S512x256_S512x128_0_0, A⟩, ⟨Rect.unit (s := S512x256) ![0, 0] S512x256.size inb_S512x256_S512x256_0_0, k0_pay54 (F := Ideal)⟩] (Rect.unit (s := S512x256) ![0, 128] S512x128.size inb_S512x256_S512x128_0_128).toLoadRect = fun _ => (0 : EReal) :=
  (View.readCov_skip v _ _ _ _ (by decide)).trans ((View.readCov_fill v _ _ _ _ (by decide)).trans (funext fun _ => pay54_at _))
theorem fill17 (v : View sig .tc .vmem S2x512x1 .f32) :
    View.readCov (Val := Elt Ideal) v [⟨Rect.unit (s := S2x512x1) ![0, 0, 0] S2x512x1.size inb_S2x512x1_S2x512x1_0_0_0, k0_pay56 (F := Ideal)⟩] (Rect.unit (s := S2x512x1) ![0, 0, 0] S1x512x1.size inb_S2x512x1_S1x512x1_0_0_0).toLoadRect = fun _ => (0 : EReal) :=
  (View.readCov_fill v _ _ _ _ (by decide)).trans (funext fun _ => pay56_at _)
theorem fill17' (v : View sig .tc .vmem S2x512x1 .f32) (A : S1x512x1.Idx → EReal) :
    View.readCov (Val := Elt Ideal) v [⟨Rect.unit (s := S2x512x1) ![0, 0, 0] S1x512x1.size inb_S2x512x1_S1x512x1_0_0_0, A⟩, ⟨Rect.unit (s := S2x512x1) ![0, 0, 0] S2x512x1.size inb_S2x512x1_S2x512x1_0_0_0, k0_pay56 (F := Ideal)⟩] (Rect.unit (s := S2x512x1) ![1, 0, 0] S1x512x1.size inb_S2x512x1_S1x512x1_1_0_0).toLoadRect = fun _ => (0 : EReal) :=
  (View.readCov_skip v _ _ _ _ (by decide)).trans ((View.readCov_fill v _ _ _ _ (by decide)).trans (funext fun _ => pay56_at _))

/-- The query gradient's buffer once the first block has cleared it: zero there, as it was elsewhere. -/
theorem cleared10 (i : grid0.Coords) (m : Memref sig .tc .vmem S8192x256 .f32) (hm : m.IsWhole) (X : Vec Ideal S8192x256 .f32) :
    (if hc : (Scalar.cmpi .ne (Scalar.extui (Scalar.cmpi .eq (BitVec.ofNat 32 (i 1).val) 0#32) : BitVec 32) 0#32) = 1#1 then
      m.view.writes (Elt Ideal) (hm.unread X) [⟨Rect.unit (s := S8192x256) ![0, 0] S8192x256.size inb_S8192x256_S8192x256_0_0, k0_pay52 (F := Ideal)⟩]
    else hm.unread X) = hm.unread (fun y => if (i 1).val = 0 then (0 : EReal) else X y) := by
  apply hm.eq_unread
  funext y
  by_cases h : (i 1).val = 0
  · rw [dif_pos ((first_iff i).2 h), if_pos h]
    refine (View.read_writes_cons_unit_of_mem m.view (hm.unread X) inb_S8192x256_S8192x256_0_0 _ [] y y (off' := ![0, 0]) rfl (fun a => by match a with | ⟨0, _⟩ => exact (Nat.zero_add _).symm | ⟨1, _⟩ => exact (Nat.zero_add _).symm)).trans ?_
    exact pay52_at y
  · rw [dif_neg (fun hc => h ((first_iff i).1 hc)), if_neg h]
    exact congrFun (hm.read_unread X) y
/-- The query-side gate gradient's buffer, the same. -/
theorem cleared14 (i : grid0.Coords) (m : Memref sig .tc .vmem S2x1x8192 .f32) (hm : m.IsWhole) (X : Vec Ideal S2x1x8192 .f32) :
    (if hc : (Scalar.cmpi .ne (Scalar.extui (Scalar.cmpi .eq (BitVec.ofNat 32 (i 1).val) 0#32) : BitVec 32) 0#32) = 1#1 then
      m.view.writes (Elt Ideal) (hm.unread X) [⟨Rect.unit (s := S2x1x8192) ![0, 0, 0] S2x1x8192.size inb_S2x1x8192_S2x1x8192_0_0_0, k0_pay53 (F := Ideal)⟩]
    else hm.unread X) = hm.unread (fun y => if (i 1).val = 0 then (0 : EReal) else X y) := by
  apply hm.eq_unread
  funext y
  by_cases h : (i 1).val = 0
  · rw [dif_pos ((first_iff i).2 h), if_pos h]
    refine (View.read_writes_cons_unit_of_mem m.view (hm.unread X) inb_S2x1x8192_S2x1x8192_0_0_0 _ [] y y (off' := ![0, 0, 0]) rfl (fun a => by match a with | ⟨0, _⟩ => exact (Nat.zero_add _).symm | ⟨1, _⟩ => exact (Nat.zero_add _).symm | ⟨2, _⟩ => exact (Nat.zero_add _).symm)).trans ?_
    exact pay53_at y
  · rw [dif_neg (fun hc => h ((first_iff i).1 hc)), if_neg h]
    exact congrFun (hm.read_unread X) y
end Cert.KernelIdeal.Val
end
-- ==== Proof.Body.lean ====
/-
  The kernel's body at one grid point: what it leaves in each buffer.
-/
module

public import proofs.«01_k».proof.Proof.Loop
public import Idealize.ShloMosaic.Lib.Pipeline.ReadBack

@[expose] public section

set_option maxRecDepth 16384
set_option maxHeartbeats 4000000
noncomputable section

namespace Cert.KernelIdeal.Val
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The body at a grid point of block `j`: the query gradient and the query-side gate gradient gain the block's contribution to
    every row (over what was there, or over zero at the first block); the key, value and key-side gate gradients of the block are
    the sums over all tiles. -/
theorem body (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S2x1x8192 .f32) (harg4 : arg4.IsWhole) (arg5 : Memref sig .tc .vmem S2x1x8192 .f32) (harg5 : arg5.IsWhole) (arg6 : Memref sig .tc .vmem S2x1x8192 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x1 .f32) (harg9 : arg9.IsWhole) (arg10 : Memref sig .tc .vmem S8192x256 .f32) (harg10 : arg10.IsWhole) (arg11 : Memref sig .tc .vmem S512x256 .f32) (harg11 : arg11.IsWhole) (arg12 : Memref sig .tc .vmem S512x256 .bf16) (harg12 : arg12.IsWhole) (arg13 : Memref sig .tc .vmem S2x512x1 .f32) (harg13 : arg13.IsWhole) (arg14 : Memref sig .tc .vmem S2x1x8192 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S2x512x1 .f32) (harg17 : arg17.IsWhole) (B : Blk) (x10 : Vec Ideal S8192x256 .f32) (x11 : Vec Ideal S512x256 .f32) (x12 : Vec Ideal S512x256 .bf16) (x13 : Vec Ideal S2x512x1 .f32) (x14 : Vec Ideal S2x1x8192 .f32) (x15 : Vec Ideal S512x256 .f32) (x16 : Vec Ideal S512x256 .f32) (x17 : Vec Ideal S2x512x1 .f32) (E : Set ℕ) (K : Unit → sProp 𝕄) :
   iprop(owns (c : Thread nD τ) arg2 fullShare B.q ∗ owns (c : Thread nD τ) arg3 fullShare B.d ∗ owns (c : Thread nD τ) arg4 fullShare B.cr ∗ owns (c : Thread nD τ) arg5 fullShare B.lse ∗ owns (c : Thread nD τ) arg6 fullShare B.dl ∗ owns (c : Thread nD τ) arg7 fullShare B.k ∗ owns (c : Thread nD τ) arg8 fullShare B.v ∗ owns (c : Thread nD τ) arg9 fullShare B.ck ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ ((owns (c : Thread nD τ) arg2 fullShare B.q ∗ owns (c : Thread nD τ) arg3 fullShare B.d ∗ owns (c : Thread nD τ) arg4 fullShare B.cr ∗ owns (c : Thread nD τ) arg5 fullShare B.lse ∗ owns (c : Thread nD τ) arg6 fullShare B.dl ∗ owns (c : Thread nD τ) arg7 fullShare B.k ∗ owns (c : Thread nD τ) arg8 fullShare B.v ∗ owns (c : Thread nD τ) arg9 fullShare B.ck ∗ owns (c : Thread nD τ) arg10 fullShare (fun y => (if (i 1).val = 0 then 0 else x10 y) + B.cdq (i 1).val y) ∗ owns (c : Thread nD τ) arg11 fullShare (fun y => B.a15 (i 1).val 16 y * unfoldC) ∗ owns (c : Thread nD τ) arg12 fullShare (B.a16 (i 1).val 16) ∗ owns (c : Thread nD τ) arg13 fullShare (fun y => 0 - B.a17 (i 1).val 16 y) ∗ owns (c : Thread nD τ) arg14 fullShare (fun y => (if (i 1).val = 0 then 0 else x14 y) + B.ccq (i 1).val y) ∗ (∃ d, owns (c : Thread nD τ) arg15 fullShare d) ∗ (∃ d, owns (c : Thread nD τ) arg16 fullShare d) ∗ (∃ d, owns (c : Thread nD τ) arg17 fullShare d)) -∗ K ⟨⟩)) ⊢ wp frame (wpE (defs₀ (F := Ideal)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attn_bwd_eq_skeleton]
  unfold cc0_attn_bwd_skel
  simp only [k0_part9_eq_skeleton, k0_part10_eq_skeleton, k0_part11_eq_skeleton, k0_part12_eq_skeleton, k0_part13_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  have hj : (i 1).val < 16 := (i 1).isLt
  have hT : 16 = (i 1).val + 1 + (k0_t1_loop i).trips := by rw [trips_eq]; omega
  have l2_0 : View.readAt (Elt Ideal) arg2.view (Rect.unit (s := S8192x256) (k0_off1 i) S512x128.size (k0_off1_inb i)).toLoadRect (harg2.unread B.q)
      = B.qL (i 1).val 0 := ld_rows arg2 harg2 B.q (k0_off1_inb i) (i 1).val hj 0 (k0_off1_eq i)
  have l3_0 : View.readAt (Elt Ideal) arg3.view (Rect.unit (s := S8192x256) (k0_off1 i) S512x128.size (k0_off1_inb i)).toLoadRect (harg3.unread B.d)
      = B.dL (i 1).val 0 := ld_rows arg3 harg3 B.d (k0_off1_inb i) (i 1).val hj 0 (k0_off1_eq i)
  have l4_0 : View.readAt (Elt Ideal) arg4.view (Rect.unit (s := S2x1x8192) (k0_off2 i) S1x1x512.size (k0_off2_inb i)).toLoadRect (harg4.unread B.cr)
      = B.crL (i 1).val 0 := ld_lane arg4 harg4 B.cr (k0_off2_inb i) (i 1).val hj 0 (k0_off2_eq i)
  have l5_0 : View.readAt (Elt Ideal) arg5.view (Rect.unit (s := S2x1x8192) (k0_off2 i) S1x1x512.size (k0_off2_inb i)).toLoadRect (harg5.unread B.lse)
      = B.lseL (i 1).val 0 := ld_lane arg5 harg5 B.lse (k0_off2_inb i) (i 1).val hj 0 (k0_off2_eq i)
  have l6_0 : View.readAt (Elt Ideal) arg6.view (Rect.unit (s := S2x1x8192) (k0_off2 i) S1x1x512.size (k0_off2_inb i)).toLoadRect (harg6.unread B.dl)
      = B.dlL (i 1).val 0 := ld_lane arg6 harg6 B.dl (k0_off2_inb i) (i 1).val hj 0 (k0_off2_eq i)
  have l7_0 : View.readAt (Elt Ideal) arg7.view (Rect.unit (s := S512x256) ![0, 0] S512x128.size inb_S512x256_S512x128_0_0).toLoadRect (harg7.unread B.k)
      = B.kL 0 := ld_cols arg7 harg7 B.k inb_S512x256_S512x128_0_0 0 rfl
  have l8_0 : View.readAt (Elt Ideal) arg8.view (Rect.unit (s := S512x256) ![0, 0] S512x128.size inb_S512x256_S512x128_0_0).toLoadRect (harg8.unread B.v)
      = B.vL 0 := ld_cols arg8 harg8 B.v inb_S512x256_S512x128_0_0 0 rfl
  have l9_0 : View.readAt (Elt Ideal) arg9.view (Rect.unit (s := S2x512x1) ![0, 0, 0] S1x512x1.size inb_S2x512x1_S1x512x1_0_0_0).toLoadRect (harg9.unread B.ck)
      = B.ckL 0 := ld_key arg9 harg9 B.ck inb_S2x512x1_S1x512x1_0_0_0 0 rfl
  have l2_1 : View.readAt (Elt Ideal) arg2.view (Rect.unit (s := S8192x256) (k0_off3 i) S512x128.size (k0_off3_inb i)).toLoadRect (harg2.unread B.q)
      = B.qL (i 1).val 1 := ld_rows arg2 harg2 B.q (k0_off3_inb i) (i 1).val hj 1 (k0_off3_eq i)
  have l3_1 : View.readAt (Elt Ideal) arg3.view (Rect.unit (s := S8192x256) (k0_off3 i) S512x128.size (k0_off3_inb i)).toLoadRect (harg3.unread B.d)
      = B.dL (i 1).val 1 := ld_rows arg3 harg3 B.d (k0_off3_inb i) (i 1).val hj 1 (k0_off3_eq i)
  have l4_1 : View.readAt (Elt Ideal) arg4.view (Rect.unit (s := S2x1x8192) (k0_off4 i) S1x1x512.size (k0_off4_inb i)).toLoadRect (harg4.unread B.cr)
      = B.crL (i 1).val 1 := ld_lane arg4 harg4 B.cr (k0_off4_inb i) (i 1).val hj 1 (k0_off4_eq i)
  have l5_1 : View.readAt (Elt Ideal) arg5.view (Rect.unit (s := S2x1x8192) (k0_off4 i) S1x1x512.size (k0_off4_inb i)).toLoadRect (harg5.unread B.lse)
      = B.lseL (i 1).val 1 := ld_lane arg5 harg5 B.lse (k0_off4_inb i) (i 1).val hj 1 (k0_off4_eq i)
  have l6_1 : View.readAt (Elt Ideal) arg6.view (Rect.unit (s := S2x1x8192) (k0_off4 i) S1x1x512.size (k0_off4_inb i)).toLoadRect (harg6.unread B.dl)
      = B.dlL (i 1).val 1 := ld_lane arg6 harg6 B.dl (k0_off4_inb i) (i 1).val hj 1 (k0_off4_eq i)
  have l7_1 : View.readAt (Elt Ideal) arg7.view (Rect.unit (s := S512x256) ![0, 128] S512x128.size inb_S512x256_S512x128_0_128).toLoadRect (harg7.unread B.k)
      = B.kL 1 := ld_cols arg7 harg7 B.k inb_S512x256_S512x128_0_128 1 rfl
  have l8_1 : View.readAt (Elt Ideal) arg8.view (Rect.unit (s := S512x256) ![0, 128] S512x128.size inb_S512x256_S512x128_0_128).toLoadRect (harg8.unread B.v)
      = B.vL 1 := ld_cols arg8 harg8 B.v inb_S512x256_S512x128_0_128 1 rfl
  have l9_1 : View.readAt (Elt Ideal) arg9.view (Rect.unit (s := S2x512x1) ![1, 0, 0] S1x512x1.size inb_S2x512x1_S1x512x1_1_0_0).toLoadRect (harg9.unread B.ck)
      = B.ckL 1 := ld_key arg9 harg9 B.ck inb_S2x512x1_S1x512x1_1_0_0 1 rfl
  have c10 := cleared10 i arg10 harg10 x10
  have c14 := cleared14 i arg14 harg14 x14
  have w10_0 := (congrArg (View.readAt (Elt Ideal) arg10.view (Rect.unit (s := S8192x256) (k0_off1 i) S512x128.size (k0_off1_inb i)).toLoadRect) c10).trans (ld_rows arg10 harg10 (fun y => if (i 1).val = 0 then (0 : EReal) else x10 y) (k0_off1_inb i) (i 1).val hj 0 (k0_off1_eq i))
  have w10_1 := (congrArg (View.readAt (Elt Ideal) arg10.view (Rect.unit (s := S8192x256) (k0_off3 i) S512x128.size (k0_off3_inb i)).toLoadRect) c10).trans (ld_rows arg10 harg10 (fun y => if (i 1).val = 0 then (0 : EReal) else x10 y) (k0_off3_inb i) (i 1).val hj 1 (k0_off3_eq i))
  have w14_0 := (congrArg (View.readAt (Elt Ideal) arg14.view (Rect.unit (s := S2x1x8192) (k0_off2 i) S1x1x512.size (k0_off2_inb i)).toLoadRect) c14).trans (ld_lane arg14 harg14 (fun y => if (i 1).val = 0 then (0 : EReal) else x14 y) (k0_off2_inb i) (i 1).val hj 0 (k0_off2_eq i))
  have w14_1 := (congrArg (View.readAt (Elt Ideal) arg14.view (Rect.unit (s := S2x1x8192) (k0_off4 i) S1x1x512.size (k0_off4_inb i)).toLoadRect) c14).trans (ld_lane arg14 harg14 (fun y => if (i 1).val = 0 then (0 : EReal) else x14 y) (k0_off4_inb i) (i 1).val hj 1 (k0_off4_eq i))
  have tD0 := pay62_tile B (i 1).val 0 hj
  have tD1 := pay73_tile B (i 1).val 1 hj
  have g10 : B.s10 (i 1).val (i 1).val (fun y => if (i 1).val = 0 then (0 : EReal) else x10 y) = B.a10 (i 1).val ((i 1).val + 1 + 0) (fun y => if (i 1).val = 0 then (0 : EReal) else x10 y) :=
    (congrArg (B.s10 (i 1).val (i 1).val) (B.a10_own _ hj _).symm).trans (B.s10_a10 _ _ _)
  have g14 : B.s14 (i 1).val (i 1).val (fun y => if (i 1).val = 0 then (0 : EReal) else x14 y) = B.a14 (i 1).val ((i 1).val + 1 + 0) (fun y => if (i 1).val = 0 then (0 : EReal) else x14 y) :=
    (congrArg (B.s14 (i 1).val (i 1).val) (B.a14_own _ hj _).symm).trans (B.s14_a14 _ _ _)
  have g15 : B.s15 (i 1).val (i 1).val (fun _ => 0) = B.a15 (i 1).val ((i 1).val + 1 + 0) := (congrArg (B.s15 (i 1).val (i 1).val) (B.a15_own _ hj).symm).trans (B.s15_a15 _ _)
  have g16 : B.s16 (i 1).val (i 1).val (fun _ => 0) = B.a16 (i 1).val ((i 1).val + 1 + 0) := (congrArg (B.s16 (i 1).val (i 1).val) (B.a16_own _ hj).symm).trans (B.s16_a16 _ _)
  have g17 : B.s17 (i 1).val (i 1).val (fun _ => 0) = B.a17 (i 1).val ((i 1).val + 1 + 0) := (congrArg (B.s17 (i 1).val (i 1).val) (B.a17_own _ hj).symm).trans (B.s17_a17 _ _)
  sl_exec
  iapply (exec_loop (M := 𝕄) _ _ _ _ _ _ _ _ _ (loopI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ B (fun y => if (i 1).val = 0 then (0 : EReal) else x10 y) (fun y => if (i 1).val = 0 then (0 : EReal) else x14 y) E)) $$ [H2 H3 H4 H5 H6 H7 H8 H9 H10 H14 H15 H16 H17]
  · unfold loopI
    dsimp only
    unfold owns
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro; exact harg5.read_unread _
    isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    isplitl [H9]
    · iexists _; isplitr; swap; · iexact H9
      ipureintro; exact harg9.read_unread _
    isplitl [H10]
    · iexists _; isplitr; swap; · iexact H10
      ipureintro
      refine Eq.trans (?_ : _ = B.s10 (i 1).val (i 1).val (fun y => if (i 1).val = 0 then (0 : EReal) else x10 y)) g10
      refine rd_rows arg10.view _ [] (k0_off1_inb i) (k0_off3_inb i) _ _ (B.s10 (i 1).val (i 1).val (fun y => if (i 1).val = 0 then (0 : EReal) else x10 y)) (i 1).val hj (k0_off1_eq i) (k0_off3_eq i) ?_ ?_ (fun y hy => ?_)
      · intro a e
        exact (congrFun (congrArg (fun T => k0_pay66 (F := Ideal) (k0_pay57 (B.kL 0)) T _) tD0) _).trans ((pay66_tile B (i 1).val (i 1).val 0 (fun y => if (i 1).val = 0 then (0 : EReal) else x10 y) a e).trans (B.s10_row (i 1).val (i 1).val (fun y => if (i 1).val = 0 then (0 : EReal) else x10 y) hj a (col 0 e)).symm)
      · intro a e
        exact (congrFun (congrArg (fun T => k0_pay77 (F := Ideal) (k0_pay69 (B.kL 1)) T _) tD1) _).trans ((pay77_tile B (i 1).val (i 1).val 1 (fun y => if (i 1).val = 0 then (0 : EReal) else x10 y) a e).trans (B.s10_row (i 1).val (i 1).val (fun y => if (i 1).val = 0 then (0 : EReal) else x10 y) hj a (col 1 e)).symm)
      · exact (congrFun ((congrArg (View.read (Elt Ideal) arg10.view) c10).trans (harg10.read_unread _)) y).trans (B.s10_out (i 1).val (i 1).val (fun y => if (i 1).val = 0 then (0 : EReal) else x10 y) y hy).symm
    isplitl [H14]
    · iexists _; isplitr; swap; · iexact H14
      ipureintro
      refine Eq.trans (?_ : _ = B.s14 (i 1).val (i 1).val (fun y => if (i 1).val = 0 then (0 : EReal) else x14 y)) g14
      refine rd_lane arg14.view _ [] (k0_off2_inb i) (k0_off4_inb i) _ _ (B.s14 (i 1).val (i 1).val (fun y => if (i 1).val = 0 then (0 : EReal) else x14 y)) (i 1).val hj (k0_off2_eq i) (k0_off4_eq i) ?_ ?_ (fun y hy => ?_)
      · intro a
        exact (congrFun (congrArg (fun T => k0_pay68 (F := Ideal) T _) tD0) _).trans ((pay68_tile B (i 1).val (i 1).val 0 (fun y => if (i 1).val = 0 then (0 : EReal) else x14 y) a).trans (B.s14_row (i 1).val (i 1).val (fun y => if (i 1).val = 0 then (0 : EReal) else x14 y) hj 0 a).symm)
      · intro a
        exact (congrFun (congrArg (fun T => k0_pay79 (F := Ideal) T _) tD1) _).trans ((pay79_tile B (i 1).val (i 1).val 1 (fun y => if (i 1).val = 0 then (0 : EReal) else x14 y) a).trans (B.s14_row (i 1).val (i 1).val (fun y => if (i 1).val = 0 then (0 : EReal) else x14 y) hj 1 a).symm)
      · exact (congrFun ((congrArg (View.read (Elt Ideal) arg14.view) c14).trans (harg14.read_unread _)) y).trans (B.s14_out (i 1).val (i 1).val (fun y => if (i 1).val = 0 then (0 : EReal) else x14 y) y hy).symm
    isplitl [H15]
    · iexists _; isplitr; swap; · iexact H15
      ipureintro
      refine Eq.trans (?_ : _ = B.s15 (i 1).val (i 1).val (fun _ => 0)) g15
      refine rd_cols arg15.view _ [_] inb_S512x256_S512x128_0_0 inb_S512x256_S512x128_0_128 _ _ (B.s15 (i 1).val (i 1).val (fun _ => 0)) rfl rfl ?_ ?_
      · intro a e
        exact (congrFun (congrArg (k0_pay65 (k0_pay57 (F := Ideal) (B.kL 0)) (k0_pay58 (B.qL (i 1).val 0)) (k0_pay59 (B.dL (i 1).val 0)) (k0_pay60 (B.crL (i 1).val 0) (B.lseL (i 1).val 0)) (B.dlL (i 1).val 0) (B.ckL 0) (B.vL 0)) (fill15 _)) _).trans ((pay65_tile B (i 1).val 0 hj (fun _ => 0) a e).trans rfl)
      · intro a e
        exact (congrFun (congr (congrArg (k0_pay76 (F := Ideal) (k0_pay70 (B.qL (i 1).val 1))) tD1) (fill15' _ _)) _).trans ((pay76_tile B (i 1).val (i 1).val 1 (fun _ => 0) a e).trans rfl)
    isplitl [H16]
    · iexists _; isplitr; swap; · iexact H16
      ipureintro
      refine Eq.trans (?_ : _ = B.s16 (i 1).val (i 1).val (fun _ => 0)) g16
      refine rd_cols arg16.view _ [_] inb_S512x256_S512x128_0_0 inb_S512x256_S512x128_0_128 _ _ (B.s16 (i 1).val (i 1).val (fun _ => 0)) rfl rfl ?_ ?_
      · intro a e
        exact (congrFun (congrArg (k0_pay64 (k0_pay57 (F := Ideal) (B.kL 0)) (k0_pay58 (B.qL (i 1).val 0)) (k0_pay59 (B.dL (i 1).val 0)) (k0_pay60 (B.crL (i 1).val 0) (B.lseL (i 1).val 0)) (B.ckL 0)) (fill15 _)) _).trans ((pay64_tile B (i 1).val 0 hj (fun _ => 0) a e).trans rfl)
      · intro a e
        exact (congrFun (congrArg (k0_pay75 (k0_pay69 (F := Ideal) (B.kL 1)) (k0_pay70 (B.qL (i 1).val 1)) (k0_pay71 (B.dL (i 1).val 1)) (B.crL (i 1).val 1) (B.lseL (i 1).val 1) (B.ckL 1)) (fill15' _ _)) _).trans ((pay75_tile B (i 1).val 1 hj (fun _ => 0) a e).trans rfl)
    · iexists _; isplitr; swap; · iexact H17
      ipureintro
      refine Eq.trans (?_ : _ = B.s17 (i 1).val (i 1).val (fun _ => 0)) g17
      refine rd_key arg17.view _ [_] inb_S2x512x1_S1x512x1_0_0_0 inb_S2x512x1_S1x512x1_1_0_0 _ _ (B.s17 (i 1).val (i 1).val (fun _ => 0)) rfl rfl ?_ ?_
      · intro a
        exact (congrFun (congr (congrArg (k0_pay67 (F := Ideal)) tD0) (fill17 _)) _).trans ((pay67_tile B (i 1).val (i 1).val 0 (fun _ => 0) a).trans rfl)
      · intro a
        exact (congrFun (congr (congrArg (k0_pay78 (F := Ideal)) tD1) (fill17' _ _)) _).trans ((pay78_tile B (i 1).val (i 1).val 1 (fun _ => 0) a).trans rfl)
  iintro %acc HI
  ihave HJ := (loopI_exit c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ B (fun y => if (i 1).val = 0 then (0 : EReal) else x10 y) (fun y => if (i 1).val = 0 then (0 : EReal) else x14 y) E acc 16 hT.symm) $$ HI
  icases HJ with ⟨H2, H3, H4, H5, H6, H7, H8, H9, H10, H14, H15, H16, H17⟩
  unfold owns
  icases H2 with ⟨%u2, %hu2, H2⟩; icases H3 with ⟨%u3, %hu3, H3⟩; icases H4 with ⟨%u4, %hu4, H4⟩; icases H5 with ⟨%u5, %hu5, H5⟩; icases H6 with ⟨%u6, %hu6, H6⟩; icases H7 with ⟨%u7, %hu7, H7⟩; icases H8 with ⟨%u8, %hu8, H8⟩; icases H9 with ⟨%u9, %hu9, H9⟩; icases H10 with ⟨%u10, %hu10, H10⟩; icases H14 with ⟨%u14, %hu14, H14⟩; icases H15 with ⟨%u15, %hu15, H15⟩; icases H16 with ⟨%u16, %hu16, H16⟩; icases H17 with ⟨%u17, %hu17, H17⟩
  obtain rfl := harg2.eq_unread hu2; obtain rfl := harg3.eq_unread hu3; obtain rfl := harg4.eq_unread hu4; obtain rfl := harg5.eq_unread hu5; obtain rfl := harg6.eq_unread hu6; obtain rfl := harg7.eq_unread hu7; obtain rfl := harg8.eq_unread hu8; obtain rfl := harg9.eq_unread hu9; obtain rfl := harg10.eq_unread hu10; obtain rfl := harg14.eq_unread hu14; obtain rfl := harg15.eq_unread hu15; obtain rfl := harg16.eq_unread hu16; obtain rfl := harg17.eq_unread hu17
  have l15 : View.readAt (Elt Ideal) arg15.view (Rect.unit (s := S512x256) ![0, 0] ![512, 256] inb_S512x256_S512x256_0_0).toLoadRect (harg15.unread (B.a15 (i 1).val 16)) = B.a15 (i 1).val 16 := ld_whole2 arg15 harg15 _ _
  have l16 : View.readAt (Elt Ideal) arg16.view (Rect.unit (s := S512x256) ![0, 0] ![512, 256] inb_S512x256_S512x256_0_0).toLoadRect (harg16.unread (B.a16 (i 1).val 16)) = B.a16 (i 1).val 16 := ld_whole2 arg16 harg16 _ _
  have l17 : View.readAt (Elt Ideal) arg17.view (Rect.unit (s := S2x512x1) ![0, 0, 0] ![2, 512, 1] inb_S2x512x1_S2x512x1_0_0_0).toLoadRect (harg17.unread (B.a17 (i 1).val 16)) = B.a17 (i 1).val 16 := ld_whole3 arg17 harg17 _ _
  sl_exec
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact (harg10.read_unread _).trans (B.a10_all _ _)
  isplitl [H11]
  · iexists _; isplitr; swap; · iexact H11
    ipureintro
    funext y
    refine (View.read_writes_cons_unit_of_mem arg11.view _ _ _ [] y y (off' := ![0, 0]) rfl (fun a => by match a with | ⟨0, _⟩ => exact (Nat.zero_add _).symm | ⟨1, _⟩ => exact (Nat.zero_add _).symm)).trans ?_
    exact pay3_at _ y
  isplitl [H12]
  · iexists _; isplitr; swap; · iexact H12
    ipureintro
    funext y
    refine (View.read_writes_cons_unit_of_mem arg12.view _ _ _ [] y y (off' := ![0, 0]) rfl (fun a => by match a with | ⟨0, _⟩ => exact (Nat.zero_add _).symm | ⟨1, _⟩ => exact (Nat.zero_add _).symm)).trans ?_
    exact rfl
  isplitl [H13]
  · iexists _; isplitr; swap; · iexact H13
    ipureintro
    funext y
    refine (View.read_writes_cons_unit_of_mem arg13.view _ _ _ [] y y (off' := ![0, 0, 0]) rfl (fun a => by match a with | ⟨0, _⟩ => exact (Nat.zero_add _).symm | ⟨1, _⟩ => exact (Nat.zero_add _).symm | ⟨2, _⟩ => exact (Nat.zero_add _).symm)).trans ?_
    exact pay5_at _ y
  isplitl [H14]
  · iexists _; isplitr; swap; · iexact H14
    ipureintro
    exact (harg14.read_unread _).trans (B.a14_all _ _)
  isplitl [H15]
  · iexists _; iexists _; isplitr; swap; · iexact H15
    ipureintro; exact harg15.read_unread _
  isplitl [H16]
  · iexists _; iexists _; isplitr; swap; · iexact H16
    ipureintro; exact harg16.read_unread _
  · iexists _; iexists _; isplitr; swap; · iexact H17
    ipureintro; exact harg17.read_unread _

end Cert.KernelIdeal.Val
end
-- ==== Proof.Run.lean ====
/-
  The run of the idealised kernel: what each of its windows holds at every grid point.
-/
module

public import proofs.«01_k».proof.Proof.Body
public import proofs.«01_k».proof.Proof.Gen.KernelIdeal.Frame
public import Idealize.ShloMosaic.Lib.Claim

@[expose] public section

set_option maxRecDepth 16384
noncomputable section

namespace Cert.KernelIdeal.Val
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Grid point `n`. -/
def pt (n : ℕ) : Fin cfg0.N := ⟨n % 128, (Nat.mod_lt n (by decide)).trans_eq N_0.symm⟩
theorem pt_val (t : Fin cfg0.N) : pt t.val = t := Fin.ext (Nat.mod_eq_of_lt (t.isLt.trans_eq N_0))
theorem coord1 (t : Fin cfg0.N) : (grid0.coords t 1).val = t.val % 16 :=
  (Pipeline.Grid.coords_val t 1 (by decide) rfl : _ = t.val / 1 % 16).trans (by rw [Nat.div_one])

/-- What grid point `n` reads. -/
def BK (c : Dev nD) (n : ℕ) : Blk where
  q := iblk m c 0 (pt n)
  d := iblk m c 1 (pt n)
  cr := iblk m c 2 (pt n)
  lse := iblk m c 3 (pt n)
  dl := iblk m c 4 (pt n)
  k := iblk m c 5 (pt n)
  v := iblk m c 6 (pt n)
  ck := iblk m c 7 (pt n)

theorem BK_at (c : Dev nD) (t : Fin cfg0.N) : BK m c t.val = ⟨iblk m c 0 t, iblk m c 1 t, iblk m c 2 t, iblk m c 3 t, iblk m c 4 t, iblk m c 5 t, iblk m c 6 t, iblk m c 7 t⟩ :=
  (fun u (h : u = t) => h ▸ rfl : ∀ u, u = t → (⟨iblk m c 0 u, iblk m c 1 u, iblk m c 2 u, iblk m c 3 u, iblk m c 4 u, iblk m c 5 u, iblk m c 6 u, iblk m c 7 u⟩ : Blk) = ⟨iblk m c 0 t, iblk m c 1 t, iblk m c 2 t, iblk m c 3 t, iblk m c 4 t, iblk m c 5 t, iblk m c 6 t, iblk m c 7 t⟩) _ (pt_val t)

/-- The query gradient after point `n`: the contributions of the key blocks of its pair of heads up to it. -/
def dqAt (c : Dev nD) (n : ℕ) : S8192x256.Idx → EReal := fun y =>
  ∑ j ∈ Finset.range (n % 16 + 1), (BK m c (n / 16 * 16 + j)).cdq j y
/-- The query-side gate gradient after point `n`. -/
def dcqAt (c : Dev nD) (n : ℕ) : S2x1x8192.Idx → EReal := fun y =>
  ∑ j ∈ Finset.range (n % 16 + 1), (BK m c (n / 16 * 16 + j)).ccq j y
/-- The key gradient of point `n`'s block. -/
def dkAt (c : Dev nD) (n : ℕ) : S512x256.Idx → EReal := fun y => (BK m c n).a15 (n % 16) 16 y * unfoldC
/-- The value gradient of point `n`'s block. -/
def dvAt (c : Dev nD) (n : ℕ) : S512x256.Idx → EReal := (BK m c n).a16 (n % 16) 16
/-- The key-side gate gradient of point `n`'s block. -/
def dcAt (c : Dev nD) (n : ℕ) : S2x512x1.Idx → EReal := fun y => 0 - (BK m c n).a17 (n % 16) 16 y

theorem sum_step (f : ℕ → ℕ → EReal) (n : ℕ) (x : EReal) (hx : n % 16 ≠ 0 → x = ∑ j ∈ Finset.range ((n - 1) % 16 + 1), f ((n - 1) / 16 * 16 + j) j) :
    (if n % 16 = 0 then 0 else x) + f n (n % 16) = ∑ j ∈ Finset.range (n % 16 + 1), f (n / 16 * 16 + j) j := by
  have e : n / 16 * 16 + n % 16 = n := Nat.div_add_mod' n 16
  rw [Finset.sum_range_succ, e]
  by_cases h : n % 16 = 0
  · rw [if_pos h, h, Finset.sum_range_zero]
  · rw [if_neg h, hx h, show (n - 1) % 16 + 1 = n % 16 by omega, show (n - 1) / 16 = n / 16 by omega]

/-- The contents of the windows of core `c`: the arrays as the region finds them, every input's block, and after each point
    the outputs' sums. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t.val
    | ⟨9, _⟩ => dkAt m c t.val
    | ⟨10, _⟩ => dvAt m c t.val
    | ⟨11, _⟩ => dcAt m c t.val
    | ⟨12, _⟩ => dcqAt m c t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt m c t.val := by dsimp only [dats]
theorem after0_9 (c : Dev nD) (t : Fin cfg0.N) : (dats m 0 c).after 9 t = dkAt m c t.val := by dsimp only [dats]
theorem after0_10 (c : Dev nD) (t : Fin cfg0.N) : (dats m 0 c).after 10 t = dvAt m c t.val := by dsimp only [dats]
theorem after0_11 (c : Dev nD) (t : Fin cfg0.N) : (dats m 0 c).after 11 t = dcAt m c t.val := by dsimp only [dats]
theorem after0_12 (c : Dev nD) (t : Fin cfg0.N) : (dats m 0 c).after 12 t = dcqAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Away from the first key block, window 8 still holds what the point before left. -/
theorem before0_8 (c : Dev nD) (t : Fin cfg0.N) (d) (h : t.val % 16 ≠ 0) : (dats m 0 c).before 8 t d = dqAt m c (t.val - 1) := by
  have hf : (cfg0.win 8).flush ⟨t.val - 1, Nat.lt_of_le_of_lt (Nat.sub_le _ _) t.isLt⟩ = false := by
    rw [← Bool.not_eq_true, flush0_8]; show ¬ (t.val - 1) % 16 = 15; omega
  rw [(dats m 0 c).before_out_kept 8 rfl t (by omega) hf (fun _ => rfl) (fun _ _ => rfl), after0_8]

/-- Away from the first key block, window 12 still holds what the point before left. -/
theorem before0_12 (c : Dev nD) (t : Fin cfg0.N) (d) (h : t.val % 16 ≠ 0) : (dats m 0 c).before 12 t d = dcqAt m c (t.val - 1) := by
  have hf : (cfg0.win 12).flush ⟨t.val - 1, Nat.lt_of_le_of_lt (Nat.sub_le _ _) t.isLt⟩ = false := by
    rw [← Bool.not_eq_true, flush0_12]; show ¬ (t.val - 1) % 16 = 15; omega
  rw [(dats m 0 c).before_out_kept 12 rfl t (by omega) hf (fun _ => rfl) (fun _ _ => rfl), after0_12]
abbrev ms0_0 (t : Fin cfg0.N) : Memref sig .tc .vmem S8192x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8192x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x512x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1x8192 .f32 := win0_12.stage (cfg0.slots t 12)
abbrev hs0_12 (t : Fin cfg0.N) : (ms0_12 t).IsWhole := hstage0_12 ((cfg0.slots t 12).cast nbuf0_12)
abbrev sc0_0 : Memref sig .tc .vmem S512x256 .f32 := Memref.whole cc0_scratch0
abbrev sc0_1 : Memref sig .tc .vmem S512x256 .f32 := Memref.whole cc0_scratch1
abbrev sc0_2 : Memref sig .tc .vmem S2x512x1 .f32 := Memref.whole cc0_scratch2

/-- The invariant: the three accumulators at some contents, and the generator register. -/
theorem inv_eq (c : Dev nD) :
    (Pipeline.ΦA spec0 c : sProp 𝕄)
      = iprop(iprop((∃ d, owns (c : Thread nD τ) sc0_0 fullShare d) ∗ (∃ d, owns (c : Thread nD τ) sc0_1 fullShare d) ∗ (∃ d, owns (c : Thread nD τ) sc0_2 fullShare d)) ∗ (∃ r, prngReg c r)) := by
  unfold Pipeline.ΦA; rw [scopedRest0_eq]; simp only [sc0_0, sc0_1, sc0_2, owns_whole]; try rfl

/-- `body` with what it leaves under other names. -/
theorem body_to (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S2x1x8192 .f32) (harg4 : arg4.IsWhole) (arg5 : Memref sig .tc .vmem S2x1x8192 .f32) (harg5 : arg5.IsWhole) (arg6 : Memref sig .tc .vmem S2x1x8192 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S2x512x1 .f32) (harg9 : arg9.IsWhole) (arg10 : Memref sig .tc .vmem S8192x256 .f32) (harg10 : arg10.IsWhole) (arg11 : Memref sig .tc .vmem S512x256 .f32) (harg11 : arg11.IsWhole) (arg12 : Memref sig .tc .vmem S512x256 .bf16) (harg12 : arg12.IsWhole) (arg13 : Memref sig .tc .vmem S2x512x1 .f32) (harg13 : arg13.IsWhole) (arg14 : Memref sig .tc .vmem S2x1x8192 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S2x512x1 .f32) (harg17 : arg17.IsWhole) (q : Vec Ideal S8192x256 .bf16) (d : Vec Ideal S8192x256 .bf16) (cr : Vec Ideal S2x1x8192 .f32) (lse : Vec Ideal S2x1x8192 .f32) (dl : Vec Ideal S2x1x8192 .f32) (k : Vec Ideal S512x256 .bf16) (v : Vec Ideal S512x256 .bf16) (ck : Vec Ideal S2x512x1 .f32) (x10 : Vec Ideal S8192x256 .f32) (x11 : Vec Ideal S512x256 .f32) (x12 : Vec Ideal S512x256 .bf16) (x13 : Vec Ideal S2x512x1 .f32) (x14 : Vec Ideal S2x1x8192 .f32) (x15 : Vec Ideal S512x256 .f32) (x16 : Vec Ideal S512x256 .f32) (x17 : Vec Ideal S2x512x1 .f32) (E : Set ℕ) (K : Unit → sProp 𝕄) (y10 : Vec Ideal S8192x256 .f32) (y11 : Vec Ideal S512x256 .f32) (y12 : Vec Ideal S512x256 .bf16) (y13 : Vec Ideal S2x512x1 .f32) (y14 : Vec Ideal S2x1x8192 .f32) (e10 : y10 = fun y => (if (i 1).val = 0 then 0 else x10 y) + (⟨q, d, cr, lse, dl, k, v, ck⟩ : Blk).cdq (i 1).val y) (e11 : y11 = fun y => (⟨q, d, cr, lse, dl, k, v, ck⟩ : Blk).a15 (i 1).val 16 y * unfoldC) (e12 : y12 = (⟨q, d, cr, lse, dl, k, v, ck⟩ : Blk).a16 (i 1).val 16) (e13 : y13 = fun y => 0 - (⟨q, d, cr, lse, dl, k, v, ck⟩ : Blk).a17 (i 1).val 16 y) (e14 : y14 = fun y => (if (i 1).val = 0 then 0 else x14 y) + (⟨q, d, cr, lse, dl, k, v, ck⟩ : Blk).ccq (i 1).val y) :
   iprop(owns (c : Thread nD τ) arg2 fullShare q ∗ owns (c : Thread nD τ) arg3 fullShare d ∗ owns (c : Thread nD τ) arg4 fullShare cr ∗ owns (c : Thread nD τ) arg5 fullShare lse ∗ owns (c : Thread nD τ) arg6 fullShare dl ∗ owns (c : Thread nD τ) arg7 fullShare k ∗ owns (c : Thread nD τ) arg8 fullShare v ∗ owns (c : Thread nD τ) arg9 fullShare ck ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ ((owns (c : Thread nD τ) arg2 fullShare q ∗ owns (c : Thread nD τ) arg3 fullShare d ∗ owns (c : Thread nD τ) arg4 fullShare cr ∗ owns (c : Thread nD τ) arg5 fullShare lse ∗ owns (c : Thread nD τ) arg6 fullShare dl ∗ owns (c : Thread nD τ) arg7 fullShare k ∗ owns (c : Thread nD τ) arg8 fullShare v ∗ owns (c : Thread nD τ) arg9 fullShare ck ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ (∃ d, owns (c : Thread nD τ) arg15 fullShare d) ∗ (∃ d, owns (c : Thread nD τ) arg16 fullShare d) ∗ (∃ d, owns (c : Thread nD τ) arg17 fullShare d)) -∗ K ⟨⟩)) ⊢ wp frame (wpE (defs₀ (F := Ideal)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst e10 e11 e12 e13 e14
  exact body c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (⟨q, d, cr, lse, dl, k, v, ck⟩ : Blk) x10 x11 x12 x13 x14 x15 x16 x17 E K

set_option maxHeartbeats 1600000 in
/-- The body at grid point `t`, over what the point before left. -/
theorem body_at (c : Dev nD) (t : Fin cfg0.N) (x8 : Vec Ideal S8192x256 .f32) (x9 : Vec Ideal S512x256 .f32) (x10 : Vec Ideal S512x256 .bf16) (x11 : Vec Ideal S2x512x1 .f32) (x12 : Vec Ideal S2x1x8192 .f32) (s0 : Vec Ideal S512x256 .f32) (s1 : Vec Ideal S512x256 .f32) (s2 : Vec Ideal S2x512x1 .f32) (h8 : t.val % 16 ≠ 0 → x8 = dqAt m c (t.val - 1)) (h12 : t.val % 16 ≠ 0 → x12 = dcqAt m c (t.val - 1)) (E) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (x8) ∗ owns (c : Thread nD τ) (ms0_9 t) fullShare (x9) ∗ owns (c : Thread nD τ) (ms0_10 t) fullShare (x10) ∗ owns (c : Thread nD τ) (ms0_11 t) fullShare (x11) ∗ owns (c : Thread nD τ) (ms0_12 t) fullShare (x12) ∗ owns (c : Thread nD τ) sc0_0 fullShare s0 ∗ owns (c : Thread nD τ) sc0_1 fullShare s1 ∗ owns (c : Thread nD τ) sc0_2 fullShare s2 ∗ ((owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (dqAt m c t.val) ∗ owns (c : Thread nD τ) (ms0_9 t) fullShare (dkAt m c t.val) ∗ owns (c : Thread nD τ) (ms0_10 t) fullShare (dvAt m c t.val) ∗ owns (c : Thread nD τ) (ms0_11 t) fullShare (dcAt m c t.val) ∗ owns (c : Thread nD τ) (ms0_12 t) fullShare (dcqAt m c t.val) ∗ (∃ d, owns (c : Thread nD τ) sc0_0 fullShare d) ∗ (∃ d, owns (c : Thread nD τ) sc0_1 fullShare d) ∗ (∃ d, owns (c : Thread nD τ) sc0_2 fullShare d)) -∗ K ⟨⟩)) ⊢ wp frame (wpE (defs₀ (F := Ideal)) Variants.none (c : Thread nD τ) none) E (bodyAt0 t) K := by
  have ht := coord1 t
  have e8 : (fun y => (if (grid0.coords t 1).val = 0 then 0 else x8 y) + (BK m c t.val).cdq (grid0.coords t 1).val y) = dqAt m c t.val := funext fun y => by
    rw [ht]; exact sum_step (fun n j => (BK m c n).cdq j y) t.val (x8 y) fun h => congrFun (h8 h) y
  have e12 : (fun y => (if (grid0.coords t 1).val = 0 then 0 else x12 y) + (BK m c t.val).ccq (grid0.coords t 1).val y) = dcqAt m c t.val := funext fun y => by
    rw [ht]; exact sum_step (fun n j => (BK m c n).ccq j y) t.val (x12 y) fun h => congrFun (h12 h) y
  have e9 : (fun y => (BK m c t.val).a15 (grid0.coords t 1).val 16 y * unfoldC) = dkAt m c t.val := by rw [ht]; rfl
  have e10 : (BK m c t.val).a16 (grid0.coords t 1).val 16 = dvAt m c t.val := by rw [ht]; rfl
  have e11 : (fun y => 0 - (BK m c t.val).a17 (grid0.coords t 1).val 16 y) = dcAt m c t.val := by rw [ht]; rfl

  rw [BK_at] at e8 e9 e10 e11 e12
  unfold bodyAt0
  exact body_to c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) sc0_0 (Memref.isWhole_whole _) sc0_1 (Memref.isWhole_whole _) sc0_2 (Memref.isWhole_whole _) (iblk m c 0 t) (iblk m c 1 t) (iblk m c 2 t) (iblk m c 3 t) (iblk m c 4 t) (iblk m c 5 t) (iblk m c 6 t) (iblk m c 7 t) x8 x9 x10 x11 x12 s0 s1 s2 E K (dqAt m c t.val) (dkAt m c t.val) (dvAt m c t.val) (dcAt m c t.val) (dcqAt m c t.val) e8.symm e9.symm e10.symm e11.symm e12.symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 3200000 in
/-- The body at any point takes the windows from what they held before it to what they hold after it. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, inv_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_at m c t _ _ _ _ _ _ _ _ (before0_8 m c t d8) (before0_12 m c t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The kernel ends with every array at the sums of `dats`, and every semaphore at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were launched, and every semaphore is at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Val
-- ==== Proof.Arr.lean ====
/-
  The arrays of the idealised kernel: what each input block reads of its array, and what each result array ends holding.
-/
module

public import proofs.«01_k».proof.Proof.Run

@[expose] public section

set_option maxRecDepth 16384
noncomputable section

namespace Cert.KernelIdeal.Val
open Cert.KernelIdeal.Gen

open Idealize.ShloMosaic Idealize.ShloMosaic.TcCoe Idealize.ShloMosaic.Tactic
open Idealize.SL Idealize.SL.RA Idealize.SL.BI
open Idealize.SL.Sem
open Idealize.ShloMosaic.Pipeline (Dat Cfg Window)

variable (m : (ℓ : Loc nD τ sig) → Buf (Elt Ideal) ℓ) (ρ : Dev nD → PrngReg)

theorem t_lt (t : Fin cfg0.N) : t.val < 128 := t.isLt.trans_eq N_0

theorem index0_0 (t : Fin cfg0.N) : win0_0.index t 0 = 0 ∧ win0_0.index t 1 = t.val / 16 :=
  (by decide +kernel : ∀ t : Fin grid0.N, win0_0.index t 0 = 0 ∧ win0_0.index t 1 = t.val / 16) t
theorem index0_1 (t : Fin cfg0.N) : win0_1.index t 0 = 0 ∧ win0_1.index t 1 = t.val / 16 :=
  (by decide +kernel : ∀ t : Fin grid0.N, win0_1.index t 0 = 0 ∧ win0_1.index t 1 = t.val / 16) t
theorem index0_2 (t : Fin cfg0.N) : win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0) t
theorem index0_3 (t : Fin cfg0.N) : win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0) t
theorem index0_4 (t : Fin cfg0.N) : win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0) t
theorem index0_5 (t : Fin cfg0.N) : win0_5.index t 0 = t.val % 16 ∧ win0_5.index t 1 = t.val / 16 :=
  (by decide +kernel : ∀ t : Fin grid0.N, win0_5.index t 0 = t.val % 16 ∧ win0_5.index t 1 = t.val / 16) t
theorem index0_6 (t : Fin cfg0.N) : win0_6.index t 0 = t.val % 16 ∧ win0_6.index t 1 = t.val / 16 :=
  (by decide +kernel : ∀ t : Fin grid0.N, win0_6.index t 0 = t.val % 16 ∧ win0_6.index t 1 = t.val / 16) t
theorem index0_7 (t : Fin cfg0.N) : win0_7.index t 0 = t.val / 16 ∧ win0_7.index t 1 = t.val % 16 ∧ win0_7.index t 2 = 0 :=
  (by decide +kernel : ∀ t : Fin grid0.N, win0_7.index t 0 = t.val / 16 ∧ win0_7.index t 1 = t.val % 16 ∧ win0_7.index t 2 = 0) t
theorem index0_8 (t : Fin cfg0.N) : win0_8.index t 0 = 0 ∧ win0_8.index t 1 = t.val / 16 :=
  (by decide +kernel : ∀ t : Fin grid0.N, win0_8.index t 0 = 0 ∧ win0_8.index t 1 = t.val / 16) t
theorem index0_9 (t : Fin cfg0.N) : win0_9.index t 0 = t.val % 16 ∧ win0_9.index t 1 = t.val / 16 :=
  (by decide +kernel : ∀ t : Fin grid0.N, win0_9.index t 0 = t.val % 16 ∧ win0_9.index t 1 = t.val / 16) t
theorem index0_10 (t : Fin cfg0.N) : win0_10.index t 0 = t.val % 16 ∧ win0_10.index t 1 = t.val / 16 :=
  (by decide +kernel : ∀ t : Fin grid0.N, win0_10.index t 0 = t.val % 16 ∧ win0_10.index t 1 = t.val / 16) t
theorem index0_11 (t : Fin cfg0.N) : win0_11.index t 0 = t.val / 16 ∧ win0_11.index t 1 = t.val % 16 ∧ win0_11.index t 2 = 0 :=
  (by decide +kernel : ∀ t : Fin grid0.N, win0_11.index t 0 = t.val / 16 ∧ win0_11.index t 1 = t.val % 16 ∧ win0_11.index t 2 = 0) t
theorem index0_12 (t : Fin cfg0.N) : win0_12.index t 0 = t.val / 16 ∧ win0_12.index t 1 = 0 ∧ win0_12.index t 2 = 0 :=
  (by decide +kernel : ∀ t : Fin grid0.N, win0_12.index t 0 = t.val / 16 ∧ win0_12.index t 1 = 0 ∧ win0_12.index t 2 = 0) t
/-- Window 0's block at a point reads its array at the block's place. -/
theorem blk_0 (X : S8192x2048.Idx → EReal) (t : Fin cfg0.N) (z : S8192x256.Idx) (i : S8192x2048.Idx) (h0 : (i 0).val = (z 0).val) (h1 : (i 1).val = (t.val / 16) * 256 + (z 1).val) :
    ((cfg0.win 0).blk t).view.read (Elt Ideal) X z = X i := by
  have hi := index0_0 t
  rw [View.read_apply]
  show X _ = _
  congr 1
  funext a
  apply Fin.ext
  match a with
  | ⟨0, _⟩ => show win0_0.index t 0 * 8192 + 1 * (z 0).val = (i 0).val; rw [hi.1, h0]; omega
  | ⟨1, _⟩ => show win0_0.index t 1 * 256 + 1 * (z 1).val = (i 1).val; rw [hi.2, h1]; omega
theorem iblk_0 (c : Dev nD) (t : Fin cfg0.N) (z : S8192x256.Idx) (i : S8192x2048.Idx) (h0 : (i 0).val = (z 0).val) (h1 : (i 1).val = (t.val / 16) * 256 + (z 1).val) :
    (iblk m c 0 t : Vec Ideal S8192x256 _) z = V m c main_v7 i := blk_0 (V m c main_v7) t z i h0 h1
/-- Window 1's block at a point reads its array at the block's place. -/
theorem blk_1 (X : S8192x2048.Idx → EReal) (t : Fin cfg0.N) (z : S8192x256.Idx) (i : S8192x2048.Idx) (h0 : (i 0).val = (z 0).val) (h1 : (i 1).val = (t.val / 16) * 256 + (z 1).val) :
    ((cfg0.win 1).blk t).view.read (Elt Ideal) X z = X i := by
  have hi := index0_1 t
  rw [View.read_apply]
  show X _ = _
  congr 1
  funext a
  apply Fin.ext
  match a with
  | ⟨0, _⟩ => show win0_1.index t 0 * 8192 + 1 * (z 0).val = (i 0).val; rw [hi.1, h0]; omega
  | ⟨1, _⟩ => show win0_1.index t 1 * 256 + 1 * (z 1).val = (i 1).val; rw [hi.2, h1]; omega
theorem iblk_1 (c : Dev nD) (t : Fin cfg0.N) (z : S8192x256.Idx) (i : S8192x2048.Idx) (h0 : (i 0).val = (z 0).val) (h1 : (i 1).val = (t.val / 16) * 256 + (z 1).val) :
    (iblk m c 1 t : Vec Ideal S8192x256 _) z = V m c main_v17 i := blk_1 (V m c main_v17) t z i h0 h1
/-- Window 2's block at a point reads its array at the block's place. -/
theorem blk_2 (X : S16x1x8192.Idx → EReal) (t : Fin cfg0.N) (z : S2x1x8192.Idx) (i : S16x1x8192.Idx) (h0 : (i 0).val = (t.val / 16) * 2 + (z 0).val) (h1 : (i 1).val = (z 1).val) (h2 : (i 2).val = (z 2).val) :
    ((cfg0.win 2).blk t).view.read (Elt Ideal) X z = X i := by
  have hi := index0_2 t
  rw [View.read_apply]
  show X _ = _
  congr 1
  funext a
  apply Fin.ext
  match a with
  | ⟨0, _⟩ => show win0_2.index t 0 * 2 + 1 * (z 0).val = (i 0).val; rw [hi.1, h0]; omega
  | ⟨1, _⟩ => show win0_2.index t 1 * 1 + 1 * (z 1).val = (i 1).val; rw [hi.2.1, h1]; omega
  | ⟨2, _⟩ => show win0_2.index t 2 * 8192 + 1 * (z 2).val = (i 2).val; rw [hi.2.2, h2]; omega
theorem iblk_2 (c : Dev nD) (t : Fin cfg0.N) (z : S2x1x8192.Idx) (i : S16x1x8192.Idx) (h0 : (i 0).val = (t.val / 16) * 2 + (z 0).val) (h1 : (i 1).val = (z 1).val) (h2 : (i 2).val = (z 2).val) :
    (iblk m c 2 t : Vec Ideal S2x1x8192 _) z = V m c main_v55 i := blk_2 (V m c main_v55) t z i h0 h1 h2
/-- Window 3's block at a point reads its array at the block's place. -/
theorem blk_3 (X : S16x1x8192.Idx → EReal) (t : Fin cfg0.N) (z : S2x1x8192.Idx) (i : S16x1x8192.Idx) (h0 : (i 0).val = (t.val / 16) * 2 + (z 0).val) (h1 : (i 1).val = (z 1).val) (h2 : (i 2).val = (z 2).val) :
    ((cfg0.win 3).blk t).view.read (Elt Ideal) X z = X i := by
  have hi := index0_3 t
  rw [View.read_apply]
  show X _ = _
  congr 1
  funext a
  apply Fin.ext
  match a with
  | ⟨0, _⟩ => show win0_3.index t 0 * 2 + 1 * (z 0).val = (i 0).val; rw [hi.1, h0]; omega
  | ⟨1, _⟩ => show win0_3.index t 1 * 1 + 1 * (z 1).val = (i 1).val; rw [hi.2.1, h1]; omega
  | ⟨2, _⟩ => show win0_3.index t 2 * 8192 + 1 * (z 2).val = (i 2).val; rw [hi.2.2, h2]; omega
theorem iblk_3 (c : Dev nD) (t : Fin cfg0.N) (z : S2x1x8192.Idx) (i : S16x1x8192.Idx) (h0 : (i 0).val = (t.val / 16) * 2 + (z 0).val) (h1 : (i 1).val = (z 1).val) (h2 : (i 2).val = (z 2).val) :
    (iblk m c 3 t : Vec Ideal S2x1x8192 _) z = V m c main_v56 i := blk_3 (V m c main_v56) t z i h0 h1 h2
/-- Window 4's block at a point reads its array at the block's place. -/
theorem blk_4 (X : S16x1x8192.Idx → EReal) (t : Fin cfg0.N) (z : S2x1x8192.Idx) (i : S16x1x8192.Idx) (h0 : (i 0).val = (t.val / 16) * 2 + (z 0).val) (h1 : (i 1).val = (z 1).val) (h2 : (i 2).val = (z 2).val) :
    ((cfg0.win 4).blk t).view.read (Elt Ideal) X z = X i := by
  have hi := index0_4 t
  rw [View.read_apply]
  show X _ = _
  congr 1
  funext a
  apply Fin.ext
  match a with
  | ⟨0, _⟩ => show win0_4.index t 0 * 2 + 1 * (z 0).val = (i 0).val; rw [hi.1, h0]; omega
  | ⟨1, _⟩ => show win0_4.index t 1 * 1 + 1 * (z 1).val = (i 1).val; rw [hi.2.1, h1]; omega
  | ⟨2, _⟩ => show win0_4.index t 2 * 8192 + 1 * (z 2).val = (i 2).val; rw [hi.2.2, h2]; omega
theorem iblk_4 (c : Dev nD) (t : Fin cfg0.N) (z : S2x1x8192.Idx) (i : S16x1x8192.Idx) (h0 : (i 0).val = (t.val / 16) * 2 + (z 0).val) (h1 : (i 1).val = (z 1).val) (h2 : (i 2).val = (z 2).val) :
    (iblk m c 4 t : Vec Ideal S2x1x8192 _) z = V m c main_v58 i := blk_4 (V m c main_v58) t z i h0 h1 h2
/-- Window 5's block at a point reads its array at the block's place. -/
theorem blk_5 (X : S8192x2048.Idx → EReal) (t : Fin cfg0.N) (z : S512x256.Idx) (i : S8192x2048.Idx) (h0 : (i 0).val = (t.val % 16) * 512 + (z 0).val) (h1 : (i 1).val = (t.val / 16) * 256 + (z 1).val) :
    ((cfg0.win 5).blk t).view.read (Elt Ideal) X z = X i := by
  have hi := index0_5 t
  rw [View.read_apply]
  show X _ = _
  congr 1
  funext a
  apply Fin.ext
  match a with
  | ⟨0, _⟩ => show win0_5.index t 0 * 512 + 1 * (z 0).val = (i 0).val; rw [hi.1, h0]; omega
  | ⟨1, _⟩ => show win0_5.index t 1 * 256 + 1 * (z 1).val = (i 1).val; rw [hi.2, h1]; omega
theorem iblk_5 (c : Dev nD) (t : Fin cfg0.N) (z : S512x256.Idx) (i : S8192x2048.Idx) (h0 : (i 0).val = (t.val % 16) * 512 + (z 0).val) (h1 : (i 1).val = (t.val / 16) * 256 + (z 1).val) :
    (iblk m c 5 t : Vec Ideal S512x256 _) z = V m c main_v15 i := blk_5 (V m c main_v15) t z i h0 h1
/-- Window 6's block at a point reads its array at the block's place. -/
theorem blk_6 (X : S8192x2048.Idx → EReal) (t : Fin cfg0.N) (z : S512x256.Idx) (i : S8192x2048.Idx) (h0 : (i 0).val = (t.val % 16) * 512 + (z 0).val) (h1 : (i 1).val = (t.val / 16) * 256 + (z 1).val) :
    ((cfg0.win 6).blk t).view.read (Elt Ideal) X z = X i := by
  have hi := index0_6 t
  rw [View.read_apply]
  show X _ = _
  congr 1
  funext a
  apply Fin.ext
  match a with
  | ⟨0, _⟩ => show win0_6.index t 0 * 512 + 1 * (z 0).val = (i 0).val; rw [hi.1, h0]; omega
  | ⟨1, _⟩ => show win0_6.index t 1 * 256 + 1 * (z 1).val = (i 1).val; rw [hi.2, h1]; omega
theorem iblk_6 (c : Dev nD) (t : Fin cfg0.N) (z : S512x256.Idx) (i : S8192x2048.Idx) (h0 : (i 0).val = (t.val % 16) * 512 + (z 0).val) (h1 : (i 1).val = (t.val / 16) * 256 + (z 1).val) :
    (iblk m c 6 t : Vec Ideal S512x256 _) z = V m c main_v16 i := blk_6 (V m c main_v16) t z i h0 h1
/-- Window 7's block at a point reads its array at the block's place. -/
theorem blk_7 (X : S16x8192x1.Idx → EReal) (t : Fin cfg0.N) (z : S2x512x1.Idx) (i : S16x8192x1.Idx) (h0 : (i 0).val = (t.val / 16) * 2 + (z 0).val) (h1 : (i 1).val = (t.val % 16) * 512 + (z 1).val) (h2 : (i 2).val = (z 2).val) :
    ((cfg0.win 7).blk t).view.read (Elt Ideal) X z = X i := by
  have hi := index0_7 t
  rw [View.read_apply]
  show X _ = _
  congr 1
  funext a
  apply Fin.ext
  match a with
  | ⟨0, _⟩ => show win0_7.index t 0 * 2 + 1 * (z 0).val = (i 0).val; rw [hi.1, h0]; omega
  | ⟨1, _⟩ => show win0_7.index t 1 * 512 + 1 * (z 1).val = (i 1).val; rw [hi.2.1, h1]; omega
  | ⟨2, _⟩ => show win0_7.index t 2 * 1 + 1 * (z 2).val = (i 2).val; rw [hi.2.2, h2]; omega
theorem iblk_7 (c : Dev nD) (t : Fin cfg0.N) (z : S2x512x1.Idx) (i : S16x8192x1.Idx) (h0 : (i 0).val = (t.val / 16) * 2 + (z 0).val) (h1 : (i 1).val = (t.val % 16) * 512 + (z 1).val) (h2 : (i 2).val = (z 2).val) :
    (iblk m c 7 t : Vec Ideal S2x512x1 _) z = V m c main_v59 i := blk_7 (V m c main_v59) t z i h0 h1 h2
/-- What the query gradient's array ends holding. -/
def resDq (c : Dev nD) : S8192x2048.Idx → EReal := fun i => dqAt m c ((i 1).val / 256 * 16 + 15) (ix2 (i 0) ⟨(i 1).val % 256, Nat.mod_lt _ (by decide)⟩)
theorem resDq_at (c : Dev nD) (t : Fin cfg0.N) (z : S8192x256.Idx) (i : S8192x2048.Idx) (h0 : (i 0).val = (z 0).val) (h1 : (i 1).val = (t.val / 16) * 256 + (z 1).val) (hf : t.val % 16 = 15) : dqAt m c t.val z = resDq m c i := by
  have z0 : (z 0).val < 8192 := (z 0).isLt
  have z1 : (z 1).val < 256 := (z 1).isLt
  have ht := t_lt t
  unfold resDq
  rw [show (i 1).val / 256 * 16 + 15 = t.val by rw [h1]; omega]
  congr 1
  funext a
  apply Fin.ext
  match a with
  | ⟨0, _⟩ => show (z 0).val = (i 0).val; omega
  | ⟨1, _⟩ => show (z 1).val = (i 1).val % 256; omega
theorem flushed_8 (c : Dev nD) (t : Fin cfg0.N) (hf : (cfg0.win 8).flush t = true) :
    (dats m 0 c).flushed 8 t = ((cfg0.win 8).blk t).view.read (Elt Ideal) (resDq m c) := by
  have hi := index0_8 t
  show (cfg0.win 8).cut (grid0.coords t) ((dats m 0 c).after 8 t) = _
  rw [after0_8]
  funext z
  rw [View.read_apply]
  exact resDq_at m c t z _ (by show win0_8.index t 0 * 8192 + 1 * (z 0).val = _; rw [hi.1]; omega) (by show win0_8.index t 1 * 256 + 1 * (z 1).val = _; rw [hi.2]; omega) ((flush0_8 t).mp hf)
theorem final_8 (c : Dev nD) : (dats m 0 c).arrAt 8 cfg0.N = resDq m c := by
  refine (dats m 0 c).arrAt_eq_of_cover 8 (resDq m c) (flushed_8 m c) fun i => ?_
  have b0 : (i 0).val < 8192 := (i 0).isLt
  have b1 : (i 1).val < 2048 := (i 1).isLt
  have hlt : (i 1).val / 256 * 16 + 15 < cfg0.N := (by omega : (i 1).val / 256 * 16 + 15 < 128).trans_eq N_0.symm
  refine ⟨⟨(i 1).val / 256 * 16 + 15, hlt⟩, (flush0_8 _).mpr (by show ((i 1).val / 256 * 16 + 15) % 16 = 15; omega), ?_⟩
  have hi := index0_8 ⟨(i 1).val / 256 * 16 + 15, hlt⟩
  generalize hT : (⟨(i 1).val / 256 * 16 + 15, hlt⟩ : Fin cfg0.N) = T at hi ⊢
  have hv : T.val = (i 1).val / 256 * 16 + 15 := by rw [← hT]
  show i ∈ ((View.whole main_v60_0).slice (win0_8.rect T)).set
  rw [View.set_slice_whole, Rect.mem_set_unit]
  intro a
  match a with
  | ⟨0, _⟩ => show win0_8.index T 0 * 8192 ≤ (i 0).val ∧ (i 0).val < win0_8.index T 0 * 8192 + 8192; rw [hi.1]; omega
  | ⟨1, _⟩ => show win0_8.index T 1 * 256 ≤ (i 1).val ∧ (i 1).val < win0_8.index T 1 * 256 + 256; rw [hi.2]; omega
/-- What the key gradient's array ends holding. -/
def resDk (c : Dev nD) : S8192x2048.Idx → EReal := fun i => dkAt m c ((i 1).val / 256 * 16 + (i 0).val / 512) (ix2 ⟨(i 0).val % 512, Nat.mod_lt _ (by decide)⟩ ⟨(i 1).val % 256, Nat.mod_lt _ (by decide)⟩)
theorem resDk_at (c : Dev nD) (t : Fin cfg0.N) (z : S512x256.Idx) (i : S8192x2048.Idx) (h0 : (i 0).val = (t.val % 16) * 512 + (z 0).val) (h1 : (i 1).val = (t.val / 16) * 256 + (z 1).val)  : dkAt m c t.val z = resDk m c i := by
  have z0 : (z 0).val < 512 := (z 0).isLt
  have z1 : (z 1).val < 256 := (z 1).isLt
  have ht := t_lt t
  unfold resDk
  rw [show (i 1).val / 256 * 16 + (i 0).val / 512 = t.val by rw [h1, h0]; omega]
  congr 1
  funext a
  apply Fin.ext
  match a with
  | ⟨0, _⟩ => show (z 0).val = (i 0).val % 512; omega
  | ⟨1, _⟩ => show (z 1).val = (i 1).val % 256; omega
theorem flushed_9 (c : Dev nD) (t : Fin cfg0.N) (hf : (cfg0.win 9).flush t = true) :
    (dats m 0 c).flushed 9 t = ((cfg0.win 9).blk t).view.read (Elt Ideal) (resDk m c) := by
  have hi := index0_9 t
  show (cfg0.win 9).cut (grid0.coords t) ((dats m 0 c).after 9 t) = _
  rw [after0_9]
  funext z
  rw [View.read_apply]
  exact resDk_at m c t z _ (by show win0_9.index t 0 * 512 + 1 * (z 0).val = _; rw [hi.1]; omega) (by show win0_9.index t 1 * 256 + 1 * (z 1).val = _; rw [hi.2]; omega)
theorem final_9 (c : Dev nD) : (dats m 0 c).arrAt 9 cfg0.N = resDk m c := by
  refine (dats m 0 c).arrAt_eq_of_cover 9 (resDk m c) (flushed_9 m c) fun i => ?_
  have b0 : (i 0).val < 8192 := (i 0).isLt
  have b1 : (i 1).val < 2048 := (i 1).isLt
  have hlt : (i 1).val / 256 * 16 + (i 0).val / 512 < cfg0.N := (by omega : (i 1).val / 256 * 16 + (i 0).val / 512 < 128).trans_eq N_0.symm
  refine ⟨⟨(i 1).val / 256 * 16 + (i 0).val / 512, hlt⟩, flush0_9 _, ?_⟩
  have hi := index0_9 ⟨(i 1).val / 256 * 16 + (i 0).val / 512, hlt⟩
  generalize hT : (⟨(i 1).val / 256 * 16 + (i 0).val / 512, hlt⟩ : Fin cfg0.N) = T at hi ⊢
  have hv : T.val = (i 1).val / 256 * 16 + (i 0).val / 512 := by rw [← hT]
  show i ∈ ((View.whole main_v60_1).slice (win0_9.rect T)).set
  rw [View.set_slice_whole, Rect.mem_set_unit]
  intro a
  match a with
  | ⟨0, _⟩ => show win0_9.index T 0 * 512 ≤ (i 0).val ∧ (i 0).val < win0_9.index T 0 * 512 + 512; rw [hi.1]; omega
  | ⟨1, _⟩ => show win0_9.index T 1 * 256 ≤ (i 1).val ∧ (i 1).val < win0_9.index T 1 * 256 + 256; rw [hi.2]; omega
/-- What the value gradient's array ends holding. -/
def resDv (c : Dev nD) : S8192x2048.Idx → EReal := fun i => dvAt m c ((i 1).val / 256 * 16 + (i 0).val / 512) (ix2 ⟨(i 0).val % 512, Nat.mod_lt _ (by decide)⟩ ⟨(i 1).val % 256, Nat.mod_lt _ (by decide)⟩)
theorem resDv_at (c : Dev nD) (t : Fin cfg0.N) (z : S512x256.Idx) (i : S8192x2048.Idx) (h0 : (i 0).val = (t.val % 16) * 512 + (z 0).val) (h1 : (i 1).val = (t.val / 16) * 256 + (z 1).val)  : dvAt m c t.val z = resDv m c i := by
  have z0 : (z 0).val < 512 := (z 0).isLt
  have z1 : (z 1).val < 256 := (z 1).isLt
  have ht := t_lt t
  unfold resDv
  rw [show (i 1).val / 256 * 16 + (i 0).val / 512 = t.val by rw [h1, h0]; omega]
  congr 1
  funext a
  apply Fin.ext
  match a with
  | ⟨0, _⟩ => show (z 0).val = (i 0).val % 512; omega
  | ⟨1, _⟩ => show (z 1).val = (i 1).val % 256; omega
theorem flushed_10 (c : Dev nD) (t : Fin cfg0.N) (hf : (cfg0.win 10).flush t = true) :
    (dats m 0 c).flushed 10 t = ((cfg0.win 10).blk t).view.read (Elt Ideal) (resDv m c) := by
  have hi := index0_10 t
  show (cfg0.win 10).cut (grid0.coords t) ((dats m 0 c).after 10 t) = _
  rw [after0_10]
  funext z
  rw [View.read_apply]
  exact resDv_at m c t z _ (by show win0_10.index t 0 * 512 + 1 * (z 0).val = _; rw [hi.1]; omega) (by show win0_10.index t 1 * 256 + 1 * (z 1).val = _; rw [hi.2]; omega)
theorem final_10 (c : Dev nD) : (dats m 0 c).arrAt 10 cfg0.N = resDv m c := by
  refine (dats m 0 c).arrAt_eq_of_cover 10 (resDv m c) (flushed_10 m c) fun i => ?_
  have b0 : (i 0).val < 8192 := (i 0).isLt
  have b1 : (i 1).val < 2048 := (i 1).isLt
  have hlt : (i 1).val / 256 * 16 + (i 0).val / 512 < cfg0.N := (by omega : (i 1).val / 256 * 16 + (i 0).val / 512 < 128).trans_eq N_0.symm
  refine ⟨⟨(i 1).val / 256 * 16 + (i 0).val / 512, hlt⟩, flush0_10 _, ?_⟩
  have hi := index0_10 ⟨(i 1).val / 256 * 16 + (i 0).val / 512, hlt⟩
  generalize hT : (⟨(i 1).val / 256 * 16 + (i 0).val / 512, hlt⟩ : Fin cfg0.N) = T at hi ⊢
  have hv : T.val = (i 1).val / 256 * 16 + (i 0).val / 512 := by rw [← hT]
  show i ∈ ((View.whole main_v60_2).slice (win0_10.rect T)).set
  rw [View.set_slice_whole, Rect.mem_set_unit]
  intro a
  match a with
  | ⟨0, _⟩ => show win0_10.index T 0 * 512 ≤ (i 0).val ∧ (i 0).val < win0_10.index T 0 * 512 + 512; rw [hi.1]; omega
  | ⟨1, _⟩ => show win0_10.index T 1 * 256 ≤ (i 1).val ∧ (i 1).val < win0_10.index T 1 * 256 + 256; rw [hi.2]; omega
/-- What the gate gradient on the side of the keys's array ends holding. -/
def resDck (c : Dev nD) : S16x8192x1.Idx → EReal := fun i => dcAt m c ((i 0).val / 2 * 16 + (i 1).val / 512) (ix3 ⟨(i 0).val % 2, Nat.mod_lt _ (by decide)⟩ ⟨(i 1).val % 512, Nat.mod_lt _ (by decide)⟩ 0)
theorem resDck_at (c : Dev nD) (t : Fin cfg0.N) (z : S2x512x1.Idx) (i : S16x8192x1.Idx) (h0 : (i 0).val = (t.val / 16) * 2 + (z 0).val) (h1 : (i 1).val = (t.val % 16) * 512 + (z 1).val) (h2 : (i 2).val = (z 2).val)  : dcAt m c t.val z = resDck m c i := by
  have z0 : (z 0).val < 2 := (z 0).isLt
  have z1 : (z 1).val < 512 := (z 1).isLt
  have z2 : (z 2).val < 1 := (z 2).isLt
  have ht := t_lt t
  unfold resDck
  rw [show (i 0).val / 2 * 16 + (i 1).val / 512 = t.val by rw [h0, h1]; omega]
  congr 1
  funext a
  apply Fin.ext
  match a with
  | ⟨0, _⟩ => show (z 0).val = (i 0).val % 2; omega
  | ⟨1, _⟩ => show (z 1).val = (i 1).val % 512; omega
  | ⟨2, _⟩ => show (z 2).val = 0; omega
theorem flushed_11 (c : Dev nD) (t : Fin cfg0.N) (hf : (cfg0.win 11).flush t = true) :
    (dats m 0 c).flushed 11 t = ((cfg0.win 11).blk t).view.read (Elt Ideal) (resDck m c) := by
  have hi := index0_11 t
  show (cfg0.win 11).cut (grid0.coords t) ((dats m 0 c).after 11 t) = _
  rw [after0_11]
  funext z
  rw [View.read_apply]
  exact resDck_at m c t z _ (by show win0_11.index t 0 * 2 + 1 * (z 0).val = _; rw [hi.1]; omega) (by show win0_11.index t 1 * 512 + 1 * (z 1).val = _; rw [hi.2.1]; omega) (by show win0_11.index t 2 * 1 + 1 * (z 2).val = _; rw [hi.2.2]; omega)
theorem final_11 (c : Dev nD) : (dats m 0 c).arrAt 11 cfg0.N = resDck m c := by
  refine (dats m 0 c).arrAt_eq_of_cover 11 (resDck m c) (flushed_11 m c) fun i => ?_
  have b0 : (i 0).val < 16 := (i 0).isLt
  have b1 : (i 1).val < 8192 := (i 1).isLt
  have b2 : (i 2).val < 1 := (i 2).isLt
  have hlt : (i 0).val / 2 * 16 + (i 1).val / 512 < cfg0.N := (by omega : (i 0).val / 2 * 16 + (i 1).val / 512 < 128).trans_eq N_0.symm
  refine ⟨⟨(i 0).val / 2 * 16 + (i 1).val / 512, hlt⟩, flush0_11 _, ?_⟩
  have hi := index0_11 ⟨(i 0).val / 2 * 16 + (i 1).val / 512, hlt⟩
  generalize hT : (⟨(i 0).val / 2 * 16 + (i 1).val / 512, hlt⟩ : Fin cfg0.N) = T at hi ⊢
  have hv : T.val = (i 0).val / 2 * 16 + (i 1).val / 512 := by rw [← hT]
  show i ∈ ((View.whole main_v60_3).slice (win0_11.rect T)).set
  rw [View.set_slice_whole, Rect.mem_set_unit]
  intro a
  match a with
  | ⟨0, _⟩ => show win0_11.index T 0 * 2 ≤ (i 0).val ∧ (i 0).val < win0_11.index T 0 * 2 + 2; rw [hi.1]; omega
  | ⟨1, _⟩ => show win0_11.index T 1 * 512 ≤ (i 1).val ∧ (i 1).val < win0_11.index T 1 * 512 + 512; rw [hi.2.1]; omega
  | ⟨2, _⟩ => show win0_11.index T 2 * 1 ≤ (i 2).val ∧ (i 2).val < win0_11.index T 2 * 1 + 1; rw [hi.2.2]; omega
/-- What the gate gradient on the side of the queries's array ends holding. -/
def resDcq (c : Dev nD) : S16x1x8192.Idx → EReal := fun i => dcqAt m c ((i 0).val / 2 * 16 + 15) (ix3 ⟨(i 0).val % 2, Nat.mod_lt _ (by decide)⟩ 0 (i 2))
theorem resDcq_at (c : Dev nD) (t : Fin cfg0.N) (z : S2x1x8192.Idx) (i : S16x1x8192.Idx) (h0 : (i 0).val = (t.val / 16) * 2 + (z 0).val) (h1 : (i 1).val = (z 1).val) (h2 : (i 2).val = (z 2).val) (hf : t.val % 16 = 15) : dcqAt m c t.val z = resDcq m c i := by
  have z0 : (z 0).val < 2 := (z 0).isLt
  have z1 : (z 1).val < 1 := (z 1).isLt
  have z2 : (z 2).val < 8192 := (z 2).isLt
  have ht := t_lt t
  unfold resDcq
  rw [show (i 0).val / 2 * 16 + 15 = t.val by rw [h0]; omega]
  congr 1
  funext a
  apply Fin.ext
  match a with
  | ⟨0, _⟩ => show (z 0).val = (i 0).val % 2; omega
  | ⟨1, _⟩ => show (z 1).val = 0; omega
  | ⟨2, _⟩ => show (z 2).val = (i 2).val; omega
theorem flushed_12 (c : Dev nD) (t : Fin cfg0.N) (hf : (cfg0.win 12).flush t = true) :
    (dats m 0 c).flushed 12 t = ((cfg0.win 12).blk t).view.read (Elt Ideal) (resDcq m c) := by
  have hi := index0_12 t
  show (cfg0.win 12).cut (grid0.coords t) ((dats m 0 c).after 12 t) = _
  rw [after0_12]
  funext z
  rw [View.read_apply]
  exact resDcq_at m c t z _ (by show win0_12.index t 0 * 2 + 1 * (z 0).val = _; rw [hi.1]; omega) (by show win0_12.index t 1 * 1 + 1 * (z 1).val = _; rw [hi.2.1]; omega) (by show win0_12.index t 2 * 8192 + 1 * (z 2).val = _; rw [hi.2.2]; omega) ((flush0_12 t).mp hf)
theorem final_12 (c : Dev nD) : (dats m 0 c).arrAt 12 cfg0.N = resDcq m c := by
  refine (dats m 0 c).arrAt_eq_of_cover 12 (resDcq m c) (flushed_12 m c) fun i => ?_
  have b0 : (i 0).val < 16 := (i 0).isLt
  have b1 : (i 1).val < 1 := (i 1).isLt
  have b2 : (i 2).val < 8192 := (i 2).isLt
  have hlt : (i 0).val / 2 * 16 + 15 < cfg0.N := (by omega : (i 0).val / 2 * 16 + 15 < 128).trans_eq N_0.symm
  refine ⟨⟨(i 0).val / 2 * 16 + 15, hlt⟩, (flush0_12 _).mpr (by show ((i 0).val / 2 * 16 + 15) % 16 = 15; omega), ?_⟩
  have hi := index0_12 ⟨(i 0).val / 2 * 16 + 15, hlt⟩
  generalize hT : (⟨(i 0).val / 2 * 16 + 15, hlt⟩ : Fin cfg0.N) = T at hi ⊢
  have hv : T.val = (i 0).val / 2 * 16 + 15 := by rw [← hT]
  show i ∈ ((View.whole main_v60_4).slice (win0_12.rect T)).set
  rw [View.set_slice_whole, Rect.mem_set_unit]
  intro a
  match a with
  | ⟨0, _⟩ => show win0_12.index T 0 * 2 ≤ (i 0).val ∧ (i 0).val < win0_12.index T 0 * 2 + 2; rw [hi.1]; omega
  | ⟨1, _⟩ => show win0_12.index T 1 * 1 ≤ (i 1).val ∧ (i 1).val < win0_12.index T 1 * 1 + 1; rw [hi.2.1]; omega
  | ⟨2, _⟩ => show win0_12.index T 2 * 8192 ≤ (i 2).val ∧ (i 2).val < win0_12.index T 2 * 8192 + 8192; rw [hi.2.2]; omega

/-- The run of the idealised kernel: its result arrays hold the sums above, the arguments are unchanged. -/
theorem run_values : θ_run defs (onTc (τ := τ) (main (F := Ideal))) ⟨m, fun _ => 0, ρ⟩ fun r => ∀ c : Dev nD,
      r.2.mem ((c : Thread nD τ).loc main_v60_0) = resDq m c
      ∧ r.2.mem ((c : Thread nD τ).loc main_v60_1) = resDk m c
      ∧ r.2.mem ((c : Thread nD τ).loc main_v60_2) = resDv m c
      ∧ r.2.mem ((c : Thread nD τ).loc main_v60_3) = resDck m c
      ∧ r.2.mem ((c : Thread nD τ).loc main_v60_4) = resDcq m c :=
  (θ_run defs _ _).mono (fun _ h c => ⟨((h.1 c).1 8).trans (final_8 m c), ((h.1 c).1 9).trans (final_9 m c),
    ((h.1 c).1 10).trans (final_10 m c), ((h.1 c).1 11).trans (final_11 m c), ((h.1 c).1 12).trans (final_12 m c)⟩)
    (run_main_quiescent m ρ)

end Cert.KernelIdeal.Val
-- ==== Proof.HostVal.lean ====
/-
  What the idealised kernel's host operations hand to its windows, over the real numbers.
-/
module

public import proofs.«01_k».proof.Proof.RefVal
public import proofs.«01_k».proof.Proof.Arr

@[expose] public section

set_option maxRecDepth 16384
noncomputable section

namespace Cert.KernelIdeal.Val
open Cert.KernelIdeal.Gen
open Idealize.ShloMosaic Idealize.ShloMosaic.TcCoe Idealize.ShloMosaic.Tactic
open Cert.ReferenceIdeal.Read Cert.Attn

variable (m : (ℓ : Loc nD τ sig) → Buf (Elt Ideal) ℓ)

/-- The folding factor as the host computes it. -/
def foldH : S_.Idx → EReal :=
  Host.sqrt (F := Ideal) (φ := .f32) (Host.divf (Host.divf (constant (F := Ideal) S_ .f32 0x3F800000#32) (Host.sqrt (constant S_ .f32 0x43000000#32)))
    (Host.log (constant S_ .f32 0x40000000#32)))
/-- An operand times the folding factor. -/
def foldedH (x : S8192x2048.Idx → EReal) : S8192x2048.Idx → EReal :=
  truncf (F := Ideal) .bf16 (mulf (F := Ideal) (φ := .f32) x (broadcastInDim S8192x2048 ![] bcast_S_S8192x2048 foldH)) bitsLt_bf16_f32
/-- The exponentials of the masked logits less a shift per row. -/
def expH (x0 x1 : S8192x2048.Idx → EReal) (x3 y : S16x8192.Idx → EReal) : S16x8192x8192.Idx → EReal :=
  Host.exp (F := Ideal) (φ := .f32) (subf (val_main_v20_0 (F := Ideal) x0 x1 x3)
    (broadcastInDim S16x8192x8192 ![0, 1, 2] bcast_S16x8192x1_S16x8192x8192_0_1_2 (broadcastInDim S16x8192x1 ![0, 1] bcast_S16x8192_S16x8192x1_0_1 y)))
/-- Their sums along a row. -/
def sumH (x0 x1 : S8192x2048.Idx → EReal) (x3 y : S16x8192.Idx → EReal) : S16x8192.Idx → EReal :=
  Host.reduceAdd (F := Ideal) (φ := .f32) (expH x0 x1 x3 y) (constant S_ .f32 0x00000000#32) reducesTo_S16x8192x8192_S16x8192_d2 h_S_
/-- The attention's output. -/
def outH (x0 x1 x2 : S8192x2048.Idx → EReal) (x3 y : S16x8192.Idx → EReal) : S8192x16x128.Idx → EReal :=
  transpose S8192x16x128 [2, 0, 1] (Host.dotGeneral (F := Ideal) (φ₁ := .f32) (φ₂ := .f32) dot_S8192x16x128_S16x8192x8192_S16x128x8192_0_2_2_1_1_0 none (val_main_v2 (F := Ideal) x2)
    (Host.divf (F := Ideal) (φ := .f32) (expH x0 x1 x3 y) (broadcastInDim S16x8192x8192 ![0, 1, 2] bcast_S16x8192x1_S16x8192x8192_0_1_2
      (broadcastInDim S16x8192x1 ![0, 1] bcast_S16x8192_S16x8192x1_0_1 (sumH x0 x1 x3 y))))) transposes_S16x128x8192_S8192x16x128_2_0_1
/-- The sums along a head of the output times its gradient. -/
def deltaH (o : S8192x16x128.Idx → EReal) (x4 : S8192x2048.Idx → EReal) : S8192x16.Idx → EReal :=
  Host.reduceAdd (F := Ideal) (φ := .f32) (mulf (F := Ideal) (φ := .f32) o (val_main_v52 (F := Ideal) x4)) (constant S_ .f32 0x00000000#32) reducesTo_S8192x16x128_S8192x16_d2 h_S_

theorem V_v7 (c : Dev nD) : V m c main_v7 = foldedH (m ((c : Thread nD τ).loc main_arg0)) := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_v15 (c : Dev nD) : V m c main_v15 = foldedH (m ((c : Thread nD τ).loc main_arg1)) := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_v16 (c : Dev nD) : V m c main_v16 = truncf (F := Ideal) (φ := .f32) .bf16 (m ((c : Thread nD τ).loc main_arg2)) bitsLt_bf16_f32 := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

theorem V_v17 (c : Dev nD) : V m c main_v17 = truncf (F := Ideal) (φ := .f32) .bf16 (m ((c : Thread nD τ).loc main_arg4)) bitsLt_bf16_f32 := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

theorem V_v55 (c : Dev nD) : V m c main_v55 = val_main_v9 (F := Ideal) (m ((c : Thread nD τ).loc main_arg3)) := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_v59 (c : Dev nD) : V m c main_v59 = val_main_v8 (F := Ideal) (m ((c : Thread nD τ).loc main_arg3)) := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_v56 (c : Dev nD) : V m c main_v56 = val_main_v9 (F := Ideal) (addf (F := Ideal) (φ := .f32) (val_main_v21 (F := Ideal) (m ((c : Thread nD τ).loc main_arg0)) (m ((c : Thread nD τ).loc main_arg1)) (m ((c : Thread nD τ).loc main_arg3))) (Host.log (F := Ideal) (φ := .f32) (sumH (m ((c : Thread nD τ).loc main_arg0)) (m ((c : Thread nD τ).loc main_arg1)) (m ((c : Thread nD τ).loc main_arg3)) (val_main_v21 (F := Ideal) (m ((c : Thread nD τ).loc main_arg0)) (m ((c : Thread nD τ).loc main_arg1)) (m ((c : Thread nD τ).loc main_arg3)))))) := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_v58 (c : Dev nD) : V m c main_v58 = val_main_v9 (F := Ideal) (transpose S16x8192 [1, 0] (deltaH (outH (m ((c : Thread nD τ).loc main_arg0)) (m ((c : Thread nD τ).loc main_arg1)) (m ((c : Thread nD τ).loc main_arg2)) (m ((c : Thread nD τ).loc main_arg3)) (val_main_v21 (F := Ideal) (m ((c : Thread nD τ).loc main_arg0)) (m ((c : Thread nD τ).loc main_arg1)) (m ((c : Thread nD τ).loc main_arg3)))) (m ((c : Thread nD τ).loc main_arg4))) transposes_S8192x16_S16x8192_1_0) := by
  show StableHlo.after [hostOps0, hostOps0_1, hostOps0_2].flatten (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

section
variable (Q K W G : Fin 8192 → Fin 2048 → ℝ) (C : Fin 16 → Fin 8192 → ℝ)

theorem foldH_eq (i : S_.Idx) : foldH i = ((Attn.fold : ℝ) : EReal) := by
  show Ideal.sqrt (Ideal.div (Ideal.div (Ideal.ofBits .f32 0x3F800000#32) (Ideal.sqrt (Ideal.ofBits .f32 0x43000000#32))) (Ideal.log (Ideal.ofBits .f32 0x40000000#32))) = _
  have hs := sc_pos
  have hl := log_two_pos
  rw [ofBits_128, ofBits_two, Ideal.ofBits_one_f32, sqrt_real _ (by norm_num), log_real _ (by norm_num), ← EReal.coe_one,
    div_real _ _ sqrt_pos'.ne', div_real _ _ hl.ne']
  rw [show (1 * (1 / Real.sqrt 128) * (1 / Real.log 2)) = sc * (1 / Real.log 2) by unfold sc; rw [one_mul, one_div]]
  rw [sqrt_real _ (mul_nonneg hs.le (one_div_pos.mpr hl).le)]
  rfl

theorem foldedH_mat (A : Fin 8192 → Fin 2048 → ℝ) : foldedH (mat A) = mat fun r x => A r x * Attn.fold := by
  funext i
  show mat A i * broadcastInDim S8192x2048 ![] bcast_S_S8192x2048 foldH i = _
  rw [broadcastInDim_apply _ bcast_S_S8192x2048 foldH i (fun a => a.elim0) (fun a => a.elim0), foldH_eq]
  exact (EReal.coe_mul _ _).symm

theorem sumH_eq (x0 x1 : S8192x2048.Idx → EReal) (x3 : S16x8192.Idx → EReal) : sumH x0 x1 x3 (val_main_v28 (F := Ideal) x0 x1 x3) = val_main_v42 (F := Ideal) x0 x1 x3 := rfl
theorem outH_eq (x0 x1 x2 : S8192x2048.Idx → EReal) (x3 : S16x8192.Idx → EReal) : outH x0 x1 x2 x3 (val_main_v28 (F := Ideal) x0 x1 x3) = val_main_v50 (F := Ideal) x0 x1 x2 x3 := rfl

theorem add_log_at (x y : S16x8192.Idx → EReal) (i : S16x8192.Idx) : addf (F := Ideal) (φ := .f32) x (Host.log (F := Ideal) (φ := .f32) y) i = x i + Ideal.log (y i) := rfl

/-- The log-sum-exp of a row. -/
theorem lse_eq (h : Fin 16) (r : Fin 8192) :
    addf (F := Ideal) (φ := .f32) (val_main_v21 (F := Ideal) (mat Q) (mat K) (gate C)) (Host.log (F := Ideal) (φ := .f32) (sumH (mat Q) (mat K) (gate C) (val_main_v21 (F := Ideal) (mat Q) (mat K) (gate C)))) (ix2 h r)
      = ((Mx Q K C h r + Real.log (L Q K C (Mx Q K C) h r) : ℝ) : EReal) := by
  have e : sumH (mat Q) (mat K) (gate C) (val_main_v21 (F := Ideal) (mat Q) (mat K) (gate C)) = val_main_v42 (F := Ideal) (mat Q) (mat K) (gate C) := by
    rw [← r28]; exact sumH_eq _ _ _
  rw [e, add_log_at, r21, r42, log_real _ (L_pos Q K C (Mx Q K C) h r), EReal.coe_add]

theorem red128 : S8192x16x128.Reduces [2] S8192x16 := by decide

theorem deltaH_at (o : S8192x16x128.Idx → EReal) (x4 : S8192x2048.Idx → EReal) (r : Fin 8192) (h : Fin 16) :
    deltaH o x4 (ix2 r h) = ∑ e : Fin 128, o (ix3 r h e) * val_main_v52 (F := Ideal) x4 (ix3 r h e) := by
  show Ideal.hostReduceAdd reducesTo_S8192x16x128_S8192x16_d2 (fun i => o i * val_main_v52 (F := Ideal) x4 i) (Ideal.ofBits .f32 0x00000000#32) (ix2 r h) = _
  rw [Ideal.hostReduceAdd_single reducesTo_S8192x16x128_S8192x16_d2 red128, Ideal.ofBits_zero_f32, zero_add]
  exact Finset.sum_congr rfl fun e _ => by rw [show red128.lift (ix2 r h) e = ix3 r h e from e3 (red128.lift (ix2 r h) e) r h e rfl rfl rfl]; rfl

/-- The sum along a head of the output times its gradient. -/
theorem delta_at (h : Fin 16) (r : Fin 8192) :
    deltaH (outH (mat Q) (mat K) (mat W) (gate C) (val_main_v21 (F := Ideal) (mat Q) (mat K) (gate C))) (mat G) (ix2 r h)
      = ((∑ b, Pr Q K C (Mx Q K C) h r b * dp W G h r b : ℝ) : EReal) := by
  have e : outH (mat Q) (mat K) (mat W) (gate C) (val_main_v21 (F := Ideal) (mat Q) (mat K) (gate C)) = val_main_v50 (F := Ideal) (mat Q) (mat K) (mat W) (gate C) := by
    rw [← r28]; exact outH_eq _ _ _ _
  rw [e, deltaH_at, ← delta_eq, ← coe_sum]
  refine Finset.sum_congr rfl fun b _ => ?_
  rw [r50, r52, EReal.coe_mul]

theorem v9_at (x : S16x8192.Idx → EReal) (h : Fin 16) (z : Fin 1) (r : Fin 8192) : val_main_v9 (F := Ideal) x (ix3 h z r) = x (ix2 h r) := by
  rw [val_main_v9_apply]; exact congrArg x (e2 _ h r rfl rfl)
theorem v8_at (x : S16x8192.Idx → EReal) (h : Fin 16) (r : Fin 8192) (z : Fin 1) : val_main_v8 (F := Ideal) x (ix3 h r z) = x (ix2 h r) := by
  rw [val_main_v8_apply]; exact congrArg x (e2 _ h r rfl rfl)
theorem tr_at (x : S8192x16.Idx → EReal) (h : Fin 16) (r : Fin 8192) : transpose S16x8192 [1, 0] x transposes_S8192x16_S16x8192_1_0 (ix2 h r) = x (ix2 r h) :=
  transpose_apply [1, 0] x transposes_S8192x16_S16x8192_1_0 (ix2 h r) (ix2 r h) (fun b => match b with | ⟨0, _⟩ => rfl | ⟨1, _⟩ => rfl)

/-- The arguments hold real numbers. -/
structure Args (c : Dev nD) : Prop where
  a0 : m ((c : Thread nD τ).loc main_arg0) = mat Q
  a1 : m ((c : Thread nD τ).loc main_arg1) = mat K
  a2 : m ((c : Thread nD τ).loc main_arg2) = mat W
  a3 : m ((c : Thread nD τ).loc main_arg3) = gate C
  a4 : m ((c : Thread nD τ).loc main_arg4) = mat G

variable {m Q K W G C} {c : Dev nD} (H : Args m Q K W G C c)
include H
theorem W_v7 : V m c main_v7 = mat fun r x => Q r x * Attn.fold := by rw [V_v7, H.a0]; exact foldedH_mat Q
theorem W_v15 : V m c main_v15 = mat fun r x => K r x * Attn.fold := by rw [V_v15, H.a1]; exact foldedH_mat K
theorem W_v16 : V m c main_v16 = mat W := by rw [V_v16, H.a2]; rfl
theorem W_v17 : V m c main_v17 = mat G := by rw [V_v17, H.a4]; rfl
theorem W_v55 (h : Fin 16) (z : Fin 1) (r : Fin 8192) : V m c main_v55 (ix3 h z r) = ((C h r : ℝ) : EReal) := by
  rw [V_v55, H.a3]; exact v9_at (gate C) h z r
theorem W_v59 (h : Fin 16) (r : Fin 8192) (z : Fin 1) : V m c main_v59 (ix3 h r z) = ((C h r : ℝ) : EReal) := by
  rw [V_v59, H.a3]; exact v8_at (gate C) h r z
theorem W_v56 (h : Fin 16) (z : Fin 1) (r : Fin 8192) :
    V m c main_v56 (ix3 h z r) = ((Mx Q K C h r + Real.log (L Q K C (Mx Q K C) h r) : ℝ) : EReal) := by
  rw [V_v56, H.a0, H.a1, H.a3]; exact (v9_at _ h z r).trans (lse_eq Q K C h r)
theorem W_v58 (h : Fin 16) (z : Fin 1) (r : Fin 8192) :
    V m c main_v58 (ix3 h z r) = ((∑ b, Pr Q K C (Mx Q K C) h r b * dp W G h r b : ℝ) : EReal) := by
  rw [V_v58, H.a0, H.a1, H.a2, H.a3, H.a4]; exact ((v9_at _ h z r).trans (tr_at _ h r)).trans (delta_at Q K W G C h r)
end

end Cert.KernelIdeal.Val
-- ==== Proof.KerVal.lean ====
/-
  The idealised kernel's five results over the real numbers: the gradients of the attention.
-/
module

public import proofs.«01_k».proof.Proof.HostVal

@[expose] public section

set_option maxRecDepth 16384
noncomputable section

namespace Cert.KernelIdeal.Val
open Cert.KernelIdeal.Gen
open Idealize.ShloMosaic Idealize.ShloMosaic.TcCoe
open Cert.Attn

/-- Column `x` of pair `g` of heads. -/
def cx (g : Fin 8) (x : Fin 256) : Fin 2048 := ⟨256 * g.val + x.val, by omega⟩
/-- Head `h` of pair `g`. -/
def hh (g : Fin 8) (h : Fin 2) : Fin 16 := ⟨2 * g.val + h.val, by omega⟩

theorem cx_col (g : Fin 8) (h : Fin 2) (e : Fin 128) : cx g (col h e) = ch (hh g h) e := by
  apply Fin.ext; simp only [cx, col, ch, hh]; omega
theorem hd_cx (g : Fin 8) (x : Fin 256) : hd (cx g x) = hh g (half x) := by
  apply Fin.ext; simp only [cx, hd, half, hh]; omega

section
variable (Q K W G : Fin 8192 → Fin 2048 → ℝ) (C M : Fin 16 → Fin 8192 → ℝ)

/-- The block `B` holds pair `g` of heads and block `j` of keys of these arrays. -/
structure IsBlk (B : Blk) (g : Fin 8) (j : ℕ) : Prop where
  q : ∀ r x, B.q (ix2 r x) = ((Q r (cx g x) * Attn.fold : ℝ) : EReal)
  d : ∀ r x, B.d (ix2 r x) = ((G r (cx g x) : ℝ) : EReal)
  cr : ∀ h r, B.cr (ix3 h 0 r) = ((C (hh g h) r : ℝ) : EReal)
  lse : ∀ h r, B.lse (ix3 h 0 r) = ((M (hh g h) r + Real.log (L Q K C M (hh g h) r) : ℝ) : EReal)
  dl : ∀ h r, B.dl (ix3 h 0 r) = ((∑ b, Pr Q K C M (hh g h) r b * dp W G (hh g h) r b : ℝ) : EReal)
  k : ∀ a x, B.k (ix2 a x) = ((K (row j a) (cx g x) * Attn.fold : ℝ) : EReal)
  v : ∀ a x, B.v (ix2 a x) = ((W (row j a) (cx g x) : ℝ) : EReal)
  ck : ∀ h a, B.ck (ix3 h a 0) = ((C (hh g h) (row j a) : ℝ) : EReal)

theorem isBlk_mk (g : Fin 8) (j : ℕ) (q d : S8192x256.Idx → EReal) (cr lse dl : S2x1x8192.Idx → EReal) (k v : S512x256.Idx → EReal) (ck : S2x512x1.Idx → EReal)
    (hq : ∀ r x, q (ix2 r x) = ((Q r (cx g x) * Attn.fold : ℝ) : EReal))
    (hd : ∀ r x, d (ix2 r x) = ((G r (cx g x) : ℝ) : EReal))
    (hcr : ∀ h r, cr (ix3 h 0 r) = ((C (hh g h) r : ℝ) : EReal))
    (hlse : ∀ h r, lse (ix3 h 0 r) = ((M (hh g h) r + Real.log (L Q K C M (hh g h) r) : ℝ) : EReal))
    (hdl : ∀ h r, dl (ix3 h 0 r) = ((∑ b, Pr Q K C M (hh g h) r b * dp W G (hh g h) r b : ℝ) : EReal))
    (hk : ∀ a x, k (ix2 a x) = ((K (row j a) (cx g x) * Attn.fold : ℝ) : EReal))
    (hv : ∀ a x, v (ix2 a x) = ((W (row j a) (cx g x) : ℝ) : EReal))
    (hck : ∀ h a, ck (ix3 h a 0) = ((C (hh g h) (row j a) : ℝ) : EReal)) :
    IsBlk Q K W G C M ⟨q, d, cr, lse, dl, k, v, ck⟩ g j := ⟨hq, hd, hcr, hlse, hdl, hk, hv, hck⟩

variable {Q K W G C M} {B : Blk} {g : Fin 8} {j : ℕ} (H : IsBlk Q K W G C M B g j) (hj : j < 16)
include H

theorem score_real (h : Fin 2) (a : Fin 512) (r : Fin 8192) :
    B.score h a r = ((S Q K C (hh g h) r (row j a) - M (hh g h) r - Real.log (L Q K C M (hh g h) r) : ℝ) : EReal) := by
  unfold Blk.score
  rw [H.cr, H.lse, H.ck, Finset.sum_congr rfl fun e _ => by rw [H.k, H.q, ← EReal.coe_mul, cx_col], coe_sum]
  unfold ln2
  rw [← EReal.coe_mul, ← EReal.coe_sub, ← EReal.coe_sub, ← EReal.coe_add, fold_score]

include hj
theorem P_real (h : Fin 2) (a : Fin 512) (r : Fin 8192) : B.P j h a r = ((Pr Q K C M (hh g h) r (row j a) : ℝ) : EReal) := by
  unfold Blk.P
  have hr := row_val j hj a
  by_cases hc : 512 * j + a.val ≤ r.val
  · rw [if_pos hc, score_real H, Ideal.exp_coe, exp_score _ _ _ _ _ _ _ (by omega)]
  · rw [if_neg hc, Pr_masked _ _ _ _ _ _ _ (by omega)]; rfl

theorem D_real (h : Fin 2) (a : Fin 512) (r : Fin 8192) : B.D j h a r = ((ds Q K W G C M (hh g h) r (row j a) : ℝ) : EReal) := by
  unfold Blk.D
  rw [P_real H hj, H.dl, Finset.sum_congr rfl fun e _ => by rw [H.v, H.d, ← EReal.coe_mul, cx_col], coe_sum, ← EReal.coe_sub, ← EReal.coe_mul]
  unfold ds
  refine congrArg (fun z : ℝ => ((Pr Q K C M (hh g h) r (row j a) * (z - _) : ℝ) : EReal)) ?_
  exact Finset.sum_congr rfl fun e _ => mul_comm _ _

theorem tdv_real (r : ℕ) (a : Fin 512) (x : Fin 256) :
    B.tdv j r (ix2 a x) = ((∑ b, G (row r b) (cx g x) * Pr Q K C M (hd (cx g x)) (row r b) (row j a) : ℝ) : EReal) := by
  rw [hd_cx, ← coe_sum]
  refine Finset.sum_congr rfl fun b _ => ?_
  show B.P j (half x) a (row r b) * B.d (ix2 (row r b) x) = _
  rw [P_real H hj, H.d, ← EReal.coe_mul, mul_comm]

theorem tdk_real (r : ℕ) (a : Fin 512) (x : Fin 256) :
    B.tdk j r (ix2 a x) = ((∑ b, ds Q K W G C M (hd (cx g x)) (row r b) (row j a) * (Q (row r b) (cx g x) * Attn.fold) : ℝ) : EReal) := by
  rw [hd_cx, ← coe_sum]
  refine Finset.sum_congr rfl fun b _ => ?_
  show B.D j (half x) a (row r b) * B.q (ix2 (row r b) x) = _
  rw [D_real H hj, H.q, ← EReal.coe_mul]

theorem tdc_real (r : ℕ) (h : Fin 2) (a : Fin 512) :
    B.tdc j r (ix3 h a 0) = ((∑ b, ds Q K W G C M (hh g h) (row r b) (row j a) : ℝ) : EReal) := by
  rw [← coe_sum]
  exact Finset.sum_congr rfl fun b _ => D_real H hj h a (row r b)

theorem cdq_real (r : Fin 8192) (x : Fin 256) :
    B.cdq j (ix2 r x) = ((∑ a, ds Q K W G C M (hd (cx g x)) r (row j a) * sc * K (row j a) (cx g x) : ℝ) : EReal) := by
  show (∑ a, B.D j (half x) a r * B.k (ix2 a x)) * unfoldC = _
  rw [Finset.sum_congr rfl fun a _ => by rw [D_real H hj, H.k, ← EReal.coe_mul], coe_sum]
  show _ * ((unf : ℝ) : EReal) = _
  rw [← EReal.coe_mul, hd_cx, Finset.sum_mul]
  refine congrArg (fun z : ℝ => (z : EReal)) (Finset.sum_congr rfl fun a _ => ?_)
  rw [← fold_unf]; ring

theorem ccq_real (h : Fin 2) (r : Fin 8192) :
    B.ccq j (ix3 h 0 r) = ((∑ a, ds Q K W G C M (hh g h) r (row j a) : ℝ) : EReal) := by
  rw [← coe_sum]
  exact Finset.sum_congr rfl fun a _ => D_real H hj h a r

theorem a16_real (a : Fin 512) (x : Fin 256) : B.a16 j 16 (ix2 a x) = ((gv Q K G C M (row j a) (cx g x) : ℝ) : EReal) := by
  show (∑ r ∈ Finset.range 16, B.tdv j r (ix2 a x)) = _
  rw [Finset.sum_congr rfl fun r _ => tdv_real H hj r a x, coe_sum]
  exact congrArg _ (sum_blocks (fun r => G r (cx g x) * Pr Q K C M (hd (cx g x)) r (row j a)) row row_val)

theorem a15_real (a : Fin 512) (x : Fin 256) : B.a15 j 16 (ix2 a x) * unfoldC = ((gk Q K W G C M (row j a) (cx g x) : ℝ) : EReal) := by
  show (∑ r ∈ Finset.range 16, B.tdk j r (ix2 a x)) * ((unf : ℝ) : EReal) = _
  rw [Finset.sum_congr rfl fun r _ => tdk_real H hj r a x, coe_sum,
    sum_blocks (fun r => ds Q K W G C M (hd (cx g x)) r (row j a) * (Q r (cx g x) * Attn.fold)) row row_val, ← EReal.coe_mul, Finset.sum_mul]
  refine congrArg (fun z : ℝ => (z : EReal)) (Finset.sum_congr rfl fun r _ => ?_)
  rw [← fold_unf]; ring

theorem a17_real (h : Fin 2) (a : Fin 512) : 0 - B.a17 j 16 (ix3 h a 0) = ((gck Q K W G C M (hh g h) (row j a) : ℝ) : EReal) := by
  show 0 - (∑ r ∈ Finset.range 16, B.tdc j r (ix3 h a 0)) = _
  rw [Finset.sum_congr rfl fun r _ => tdc_real H hj r h a, coe_sum,
    sum_blocks (fun r => ds Q K W G C M (hh g h) r (row j a)) row row_val, ← EReal.coe_zero, ← EReal.coe_sub, zero_sub]
  unfold gck
  rw [Finset.sum_neg_distrib]

end

section
variable {m : (ℓ : Loc nD τ sig) → Buf (Elt Ideal) ℓ} {Q K W G : Fin 8192 → Fin 2048 → ℝ} {C : Fin 16 → Fin 8192 → ℝ} {c : Dev nD}

theorem pt_at (g : Fin 8) (j : ℕ) (hj : j < 16) : (pt (g.val * 16 + j)).val = g.val * 16 + j := by
  show (g.val * 16 + j) % 128 = _
  omega

section
variable (m c) (t : Fin cfg0.N) (g : Fin 8) (j : ℕ) (hj : j < 16) (ht : t.val = g.val * 16 + j)
include hj ht
theorem at_g : t.val / 16 = g.val := by omega
theorem at_j : t.val % 16 = j := by omega
theorem at_cx (x : Fin 256) : (cx g x).val = t.val / 16 * 256 + x.val := by rw [at_g t g j hj ht, mul_comm]; rfl
theorem at_hh (h : Fin 2) : (hh g h).val = t.val / 16 * 2 + h.val := by rw [at_g t g j hj ht, mul_comm]; rfl
theorem at_row (a : Fin 512) : (row j a).val = t.val % 16 * 512 + a.val := by rw [at_j t g j hj ht, mul_comm]; exact row_val j hj a
theorem rd_0 (r : Fin 8192) (x : Fin 256) : (iblk m c 0 t : Vec Ideal S8192x256 _) (ix2 r x) = V m c main_v7 (ix2 r (cx g x)) :=
  iblk_0 m c t (ix2 r x) (ix2 r (cx g x)) rfl (at_cx t g j hj ht x)
theorem rd_1 (r : Fin 8192) (x : Fin 256) : (iblk m c 1 t : Vec Ideal S8192x256 _) (ix2 r x) = V m c main_v17 (ix2 r (cx g x)) :=
  iblk_1 m c t (ix2 r x) (ix2 r (cx g x)) rfl (at_cx t g j hj ht x)
theorem rd_2 (h : Fin 2) (r : Fin 8192) : (iblk m c 2 t : Vec Ideal S2x1x8192 _) (ix3 h 0 r) = V m c main_v55 (ix3 (hh g h) 0 r) :=
  iblk_2 m c t (ix3 h 0 r) (ix3 (hh g h) 0 r) (at_hh t g j hj ht h) rfl rfl
theorem rd_3 (h : Fin 2) (r : Fin 8192) : (iblk m c 3 t : Vec Ideal S2x1x8192 _) (ix3 h 0 r) = V m c main_v56 (ix3 (hh g h) 0 r) :=
  iblk_3 m c t (ix3 h 0 r) (ix3 (hh g h) 0 r) (at_hh t g j hj ht h) rfl rfl
theorem rd_4 (h : Fin 2) (r : Fin 8192) : (iblk m c 4 t : Vec Ideal S2x1x8192 _) (ix3 h 0 r) = V m c main_v58 (ix3 (hh g h) 0 r) :=
  iblk_4 m c t (ix3 h 0 r) (ix3 (hh g h) 0 r) (at_hh t g j hj ht h) rfl rfl
theorem rd_5 (a : Fin 512) (x : Fin 256) : (iblk m c 5 t : Vec Ideal S512x256 _) (ix2 a x) = V m c main_v15 (ix2 (row j a) (cx g x)) :=
  iblk_5 m c t (ix2 a x) (ix2 (row j a) (cx g x)) (at_row t g j hj ht a) (at_cx t g j hj ht x)
theorem rd_6 (a : Fin 512) (x : Fin 256) : (iblk m c 6 t : Vec Ideal S512x256 _) (ix2 a x) = V m c main_v16 (ix2 (row j a) (cx g x)) :=
  iblk_6 m c t (ix2 a x) (ix2 (row j a) (cx g x)) (at_row t g j hj ht a) (at_cx t g j hj ht x)
theorem rd_7 (h : Fin 2) (a : Fin 512) : (iblk m c 7 t : Vec Ideal S2x512x1 _) (ix3 h a 0) = V m c main_v59 (ix3 (hh g h) (row j a) 0) :=
  iblk_7 m c t (ix3 h a 0) (ix3 (hh g h) (row j a) 0) (at_hh t g j hj ht h) (at_row t g j hj ht a) rfl
end

variable (H : Args m Q K W G C c)
include H
section
variable (g : Fin 8) (j : ℕ) (hj : j < 16)
include hj
theorem BK_q (r : Fin 8192) (x : Fin 256) : (iblk m c 0 (pt (g.val * 16 + j)) : Vec Ideal S8192x256 _) (ix2 r x) = ((Q r (cx g x) * Attn.fold : ℝ) : EReal) :=
  (rd_0 m c _ g j hj (pt_at g j hj) r x).trans (congrFun (W_v7 H) _)
theorem BK_d (r : Fin 8192) (x : Fin 256) : (iblk m c 1 (pt (g.val * 16 + j)) : Vec Ideal S8192x256 _) (ix2 r x) = ((G r (cx g x) : ℝ) : EReal) :=
  (rd_1 m c _ g j hj (pt_at g j hj) r x).trans (congrFun (W_v17 H) _)
theorem BK_cr (h : Fin 2) (r : Fin 8192) : (iblk m c 2 (pt (g.val * 16 + j)) : Vec Ideal S2x1x8192 _) (ix3 h 0 r) = ((C (hh g h) r : ℝ) : EReal) :=
  (rd_2 m c _ g j hj (pt_at g j hj) h r).trans (W_v55 H _ _ _)
theorem BK_lse (h : Fin 2) (r : Fin 8192) : (iblk m c 3 (pt (g.val * 16 + j)) : Vec Ideal S2x1x8192 _) (ix3 h 0 r) = ((Mx Q K C (hh g h) r + Real.log (L Q K C (Mx Q K C) (hh g h) r) : ℝ) : EReal) :=
  (rd_3 m c _ g j hj (pt_at g j hj) h r).trans (W_v56 H _ _ _)
theorem BK_dl (h : Fin 2) (r : Fin 8192) : (iblk m c 4 (pt (g.val * 16 + j)) : Vec Ideal S2x1x8192 _) (ix3 h 0 r) = ((∑ b, Pr Q K C (Mx Q K C) (hh g h) r b * dp W G (hh g h) r b : ℝ) : EReal) :=
  (rd_4 m c _ g j hj (pt_at g j hj) h r).trans (W_v58 H _ _ _)
theorem BK_k (a : Fin 512) (x : Fin 256) : (iblk m c 5 (pt (g.val * 16 + j)) : Vec Ideal S512x256 _) (ix2 a x) = ((K (row j a) (cx g x) * Attn.fold : ℝ) : EReal) :=
  (rd_5 m c _ g j hj (pt_at g j hj) a x).trans (congrFun (W_v15 H) _)
theorem BK_v (a : Fin 512) (x : Fin 256) : (iblk m c 6 (pt (g.val * 16 + j)) : Vec Ideal S512x256 _) (ix2 a x) = ((W (row j a) (cx g x) : ℝ) : EReal) :=
  (rd_6 m c _ g j hj (pt_at g j hj) a x).trans (congrFun (W_v16 H) _)
theorem BK_ck (h : Fin 2) (a : Fin 512) : (iblk m c 7 (pt (g.val * 16 + j)) : Vec Ideal S2x512x1 _) (ix3 h a 0) = ((C (hh g h) (row j a) : ℝ) : EReal) :=
  (rd_7 m c _ g j hj (pt_at g j hj) h a).trans (W_v59 H _ _ _)
end
/-- What a grid point reads. -/
theorem isBlk (g : Fin 8) (j : ℕ) (hj : j < 16) : IsBlk Q K W G C (Mx Q K C) (BK m c (g.val * 16 + j)) g j :=
  isBlk_mk Q K W G C (Mx Q K C) g j (iblk m c 0 (pt (g.val * 16 + j))) (iblk m c 1 (pt (g.val * 16 + j))) (iblk m c 2 (pt (g.val * 16 + j)))
    (iblk m c 3 (pt (g.val * 16 + j))) (iblk m c 4 (pt (g.val * 16 + j))) (iblk m c 5 (pt (g.val * 16 + j))) (iblk m c 6 (pt (g.val * 16 + j)))
    (iblk m c 7 (pt (g.val * 16 + j)))
    (BK_q H g j hj) (BK_d H g j hj) (BK_cr H g j hj) (BK_lse H g j hj) (BK_dl H g j hj) (BK_k H g j hj) (BK_v H g j hj) (BK_ck H g j hj)

omit H in
/-- The pair of heads, and the block of keys, of a place in a result. -/
theorem split_col (x : Fin 2048) : ∃ (g : Fin 8) (x' : Fin 256), x = cx g x' ∧ x.val / 256 = g.val ∧ x.val % 256 = x'.val :=
  ⟨⟨x.val / 256, by omega⟩, ⟨x.val % 256, Nat.mod_lt _ (by decide)⟩, Fin.ext (by simp only [cx]; omega), rfl, rfl⟩
omit H in
theorem split_row (r : Fin 8192) : ∃ (j : ℕ) (a : Fin 512), j < 16 ∧ r = row j a ∧ r.val / 512 = j ∧ r.val % 512 = a.val :=
  ⟨r.val / 512, ⟨r.val % 512, Nat.mod_lt _ (by decide)⟩, by omega, Fin.ext (by rw [row_val _ (by omega)]; simp only; omega), rfl, rfl⟩
omit H in
theorem split_head (h : Fin 16) : ∃ (g : Fin 8) (h' : Fin 2), h = hh g h' ∧ h.val / 2 = g.val ∧ h.val % 2 = h'.val :=
  ⟨⟨h.val / 2, by omega⟩, ⟨h.val % 2, Nat.mod_lt _ (by decide)⟩, Fin.ext (by simp only [hh]; omega), rfl, rfl⟩

/-- The kernel's gradient of the queries. -/
theorem resDq_real : resDq m c = mat (gq Q K W G C (Mx Q K C)) := by
  funext i
  obtain ⟨r, x, rfl⟩ : ∃ (r : Fin 8192) (x : Fin 2048), i = ix2 r x := ⟨i 0, i 1, eq_ix2 i⟩
  obtain ⟨g, x, rfl, hg, hx⟩ := split_col x
  show dqAt m c ((cx g x).val / 256 * 16 + 15) (ix2 r ⟨(cx g x).val % 256, _⟩) = _
  rw [show (⟨(cx g x).val % 256, Nat.mod_lt _ (by decide)⟩ : Fin 256) = x from Fin.ext hx, hg]
  unfold dqAt
  rw [show (g.val * 16 + 15) % 16 + 1 = 16 by omega, show (g.val * 16 + 15) / 16 * 16 = g.val * 16 by omega,
    Finset.sum_congr rfl fun j hj => cdq_real (isBlk H g j (Finset.mem_range.mp hj)) (Finset.mem_range.mp hj) r x, coe_sum]
  exact congrArg _ (sum_blocks (fun a => ds Q K W G C (Mx Q K C) (hd (cx g x)) r a * sc * K a (cx g x)) row row_val)

/-- The kernel's gradient of the keys. -/
theorem resDk_real : resDk m c = mat (gk Q K W G C (Mx Q K C)) := by
  funext i
  obtain ⟨r, x, rfl⟩ : ∃ (r : Fin 8192) (x : Fin 2048), i = ix2 r x := ⟨i 0, i 1, eq_ix2 i⟩
  obtain ⟨g, x, rfl, hg, hx⟩ := split_col x
  obtain ⟨j, a, hj, rfl, hr, ha⟩ := split_row r
  show dkAt m c ((cx g x).val / 256 * 16 + (row j a).val / 512) (ix2 ⟨(row j a).val % 512, _⟩ ⟨(cx g x).val % 256, _⟩) = _
  rw [show (⟨(cx g x).val % 256, Nat.mod_lt _ (by decide)⟩ : Fin 256) = x from Fin.ext hx,
    show (⟨(row j a).val % 512, Nat.mod_lt _ (by decide)⟩ : Fin 512) = a from Fin.ext ha, hg, hr]
  unfold dkAt
  rw [show (g.val * 16 + j) % 16 = j by omega]
  exact a15_real (isBlk H g j hj) hj a x

/-- The kernel's gradient of the values. -/
theorem resDv_real : resDv m c = mat (gv Q K G C (Mx Q K C)) := by
  funext i
  obtain ⟨r, x, rfl⟩ : ∃ (r : Fin 8192) (x : Fin 2048), i = ix2 r x := ⟨i 0, i 1, eq_ix2 i⟩
  obtain ⟨g, x, rfl, hg, hx⟩ := split_col x
  obtain ⟨j, a, hj, rfl, hr, ha⟩ := split_row r
  show dvAt m c ((cx g x).val / 256 * 16 + (row j a).val / 512) (ix2 ⟨(row j a).val % 512, _⟩ ⟨(cx g x).val % 256, _⟩) = _
  rw [show (⟨(cx g x).val % 256, Nat.mod_lt _ (by decide)⟩ : Fin 256) = x from Fin.ext hx,
    show (⟨(row j a).val % 512, Nat.mod_lt _ (by decide)⟩ : Fin 512) = a from Fin.ext ha, hg, hr]
  unfold dvAt
  rw [show (g.val * 16 + j) % 16 = j by omega]
  exact a16_real (isBlk H g j hj) hj a x

/-- The kernel's gradient of the keys' gates. -/
theorem resDck_real (h : Fin 16) (r : Fin 8192) (z : Fin 1) : resDck m c (ix3 h r z) = ((gck Q K W G C (Mx Q K C) h r : ℝ) : EReal) := by
  obtain ⟨g, h, rfl, hg, hx⟩ := split_head h
  obtain ⟨j, a, hj, rfl, hr, ha⟩ := split_row r
  show dcAt m c ((hh g h).val / 2 * 16 + (row j a).val / 512) (ix3 ⟨(hh g h).val % 2, _⟩ ⟨(row j a).val % 512, _⟩ 0) = _
  rw [show (⟨(hh g h).val % 2, Nat.mod_lt _ (by decide)⟩ : Fin 2) = h from Fin.ext hx,
    show (⟨(row j a).val % 512, Nat.mod_lt _ (by decide)⟩ : Fin 512) = a from Fin.ext ha, hg, hr]
  unfold dcAt
  rw [show (g.val * 16 + j) % 16 = j by omega]
  exact a17_real (isBlk H g j hj) hj h a

/-- The kernel's gradient of the queries' gates. -/
theorem resDcq_real (h : Fin 16) (z : Fin 1) (r : Fin 8192) : resDcq m c (ix3 h z r) = ((gcq Q K W G C (Mx Q K C) h r : ℝ) : EReal) := by
  obtain ⟨g, h, rfl, hg, hx⟩ := split_head h
  show dcqAt m c ((hh g h).val / 2 * 16 + 15) (ix3 ⟨(hh g h).val % 2, _⟩ 0 r) = _
  rw [show (⟨(hh g h).val % 2, Nat.mod_lt _ (by decide)⟩ : Fin 2) = h from Fin.ext hx, hg]
  unfold dcqAt
  rw [show (g.val * 16 + 15) % 16 + 1 = 16 by omega, show (g.val * 16 + 15) / 16 * 16 = g.val * 16 by omega,
    Finset.sum_congr rfl fun j hj => ccq_real (isBlk H g j (Finset.mem_range.mp hj)) (Finset.mem_range.mp hj) h r, coe_sum]
  exact congrArg _ (sum_blocks (fun a => ds Q K W G C (Mx Q K C) (hh g h) r a) row row_val)
end

end Cert.KernelIdeal.Val
-- ==== Proof.Keep.lean ====
/-
  The frame of the attention's backward pass as printed, at any float values. Its own run: the values that the idealised
  run names are those of the exact reals, so here nothing is said of the five outputs and the three accumulators but that
  they hold something.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384
noncomputable section

namespace Cert.Kernel.Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The body's buffers: the eight inputs hold what they were given, the outputs and the accumulators hold something. -/
def Held (c : Dev nD) (a0 : Memref sig .tc .vmem S8192x256 .bf16) (a1 : Memref sig .tc .vmem S8192x256 .bf16) (a2 : Memref sig .tc .vmem S2x1x8192 .f32) (a3 : Memref sig .tc .vmem S2x1x8192 .f32) (a4 : Memref sig .tc .vmem S2x1x8192 .f32) (a5 : Memref sig .tc .vmem S512x256 .bf16) (a6 : Memref sig .tc .vmem S512x256 .bf16) (a7 : Memref sig .tc .vmem S2x512x1 .f32) (a8 : Memref sig .tc .vmem S8192x256 .f32) (a9 : Memref sig .tc .vmem S512x256 .f32) (a10 : Memref sig .tc .vmem S512x256 .bf16) (a11 : Memref sig .tc .vmem S2x512x1 .f32) (a12 : Memref sig .tc .vmem S2x1x8192 .f32) (a13 : Memref sig .tc .vmem S512x256 .f32) (a14 : Memref sig .tc .vmem S512x256 .f32) (a15 : Memref sig .tc .vmem S2x512x1 .f32) (x0 : Vec F S8192x256 .bf16) (x1 : Vec F S8192x256 .bf16) (x2 : Vec F S2x1x8192 .f32) (x3 : Vec F S2x1x8192 .f32) (x4 : Vec F S2x1x8192 .f32) (x5 : Vec F S512x256 .bf16) (x6 : Vec F S512x256 .bf16) (x7 : Vec F S2x512x1 .f32) : sProp 𝕄 :=
  iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d))

set_option maxHeartbeats 2000000 in
/-- The body, at a first tile of a head or a later one, ends with its buffers still held so. -/
theorem body (c : Dev nD) (i : grid0.Coords) (a0 : Memref sig .tc .vmem S8192x256 .bf16) (w0 : a0.IsWhole) (a1 : Memref sig .tc .vmem S8192x256 .bf16) (w1 : a1.IsWhole) (a2 : Memref sig .tc .vmem S2x1x8192 .f32) (w2 : a2.IsWhole) (a3 : Memref sig .tc .vmem S2x1x8192 .f32) (w3 : a3.IsWhole) (a4 : Memref sig .tc .vmem S2x1x8192 .f32) (w4 : a4.IsWhole) (a5 : Memref sig .tc .vmem S512x256 .bf16) (w5 : a5.IsWhole) (a6 : Memref sig .tc .vmem S512x256 .bf16) (w6 : a6.IsWhole) (a7 : Memref sig .tc .vmem S2x512x1 .f32) (w7 : a7.IsWhole) (a8 : Memref sig .tc .vmem S8192x256 .f32) (w8 : a8.IsWhole) (a9 : Memref sig .tc .vmem S512x256 .f32) (w9 : a9.IsWhole) (a10 : Memref sig .tc .vmem S512x256 .bf16) (w10 : a10.IsWhole) (a11 : Memref sig .tc .vmem S2x512x1 .f32) (w11 : a11.IsWhole) (a12 : Memref sig .tc .vmem S2x1x8192 .f32) (w12 : a12.IsWhole) (a13 : Memref sig .tc .vmem S512x256 .f32) (w13 : a13.IsWhole) (a14 : Memref sig .tc .vmem S512x256 .f32) (w14 : a14.IsWhole) (a15 : Memref sig .tc .vmem S2x512x1 .f32) (w15 : a15.IsWhole) (x0 : Vec F S8192x256 .bf16) (x1 : Vec F S8192x256 .bf16) (x2 : Vec F S2x1x8192 .f32) (x3 : Vec F S2x1x8192 .f32) (x4 : Vec F S2x1x8192 .f32) (x5 : Vec F S512x256 .bf16) (x6 : Vec F S512x256 .bf16) (x7 : Vec F S2x512x1 .f32) (E : Set ℕ) (K : PUnit → sProp 𝕄) :
    iprop(Held c a0 a1 a2 a3 a4 a5 a6 a7 a8 a9 a10 a11 a12 a13 a14 a15 x0 x1 x2 x3 x4 x5 x6 x7 ∗ (Held c a0 a1 a2 a3 a4 a5 a6 a7 a8 a9 a10 a11 a12 a13 a14 a15 x0 x1 x2 x3 x4 x5 x6 x7 -∗ K ⟨⟩))
      ⊢ wp frame (wpE (defs₀ (F := F)) Variants.none c none) E (cc0_attn_bwd i a0 w0 a1 w1 a2 w2 a3 w3 a4 w4 a5 w5 a6 w6 a7 w7 a8 w8 a9 w9 a10 w10 a11 w11 a12 w12 a13 w13 a14 w14 a15 w15) K := by
  simp only [cc0_attn_bwd_eq_skeleton]; unfold cc0_attn_bwd_skel
  simp only [k0_part9_eq_skeleton, k0_part10_eq_skeleton, k0_part11_eq_skeleton, k0_part12_eq_skeleton, k0_part13_eq_skeleton]
  unfold Held owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7
  by_cases h : (Scalar.cmpi .ne (Scalar.extui (Scalar.cmpi .eq (BitVec.ofNat 32 (i 1).val) 0#32)) 0#32) = 1#1
  all_goals
    sl_exec (disch := first | sl_exact h)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

/-- The windows whose contents are not followed: the five outputs. -/
def outs : Fin 13 → Bool := fun w => decide (8 ≤ w.val)

/-- What is known of the pipeline on core `c`: the arrays as they are found and the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Dat.unnamed (cfg := cfg0) ⟨8, h⟩ t
    | ⟨9, h⟩ => Dat.unnamed (cfg := cfg0) ⟨9, h⟩ t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The invariant: the three accumulators at some contents, and the generator register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

set_option maxHeartbeats 3200000 in
/-- The body at any grid point, between what it is called with and what it returns. -/
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d))
      ⊢ wp frame (wpE (defs₀ (F := F)) Variants.none c none) Set.univ (bodyAt0 t)
        (fun _ => iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d))) := by
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, inv_eq]
  have hb := fun K => body (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) Set.univ K
  unfold Held at hb
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  iapply (hb _)
  isplitl [H0 H1 H2 H3 H4 H5 H6 H7 H8 H9 H10 H11 H12 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    iexact S2
  iintro ⟨H0, H1, H2, H3, H4, H5, H6, H7, H8, H9, H10, H11, H12, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

set_option backward.isDefEq.respectTransparency.types false in
/-- The whole run: the inputs' arrays end as they were, nothing being said of the outputs', and every semaphore at zero. -/
theorem run : θ_run defs (onTc (τ := τ) (main (F := F))) (s₀ m ρ) (fun r =>
    Pipeline.RDat.FramePost (cfgs 0) (fun c => (dats m 0 c).toRForget outs) (V m) r ∧ r.2.sem = fun _ => 0) :=
  Pipeline.θ_run_frame_forget (Q' := _) cfgs (dats m) (0 : Fin 1) launch0 defs₀ Variants.none outs m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were launched, and every semaphore is at zero. -/
theorem kept : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
    ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩) (run m ρ)

end Cert.Kernel.Keep

end
-- ==== Proof.Claims.lean ====
/-
  The claims about the attention's backward pass.
-/
module

public import proofs.«01_k».proof.Defs
public import proofs.«01_k».proof.Proof.KerVal
public import proofs.«01_k».proof.Proof.Keep
public import proofs.«01_k».proof.Proof.Gen.ReferenceIdeal.Run
public import Idealize.ShloMosaic.Lib.ReduceAll
public import Idealize.ShloMosaic.Lib.WordArith

@[expose] public section

set_option maxRecDepth 16384
noncomputable section

namespace Cert.Proof.Claims
open Idealize.ShloMosaic Idealize.ShloMosaic.TcCoe
open Cert.Attn

instance facts_pre : Cert.Pre_finite.Facts where
  bcast_S_S8192x2048 := Cert.KernelIdeal.Facts₀.bcast_S_S8192x2048
  reducesTo_S8192x2048_S_d0_1 := by decide
  h_S_ := by decide
  bcast_S_S16x8192 := by decide
  reducesTo_S16x8192_S_d0_1 := by decide

/-- A number whose absolute value is below infinity is real. -/
theorem real_of_lt (x : EReal) (h : Ideal.cmp .olt (max x (-x)) (Ideal.ofBits .f32 0x7F800000#32) = 1#1) : x = ((x.toReal : ℝ) : EReal) := by
  rw [ofBits_top] at h
  have h' : max x (-x) < ⊤ := by
    unfold Ideal.cmp at h
    simpa using (WordArith.ofBool_eq_one_iff _).mp h
  rw [EReal.coe_toReal]
  · rintro rfl; simp at h'
  · rintro rfl; simp at h'

/-- All entries of an array are real where the predicate on their absolute values holds of all. -/
theorem real_of_all (s : Shape) (x y : s.Idx → EReal) (hy : ∀ i, y i = Ideal.ofBits .f32 0x7F800000#32) (axes : List (Fin s.rank))
    (init : Cert.Pre_finite.S_.Idx → BitVec 1) (h : s.ReducesTo axes Cert.Pre_finite.S_) (hu : 0 < Cert.Pre_finite.S_.numel) (j : Cert.Pre_finite.S_.Idx)
    (e : Host.reduce IntOp.andi (cmpf (F := Ideal) (φ := .f32) .olt (Host.absf (F := Ideal) (φ := .f32) x) y) init h hu j = 1#1) (i : s.Idx) :
    x i = (((x i).toReal : ℝ) : EReal) := by
  haveI : Subsingleton Cert.Pre_finite.S_.Idx := ⟨fun a b => funext fun k => k.elim0⟩
  have h1 := Host.reduce_andi_all _ init h hu j e i
  refine real_of_lt _ ?_
  rw [← hy i]
  exact h1

open Cert.KernelIdeal.Val (Args resDq_real resDk_real resDv_real resDck_real resDcq_real resDq resDk resDv resDck resDcq run_values frame_ideal)
open Cert.ReferenceIdeal.Read

/-- The real numbers that an array of extended reals holds. -/
def reals {a b : ℕ} (x : (⟨2, ![a, b]⟩ : Shape).Idx → EReal) : Fin a → Fin b → ℝ := fun i j => (x (ix2 i j)).toReal

theorem mat_reals (x : Cert.ReferenceIdeal.S8192x2048.Idx → EReal) (h : ∀ i, x i = (((x i).toReal : ℝ) : EReal)) : x = mat (reals x) := by
  funext i; rw [h i]; unfold mat reals; rw [← eq_ix2 i]
theorem gate_reals (x : Cert.ReferenceIdeal.S16x8192.Idx → EReal) (h : ∀ i, x i = (((x i).toReal : ℝ) : EReal)) : x = gate (reals x) := by
  funext i; rw [h i]; unfold gate reals; rw [← eq_ix2 i]

/-- Where the precondition's predicate is true, all five arrays hold real numbers. -/
theorem finite_real (x0 x1 x2 : Cert.Pre_finite.S8192x2048.Idx → EReal) (x3 : Cert.Pre_finite.S16x8192.Idx → EReal) (x4 : Cert.Pre_finite.S8192x2048.Idx → EReal)
    (e : Cert.Pre_finite.fn (F := Ideal) x0 x1 x2 x3 x4 = fun _ => 1#1) :
    x0 = mat (reals x0) ∧ x1 = mat (reals x1) ∧ x2 = mat (reals x2) ∧ x3 = gate (reals x3) ∧ x4 = mat (reals x4) := by
  have e := congrFun e (fun k => k.elim0)
  dsimp only [Cert.Pre_finite.fn, Cert.Pre_finite.fn_part1] at e
  have h4 := IntOp.andi_eq_one.mp e
  have h3 := IntOp.andi_eq_one.mp h4.1
  have h2 := IntOp.andi_eq_one.mp h3.1
  have h1 := IntOp.andi_eq_one.mp h2.1
  exact ⟨mat_reals _ (real_of_all _ _ _ (fun _ => rfl) _ _ _ _ _ h1.1), mat_reals _ (real_of_all _ _ _ (fun _ => rfl) _ _ _ _ _ h1.2),
    mat_reals _ (real_of_all _ _ _ (fun _ => rfl) _ _ _ _ _ h2.2), gate_reals _ (real_of_all _ _ _ (fun _ => rfl) _ _ _ _ _ h3.2),
    mat_reals _ (real_of_all _ _ _ (fun _ => rfl) _ _ _ _ _ h4.2)⟩

/-- The attention's backward pass, as printed, runs and leaves its arguments and the machine's counters as they were. -/
theorem frame_kernel : Cert.quiescent_Kernel := fun m ρ _ => Cert.Kernel.Keep.kept m ρ
/-- The idealised one does. -/
theorem frame_kernel_ideal : Cert.quiescent_KernelIdeal := fun m ρ _ => frame_ideal m ρ
@[inherit_doc frame_kernel_ideal] theorem frame_kernel_ideal_pre : Cert.quiescent_KernelIdeal_pre_finite := fun m ρ _ => frame_ideal m ρ

/-- The reference runs and leaves its arguments and the counters as they were. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
@[inherit_doc frame_reference] theorem frame_reference_pre : Cert.quiescent_ReferenceIdeal_pre_finite := fun m ρ _ => frame_reference m ρ trivial

/-- The named constants are the printed ones, read as the real numbers (or the infinity) they stand for. -/
theorem preserves : Cert.preserves_Kernel_KernelIdeal :=
  ⟨IdealRules.named_const.statement Cert.KernelIdeal.κ "ln2" .f32 0x3F317218#32 _ rfl,
    IdealRules.named_const.statement Cert.KernelIdeal.κ "mask" .f32 0xF149F2CA#32 _ rfl,
    IdealRules.named_const.statement Cert.KernelIdeal.κ "unfold" .f32 0x3E7D75E0#32 _ rfl⟩

section
variable {m : (ℓ : Loc Cert.KernelIdeal.nD Cert.KernelIdeal.τ Cert.KernelIdeal.sig) → Buf (Elt Ideal) ℓ} {c : Dev Cert.KernelIdeal.nD}
variable {Q K W G : Fin 8192 → Fin 2048 → ℝ} {C : Fin 16 → Fin 8192 → ℝ} (H : Args m Q K W G C c)
include H
theorem dck_eq : val_main_v87 (F := Ideal) (mat Q) (mat K) (mat W) (gate C) (mat G) = resDck m c := by
  funext i
  obtain ⟨h, a, z, rfl⟩ : ∃ (h : Fin 16) (a : Fin 8192) (z : Fin 1), i = ix3 h a z := ⟨i 0, i 1, i 2, eq_ix3 i⟩
  rw [r87]; exact (resDck_real H h a z).symm
theorem dcq_eq : val_main_v88 (F := Ideal) (mat Q) (mat K) (mat W) (gate C) (mat G) = resDcq m c := by
  funext i
  obtain ⟨h, z, a, rfl⟩ : ∃ (h : Fin 16) (z : Fin 1) (a : Fin 8192), i = ix3 h z a := ⟨i 0, i 1, i 2, eq_ix3 i⟩
  rw [r88]; exact (resDcq_real H h z a).symm
end

/-- Over the extended reals, on finite arguments, the kernel computes the gradients of the attention: its five results
are those of the reference's reverse-mode derivative. -/
theorem algebraic : Cert.algebraic_KernelIdeal_ReferenceIdeal_pre_finite := by
  intro m ρ m' ρ' hpre hagree
  refine ⟨resDq m, resDk m, resDv m, resDck m, resDcq m, ?_, ?_⟩
  · refine (θ_run Cert.KernelIdeal.defs _ _).mono (fun r h c => ?_) (θ_run_and (run_values m ρ) (frame_ideal m ρ))
    exact ⟨(h.1 c).1, (h.1 c).2.1, (h.1 c).2.2.1, (h.1 c).2.2.2.1, (h.1 c).2.2.2.2, h.2.1 c⟩
  · refine (θ_run Cert.ReferenceIdeal.defs _ _).mono (fun r h c => ?_) (Cert.ReferenceIdeal.Value.run (F := Ideal) m' ρ')
    obtain ⟨h0, h1, h2, h3, h4⟩ := finite_real _ _ _ _ _ (hpre c)
    have H : Args m _ _ _ _ _ c := ⟨h0, h1, h2, h3, h4⟩
    obtain ⟨g0, g1, g2, g3, g4⟩ := hagree c
    replace g0 := g0.trans h0
    replace g1 := g1.trans h1
    replace g2 := g2.trans h2
    replace g3 := g3.trans h3
    replace g4 := g4.trans h4
    obtain ⟨k0, k1, k2, k3, k4, k5⟩ := h c
    refine ⟨k0.trans ?_, k1.trans ?_, k2.trans ?_, k3.trans ?_, k4.trans ?_, k5⟩
    · rw [val_main_v85_eq, g0, g1, g2, g3, g4, resDq_real H]; exact r85 _ _ _ _ _
    · rw [val_main_v84_eq, g0, g1, g2, g3, g4, resDk_real H]; exact r84 _ _ _ _ _
    · rw [val_main_v86_eq, g0, g1, g3, g4, resDv_real H]; exact r86 _ _ _ _
    · rw [val_main_v87_eq, g0, g1, g2, g3, g4]; exact dck_eq H
    · rw [val_main_v88_eq, g0, g1, g2, g3, g4]; exact dcq_eq H

end Cert.Proof.Claims
-- ==== Proof.ActVal.lean ====
/-
  The feed-forward layer's first product with its activation, and the activation's backward call that reads what it saves:
  what the two calls leave in their arrays.
-/
module

public import proofs.«01_k».proof.Defs
public import proofs.«01_k».proof.Proof.Blocks
public import proofs.«01_k».proof.Proof.Gen.ActIdeal.Frame

@[expose] public section

set_option maxRecDepth 16384
noncomputable section

namespace Cert.ActIdeal.Val
open Cert.ActIdeal Cert.ActIdeal.Gen Cert.Blocks
open Idealize Idealize.ShloMosaic Idealize.ShloMosaic.TcCoe Idealize.ShloMosaic.Tactic Idealize.SL.Sem

/-! ## The bodies at the ideal values -/

theorem gate_at (x0 : S512x2048.Idx → EReal) (x1 : S1x2048x1408.Idx → EReal) (a : Fin 512) (e : Fin 1408) :
    k0_pay2 (F := Ideal) x0 x1 (ix2 a e) = ∑ k : Fin 2048, x0 (ix2 a k) * x1 (ix3 0 k e) := by
  pointwise [k0_pay2, k0_pay1]
theorem up_at (x0 : S512x2048.Idx → EReal) (x1 : S1x2048x1408.Idx → EReal) (a : Fin 512) (e : Fin 1408) :
    k0_pay3 (F := Ideal) x0 x1 (ix2 a e) = ∑ k : Fin 2048, x0 (ix2 a k) * x1 (ix3 0 k e) := by
  pointwise [k0_pay3, k0_pay1]

/-- The gated value, the derivative's factor and the hidden activation, from a gate and an up value. -/
def siluOf (g : EReal) : EReal := g * Ideal.logistic g
@[inherit_doc siluOf] def slopeOf (g u : EReal) : EReal := u * (Ideal.logistic g * (1 + g * (1 - Ideal.logistic g)))

theorem out3_apply (x0 : S512x2048.Idx → EReal) (x1 x2 : S1x2048x1408.Idx → EReal) (z : S512x1408.Idx) :
    out0_3 (F := Ideal) x0 x1 x2 z = siluOf (k0_pay2 (F := Ideal) x0 x1 z) := by
  unfold out0_3
  rw [View.canon_unit_zero hz2, View.ld_unit_zero hz2, View.ld_unit_zero hz3]
  rfl
theorem out4_apply (x0 : S512x2048.Idx → EReal) (x1 x2 : S1x2048x1408.Idx → EReal) (z : S512x1408.Idx) :
    out0_4 (F := Ideal) x0 x1 x2 z = slopeOf (k0_pay2 (F := Ideal) x0 x1 z) (k0_pay3 (F := Ideal) x0 x2 z) := by
  unfold out0_4 slopeOf
  rw [View.canon_unit_zero hz2, View.ld_unit_zero hz2, View.ld_unit_zero hz3, View.ld_unit_zero hz3, ← Ideal.ofBits_one_f32]
  rfl
theorem out5_apply (x0 : S512x2048.Idx → EReal) (x1 x2 : S1x2048x1408.Idx → EReal) (z : S512x1408.Idx) :
    out0_5 (F := Ideal) x0 x1 x2 z = siluOf (k0_pay2 (F := Ideal) x0 x1 z) * k0_pay3 (F := Ideal) x0 x2 z := by
  unfold out0_5
  rw [View.canon_unit_zero hz2, View.ld_unit_zero hz2, View.ld_unit_zero hz3, View.ld_unit_zero hz3]
  rfl

theorem lo0_at (x0 : S512x2048.Idx → EReal) (x1 : S1x640x2048.Idx → EReal) (x2 : S512x640.Idx → EReal) (z : Fin 1) (a : Fin 512) (e : Fin 640) :
    k1_pay5 (F := Ideal) x0 x1 x2 (ix3 z a e) = (∑ d : Fin 2048, x0 (ix2 a d) * x1 (ix3 0 e d)) * x2 (ix2 a e) := by
  pointwise [k1_pay5, k1_pay4, k1_pay3]
theorem lo1_at (x0 : S512x2048.Idx → EReal) (x1 : S1x640x2048.Idx → EReal) (x2 : S512x640.Idx → EReal) (z : Fin 1) (a : Fin 512) (e : Fin 640) :
    k1_pay6 (F := Ideal) x0 x1 x2 (ix3 z a e) = (∑ d : Fin 2048, x0 (ix2 a d) * x1 (ix3 0 e d)) * x2 (ix2 a e) := by
  pointwise [k1_pay6, k1_pay4, k1_pay3]
theorem hi0_at (x0 : S512x2048.Idx → EReal) (x1 : S1x768x2048.Idx → EReal) (x2 : S512x768.Idx → EReal) (z : Fin 1) (a : Fin 512) (e : Fin 768) :
    k1_pay1 (F := Ideal) (k1_pay8 (F := Ideal) x0 x1 x2) (ix3 z a e) = (∑ d : Fin 2048, x0 (ix2 a d) * x1 (ix3 0 e d)) * x2 (ix2 a e) := by
  pointwise [k1_pay1, k1_pay8, k1_pay7, k1_pay3]
theorem hi1_at (x0 : S512x2048.Idx → EReal) (x1 : S1x768x2048.Idx → EReal) (x2 : S512x768.Idx → EReal) (z : Fin 1) (a : Fin 512) (e : Fin 768) :
    k1_pay2 (F := Ideal) (k1_pay7 (F := Ideal) x0 x1) x2 (ix3 z a e) = (∑ d : Fin 2048, x0 (ix2 a d) * x1 (ix3 0 e d)) * x2 (ix2 a e) := by
  pointwise [k1_pay2, k1_pay7, k1_pay3]

/-- What the backward call leaves in its output block: one factor's product in each of the two halves. -/
def half (x0 : S512x2048.Idx → EReal) (x1 : S1x1408x2048.Idx → EReal) (x2 x3 : S512x1408.Idx → EReal) (y : S2x512x1408.Idx) : EReal :=
  (∑ d : Fin 2048, x0 (ix2 (y 1) d) * x1 (ix3 0 (y 2) d)) * (if (y 0).val = 0 then x3 else x2) (ix2 (y 1) (y 2))

/-- One entry of it, from the places its factors are read at. -/
theorem half_of (x0 : S512x2048.Idx → EReal) (x1 : S1x1408x2048.Idx → EReal) (x2 x3 : S512x1408.Idx → EReal) (y : S2x512x1408.Idx)
    (a : Fin 512) (s : Fin 2048 → S1x1408x2048.Idx) (r : S512x1408.Idx) (w : S512x1408.Idx → EReal) (hw : w = if (y 0).val = 0 then x3 else x2)
    (ha : a.val = (y 1).val) (hs : ∀ d, (s d 1).val = (y 2).val ∧ (s d 2).val = d.val) (h0 : (r 0).val = (y 1).val) (h1 : (r 1).val = (y 2).val) :
    (∑ d : Fin 2048, x0 (ix2 a d) * x1 (s d)) * w r = half x0 x1 x2 x3 y := by
  obtain rfl : a = y 1 := Fin.ext ha
  obtain rfl : r = ix2 (y 1) (y 2) := (eq_ix2 r).trans (congrArg₂ ix2 (Fin.ext h0) (Fin.ext h1))
  unfold half
  rw [← hw]
  refine congrArg (· * _) (Finset.sum_congr rfl fun d _ => ?_)
  rw [eq_ix3 (s d), show s d 0 = (0 : Fin 1) from Subsingleton.elim (α := Fin 1) _ _, show s d 1 = y 2 from Fin.ext (hs d).1, show s d 2 = d from Fin.ext (hs d).2]

theorem out4_eq (c : Dev nD) (i : grid1.Coords) (a2 : Memref sig .tc .vmem S512x2048 .f32) (h2 : a2.IsWhole) (a3 : Memref sig .tc .vmem S1x1408x2048 .bf16) (h3 : a3.IsWhole)
    (a4 : Memref sig .tc .vmem S512x1408 .bf16) (h4 : a4.IsWhole) (a5 : Memref sig .tc .vmem S512x1408 .bf16) (h5 : a5.IsWhole) (a6 : Memref sig .tc .vmem S2x512x1408 .bf16) (h6 : a6.IsWhole)
    (x0 : S512x2048.Idx → EReal) (x1 : S1x1408x2048.Idx → EReal) (x2 x3 : S512x1408.Idx → EReal) (y : S2x512x1408.Idx) :
    out1_A_4 (F := Ideal) c i a2 h2 a3 h3 a4 h4 a5 h5 a6 h6 x0 x1 x2 x3 y = half x0 x1 x2 x3 y := by
  have hc := cover1_A_4 (F := Ideal) c i a2 h2 a3 h3 a4 h4 a5 h5 a6 h6 x0 x1 x2 x3
  unfold out1_A_4
  rw [View.read_writes_eq_canon _ _ _ hc]
  refine View.canon_apply_of_pieces (half x0 x1 x2 x3) _ ?_ y (hc y)
  unfold kernelRun1_A
  dsimp only
  sl_unfold_words
  simp only [View.readAt_eq_ld, h2.read_unread, h3.read_unread, h4.read_unread, h5.read_unread, View.ld_unit_zero (S := S512x2048) hz2]
  intro p hp
  simp only [List.mem_cons, List.not_mem_nil, or_false] at hp
  rcases hp with rfl | rfl | rfl | rfl <;> intro x
  · obtain ⟨z, a, e, rfl⟩ : ∃ (z : Fin 1) (a : Fin 512) (e : Fin 768), x = ix3 z a e := ⟨x 0, x 1, x 2, eq_ix3 x⟩
    refine (hi1_at _ _ _ z a e).trans (half_of x0 x1 x2 x3 _ a _ _ _ (if_neg ?_).symm ?_ (fun d => ⟨rfl, ?_⟩) ?_ rfl)
    · show ¬(1 + 1 * z.val = 0); omega
    · show a.val = 0 + 1 * a.val; omega
    · show 0 + 1 * d.val = d.val; omega
    · rfl
  · obtain ⟨z, a, e, rfl⟩ : ∃ (z : Fin 1) (a : Fin 512) (e : Fin 768), x = ix3 z a e := ⟨x 0, x 1, x 2, eq_ix3 x⟩
    refine (hi0_at _ _ _ z a e).trans (half_of x0 x1 x2 x3 _ a _ _ _ (if_pos ?_).symm ?_ (fun d => ⟨rfl, ?_⟩) ?_ rfl)
    · show 0 + 1 * z.val = 0; omega
    · show a.val = 0 + 1 * a.val; omega
    · show 0 + 1 * d.val = d.val; omega
    · rfl
  · obtain ⟨z, a, e, rfl⟩ : ∃ (z : Fin 1) (a : Fin 512) (e : Fin 640), x = ix3 z a e := ⟨x 0, x 1, x 2, eq_ix3 x⟩
    refine (lo1_at _ _ _ z a e).trans (half_of x0 x1 x2 x3 _ a _ _ _ (if_neg ?_).symm ?_ (fun d => ⟨rfl, ?_⟩) ?_ rfl)
    · show ¬(1 + 1 * z.val = 0); omega
    · show a.val = 0 + 1 * a.val; omega
    · show 0 + 1 * d.val = d.val; omega
    · rfl
  · obtain ⟨z, a, e, rfl⟩ : ∃ (z : Fin 1) (a : Fin 512) (e : Fin 640), x = ix3 z a e := ⟨x 0, x 1, x 2, eq_ix3 x⟩
    refine (lo0_at _ _ _ z a e).trans (half_of x0 x1 x2 x3 _ a _ _ _ (if_pos ?_).symm ?_ (fun d => ⟨rfl, ?_⟩) ?_ rfl)
    · show 0 + 1 * z.val = 0; omega
    · show a.val = 0 + 1 * a.val; omega
    · show 0 + 1 * d.val = d.val; omega
    · rfl

/-! ## The first call's arrays -/

variable (m : (ℓ : Loc nD τ sig) → Buf (Elt Ideal) ℓ) (ρ : Dev nD → PrngReg)

/-- The layer's normalised input, its two weights and the gradient of its output. -/
def hA (c : Dev nD) : S8192x2048.Idx → EReal := m ((c : Thread nD τ).loc main_arg0)
@[inherit_doc hA] def wA (c : Dev nD) : S2048x11264.Idx → EReal := m ((c : Thread nD τ).loc main_arg1)
@[inherit_doc hA] def w2A (c : Dev nD) : S5632x2048.Idx → EReal := m ((c : Thread nD τ).loc main_arg2)
@[inherit_doc hA] def xA (c : Dev nD) : S8192x2048.Idx → EReal := m ((c : Thread nD τ).loc main_arg3)

theorem V_v0 (c : Dev nD) : V1 m ρ c main_v0 = truncf (F := Ideal) (φ := .f32) .bf16 (m ((c : Thread nD τ).loc main_arg0)) bitsLt_bf16_f32 := by
  show StableHlo.after hostOps0 (fun b => m (c, b)) _ = _
  after_results_simp
theorem V_v3 (c : Dev nD) : V1 m ρ c main_v3 = truncf (F := Ideal) (φ := .f32) .bf16
    (transpose S8x2048x1408 [1, 0, 2] (shapeCast S2048x8x1408 (m ((c : Thread nD τ).loc main_arg1)) shapeCasts_S2048x11264_S2048x8x1408) transposes_S2048x8x1408_S8x2048x1408_1_0_2) bitsLt_bf16_f32 := by
  show StableHlo.after hostOps0 (fun b => m (c, b)) _ = _
  after_results_simp
  rfl

/-- The weights as the call takes them: eight slabs of columns. -/
theorem v3_at (c : Dev nD) (i : S8x2048x1408.Idx) : (V1 m ρ c main_v3 : S8x2048x1408.Idx → EReal) i = at2 (wA m c) (i 1).val (1408 * (i 0).val + (i 2).val) := by
  rw [V_v3]
  show transpose S8x2048x1408 [1, 0, 2] (shapeCast S2048x8x1408 (wA m c) shapeCasts_S2048x11264_S2048x8x1408) transposes_S2048x8x1408_S8x2048x1408_1_0_2 i = _
  obtain ⟨p, s, q, rfl⟩ : ∃ (p : Fin 8) (s : Fin 2048) (q : Fin 1408), i = ix3 p s q := ⟨i 0, i 1, i 2, eq_ix3 i⟩
  refine (transpose_apply _ _ _ _ (ix3 s p q) (fun b => match b with | ⟨0, _⟩ => rfl | ⟨1, _⟩ => rfl | ⟨2, _⟩ => rfl)).trans ?_
  rw [shapeCast_apply _ _ _ (ix2 s ⟨1408 * p.val + q.val, by omega⟩) (by
    rewrite [Shape.rowMajor_val_two, Shape.rowMajor_val_three]
    show s.val * 11264 + (1408 * p.val + q.val) = (s.val * 8 + p.val) * 1408 + q.val
    omega)]
  exact at2_eq (wA m c) _ _ _ rfl rfl

theorem index0 (t : Fin cfg0.N) : win0_0.index t 0 = t.val % 16 ∧ win0_0.index t 1 = 0 :=
  (by decide +kernel : ∀ t : Fin grid0.N, win0_0.index t 0 = t.val % 16 ∧ win0_0.index t 1 = 0) t
theorem index1 (t : Fin cfg0.N) : win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0) t
theorem index2 (t : Fin cfg0.N) : win0_2.index t 0 = t.val / 16 + 4 ∧ win0_2.index t 1 = 0 ∧ win0_2.index t 2 = 0 :=
  (by decide +kernel : ∀ t : Fin grid0.N, win0_2.index t 0 = t.val / 16 + 4 ∧ win0_2.index t 1 = 0 ∧ win0_2.index t 2 = 0) t
theorem index3 (t : Fin cfg0.N) : win0_3.index t 0 = t.val % 16 ∧ win0_3.index t 1 = t.val / 16 :=
  (by decide +kernel : ∀ t : Fin grid0.N, win0_3.index t 0 = t.val % 16 ∧ win0_3.index t 1 = t.val / 16) t

theorem blk0 (c : Dev nD) (t : Fin cfg0.N) (a : Fin 512) (k : Fin 2048) :
    (iblk0 (V1 m ρ) c 0 t : Vec Ideal S512x2048 _) (ix2 a k) = at2 (hA m c) (512 * (t.val % 16) + a.val) k.val := by
  have hi := index0 t
  unfold iblk0
  rw [View.read_apply]
  refine Eq.trans (b := V1 m ρ c main_v0 _) rfl ?_
  rw [V_v0]
  refine at2_eq (hA m c) _ _ _ ?_ ?_
  · show win0_0.index t 0 * 512 + 1 * a.val = _; rw [hi.1]; omega
  · show win0_0.index t 1 * 2048 + 1 * k.val = _; rw [hi.2]; omega
theorem blk1 (c : Dev nD) (t : Fin cfg0.N) (k : Fin 2048) (e : Fin 1408) :
    (iblk0 (V1 m ρ) c 1 t : Vec Ideal S1x2048x1408 _) (ix3 0 k e) = at2 (wA m c) k.val (1408 * (t.val / 16) + e.val) := by
  have hi := index1 t
  unfold iblk0
  rw [View.read_apply]
  refine Eq.trans (b := V1 m ρ c main_v3 _) rfl ((v3_at m ρ c _).trans ?_)
  refine congrArg₂ (at2 (wA m c)) ?_ ?_
  · show win0_1.index t 1 * 2048 + 1 * k.val = _; rw [hi.2.1]; omega
  · show 1408 * (win0_1.index t 0 * 1 + 1 * 0) + (win0_1.index t 2 * 1408 + 1 * e.val) = _; rw [hi.1, hi.2.2]; omega
theorem blk2 (c : Dev nD) (t : Fin cfg0.N) (k : Fin 2048) (e : Fin 1408) :
    (iblk0 (V1 m ρ) c 2 t : Vec Ideal S1x2048x1408 _) (ix3 0 k e) = at2 (wA m c) k.val (5632 + (1408 * (t.val / 16) + e.val)) := by
  have hi := index2 t
  unfold iblk0
  rw [View.read_apply]
  refine Eq.trans (b := V1 m ρ c main_v3 _) rfl ((v3_at m ρ c _).trans ?_)
  refine congrArg₂ (at2 (wA m c)) ?_ ?_
  · show win0_2.index t 1 * 2048 + 1 * k.val = _; rw [hi.2.1]; omega
  · show 1408 * (win0_2.index t 0 * 1 + 1 * 0) + (win0_2.index t 2 * 1408 + 1 * e.val) = _; rw [hi.1, hi.2.2]; omega

/-- The first product: the gates in its left half, the up values in its right half. -/
def lin (c : Dev nD) (p f : ℕ) : EReal := ∑ k : Fin 2048, at2 (hA m c) p k.val * at2 (wA m c) k.val f
/-- The three arrays the first call leaves: the gated values, the derivative's factors and the hidden activations. -/
def sA (c : Dev nD) : S8192x5632.Idx → EReal := fun i => siluOf (lin m c (i 0).val (i 1).val)
@[inherit_doc sA] def uA (c : Dev nD) : S8192x5632.Idx → EReal := fun i => slopeOf (lin m c (i 0).val (i 1).val) (lin m c (i 0).val (5632 + (i 1).val))
@[inherit_doc sA] def aA (c : Dev nD) : S8192x5632.Idx → EReal := fun i => siluOf (lin m c (i 0).val (i 1).val) * lin m c (i 0).val (5632 + (i 1).val)

/-- The place in the array of a place in point `t`'s block. -/
def place (t : Fin cfg0.N) (y : S512x1408.Idx) (i : S8192x5632.Idx) : Prop := (i 0).val = 512 * (t.val % 16) + (y 0).val ∧ (i 1).val = 1408 * (t.val / 16) + (y 1).val

theorem gate_blk (c : Dev nD) (t : Fin cfg0.N) {y : S512x1408.Idx} {i : S8192x5632.Idx} (h : place t y i) :
    k0_pay2 (F := Ideal) (iblk0 (V1 m ρ) c 0 t) (iblk0 (V1 m ρ) c 1 t) y = lin m c (i 0).val (i 1).val := by
  obtain ⟨a, e, rfl⟩ : ∃ (a : Fin 512) (e : Fin 1408), y = ix2 a e := ⟨y 0, y 1, eq_ix2 y⟩
  rw [h.1, h.2]
  refine (gate_at _ _ a e).trans (Finset.sum_congr rfl fun k _ => ?_)
  rw [blk0, blk1]; rfl
theorem up_blk (c : Dev nD) (t : Fin cfg0.N) {y : S512x1408.Idx} {i : S8192x5632.Idx} (h : place t y i) :
    k0_pay3 (F := Ideal) (iblk0 (V1 m ρ) c 0 t) (iblk0 (V1 m ρ) c 2 t) y = lin m c (i 0).val (5632 + (i 1).val) := by
  obtain ⟨a, e, rfl⟩ : ∃ (a : Fin 512) (e : Fin 1408), y = ix2 a e := ⟨y 0, y 1, eq_ix2 y⟩
  rw [h.1, h.2]
  refine (up_at _ _ a e).trans (Finset.sum_congr rfl fun k _ => ?_)
  rw [blk0, blk2]; rfl

/-- The blocks of the three output windows lie at the same places, cover the array, and each is written back. -/
theorem onto : ∀ (q0 : Fin 16) (q1 : Fin 4), ∃ t : Fin cfg0.N, (win0_3.flush t = true ∧ win0_4.flush t = true ∧ win0_5.flush t = true) ∧ t.val % 16 = q0.val ∧ t.val / 16 = q1.val :=
  (by decide +kernel : ∀ (q0 : Fin 16) (q1 : Fin 4), ∃ t : Fin grid0.N, (win0_3.flush t = true ∧ win0_4.flush t = true ∧ win0_5.flush t = true) ∧ t.val % 16 = q0.val ∧ t.val / 16 = q1.val)
theorem box (i : S8192x5632.Idx) : ∃ t : Fin cfg0.N, (win0_3.flush t = true ∧ win0_4.flush t = true ∧ win0_5.flush t = true) ∧
    ∀ a : Fin 2, win0_3.index t a * S512x1408.size a ≤ (i a).val ∧ (i a).val < win0_3.index t a * S512x1408.size a + S512x1408.size a := by
  have h0 : (i 0).val < 8192 := (i 0).isLt
  have h1 : (i 1).val < 5632 := (i 1).isLt
  obtain ⟨t, hf, e0, e1⟩ := onto ⟨(i 0).val / 512, by omega⟩ ⟨(i 1).val / 1408, by omega⟩
  have hi := index3 t
  refine ⟨t, hf, fun a => ?_⟩
  match a with
  | ⟨0, _⟩ => show win0_3.index t 0 * 512 ≤ (i 0).val ∧ (i 0).val < win0_3.index t 0 * 512 + 512; rw [hi.1, e0]; show (i 0).val / 512 * 512 ≤ _ ∧ _ < (i 0).val / 512 * 512 + 512; omega
  | ⟨1, _⟩ => show win0_3.index t 1 * 1408 ≤ (i 1).val ∧ (i 1).val < win0_3.index t 1 * 1408 + 1408; rw [hi.2, e1]; show (i 1).val / 1408 * 1408 ≤ _ ∧ _ < (i 1).val / 1408 * 1408 + 1408; omega
theorem place_of (t : Fin cfg0.N) (y : S512x1408.Idx) (i : S8192x5632.Idx)
    (h0 : (i 0).val = win0_3.index t 0 * 512 + 1 * (y 0).val) (h1 : (i 1).val = win0_3.index t 1 * 1408 + 1 * (y 1).val) : place t y i := by
  have hi := index3 t
  rw [hi.1] at h0; rw [hi.2] at h1
  exact ⟨by omega, by omega⟩

theorem arr3 (c : Dev nD) : (dat0 (V1 m ρ) c).arrAt 3 cfg0.N = sA m c := by
  refine (dat0 (V1 m ρ) c).arrAt_eq_of_cover 3 _ (fun t _ => ?_) (fun i => ?_)
  · show (cfg0.win 3).cut (grid0.coords t) ((dat0 (V1 m ρ) c).after 3 t) = _
    rw [after0_3]
    funext y
    refine (out3_apply _ _ _ _).trans ?_
    rw [gate_blk m ρ c t (place_of t _ (((cfg0.win 3).blk t).view.emb y) rfl rfl)]; rfl
  · obtain ⟨t, hf, hb⟩ := box i
    refine ⟨t, hf.1, ?_⟩
    show i ∈ ((View.whole main_v4_0).slice (win0_3.rect t)).set
    rw [View.set_slice_whole, Rect.mem_set_unit]; exact hb
theorem arr4 (c : Dev nD) : (dat0 (V1 m ρ) c).arrAt 4 cfg0.N = uA m c := by
  refine (dat0 (V1 m ρ) c).arrAt_eq_of_cover 4 _ (fun t _ => ?_) (fun i => ?_)
  · show (cfg0.win 4).cut (grid0.coords t) ((dat0 (V1 m ρ) c).after 4 t) = _
    rw [after0_4]
    funext y
    refine (out4_apply _ _ _ _).trans ?_
    have hp := place_of t ((cfg0.win 4).xinj (grid0.coords t) y) (((cfg0.win 4).blk t).view.emb y) rfl rfl
    rw [gate_blk m ρ c t hp, up_blk m ρ c t hp]; rfl
  · obtain ⟨t, hf, hb⟩ := box i
    refine ⟨t, hf.2.1, ?_⟩
    show i ∈ ((View.whole main_v4_1).slice (win0_4.rect t)).set
    rw [View.set_slice_whole, Rect.mem_set_unit]; exact hb
theorem arr5 (c : Dev nD) : (dat0 (V1 m ρ) c).arrAt 5 cfg0.N = aA m c := by
  refine (dat0 (V1 m ρ) c).arrAt_eq_of_cover 5 _ (fun t _ => ?_) (fun i => ?_)
  · show (cfg0.win 5).cut (grid0.coords t) ((dat0 (V1 m ρ) c).after 5 t) = _
    rw [after0_5]
    funext y
    refine (out5_apply _ _ _ _).trans ?_
    have hp := place_of t ((cfg0.win 5).xinj (grid0.coords t) y) (((cfg0.win 5).blk t).view.emb y) rfl rfl
    rw [gate_blk m ρ c t hp, up_blk m ρ c t hp]; rfl
  · obtain ⟨t, hf, hb⟩ := box i
    refine ⟨t, hf.2.2, ?_⟩
    show i ∈ ((View.whole main_v4_2).slice (win0_5.rect t)).set
    rw [View.set_slice_whole, Rect.mem_set_unit]; exact hb

/-! ## The backward call's array -/

theorem V_v4_0 (c : Dev nD) : V3 m ρ c main_v4_0 = sA m c :=
  (W3_of m ρ c main_v4_0 (by decide)).trans ((W2_arr m ρ c 3).trans (arr3 m ρ c))
theorem V_v4_1 (c : Dev nD) : V3 m ρ c main_v4_1 = uA m c :=
  (W3_of m ρ c main_v4_1 (by decide)).trans ((W2_arr m ρ c 4).trans (arr4 m ρ c))
theorem V_arg3 (c : Dev nD) : V3 m ρ c main_arg3 = xA m c := W3_args m ρ c main_arg3 (by decide)
theorem V_v6 (c : Dev nD) : V3 m ρ c main_v6 = shapeCast S4x1408x2048 (truncf (F := Ideal) (φ := .f32) .bf16 (w2A m c) bitsLt_bf16_f32) shapeCasts_S5632x2048_S4x1408x2048 := by
  have h : W2 m ρ c (Proc.devRef .tc main_arg2) = w2A m c := W2_args m ρ c main_arg2 (by decide)
  rw [← h]
  show StableHlo.after hostOps1 (W2 m ρ c) _ = _
  after_results_simp
  rfl
theorem v6_at (c : Dev nD) (i : S4x1408x2048.Idx) : (V3 m ρ c main_v6 : S4x1408x2048.Idx → EReal) i = at2 (w2A m c) (1408 * (i 0).val + (i 1).val) (i 2).val := by
  rw [V_v6]
  show shapeCast S4x1408x2048 (w2A m c) shapeCasts_S5632x2048_S4x1408x2048 i = _
  obtain ⟨p, s, q, rfl⟩ : ∃ (p : Fin 4) (s : Fin 1408) (q : Fin 2048), i = ix3 p s q := ⟨i 0, i 1, i 2, eq_ix3 i⟩
  rw [shapeCast_apply _ _ _ (ix2 ⟨1408 * p.val + s.val, by omega⟩ q) (by
    rewrite [Shape.rowMajor_val_two, Shape.rowMajor_val_three]
    show (1408 * p.val + s.val) * 2048 + q.val = (p.val * 1408 + s.val) * 2048 + q.val
    omega)]
  exact at2_eq (w2A m c) _ _ _ rfl rfl

theorem bindex0 (t : Fin cfg1.N) : win1_0.index t 0 = t.val % 16 ∧ win1_0.index t 1 = 0 :=
  (by decide +kernel : ∀ t : Fin grid1.N, win1_0.index t 0 = t.val % 16 ∧ win1_0.index t 1 = 0) t
theorem bindex1 (t : Fin cfg1.N) : win1_1.index t 0 = t.val / 16 ∧ win1_1.index t 1 = 0 ∧ win1_1.index t 2 = 0 :=
  (by decide +kernel : ∀ t : Fin grid1.N, win1_1.index t 0 = t.val / 16 ∧ win1_1.index t 1 = 0 ∧ win1_1.index t 2 = 0) t
theorem bindex2 (t : Fin cfg1.N) : (win1_2.index t 0 = t.val % 16 ∧ win1_2.index t 1 = t.val / 16) ∧ win1_3.index t 0 = t.val % 16 ∧ win1_3.index t 1 = t.val / 16 :=
  (by decide +kernel : ∀ t : Fin grid1.N, (win1_2.index t 0 = t.val % 16 ∧ win1_2.index t 1 = t.val / 16) ∧ win1_3.index t 0 = t.val % 16 ∧ win1_3.index t 1 = t.val / 16) t
theorem bindex4 (t : Fin cfg1.N) : win1_4.index t 0 = 0 ∧ win1_4.index t 1 = t.val % 16 ∧ win1_4.index t 2 = t.val / 16 :=
  (by decide +kernel : ∀ t : Fin grid1.N, win1_4.index t 0 = 0 ∧ win1_4.index t 1 = t.val % 16 ∧ win1_4.index t 2 = t.val / 16) t

theorem bblk0 (c : Dev nD) (t : Fin cfg1.N) (a : Fin 512) (d : Fin 2048) :
    (iblk1 (V3 m ρ) c 0 t : Vec Ideal S512x2048 _) (ix2 a d) = at2 (xA m c) (512 * (t.val % 16) + a.val) d.val := by
  have hi := bindex0 t
  unfold iblk1
  rw [View.read_apply]
  refine Eq.trans (b := V3 m ρ c main_arg3 _) rfl ?_
  rw [V_arg3]
  refine at2_eq (xA m c) _ _ _ ?_ ?_
  · show win1_0.index t 0 * 512 + 1 * a.val = _; rw [hi.1]; omega
  · show win1_0.index t 1 * 2048 + 1 * d.val = _; rw [hi.2]; omega
theorem bblk1 (c : Dev nD) (t : Fin cfg1.N) (e : Fin 1408) (d : Fin 2048) :
    (iblk1 (V3 m ρ) c 1 t : Vec Ideal S1x1408x2048 _) (ix3 0 e d) = at2 (w2A m c) (1408 * (t.val / 16) + e.val) d.val := by
  have hi := bindex1 t
  unfold iblk1
  rw [View.read_apply]
  refine Eq.trans (b := V3 m ρ c main_v6 _) rfl ((v6_at m ρ c _).trans ?_)
  refine congrArg₂ (at2 (w2A m c)) ?_ ?_
  · show 1408 * (win1_1.index t 0 * 1 + 1 * 0) + (win1_1.index t 1 * 1408 + 1 * e.val) = _; rw [hi.1, hi.2.1]; omega
  · show win1_1.index t 2 * 2048 + 1 * d.val = _; rw [hi.2.2]; omega
theorem bblk2 (c : Dev nD) (t : Fin cfg1.N) (a : Fin 512) (e : Fin 1408) :
    (iblk1 (V3 m ρ) c 2 t : Vec Ideal S512x1408 _) (ix2 a e) = at2 (sA m c) (512 * (t.val % 16) + a.val) (1408 * (t.val / 16) + e.val) := by
  have hi := (bindex2 t).1
  unfold iblk1
  rw [View.read_apply]
  refine Eq.trans (b := V3 m ρ c main_v4_0 _) rfl ?_
  rw [V_v4_0]
  refine at2_eq (sA m c) _ _ _ ?_ ?_
  · show win1_2.index t 0 * 512 + 1 * a.val = _; rw [hi.1]; omega
  · show win1_2.index t 1 * 1408 + 1 * e.val = _; rw [hi.2]; omega
theorem bblk3 (c : Dev nD) (t : Fin cfg1.N) (a : Fin 512) (e : Fin 1408) :
    (iblk1 (V3 m ρ) c 3 t : Vec Ideal S512x1408 _) (ix2 a e) = at2 (uA m c) (512 * (t.val % 16) + a.val) (1408 * (t.val / 16) + e.val) := by
  have hi := (bindex2 t).2
  unfold iblk1
  rw [View.read_apply]
  refine Eq.trans (b := V3 m ρ c main_v4_1 _) rfl ?_
  rw [V_v4_1]
  refine at2_eq (uA m c) _ _ _ ?_ ?_
  · show win1_3.index t 0 * 512 + 1 * a.val = _; rw [hi.1]; omega
  · show win1_3.index t 1 * 1408 + 1 * e.val = _; rw [hi.2]; omega

/-- The gradient of the hidden activations, and of the gates (first half) and the up values (second half). -/
def da (c : Dev nD) (p f : ℕ) : EReal := ∑ d : Fin 2048, at2 (xA m c) p d.val * at2 (w2A m c) f d.val
@[inherit_doc da] def gA (c : Dev nD) : S2x8192x5632.Idx → EReal := fun i =>
  da m c (i 1).val (i 2).val * at2 (if (i 0).val = 0 then uA m c else sA m c) (i 1).val (i 2).val

theorem half_blk (c : Dev nD) (t : Fin cfg1.N) (y : S2x512x1408.Idx) (i : S2x8192x5632.Idx)
    (h0 : (i 0).val = win1_4.index t 0 * 2 + 1 * (y 0).val) (h1 : (i 1).val = win1_4.index t 1 * 512 + 1 * (y 1).val) (h2 : (i 2).val = win1_4.index t 2 * 1408 + 1 * (y 2).val) :
    half (iblk1 (V3 m ρ) c 0 t) (iblk1 (V3 m ρ) c 1 t) (iblk1 (V3 m ρ) c 2 t) (iblk1 (V3 m ρ) c 3 t) y = gA m c i := by
  have hi := bindex4 t
  rw [hi.1] at h0; rw [hi.2.1] at h1; rw [hi.2.2] at h2
  have e0 : (i 0).val = (y 0).val := by omega
  have e1 : (i 1).val = 512 * (t.val % 16) + (y 1).val := by omega
  have e2 : (i 2).val = 1408 * (t.val / 16) + (y 2).val := by omega
  unfold half gA
  rw [e0, e1, e2]
  refine congrArg₂ (fun x y : EReal => x * y) (Finset.sum_congr rfl fun d _ => congrArg₂ (fun x y : EReal => x * y) (bblk0 m ρ c t (y 1) d) (bblk1 m ρ c t (y 2) d)) ?_
  by_cases hy : (y 0).val = 0
  · rw [if_pos hy, if_pos hy]; exact bblk3 m ρ c t (y 1) (y 2)
  · rw [if_neg hy, if_neg hy]; exact bblk2 m ρ c t (y 1) (y 2)

theorem bonto : ∀ (q0 : Fin 16) (q1 : Fin 4), ∃ t : Fin cfg1.N, win1_4.flush t = true ∧ t.val % 16 = q0.val ∧ t.val / 16 = q1.val :=
  (by decide +kernel : ∀ (q0 : Fin 16) (q1 : Fin 4), ∃ t : Fin grid1.N, win1_4.flush t = true ∧ t.val % 16 = q0.val ∧ t.val / 16 = q1.val)

theorem barr4 (c : Dev nD) : (dat1 (V3 m ρ) c).arrAt 4 cfg1.N = gA m c := by
  refine (dat1 (V3 m ρ) c).arrAt_eq_of_cover 4 _ (fun t _ => ?_) (fun i => ?_)
  · show (cfg1.win 4).cut (grid1.coords t) ((dat1 (V3 m ρ) c).after 4 t) = _
    rw [after1_4]
    funext y
    exact (out4_eq c _ _ _ _ _ _ _ _ _ _ _ _ _ _ _ _).trans (half_blk m ρ c t _ (((cfg1.win 4).blk t).view.emb y) rfl rfl rfl)
  · have h0 : (i 0).val < 2 := (i 0).isLt
    have h1 : (i 1).val < 8192 := (i 1).isLt
    have h2 : (i 2).val < 5632 := (i 2).isLt
    obtain ⟨t, hf, e1, e2⟩ := bonto ⟨(i 1).val / 512, by omega⟩ ⟨(i 2).val / 1408, by omega⟩
    have hi := bindex4 t
    refine ⟨t, hf, ?_⟩
    show i ∈ ((View.whole main_v7).slice (win1_4.rect t)).set
    rw [View.set_slice_whole, Rect.mem_set_unit]
    intro a
    match a with
    | ⟨0, _⟩ => show win1_4.index t 0 * 2 ≤ (i 0).val ∧ (i 0).val < win1_4.index t 0 * 2 + 2; rw [hi.1]; omega
    | ⟨1, _⟩ => show win1_4.index t 1 * 512 ≤ (i 1).val ∧ (i 1).val < win1_4.index t 1 * 512 + 512; rw [hi.2.1, e1]; show (i 1).val / 512 * 512 ≤ _ ∧ _ < (i 1).val / 512 * 512 + 512; omega
    | ⟨2, _⟩ => show win1_4.index t 2 * 1408 ≤ (i 2).val ∧ (i 2).val < win1_4.index t 2 * 1408 + 1408; rw [hi.2.2, e2]; show (i 2).val / 1408 * 1408 ≤ _ ∧ _ < (i 2).val / 1408 * 1408 + 1408; omega

theorem W4_act (c : Dev nD) : W4 m ρ c (Proc.devRef .tc main_v4_2) = aA m c :=
  (W4_of m ρ c main_v4_2 (by decide)).trans ((W3_of m ρ c main_v4_2 (by decide)).trans ((W2_arr m ρ c 5).trans (arr5 m ρ c)))
theorem W4_grad (c : Dev nD) : W4 m ρ c (Proc.devRef .tc main_v7) = gA m c := (W4_arr m ρ c 4).trans (barr4 m ρ c)

end Cert.ActIdeal.Val
-- ==== Proof.ActClaim.lean ====
/-
  The claims about the feed-forward layer's activation and its backward call: on finite arguments the two calls leave the
  reference's hidden activations and the reverse-mode gradients of the gates and the up values.
-/
module

public import proofs.«01_k».proof.Proof.Claims
public import proofs.«01_k».proof.Proof.ActVal
public import proofs.«01_k».proof.Proof.Gen.Act
public import proofs.«01_k».proof.Proof.Gen.ActRefIdeal.Run
public import proofs.«01_k».proof.Proof.Gen.ActRefIdeal.Read

@[expose] public section

set_option maxRecDepth 16384
noncomputable section

namespace Cert.ActIdeal.Val
open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section run
variable {F : FTy → Type} [FloatOps F] (m : (ℓ : Loc nD τ sig) → Buf (Elt F) ℓ) (ρ : Dev nD → PrngReg)

set_option backward.isDefEq.respectTransparency.types false in
/-- The program runs and leaves in every array what its last boundary says. -/
theorem run_values : θ_run defs (onTc (τ := τ) (main (F := F))) ⟨m, fun _ => 0, ρ⟩ (fun r => ∀ (c : Dev nD), ∀ b ∈ Pipeline.ucRefs τ sig,
      r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)
end run

end Cert.ActIdeal.Val

namespace Cert.Proof.Act
open Idealize.ShloMosaic Idealize.ShloMosaic.TcCoe Idealize.SL.Sem
open Cert.Blocks Cert.ActRefIdeal.Read Cert.ActIdeal.Val Cert.Attn

instance facts_pre : Cert.Pre_finite_act.Facts where
  bcast_S_S8192x2048 := Cert.KernelIdeal.Facts₀.bcast_S_S8192x2048
  reducesTo_S8192x2048_S_d0_1 := by decide
  h_S_ := by decide
  bcast_S_S2048x11264 := by decide
  reducesTo_S2048x11264_S_d0_1 := by decide
  bcast_S_S5632x2048 := by decide
  reducesTo_S5632x2048_S_d0_1 := by decide

/-- The two programs have the same bodies and the same pipelines. -/
theorem eq_defs₀ : Cert.Act.defs₀ (F := Bits) = Cert.ActIdeal.defs₀ (F := Bits) :=
  congrArg Defs.onTc (funext fun a => match a with | 0 => funext fun ⟨_, _⟩ => rfl | 1 => funext fun ⟨_, _⟩ => rfl)
@[inherit_doc eq_defs₀] theorem eq_defs : Cert.Act.defs (F := Bits) = Cert.ActIdeal.defs (F := Bits) := congrArg (Pipeline.defs Cert.ActIdeal.pcfgs) eq_defs₀
/-- So the kernel, as printed, runs and leaves its arguments and the machine's counters as they were, as the idealised one does. -/
theorem frame_kernel : Cert.quiescent_Act := by
  intro m ρ _
  rw [eq_defs]
  exact Cert.ActIdeal.Gen.frame (F := Bits) m ρ
/-- The idealised one does. -/
theorem frame_ideal : Cert.quiescent_ActIdeal := fun m ρ _ => Cert.ActIdeal.Gen.frame m ρ
@[inherit_doc frame_ideal] theorem frame_ideal_pre : Cert.quiescent_ActIdeal_pre_finite_act := fun m ρ _ => frame_ideal m ρ trivial
/-- The reference does. -/
theorem frame_reference : Cert.quiescent_ActRefIdeal := fun m ρ _ =>
  (θ_run Cert.ActRefIdeal.defs _ _).mono (fun r h => ⟨fun c => (h c).2.2, sem_eq_zero_of_no_sems (by decide) r.2⟩) (Cert.ActRefIdeal.Value.run (F := Ideal) m ρ)
@[inherit_doc frame_reference] theorem frame_reference_pre : Cert.quiescent_ActRefIdeal_pre_finite_act := fun m ρ _ => frame_reference m ρ trivial

/-! ## The reference's results -/

section reference
variable (x0 : Cert.ActRefIdeal.S8192x2048.Idx → EReal) (x1 : Cert.ActRefIdeal.S2048x11264.Idx → EReal)
  (x2 : Cert.ActRefIdeal.S5632x2048.Idx → EReal) (x3 : Cert.ActRefIdeal.S8192x2048.Idx → EReal)

/-- The first product, and the gradient of the hidden activations. -/
def dot1 (p f : ℕ) : EReal := ∑ k : Fin 2048, at2 x0 p k.val * at2 x1 k.val f
@[inherit_doc dot1] def dot2 (p f : ℕ) : EReal := ∑ d : Fin 2048, at2 x3 p d.val * at2 x2 f d.val

theorem gate_eq (i : Cert.ActRefIdeal.S8192x5632.Idx) : val_main_v1 (F := Ideal) x0 x1 i = dot1 x0 x1 (i 0).val (i 1).val := by
  rw [val_main_v1_apply, val_main_v0_apply]
  exact Finset.sum_congr rfl fun k _ => congrArg₂ (fun x y : EReal => x * y) (at2_eq x0 _ _ _ rfl rfl) (at2_eq x1 _ _ _ rfl rfl)
theorem up_eq (i : Cert.ActRefIdeal.S8192x5632.Idx) : val_main_v2 (F := Ideal) x0 x1 i = dot1 x0 x1 (i 0).val (5632 + (i 1).val) := by
  rw [val_main_v2_apply, val_main_v0_apply]
  exact Finset.sum_congr rfl fun k _ => congrArg₂ (fun x y : EReal => x * y) (at2_eq x0 _ _ _ rfl rfl) (at2_eq x1 _ _ _ rfl rfl)
theorem da_eq (i : Cert.ActRefIdeal.S8192x5632.Idx) : val_main_v6 (F := Ideal) x2 x3 i = dot2 x2 x3 (i 0).val (i 1).val := by
  rw [val_main_v6_apply]
  exact Finset.sum_congr rfl fun k _ => congrArg₂ (fun x y : EReal => x * y) (at2_eq x3 _ _ _ rfl rfl) (at2_eq x2 _ _ _ rfl rfl)

/-- The reference's logistic function, spelled out by its operations, at a gate; in the forward pass and in the derivative's. -/
theorem sig_eq (i : Cert.ActRefIdeal.S8192x5632.Idx) : val_main_v3_2 (F := Ideal) x0 x1 i = Ideal.logistic (dot1 x0 x1 (i 0).val (i 1).val) := by
  rw [← gate_eq, Ideal.logistic, ← Ideal.ofBits_one_f32, val_main_v3_2_apply, val_main_call0_v3_apply, val_main_call0_v4_apply, val_main_call0_v2_apply]
  rfl
theorem sig_eq' (i : Cert.ActRefIdeal.S8192x5632.Idx) : val_main_call2_v5 (F := Ideal) x0 x1 i = Ideal.logistic (dot1 x0 x1 (i 0).val (i 1).val) := by
  rw [← gate_eq, Ideal.logistic, ← Ideal.ofBits_one_f32, val_main_call2_v5_apply, val_main_call2_v3_apply, val_main_call2_v4_apply, val_main_call2_v2_apply]
  rfl
theorem dsig_eq (i : Cert.ActRefIdeal.S8192x5632.Idx) : val_main_v3_1 (F := Ideal) x0 x1 i =
    Ideal.logistic (dot1 x0 x1 (i 0).val (i 1).val) * (1 - Ideal.logistic (dot1 x0 x1 (i 0).val (i 1).val)) := by
  rw [← sig_eq, val_main_v3_1_apply, val_main_call0_v7_apply, val_main_call0_v6_apply, ← Ideal.ofBits_one_f32]
  rfl

theorem act_eq (i : Cert.ActRefIdeal.S8192x5632.Idx) : val_main_v12 (F := Ideal) x0 x1 i =
    siluOf (dot1 x0 x1 (i 0).val (i 1).val) * dot1 x0 x1 (i 0).val (5632 + (i 1).val) := by
  show val_main_v1 (F := Ideal) x0 x1 i * val_main_call2_v5 (F := Ideal) x0 x1 i * val_main_v2 (F := Ideal) x0 x1 i = _
  rw [sig_eq', gate_eq, up_eq]; rfl
theorem dup_eq (i : Cert.ActRefIdeal.S8192x5632.Idx) : val_main_v7 (F := Ideal) x0 x1 x2 x3 i =
    siluOf (dot1 x0 x1 (i 0).val (i 1).val) * dot2 x2 x3 (i 0).val (i 1).val := by
  show val_main_v1 (F := Ideal) x0 x1 i * val_main_v3_2 (F := Ideal) x0 x1 i * val_main_v6 (F := Ideal) x2 x3 i = _
  rw [sig_eq, gate_eq, da_eq]; rfl

/-- The derivative of the gated value, times the gradient and the up value, in the order the reference multiplies. -/
def back (d g u : EReal) : EReal := d * u * Ideal.logistic g + g * (d * u) * (Ideal.logistic g * (1 - Ideal.logistic g))

theorem dgate_eq (i : Cert.ActRefIdeal.S8192x5632.Idx) : val_main_v9 (F := Ideal) x0 x1 x2 x3 i =
    back (dot2 x2 x3 (i 0).val (i 1).val) (dot1 x0 x1 (i 0).val (i 1).val) (dot1 x0 x1 (i 0).val (5632 + (i 1).val)) := by
  show val_main_v6 (F := Ideal) x2 x3 i * val_main_v2 (F := Ideal) x0 x1 i * val_main_v3_2 (F := Ideal) x0 x1 i +
    val_main_v1 (F := Ideal) x0 x1 i * (val_main_v6 (F := Ideal) x2 x3 i * val_main_v2 (F := Ideal) x0 x1 i) * val_main_v3_1 (F := Ideal) x0 x1 i = _
  rw [dsig_eq, sig_eq, gate_eq, up_eq, da_eq]; rfl

theorem grad_eq (i : Cert.ActRefIdeal.S2x8192x5632.Idx) : val_main_v16 (F := Ideal) x0 x1 x2 x3 i =
    if (i 0).val = 0 then back (dot2 x2 x3 (i 1).val (i 2).val) (dot1 x0 x1 (i 1).val (i 2).val) (dot1 x0 x1 (i 1).val (5632 + (i 2).val))
    else siluOf (dot1 x0 x1 (i 1).val (i 2).val) * dot2 x2 x3 (i 1).val (i 2).val := by
  obtain ⟨z, p, f, rfl⟩ : ∃ (z : Fin 2) (p : Fin 8192) (f : Fin 5632), i = ix3 z p f := ⟨i 0, i 1, i 2, eq_ix3 i⟩
  rw [val_main_v16_apply]
  show val_main_v15 (F := Ideal) x0 x1 x2 x3 (ix3 z p f) = _
  unfold val_main_v15
  match z with
  | 0 =>
    rw [if_pos (show (ix3 (0 : Fin 2) p f 0).val = 0 from rfl)]
    refine (concatenate_pair_apply_left (t := Cert.ActRefIdeal.S2x8192x5632) (s₁ := Cert.ActRefIdeal.S1x8192x5632) (s₂ := Cert.ActRefIdeal.S1x8192x5632) 0 _ _ _ _ rfl (ix3 (0 : Fin 1) p f) (fun b => match b with | ⟨0, _⟩ => rfl | ⟨1, _⟩ => rfl | ⟨2, _⟩ => rfl)).trans ?_
    rw [val_main_v13_apply, dgate_eq]
    rfl
  | 1 =>
    rw [if_neg (show ¬(ix3 (1 : Fin 2) p f 0).val = 0 from Nat.one_ne_zero)]
    refine (concatenate_pair_apply_right (t := Cert.ActRefIdeal.S2x8192x5632) (s₁ := Cert.ActRefIdeal.S1x8192x5632) (s₂ := Cert.ActRefIdeal.S1x8192x5632) 0 _ _ _ _ rfl rfl (ix3 (0 : Fin 1) p f) (fun b hb => match b, hb with | ⟨0, _⟩, hb => absurd rfl hb | ⟨1, _⟩, _ => rfl | ⟨2, _⟩, _ => rfl) rfl).trans ?_
    rw [val_main_v14_apply, dup_eq]
    rfl

/-! ## On finite arguments -/

/-- The two spellings of the gate's gradient agree on real numbers. -/
theorem back_real (d g u : ℝ) : (d : EReal) * slopeOf (g : EReal) (u : EReal) = back d g u := by
  unfold slopeOf back
  rw [Ideal.logistic_coe]
  generalize (1 + Real.exp (-g))⁻¹ = s
  norm_cast
  congr 1
  ring

/-- Where the precondition's predicate is true, all four arrays hold real numbers. -/
theorem finite_real (e : Cert.Pre_finite_act.fn (F := Ideal) x0 x1 x2 x3 = fun _ => 1#1) :
    (∀ i, x0 i = (((x0 i).toReal : ℝ) : EReal)) ∧ (∀ i, x1 i = (((x1 i).toReal : ℝ) : EReal)) ∧
      (∀ i, x2 i = (((x2 i).toReal : ℝ) : EReal)) ∧ ∀ i, x3 i = (((x3 i).toReal : ℝ) : EReal) := by
  have e := congrFun e (fun k => k.elim0)
  dsimp only [Cert.Pre_finite_act.fn, Cert.Pre_finite_act.fn_part1] at e
  have h3 := IntOp.andi_eq_one.mp e
  have h2 := IntOp.andi_eq_one.mp h3.1
  have h1 := IntOp.andi_eq_one.mp h2.1
  exact ⟨Claims.real_of_all _ _ _ (fun _ => rfl) _ _ _ _ _ h1.1, Claims.real_of_all _ _ _ (fun _ => rfl) _ _ _ _ _ h1.2,
    Claims.real_of_all _ _ _ (fun _ => rfl) _ _ _ _ _ h2.2, Claims.real_of_all _ _ _ (fun _ => rfl) _ _ _ _ _ h3.2⟩

/-- A sum of products of real numbers is real. -/
theorem dot_real {n : ℕ} (a b : Fin n → EReal) (ha : ∀ k, a k = (((a k).toReal : ℝ) : EReal)) (hb : ∀ k, b k = (((b k).toReal : ℝ) : EReal)) :
    ∃ r : ℝ, ∑ k, a k * b k = (r : EReal) := by
  refine ⟨∑ k, (a k).toReal * (b k).toReal, ?_⟩
  rw [← coe_sum]
  refine Finset.sum_congr rfl fun k _ => ?_
  rw [EReal.coe_mul, ← ha, ← hb]
end reference

open Cert.ActIdeal in
/-- Over the extended reals, on finite arguments, the two calls compute the hidden activations and the gradients of the gates
and the up values: the reference's results. -/
theorem algebraic : Cert.algebraic_ActIdeal_ActRefIdeal_pre_finite_act := by
  intro m ρ m' ρ' hpre hagree
  refine ⟨aA m, gA m, ?_, ?_⟩
  · refine (θ_run Cert.ActIdeal.defs _ _).mono (fun r h c => ?_) (θ_run_and (run_values (F := Ideal) m ρ) (Cert.ActIdeal.Gen.frame m ρ))
    exact ⟨(h.1 c _ (Cert.ActIdeal.Gen.mem_uc Cert.ActIdeal.main_v4_2 (by decide))).trans (W4_act m ρ c),
      (h.1 c _ (Cert.ActIdeal.Gen.mem_uc Cert.ActIdeal.main_v7 (by decide))).trans (W4_grad m ρ c), h.2.1 c⟩
  · refine (θ_run Cert.ActRefIdeal.defs _ _).mono (fun r h c => ?_) (Cert.ActRefIdeal.Value.run (F := Ideal) m' ρ')
    obtain ⟨h0, h1, h2, h3⟩ := finite_real _ _ _ _ (hpre c)
    obtain ⟨g0, g1, g2, g3⟩ := hagree c
    refine ⟨(h c).1.trans ?_, (h c).2.1.trans ?_, (h c).2.2⟩
    · rw [val_main_v12_eq, g0, g1]
      funext i
      exact act_eq _ _ i
    · rw [val_main_v16_eq, g0, g1, g2, g3]
      funext i
      refine (grad_eq _ _ _ _ i).trans ?_
      show _ = da m c (i 1).val (i 2).val * at2 (if (i 0).val = 0 then uA m c else sA m c) (i 1).val (i 2).val
      by_cases hi : (i 0).val = 0
      · rw [if_pos hi, if_pos hi]
        obtain ⟨d, hd⟩ : ∃ r : ℝ, da m c (i 1).val (i 2).val = (r : EReal) := dot_real _ _ (fun k => h3 _) (fun k => h2 _)
        obtain ⟨g, hg⟩ : ∃ r : ℝ, lin m c (i 1).val (i 2).val = (r : EReal) := dot_real _ _ (fun k => h0 _) (fun k => h1 _)
        obtain ⟨u, hu⟩ : ∃ r : ℝ, lin m c (i 1).val (5632 + (i 2).val) = (r : EReal) := dot_real _ _ (fun k => h0 _) (fun k => h1 _)
        refine Eq.trans (b := back (da m c (i 1).val (i 2).val) (lin m c (i 1).val (i 2).val) (lin m c (i 1).val (5632 + (i 2).val))) rfl ?_
        refine Eq.trans ?_ (congrArg (da m c (i 1).val (i 2).val * ·) (at2_eq (uA m c) (ix2 (i 1) (i 2)) _ _ rfl rfl))
        show _ = da m c (i 1).val (i 2).val * slopeOf (lin m c (i 1).val (i 2).val) (lin m c (i 1).val (5632 + (i 2).val))
        rw [hd, hg, hu]
        exact (back_real d g u).symm
      · rw [if_neg hi, if_neg hi]
        exact (mul_comm _ _).trans (congrArg (da m c (i 1).val (i 2).val * ·) (at2_eq (sA m c) (ix2 (i 1) (i 2)) _ _ rfl rfl))

end Cert.Proof.Act
-- ==== Proof.DhVal.lean ====
/-
  The call through the feed-forward layer's first product and the norm before it: what a point of its grid stores, and the
  stored values over the extended reals.
-/
module

public import proofs.«01_k».proof.Defs
public import proofs.«01_k».proof.Proof.Blocks
public import proofs.«01_k».proof.Proof.Gen.DhIdeal.Value

@[expose] public section

set_option maxRecDepth 16384
noncomputable section

namespace Cert.DhIdeal.Val
open Cert.DhIdeal Cert.DhIdeal.Gen Cert.Blocks
open Idealize Idealize.ShloMosaic Idealize.ShloMosaic.TcCoe Idealize.ShloMosaic.Tactic Idealize.SL.Sem

section stores
variable {F : FTy → Type} [FloatOps F]
variable (c : Dev nD) (i : grid0.Coords) (a2 : Memref sig .tc .vmem S1x512x1408 .bf16) (h2 : a2.IsWhole) (a3 : Memref sig .tc .vmem S1x2048x1408 .bf16) (h3 : a3.IsWhole)
  (a4 : Memref sig .tc .vmem S512x2048 .f32) (h4 : a4.IsWhole) (a5 : Memref sig .tc .vmem S1x2048 .f32) (h5 : a5.IsWhole) (a6 : Memref sig .tc .vmem S512x2048 .f32) (h6 : a6.IsWhole)
  (a7 : Memref sig .tc .vmem S512x2048 .f32) (h7 : a7.IsWhole) (a8 : Memref sig .tc .vmem S1x2048 .f32) (h8 : a8.IsWhole)
  (x0 : Vec F S1x512x1408 .bf16) (x1 : Vec F S1x2048x1408 .bf16) (x2 : Vec F S512x2048 .f32) (x3 : Vec F S1x2048 .f32) (x4 : Vec F S512x2048 .f32)
  (p : Vec F S512x2048 .f32) (q : Vec F S1x2048 .f32)

/-- The first point of a run leaves the product of its blocks over zero. -/
theorem out_A (hc0 : cond0_0 i) (hc1 : ¬cond0_1 i) : out0_A_5 c i a2 h2 a3 h3 a4 h4 a5 h5 a6 h6 a7 h7 a8 h8 hc0 hc1 x0 x1 x2 x3 x4 = k0_pay2 (k0_pay1 (F := F)) x0 x1 := by
  unfold out0_A_5
  rw [View.read_writes_eq_canon _ _ _ (cover0_A_5 c i a2 h2 a3 h3 a4 h4 a5 h5 a6 h6 a7 h7 a8 h8 hc0 hc1 x0 x1 x2 x3 x4)]
  unfold kernelRun0_A
  dsimp only
  sl_unfold_words
  rw [View.canon_cons_unit_zero (S := S512x2048) hz2, View.readCov_unit_zero (S := S512x2048) _ hz2]
  simp only [View.readAt_eq_ld, h2.read_unread, h3.read_unread, View.ld_unit_zero (S := S1x512x1408) hz3, View.ld_unit_zero (S := S1x2048x1408) hz3]

/-- A middle point adds the product of its blocks. -/
theorem out_B (hc0 : ¬cond0_0 i) (hc1 : ¬cond0_1 i) : out0_B_5 c i a2 h2 a3 h3 a4 h4 a5 h5 a6 h6 a7 h7 a8 h8 hc0 hc1 x0 x1 x2 x3 x4 p = k0_pay2 p x0 x1 := by
  unfold out0_B_5
  rw [View.read_writes_eq_canon _ _ _ (cover0_B_5 c i a2 h2 a3 h3 a4 h4 a5 h5 a6 h6 a7 h7 a8 h8 hc0 hc1 x0 x1 x2 x3 x4 p)]
  unfold kernelRun0_B
  dsimp only
  rw [View.canon_unit_zero hz2]
  simp only [View.readAt_eq_ld, h2.read_unread, h3.read_unread, h7.read_unread, View.ld_unit_zero (S := S1x512x1408) hz3, View.ld_unit_zero (S := S1x2048x1408) hz3,
    View.ld_unit_zero (S := S512x2048) hz2]

/-! ### The loop over the block's four chunks of rows -/

theorem off_eq : ∀ k : Fin k0_t1_loop.trips, k0_off1 k = ![128 * k.val, 0] := by decide +kernel
theorem trips_eq : k0_t1_loop.trips = 4 := by decide +kernel

/-- The `k`-th chunk of 128 rows of a block. -/
def rows (k : ℕ) (X : Vec F S512x2048 .f32) : Vec F S128x2048 .f32 := fun z => X (ix2 (Fin.ofNat 512 (128 * k + (z 0).val)) (z 1))

/-- A load of a chunk. -/
theorem ld_rows (a : Memref sig .tc .vmem S512x2048 .f32) (f : BufTy.Contents (Elt F) a.view.ty) (k : Fin k0_t1_loop.trips)
    (inb : ∀ b, (k0_off1 k) b + S128x2048.size b ≤ S512x2048.size b) :
    View.readAt (Elt F) a.view (Rect.unit (s := S512x2048) (k0_off1 k) S128x2048.size inb).toLoadRect f = rows k.val (a.view.read (Elt F) f) := by
  have hk : k.val < 4 := trips_eq ▸ k.isLt
  rw [View.readAt_eq_ld]
  funext z
  have hz : (z 0).val < 128 := (z 0).isLt
  show a.view.read (Elt F) f _ = a.view.read (Elt F) f _
  congr 1
  funext b
  apply Fin.ext
  match b with
  | ⟨0, _⟩ =>
    have h0 : k0_off1 k 0 = 128 * k.val := congrFun (off_eq k) 0
    show k0_off1 k 0 + 1 * (z 0).val = (128 * k.val + (z 0).val) % 512
    omega
  | ⟨1, _⟩ =>
    have h1 : k0_off1 k 1 = 0 := congrFun (off_eq k) 1
    show k0_off1 k 1 + 1 * (z 1).val = (z 1).val
    omega

variable (P : Vec F S512x2048 .f32)

/-- A row of the block once its chunk has been rewritten. -/
def fin : Vec F S512x2048 .f32 := fun y => k0_pay7 (rows ((y 0).val / 128) P) (rows ((y 0).val / 128) x2) x3 (rows ((y 0).val / 128) x4) (ix2 (Fin.ofNat 128 ((y 0).val % 128)) (y 1))
/-- The block when the chunks before `k` have been rewritten. -/
def mix (k : ℕ) : Vec F S512x2048 .f32 := fun y => if (y 0).val < 128 * k then fin x2 x3 x4 P y else P y
/-- The gain's sum over the chunks before `k`. -/
def gain : ℕ → Vec F S1x2048 .f32
  | 0 => k0_pay3
  | k + 1 => k0_pay8 (gain k) (rows k P) (rows k x2)

theorem rows_mix (k : ℕ) (hk : k < 4) : rows k (mix x2 x3 x4 P k) = rows k P := by
  funext z
  have hz : (z 0).val < 128 := (z 0).isLt
  unfold rows mix
  rw [if_neg (by show ¬ (128 * k + (z 0).val) % 512 < 128 * k; omega)]

theorem tripR_eq (hk : k0_cond2 i = 1#1) (k : Fin k0_t1_loop.trips) (acc : FVec F S1x2048 .f32) (f : BufTy.Contents (Elt F) a7.view.ty) :
    tripR_k0_t1 (F := F) Variants.none c none i a2 h2 a3 h3 a4 h4 a5 h5 a6 h6 a7 h7 a8 h8 hk (h4.unread x2) (h5.unread x3) (h6.unread x4) k acc f
      = k0_pay8 acc (rows k.val (a7.view.read (Elt F) f)) (rows k.val x2) := by
  unfold tripR_k0_t1 trip_k0_t1
  dsimp only
  refine congrArg₂ (k0_pay8 acc) (ld_rows a7 f k _) ((ld_rows a4 _ k _).trans (congrArg (rows k.val) (h4.read_unread x2)))

theorem tripL_eq (hk : k0_cond2 i = 1#1) (k : Fin k0_t1_loop.trips) (acc : FVec F S1x2048 .f32) (f : BufTy.Contents (Elt F) a7.view.ty) :
    tripL_k0_t1 (F := F) Variants.none c none i a2 h2 a3 h3 a4 h4 a5 h5 a6 h6 a7 h7 a8 h8 hk (h4.unread x2) (h5.unread x3) (h6.unread x4) k acc f
      = [⟨Rect.unit (s := S512x2048) (k0_off1 k) S128x2048.size (k0_off1_inb i k hk), k0_pay7 (rows k.val (a7.view.read (Elt F) f)) (rows k.val x2) x3 (rows k.val x4)⟩] := by
  unfold tripL_k0_t1 trip_k0_t1
  dsimp only
  have e7 := ld_rows a7 f k (k0_off1_inb i k hk)
  have e4 := (ld_rows a4 (h4.unread x2) k (k0_off1_inb i k hk)).trans (congrArg (rows k.val) (h4.read_unread x2))
  have e6 := (ld_rows a6 (h6.unread x4) k (k0_off1_inb i k hk)).trans (congrArg (rows k.val) (h6.read_unread x4))
  have e5 : View.readAt (Elt F) a5.view (Rect.unit (s := S1x2048) ![0, 0] S1x2048.size inb_S1x2048_S1x2048_0_0).toLoadRect (h5.unread x3) = x3 := by
    rw [View.readAt_eq_ld, h5.read_unread, View.ld_unit_zero (S := S1x2048) hz2]
  rw [← e7, ← e4, ← e6]
  conv_rhs => rw [← e5]

/-- The loop's state before trip `k`. -/
theorem state (hk : k0_cond2 i = 1#1) (G : BufTy.Contents (Elt F) a7.view.ty) (hG : a7.view.read (Elt F) G = P) (k : ℕ) (h : k ≤ 4) :
    (st_k0_t1 (F := F) Variants.none c none i a2 h2 a3 h3 a4 h4 a5 h5 a6 h6 a7 h7 a8 h8 hk (h4.unread x2) (h5.unread x3) (h6.unread x4) G (k0_pay3 (F := F)) k).1 = gain x2 P k ∧
    a7.view.read (Elt F) (a7.view.writes (Elt F) G (st_k0_t1 (F := F) Variants.none c none i a2 h2 a3 h3 a4 h4 a5 h5 a6 h6 a7 h7 a8 h8 hk (h4.unread x2) (h5.unread x3) (h6.unread x4) G (k0_pay3 (F := F)) k).2)
      = mix x2 x3 x4 P k := by
  induction k with
  | zero =>
    refine ⟨rfl, ?_⟩
    show a7.view.read (Elt F) G = _
    rw [hG]
    funext y
    exact (if_neg (by omega)).symm
  | succ k ih =>
    obtain ⟨i1, i2⟩ := ih (by omega)
    have hkt : k < k0_t1_loop.trips := by rw [trips_eq]; omega
    have e := st_k0_t1_succ (F := F) Variants.none c none i a2 h2 a3 h3 a4 h4 a5 h5 a6 h6 a7 h7 a8 h8 hk (h4.unread x2) (h5.unread x3) (h6.unread x4) G (k0_pay3 (F := F)) ⟨k, hkt⟩
    dsimp only at e
    generalize hs : st_k0_t1 (F := F) Variants.none c none i a2 h2 a3 h3 a4 h4 a5 h5 a6 h6 a7 h7 a8 h8 hk (h4.unread x2) (h5.unread x3) (h6.unread x4) G (k0_pay3 (F := F)) k = s at i1 i2 e
    rw [e]
    dsimp only
    rw [tripR_eq, tripL_eq, i1, i2]
    dsimp only
    rw [rows_mix _ _ _ _ k (by omega)]
    refine ⟨rfl, ?_⟩
    funext y
    have hy : (y 0).val < 512 := (y 0).isLt
    have hy1 : (y 1).val < 2048 := (y 1).isLt
    rw [List.singleton_append]
    by_cases hm : 128 * k ≤ (y 0).val ∧ (y 0).val < 128 * (k + 1)
    · refine (View.read_writes_cons_unit_of_mem a7.view G _ _ s.2 y (ix2 (Fin.ofNat 128 ((y 0).val % 128)) (y 1)) (off_eq ⟨k, hkt⟩) (fun b => ?_)).trans ?_
      · match b with
        | ⟨0, _⟩ => show (y 0).val = 128 * k + (y 0).val % 128 % 128; omega
        | ⟨1, _⟩ => exact (Nat.zero_add _).symm
      · unfold mix fin
        rw [if_pos (by omega), show (y 0).val / 128 = k by omega]
        rfl
    · refine (View.read_writes_cons_unit_of_not_mem a7.view G _ _ s.2 y (off_eq ⟨k, hkt⟩) 0 ?_).trans ?_
      · show (y 0).val < 128 * k ∨ 128 * k + 128 ≤ (y 0).val
        omega
      · rw [i2]
        unfold mix
        by_cases hl : (y 0).val < 128 * k
        · rw [if_pos hl, if_pos (by omega)]
        · rw [if_neg hl, if_neg (by omega)]

/-- The whole block rewritten. -/
theorem mix_all : mix x2 x3 x4 P 4 = fin x2 x3 x4 P := funext fun y => if_pos (by have : (y 0).val < 512 := (y 0).isLt; omega)

theorem trips_eq' : Scf.trips (0#32) (Scalar.addi 0#32 4#32) 1#32 = 4 := trips_eq

/-- The last point of a run: the block's rows, rewritten. -/
theorem out_C5 (hc0 : ¬cond0_0 i) (hc1 : cond0_1 i) (hc2 : cond0_2 i) (hc3 : ¬cond0_3 i) :
    out0_C_5 c i a2 h2 a3 h3 a4 h4 a5 h5 a6 h6 a7 h7 a8 h8 hc0 hc1 hc2 hc3 x0 x1 x2 x3 x4 p = fin x2 x3 x4 (k0_pay2 p x0 x1) := by
  unfold out0_C_5
  rw [View.read_writes_eq_canon _ _ _ (cover0_C_5 c i a2 h2 a3 h3 a4 h4 a5 h5 a6 h6 a7 h7 a8 h8 hc0 hc1 hc2 hc3 x0 x1 x2 x3 x4 p),
    ← View.read_writes_eq_canon a7.view a7.view.junk _ (cover0_C_5 c i a2 h2 a3 h3 a4 h4 a5 h5 a6 h6 a7 h7 a8 h8 hc0 hc1 hc2 hc3 x0 x1 x2 x3 x4 p)]
  unfold kernelRun0_C
  dsimp only
  sl_unfold_words
  rw [View.writes_append, trips_eq', ← mix_all]
  refine (state c i a2 h2 a3 h3 a4 h4 a5 h5 a6 h6 a7 h7 a8 h8 x2 x3 x4 _ hc1 _ ?_ 4 (le_refl _)).2
  rw [View.read_writes_junk_eq_canon, View.canon_unit_zero hz2]
  simp only [View.readAt_eq_ld, h2.read_unread, h3.read_unread, h7.read_unread, View.ld_unit_zero (S := S1x512x1408) hz3, View.ld_unit_zero (S := S1x2048x1408) hz3,
    View.ld_unit_zero (S := S512x2048) hz2]
theorem out_D5 (hc0 : ¬cond0_0 i) (hc1 : cond0_1 i) (hc2 : ¬cond0_2 i) (hc3 : cond0_3 i) :
    out0_D_5 c i a2 h2 a3 h3 a4 h4 a5 h5 a6 h6 a7 h7 a8 h8 hc0 hc1 hc2 hc3 x0 x1 x2 x3 x4 p q = fin x2 x3 x4 (k0_pay2 p x0 x1) := by
  unfold out0_D_5
  rw [View.read_writes_eq_canon _ _ _ (cover0_D_5 c i a2 h2 a3 h3 a4 h4 a5 h5 a6 h6 a7 h7 a8 h8 hc0 hc1 hc2 hc3 x0 x1 x2 x3 x4 p q),
    ← View.read_writes_eq_canon a7.view a7.view.junk _ (cover0_D_5 c i a2 h2 a3 h3 a4 h4 a5 h5 a6 h6 a7 h7 a8 h8 hc0 hc1 hc2 hc3 x0 x1 x2 x3 x4 p q)]
  unfold kernelRun0_D
  dsimp only
  sl_unfold_words
  rw [View.writes_append, trips_eq', ← mix_all]
  refine (state c i a2 h2 a3 h3 a4 h4 a5 h5 a6 h6 a7 h7 a8 h8 x2 x3 x4 _ hc1 _ ?_ 4 (le_refl _)).2
  rw [View.read_writes_junk_eq_canon, View.canon_unit_zero hz2]
  simp only [View.readAt_eq_ld, h2.read_unread, h3.read_unread, h7.read_unread, View.ld_unit_zero (S := S1x512x1408) hz3, View.ld_unit_zero (S := S1x2048x1408) hz3,
    View.ld_unit_zero (S := S512x2048) hz2]
/-- The first run's share of the gain's gradient is stored; a later run's is added. -/
theorem out_C6 (hc0 : ¬cond0_0 i) (hc1 : cond0_1 i) (hc2 : cond0_2 i) (hc3 : ¬cond0_3 i) :
    out0_C_6 c i a2 h2 a3 h3 a4 h4 a5 h5 a6 h6 a7 h7 a8 h8 hc0 hc1 hc2 hc3 x0 x1 x2 x3 x4 p = gain x2 (k0_pay2 p x0 x1) 4 := by
  unfold out0_C_6
  rw [View.read_writes_eq_canon _ _ _ (cover0_C_6 c i a2 h2 a3 h3 a4 h4 a5 h5 a6 h6 a7 h7 a8 h8 hc0 hc1 hc2 hc3 x0 x1 x2 x3 x4 p)]
  unfold kernelRun0_C
  dsimp only
  sl_unfold_words
  rw [View.canon_unit_zero (S := S1x2048) hz2, trips_eq']
  refine (state c i a2 h2 a3 h3 a4 h4 a5 h5 a6 h6 a7 h7 a8 h8 x2 x3 x4 _ hc1 _ ?_ 4 (le_refl _)).1
  rw [View.read_writes_junk_eq_canon, View.canon_unit_zero hz2]
  simp only [View.readAt_eq_ld, h2.read_unread, h3.read_unread, h7.read_unread, View.ld_unit_zero (S := S1x512x1408) hz3, View.ld_unit_zero (S := S1x2048x1408) hz3,
    View.ld_unit_zero (S := S512x2048) hz2]
@[inherit_doc out_C6] theorem out_D6 (hc0 : ¬cond0_0 i) (hc1 : cond0_1 i) (hc2 : ¬cond0_2 i) (hc3 : cond0_3 i) :
    out0_D_6 c i a2 h2 a3 h3 a4 h4 a5 h5 a6 h6 a7 h7 a8 h8 hc0 hc1 hc2 hc3 x0 x1 x2 x3 x4 p q = k0_pay9 (gain x2 (k0_pay2 p x0 x1) 4) q := by
  unfold out0_D_6
  rw [View.read_writes_eq_canon _ _ _ (cover0_D_6 c i a2 h2 a3 h3 a4 h4 a5 h5 a6 h6 a7 h7 a8 h8 hc0 hc1 hc2 hc3 x0 x1 x2 x3 x4 p q)]
  unfold kernelRun0_D
  dsimp only
  sl_unfold_words
  rw [View.canon_unit_zero (S := S1x2048) hz2, trips_eq']
  refine congrArg₂ k0_pay9 (state c i a2 h2 a3 h3 a4 h4 a5 h5 a6 h6 a7 h7 a8 h8 x2 x3 x4 _ hc1 _ ?_ 4 (le_refl _)).1 ?_
  · rw [View.read_writes_junk_eq_canon, View.canon_unit_zero hz2]
    simp only [View.readAt_eq_ld, h2.read_unread, h3.read_unread, h7.read_unread, View.ld_unit_zero (S := S1x512x1408) hz3, View.ld_unit_zero (S := S1x2048x1408) hz3,
      View.ld_unit_zero (S := S512x2048) hz2]
  · rw [View.readAt_eq_ld, h8.read_unread]
    exact View.ld_unit_zero (S := S1x2048) hz2 _ _
end stores

/-! ## At the ideal values -/

theorem pay1_at (y : S512x2048.Idx) : k0_pay1 (F := Ideal) y = 0 := by
  pointwise [k0_pay1]
theorem pay2_at (s : S512x2048.Idx → EReal) (x0 : S1x512x1408.Idx → EReal) (x1 : S1x2048x1408.Idx → EReal) (a : Fin 512) (d : Fin 2048) :
    k0_pay2 (F := Ideal) s x0 x1 (ix2 a d) = s (ix2 a d) + ∑ r : Fin 1408, x0 (ix3 0 a r) * x1 (ix3 0 d r) := by
  pointwise [k0_pay2]
theorem pay3_at (y : S1x2048.Idx) : k0_pay3 (F := Ideal) y = 0 := by
  pointwise [k0_pay3]

/-- The mean square of a row over its width, with the norm's small term; its inverse root; and a row's gradient. -/
def msq (x : Fin 2048 → EReal) : EReal := Ideal.div (∑ d : Fin 2048, x d * x d) (Ideal.ofBits .f32 0x45000000#32) + Ideal.ofBits .f32 0x358637BD#32
@[inherit_doc msq] def inv (x : Fin 2048 → EReal) : EReal := Ideal.rsqrt (msq x)
@[inherit_doc msq] def rowOf (h x g : Fin 2048 → EReal) (y : EReal) (d : Fin 2048) : EReal :=
  y + inv x * (h d * g d - x d * inv x * Ideal.div (∑ e : Fin 2048, h e * g e * (x e * inv x)) (Ideal.ofBits .f32 0x45000000#32))

theorem pay5_at (x : S128x2048.Idx → EReal) (a : Fin 128) (z : Fin 1) : k0_pay5 (F := Ideal) x (ix2 a z) = inv (fun d => x (ix2 a d)) := by
  unfold inv msq
  pointwise [k0_pay5]
theorem pay6_at (x : S128x2048.Idx → EReal) (a : Fin 128) (d : Fin 2048) : k0_pay6 (F := Ideal) x (ix2 a d) = x (ix2 a d) * inv (fun d => x (ix2 a d)) := by
  pointwise [k0_pay6, pay5_at]
theorem pay7_at (h x : S128x2048.Idx → EReal) (g : S1x2048.Idx → EReal) (y : S128x2048.Idx → EReal) (a : Fin 128) (d : Fin 2048) :
    k0_pay7 (F := Ideal) h x g y (ix2 a d) = rowOf (fun d => h (ix2 a d)) (fun d => x (ix2 a d)) (fun d => g (ix2 0 d)) (y (ix2 a d)) d := by
  unfold rowOf
  pointwise [k0_pay7, k0_pay4, pay5_at, pay6_at]
theorem pay8_at (s : S1x2048.Idx → EReal) (h x : S128x2048.Idx → EReal) (z : Fin 1) (d : Fin 2048) :
    k0_pay8 (F := Ideal) s h x (ix2 z d) = s (ix2 z d) + ∑ a : Fin 128, h (ix2 a d) * (x (ix2 a d) * inv (fun d => x (ix2 a d))) := by
  pointwise [k0_pay8, k0_pay4, pay6_at]
theorem pay9_at (s q : S1x2048.Idx → EReal) (y : S1x2048.Idx) : k0_pay9 (F := Ideal) s q y = q y + s y := by
  pointwise [k0_pay9]
end Cert.DhIdeal.Val
-- ==== Proof.DhArr.lean ====
/-
  What the call through the feed-forward layer's first product leaves in its two arrays.
-/
module

public import proofs.«01_k».proof.Proof.DhVal

@[expose] public section

set_option maxRecDepth 16384
noncomputable section

namespace Cert.DhIdeal.Val
open Cert.DhIdeal Cert.DhIdeal.Gen Cert.DhIdeal.Value Cert.Blocks
open Idealize Idealize.ShloMosaic Idealize.ShloMosaic.TcCoe Idealize.ShloMosaic.Tactic Idealize.SL.Sem

variable (m : (ℓ : Loc nD τ sig) → Buf (Elt Ideal) ℓ) (ρ : Dev nD → PrngReg)

/-- The arguments: the residual stream, the norm's gain, the weights, the hidden values' gradient, the residual stream's gradient. -/
def xA (c : Dev nD) : S8192x2048.Idx → EReal := m ((c : Thread nD τ).loc main_arg0)
@[inherit_doc xA] def gA (c : Dev nD) : S2048.Idx → EReal := m ((c : Thread nD τ).loc main_arg1)
@[inherit_doc xA] def wA (c : Dev nD) : S2048x11264.Idx → EReal := m ((c : Thread nD τ).loc main_arg2)
@[inherit_doc xA] def ctA (c : Dev nD) : S8192x11264.Idx → EReal := m ((c : Thread nD τ).loc main_arg3)
@[inherit_doc xA] def rA (c : Dev nD) : S8192x2048.Idx → EReal := m ((c : Thread nD τ).loc main_arg4)

theorem V_v2 (c : Dev nD) : V m c main_v2 = truncf (F := Ideal) (φ := .f32) .bf16 (transpose S2x8192x5632 [1, 0, 2]
    (shapeCast S8192x2x5632 (ctA m c) shapeCasts_S8192x11264_S8192x2x5632) transposes_S8192x2x5632_S2x8192x5632_1_0_2) bitsLt_bf16_f32 := by
  show StableHlo.after hostOps0 (fun b => m (c, b)) _ = _
  after_results_simp
  rfl
theorem V_v5 (c : Dev nD) : V m c main_v5 = truncf (F := Ideal) (φ := .f32) .bf16 (transpose S8x2048x1408 [1, 0, 2]
    (shapeCast S2048x8x1408 (wA m c) shapeCasts_S2048x11264_S2048x8x1408) transposes_S2048x8x1408_S8x2048x1408_1_0_2) bitsLt_bf16_f32 := by
  show StableHlo.after hostOps0 (fun b => m (c, b)) _ = _
  after_results_simp
  rfl
theorem V_v6 (c : Dev nD) : V m c main_v6 = broadcastInDim S1x2048 ![1] bcast_S2048_S1x2048_1 (gA m c) := by
  show StableHlo.after hostOps0 (fun b => m (c, b)) _ = _
  after_results_simp
  rfl

theorem v2_at (c : Dev nD) (i : S2x8192x5632.Idx) (a b : ℕ) (ha : (i 1).val = a) (hb : 5632 * (i 0).val + (i 2).val = b) :
    (V m c main_v2 : S2x8192x5632.Idx → EReal) i = at2 (ctA m c) a b := by
  rw [V_v2]
  show transpose S2x8192x5632 [1, 0, 2] (shapeCast S8192x2x5632 (ctA m c) shapeCasts_S8192x11264_S8192x2x5632) transposes_S8192x2x5632_S2x8192x5632_1_0_2 i = _
  obtain ⟨p, s, q, rfl⟩ : ∃ (p : Fin 2) (s : Fin 8192) (q : Fin 5632), i = ix3 p s q := ⟨i 0, i 1, i 2, eq_ix3 i⟩
  refine (transpose_apply _ _ _ _ (ix3 s p q) (fun b => match b with | ⟨0, _⟩ => rfl | ⟨1, _⟩ => rfl | ⟨2, _⟩ => rfl)).trans ?_
  have hp := p.isLt
  have hq := q.isLt
  rw [shapeCast_apply _ _ _ (ix2 s (⟨5632 * p.val + q.val, by omega⟩ : Fin 11264)) (by
    rewrite [Shape.rowMajor_val_two, Shape.rowMajor_val_three]
    show s.val * 11264 + (5632 * p.val + q.val) = (s.val * 2 + p.val) * 5632 + q.val
    omega)]
  exact at2_eq (ctA m c) _ _ _ ha hb
theorem v5_at (c : Dev nD) (i : S8x2048x1408.Idx) (a b : ℕ) (ha : (i 1).val = a) (hb : 1408 * (i 0).val + (i 2).val = b) :
    (V m c main_v5 : S8x2048x1408.Idx → EReal) i = at2 (wA m c) a b := by
  rw [V_v5]
  show transpose S8x2048x1408 [1, 0, 2] (shapeCast S2048x8x1408 (wA m c) shapeCasts_S2048x11264_S2048x8x1408) transposes_S2048x8x1408_S8x2048x1408_1_0_2 i = _
  obtain ⟨p, s, q, rfl⟩ : ∃ (p : Fin 8) (s : Fin 2048) (q : Fin 1408), i = ix3 p s q := ⟨i 0, i 1, i 2, eq_ix3 i⟩
  refine (transpose_apply _ _ _ _ (ix3 s p q) (fun b => match b with | ⟨0, _⟩ => rfl | ⟨1, _⟩ => rfl | ⟨2, _⟩ => rfl)).trans ?_
  rw [shapeCast_apply _ _ _ (ix2 s (⟨1408 * p.val + q.val, by omega⟩ : Fin 11264)) (by
    rewrite [Shape.rowMajor_val_two, Shape.rowMajor_val_three]
    show s.val * 11264 + (1408 * p.val + q.val) = (s.val * 8 + p.val) * 1408 + q.val
    omega)]
  exact at2_eq (wA m c) _ _ _ ha hb

/-- Point `t` is block `t / 8` of the rows and block `t % 8` of the hidden values. -/
theorem index0 (t : Fin cfg0.N) : win0_0.index t 0 = t.val % 8 / 4 ∧ win0_0.index t 1 = t.val / 8 ∧ win0_0.index t 2 = t.val % 4 :=
  (by decide +kernel : ∀ t : Fin grid0.N, win0_0.index t 0 = t.val % 8 / 4 ∧ win0_0.index t 1 = t.val / 8 ∧ win0_0.index t 2 = t.val % 4) t
theorem index1 (t : Fin cfg0.N) : win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0) t
theorem index2 (t : Fin cfg0.N) : win0_2.index t 0 = t.val / 8 ∧ win0_2.index t 1 = 0 :=
  (by decide +kernel : ∀ t : Fin grid0.N, win0_2.index t 0 = t.val / 8 ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = t.val / 8 ∧ win0_4.index t 1 = 0 :=
  (by decide +kernel : ∀ t : Fin grid0.N, win0_4.index t 0 = t.val / 8 ∧ win0_4.index t 1 = 0) t
theorem index5 (t : Fin cfg0.N) : win0_5.index t 0 = t.val / 8 ∧ win0_5.index t 1 = 0 :=
  (by decide +kernel : ∀ t : Fin grid0.N, win0_5.index t 0 = t.val / 8 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t

theorem blk0 (c : Dev nD) (t : Fin cfg0.N) (a : Fin 512) (r : Fin 1408) :
    (iblk m c 0 t : Vec Ideal S1x512x1408 _) (ix3 0 a r) = at2 (ctA m c) (512 * (t.val / 8) + a.val) (1408 * (t.val % 8) + r.val) := by
  have hi := index0 t
  unfold iblk
  rw [View.read_apply]
  refine Eq.trans (b := V m c main_v2 _) rfl (v2_at m c _ _ _ ?_ ?_)
  · show win0_0.index t 1 * 512 + 1 * a.val = _; rw [hi.2.1]; omega
  · show 5632 * (win0_0.index t 0 * 1 + 1 * 0) + (win0_0.index t 2 * 1408 + 1 * r.val) = _; rw [hi.1, hi.2.2]; omega
theorem blk1 (c : Dev nD) (t : Fin cfg0.N) (d : Fin 2048) (r : Fin 1408) :
    (iblk m c 1 t : Vec Ideal S1x2048x1408 _) (ix3 0 d r) = at2 (wA m c) d.val (1408 * (t.val % 8) + r.val) := by
  have hi := index1 t
  unfold iblk
  rw [View.read_apply]
  refine Eq.trans (b := V m c main_v5 _) rfl (v5_at m c _ _ _ ?_ ?_)
  · show win0_1.index t 1 * 2048 + 1 * d.val = _; rw [hi.2.1]; omega
  · show 1408 * (win0_1.index t 0 * 1 + 1 * 0) + (win0_1.index t 2 * 1408 + 1 * r.val) = _; rw [hi.1, hi.2.2]; omega
theorem blk2 (c : Dev nD) (t : Fin cfg0.N) (a : Fin 512) (d : Fin 2048) :
    (iblk m c 2 t : Vec Ideal S512x2048 _) (ix2 a d) = at2 (xA m c) (512 * (t.val / 8) + a.val) d.val := by
  have hi := index2 t
  unfold iblk
  rw [View.read_apply]
  refine Eq.trans (b := V m c main_arg0 _) rfl ?_
  rw [V_main_arg0]
  refine at2_eq (xA m c) _ _ _ ?_ ?_
  · show win0_2.index t 0 * 512 + 1 * a.val = _; rw [hi.1]; omega
  · show win0_2.index t 1 * 2048 + 1 * d.val = _; rw [hi.2]; omega
theorem blk3 (c : Dev nD) (t : Fin cfg0.N) (d : Fin 2048) : (iblk m c 3 t : Vec Ideal S1x2048 _) (ix2 0 d) = gA m c (ix1 d) := by
  have hi := index3 t
  unfold iblk
  rw [View.read_apply]
  refine Eq.trans (b := V m c main_v6 _) rfl ?_
  rw [V_v6]
  refine broadcastInDim_apply _ _ _ _ (ix1 d) fun a => ?_
  match a with
  | ⟨0, _⟩ =>
    refine Eq.trans ?_ (if_neg (by show ¬ (2048 : ℕ) = 1; decide)).symm
    show d.val = win0_3.index t 1 * 2048 + 1 * d.val
    rw [hi.2]; omega
theorem blk4 (c : Dev nD) (t : Fin cfg0.N) (a : Fin 512) (d : Fin 2048) :
    (iblk m c 4 t : Vec Ideal S512x2048 _) (ix2 a d) = at2 (rA m c) (512 * (t.val / 8) + a.val) d.val := by
  have hi := index4 t
  unfold iblk
  rw [View.read_apply]
  refine Eq.trans (b := V m c main_arg4 _) rfl ?_
  rw [V_main_arg4]
  refine at2_eq (rA m c) _ _ _ ?_ ?_
  · show win0_4.index t 0 * 512 + 1 * a.val = _; rw [hi.1]; omega
  · show win0_4.index t 1 * 2048 + 1 * d.val = _; rw [hi.2]; omega

/-- What point `n` adds to its block, and the gradient of the product's left operand: the sum of eight of them. -/
def M (c : Dev nD) (n : ℕ) (a d : ℕ) : EReal :=
  ∑ r : Fin 1408, at2 (ctA m c) (512 * (n / 8) + a) (1408 * (n % 8) + r.val) * at2 (wA m c) d (1408 * (n % 8) + r.val)
@[inherit_doc M] def prod (c : Dev nD) (p d : ℕ) : EReal := ∑ f : Fin 11264, at2 (ctA m c) p f.val * at2 (wA m c) d f.val

theorem step (c : Dev nD) (t : Fin cfg0.N) (s : S512x2048.Idx → EReal) (a : Fin 512) (d : Fin 2048) :
    k0_pay2 (F := Ideal) s (iblk m c 0 t) (iblk m c 1 t) (ix2 a d) = s (ix2 a d) + M m c t.val a.val d.val := by
  rw [pay2_at]
  refine congrArg (s (ix2 a d) + ·) (Finset.sum_congr rfl fun r _ => ?_)
  rw [blk0, blk1]

/-- The block before a run's last point: the sum of what the run's points added. -/
theorem acc (c : Dev nD) (n : ℕ) (hn : n < cfg0.N) (h : ¬ n % 8 = 7) (a : Fin 512) (d : Fin 2048) :
    (outsAt0 m c n hn).1 (ix2 a d) = ∑ s ∈ Finset.range (n % 8 + 1), M m c (8 * (n / 8) + s) a.val d.val := by
  induction n with
  | zero =>
    have e := congrArg Prod.fst (outsAt0_A m c ⟨0, hn⟩ rfl h)
    dsimp only at e
    rw [out_A] at e
    rw [e, step, pay1_at]
    simp
  | succ n ih =>
    by_cases h0 : (n + 1) % 8 = 0
    · have e := congrArg Prod.fst (outsAt0_A m c ⟨n + 1, hn⟩ h0 h)
      dsimp only at e
      rw [out_A] at e
      rw [e, step, pay1_at, h0, zero_add, Finset.sum_range_one]
      show M m c (n + 1) a.val d.val = _
      congr 1
      omega
    · have e := congrArg Prod.fst (outsAt0_B m c ⟨n + 1, hn⟩ h0 h)
      dsimp only at e
      rw [out_B] at e
      rw [e, step]
      show (outsAt0 m c n _).1 (ix2 a d) + M m c (n + 1) a.val d.val = _
      rw [ih _ (by omega), show (n + 1) % 8 = n % 8 + 1 by omega, show (n + 1) / 8 = n / 8 by omega, Finset.sum_range_succ _ (n % 8 + 1)]
      congr 2
      omega

/-- The last point's sum is the whole product. -/
theorem full (c : Dev nD) (t : Fin cfg0.N) (h : t.val % 8 = 7) (a : Fin 512) (d : Fin 2048) (hl : t.val - 1 < cfg0.N) :
    k0_pay2 (F := Ideal) (outsAt0 m c (t.val - 1) hl).1 (iblk m c 0 t) (iblk m c 1 t) (ix2 a d) = prod m c (512 * (t.val / 8) + a.val) d.val := by
  rw [step, acc m c (t.val - 1) hl (by omega), show (t.val - 1) % 8 + 1 = 7 by omega, show (t.val - 1) / 8 = t.val / 8 by omega]
  rw [show M m c t.val a.val d.val = M m c (8 * (t.val / 8) + 7) a.val d.val by congr 1; omega, ← Finset.sum_range_succ (fun s => M m c (8 * (t.val / 8) + s) a.val d.val) 7]
  refine Eq.trans (Finset.sum_congr rfl fun s hs => ?_) (sum_blocks 8 1408 (fun f => at2 (ctA m c) (512 * (t.val / 8) + a.val) f * at2 (wA m c) d.val f))
  have hs := Finset.mem_range.mp hs
  unfold M
  rw [show (8 * (t.val / 8) + s) / 8 = t.val / 8 by omega, show (8 * (t.val / 8) + s) % 8 = s by omega]

/-- A row's gradient, and what a row adds to the gain's gradient. -/
def dxAt (c : Dev nD) (p : ℕ) (d : Fin 2048) : EReal :=
  rowOf (fun e => prod m c p e.val) (fun e => at2 (xA m c) p e.val) (fun e => gA m c (ix1 e)) (at2 (rA m c) p d.val) d
@[inherit_doc dxAt] def dgAt (c : Dev nD) (p : ℕ) (d : ℕ) : EReal := prod m c p d * (at2 (xA m c) p d * inv (fun e => at2 (xA m c) p e.val))

variable {m}
/-- A chunk's row of a block given by rows of an array. -/
theorem rows_at {k b : ℕ} (hk : k < 4) {X : S512x2048.Idx → EReal} {f : ℕ → ℕ → EReal} (hX : ∀ (a : Fin 512) (d : Fin 2048), X (ix2 a d) = f (512 * b + a.val) d.val) (a : Fin 128) (d : Fin 2048) :
    rows (F := Ideal) k X (ix2 a d) = f (512 * b + (128 * k + a.val)) d.val := by
  refine (hX (Fin.ofNat 512 (128 * k + a.val)) d).trans ?_
  show f (512 * b + (128 * k + a.val) % 512) d.val = _
  rw [Nat.mod_eq_of_lt (by omega)]

/-- The rewritten block's rows. -/
theorem fin_at (c : Dev nD) (t : Fin cfg0.N) (P : S512x2048.Idx → EReal) (hP : ∀ (a : Fin 512) (d : Fin 2048), P (ix2 a d) = prod m c (512 * (t.val / 8) + a.val) d.val) (a : Fin 512) (d : Fin 2048) :
    fin (F := Ideal) (iblk m c 2 t) (iblk m c 3 t) (iblk m c 4 t) P (ix2 a d) = dxAt m c (512 * (t.val / 8) + a.val) d := by
  have hk : a.val / 128 < 4 := by omega
  have ea : 128 * (a.val / 128) + (Fin.ofNat 128 (a.val % 128)).val = a.val := by show 128 * (a.val / 128) + a.val % 128 % 128 = a.val; omega
  unfold fin
  show k0_pay7 (F := Ideal) (rows (a.val / 128) P) (rows (a.val / 128) (iblk m c 2 t)) (iblk m c 3 t) (rows (a.val / 128) (iblk m c 4 t)) (ix2 (Fin.ofNat 128 (a.val % 128)) d) = _
  rw [pay7_at]
  unfold dxAt
  congr 1
  · funext e; rw [rows_at hk hP, ea]
  · funext e; rw [rows_at hk (blk2 m c t), ea]
  · funext e; exact blk3 m c t e
  · rw [rows_at hk (blk4 m c t), ea]

/-- The gain's sum over the block's chunks is the sum over the block's rows. -/
theorem gain_at (c : Dev nD) (t : Fin cfg0.N) (P : S512x2048.Idx → EReal) (hP : ∀ (a : Fin 512) (d : Fin 2048), P (ix2 a d) = prod m c (512 * (t.val / 8) + a.val) d.val) (d : Fin 2048) :
    gain (F := Ideal) (iblk m c 2 t) P 4 (ix2 0 d) = ∑ r : Fin 512, dgAt m c (512 * (t.val / 8) + r.val) d.val := by
  have key : ∀ k : ℕ, k ≤ 4 → gain (F := Ideal) (iblk m c 2 t) P k (ix2 0 d) = ∑ s ∈ Finset.range k, ∑ a : Fin 128, dgAt m c (512 * (t.val / 8) + (128 * s + a.val)) d.val := by
    intro k hk
    induction k with
    | zero => exact pay3_at _
    | succ k ih =>
      rw [Finset.sum_range_succ, ← ih (by omega)]
      refine (pay8_at _ _ _ 0 d).trans ?_
      refine congrArg (gain (F := Ideal) (iblk m c 2 t) P k (ix2 0 d) + ·) (Finset.sum_congr rfl fun a _ => ?_)
      rw [rows_at (by omega) hP, rows_at (by omega) (blk2 m c t)]
      unfold dgAt
      congr 3
      funext e
      exact rows_at (by omega) (blk2 m c t) a e
  exact (key 4 le_rfl).trans (sum_blocks 4 128 (fun k => dgAt m c (512 * (t.val / 8) + k) d.val))

variable (m)
/-- The block a run's last point leaves. -/
theorem dx_out (c : Dev nD) (t : Fin cfg0.N) (h : t.val % 8 = 7) (a : Fin 512) (d : Fin 2048) :
    (outsAt0 m c t.val t.isLt).1 (ix2 a d) = dxAt m c (512 * (t.val / 8) + a.val) d := by
  by_cases h2 : t.val < 8
  · have e := congrArg Prod.fst (outsAt0_C m c t (by omega) h h2 (by omega))
    dsimp only at e
    rw [out_C5] at e
    rw [e]
    exact fin_at c t _ (fun a d => full m c t h a d _) a d
  · have e := congrArg Prod.fst (outsAt0_D m c t (by omega) h h2 (by omega))
    dsimp only at e
    rw [out_D5] at e
    rw [e]
    exact fin_at c t _ (fun a d => full m c t h a d _) a d

/-- The gain's gradient after a point: the sum over the rows of the blocks that are done. -/
theorem dg_out (c : Dev nD) (n : ℕ) (hn : n < cfg0.N) (h : 7 ≤ n) (d : Fin 2048) :
    (outsAt0 m c n hn).2 (ix2 0 d) = ∑ s ∈ Finset.range ((n + 1) / 8), ∑ r : Fin 512, dgAt m c (512 * s + r.val) d.val := by
  induction n with
  | zero => omega
  | succ n ih =>
    by_cases h7 : (n + 1) % 8 = 7
    · by_cases h2 : n + 1 < 8
      · have e := congrArg Prod.snd (outsAt0_C m c ⟨n + 1, hn⟩ (by show ¬ (n + 1) % 8 = 0; omega) h7 h2 (by show ¬ 8 ≤ n + 1; omega))
        dsimp only at e
        rw [out_C6] at e
        rw [e]
        refine (gain_at c ⟨n + 1, hn⟩ _ (fun a d => full m c ⟨n + 1, hn⟩ h7 a d _) d).trans ?_
        rw [show (n + 1 + 1) / 8 = 1 by omega, Finset.sum_range_one]
        show ∑ r : Fin 512, dgAt m c (512 * ((n + 1) / 8) + r.val) d.val = _
        rw [show (n + 1) / 8 = 0 by omega]
      · have e := congrArg Prod.snd (outsAt0_D m c ⟨n + 1, hn⟩ (by show ¬ (n + 1) % 8 = 0; omega) h7 h2 (by show 8 ≤ n + 1; omega))
        dsimp only at e
        rw [out_D6] at e
        rw [e, pay9_at]
        have g := gain_at c ⟨n + 1, hn⟩ _ (fun a d => full m c ⟨n + 1, hn⟩ h7 a d (by show n + 1 - 1 < cfg0.N; omega)) d
        rw [g]
        show (outsAt0 m c n _).2 (ix2 0 d) + ∑ r : Fin 512, dgAt m c (512 * ((n + 1) / 8) + r.val) d.val = _
        rw [ih _ (by omega), show (n + 1 + 1) / 8 = (n + 1) / 8 + 1 by omega, Finset.sum_range_succ]
    · have hk : (outsAt0 m c (n + 1) hn).2 = (outsAt0 m c n (by omega)).2 := by
        by_cases h0 : (n + 1) % 8 = 0
        · have e := congrArg Prod.snd (outsAt0_A m c ⟨n + 1, hn⟩ h0 h7)
          dsimp only at e
          refine e.trans ?_
          unfold out0_A_6
          rfl
        · have e := congrArg Prod.snd (outsAt0_B m c ⟨n + 1, hn⟩ h0 h7)
          dsimp only at e
          refine e.trans ?_
          unfold out0_B_6
          rfl
      rw [hk, ih _ (by omega), show (n + 1 + 1) / 8 = (n + 1) / 8 by omega]

/-- The two arrays the call leaves. -/
def resDx (c : Dev nD) : S8192x2048.Idx → EReal := fun i => dxAt m c (i 0).val (i 1)
@[inherit_doc resDx] def resDg (c : Dev nD) : S1x2048.Idx → EReal := fun i => ∑ p : Fin 8192, dgAt m c p.val (i 1).val

theorem flushed_5 (c : Dev nD) (t : Fin cfg0.N) (hf : (cfg0.win 5).flush t = true) :
    (dats m 0 c).flushed 5 t = ((cfg0.win 5).blk t).view.read (Elt Ideal) (resDx m c) := by
  have hi := index5 t
  show (cfg0.win 5).cut (grid0.coords t) ((dats m 0 c).after 5 t) = _
  rw [after0_5]
  funext z
  rw [View.read_apply]
  obtain ⟨a, d, rfl⟩ : ∃ (a : Fin 512) (d : Fin 2048), z = ix2 a d := ⟨z 0, z 1, eq_ix2 z⟩
  refine (dx_out m c t ((flush0_5 t).mp hf) a d).trans ?_
  refine congrArg₂ (dxAt m c) ?_ (Fin.ext ?_)
  · show _ = win0_5.index t 0 * 512 + 1 * a.val; rw [hi.1]; omega
  · show _ = win0_5.index t 1 * 2048 + 1 * d.val; rw [hi.2]; omega
theorem final_5 (c : Dev nD) : (dats m 0 c).arrAt 5 cfg0.N = resDx m c := by
  refine (dats m 0 c).arrAt_eq_of_cover 5 (resDx m c) (flushed_5 m c) fun i => ?_
  have b0 : (i 0).val < 8192 := (i 0).isLt
  have b1 : (i 1).val < 2048 := (i 1).isLt
  have hlt : 8 * ((i 0).val / 512) + 7 < cfg0.N := (by omega : 8 * ((i 0).val / 512) + 7 < 128).trans_eq N_0.symm
  refine ⟨⟨8 * ((i 0).val / 512) + 7, hlt⟩, (flush0_5 _).mpr (by show (8 * ((i 0).val / 512) + 7) % 8 = 7; omega), ?_⟩
  have hi := index5 ⟨8 * ((i 0).val / 512) + 7, hlt⟩
  generalize hT : (⟨8 * ((i 0).val / 512) + 7, hlt⟩ : Fin cfg0.N) = T at hi ⊢
  have hv : T.val = 8 * ((i 0).val / 512) + 7 := by rw [← hT]
  show i ∈ ((View.whole main_v7_0).slice (win0_5.rect T)).set
  rw [View.set_slice_whole, Rect.mem_set_unit]
  intro a
  match a with
  | ⟨0, _⟩ => show win0_5.index T 0 * 512 ≤ (i 0).val ∧ (i 0).val < win0_5.index T 0 * 512 + 512; rw [hi.1]; omega
  | ⟨1, _⟩ => show win0_5.index T 1 * 2048 ≤ (i 1).val ∧ (i 1).val < win0_5.index T 1 * 2048 + 2048; rw [hi.2]; omega

theorem flushed_6 (c : Dev nD) (t : Fin cfg0.N) (hf : (cfg0.win 6).flush t = true) :
    (dats m 0 c).flushed 6 t = ((cfg0.win 6).blk t).view.read (Elt Ideal) (resDg m c) := by
  have hi := index6 t
  have ht : t.val = 127 := by
    have h1 := (flush0_6 t).mp hf
    have h2 := t.isLt.trans_eq N_0
    omega
  show (cfg0.win 6).cut (grid0.coords t) ((dats m 0 c).after 6 t) = _
  rw [after0_6]
  funext z
  rw [View.read_apply]
  obtain ⟨b, d, rfl⟩ : ∃ (b : Fin 1) (d : Fin 2048), z = ix2 b d := ⟨z 0, z 1, eq_ix2 z⟩
  rw [show b = 0 from Fin.ext (by omega)]
  refine (dg_out m c t.val t.isLt (by omega) d).trans ?_
  rw [ht]
  have e : win0_6.index t 1 * 2048 + 1 * d.val = d.val := by rw [hi.2]; omega
  show _ = ∑ p : Fin 8192, dgAt m c p.val (win0_6.index t 1 * 2048 + 1 * d.val)
  rw [e]
  exact sum_blocks 16 512 (fun p => dgAt m c p d.val)
theorem final_6 (c : Dev nD) : (dats m 0 c).arrAt 6 cfg0.N = resDg m c := by
  refine (dats m 0 c).arrAt_eq_of_cover 6 (resDg m c) (flushed_6 m c) fun i => ?_
  have b0 : (i 0).val < 1 := (i 0).isLt
  have b1 : (i 1).val < 2048 := (i 1).isLt
  have hlt : 127 < cfg0.N := (by omega : 127 < 128).trans_eq N_0.symm
  refine ⟨⟨127, hlt⟩, (flush0_6 _).mpr rfl, ?_⟩
  have hi := index6 ⟨127, hlt⟩
  generalize (⟨127, hlt⟩ : Fin cfg0.N) = T at hi ⊢
  show i ∈ ((View.whole main_v7_1).slice (win0_6.rect T)).set
  rw [View.set_slice_whole, Rect.mem_set_unit]
  intro a
  match a with
  | ⟨0, _⟩ => show win0_6.index T 0 * 1 ≤ (i 0).val ∧ (i 0).val < win0_6.index T 0 * 1 + 1; rw [hi.1]; omega
  | ⟨1, _⟩ => show win0_6.index T 1 * 2048 ≤ (i 1).val ∧ (i 1).val < win0_6.index T 1 * 2048 + 2048; rw [hi.2]; omega

end Cert.DhIdeal.Val
-- ==== Proof.DhClaim.lean ====
/-
  The gradient through the norm, row by row: the kernel's form and the reference's agree over the extended reals, whatever
  the arguments, since the mean square is never below the norm's small term. And the claims of that call.
-/
module

public import proofs.«01_k».proof.Proof.DhArr
public import proofs.«01_k».proof.Proof.Gen.Dh
public import proofs.«01_k».proof.Proof.Gen.DhRefIdeal.Run
public import proofs.«01_k».proof.Proof.Gen.DhRefIdeal.Read

@[expose] public section

set_option maxRecDepth 16384
noncomputable section

namespace Cert.Proof.Dh
open Idealize.ShloMosaic Idealize.ShloMosaic.TcCoe Idealize.SL.Sem
open Cert.Blocks Cert.DhRefIdeal.Read
open Cert.DhIdeal.Val (msq inv rowOf)

/-! ## A row -/

/-- The constants: the width, the norm's small term, minus a half. -/
theorem width : Ideal.ofBits .f32 0x45000000#32 = ((2048 : ℝ) : EReal) := by
  simp [Ideal.ofBits, Ideal.ieee, -EReal.coe_mul]; norm_num
theorem half : Ideal.ofBits .f32 0xBF000000#32 = ((-(1 / 2) : ℝ) : EReal) := by
  simp [Ideal.ofBits, Ideal.ieee, -EReal.coe_mul]; norm_num
theorem small : ∃ e : ℝ, 0 < e ∧ Ideal.ofBits .f32 0x358637BD#32 = (e : EReal) := by
  refine ⟨_, ?_, by simp [Ideal.ofBits, Ideal.ieee, -EReal.coe_mul]; rfl⟩
  norm_num

theorem sq_nonneg' (x : EReal) : 0 ≤ x * x := by
  induction x with
  | bot => simp
  | top => simp
  | coe x => exact_mod_cast mul_self_nonneg x

/-- A mean square with its small term is infinite or a positive real. -/
theorem msq_cases (x : Fin 2048 → EReal) : msq x = ⊤ ∨ ∃ q : ℝ, 0 < q ∧ msq x = (q : EReal) := by
  obtain ⟨e, he, hE⟩ := small
  unfold msq
  rw [width, Ideal.div_coe (by norm_num), hE]
  have h0 : 0 ≤ ∑ d, x d * x d := Finset.sum_nonneg fun d _ => sq_nonneg' (x d)
  generalize ∑ d, x d * x d = s at h0
  induction s with
  | bot => simp at h0
  | top => left; rw [EReal.top_mul_of_pos (by exact_mod_cast (by norm_num : (0 : ℝ) < 1 / 2048))]; simp
  | coe s =>
    have hs : 0 ≤ s := by exact_mod_cast h0
    exact Or.inr ⟨s * (1 / 2048) + e, by positivity, by rw [EReal.coe_add, EReal.coe_mul]⟩

/-- A nonnegative real goes in and out of a sum. -/
theorem sum_mul_real {ι : Type} (S : Finset ι) (f : ι → EReal) (r : ℝ) (hr : 0 ≤ r) : ∑ i ∈ S, f i * (r : EReal) = (∑ i ∈ S, f i) * (r : EReal) := by
  classical
  induction S using Finset.induction_on with
  | empty => simp
  | insert i S hi ih => rw [Finset.sum_insert hi, Finset.sum_insert hi, ih, mul_comm (f i + _), EReal.left_distrib_of_nonneg_of_ne_top (by exact_mod_cast hr) (EReal.coe_ne_top r),
      mul_comm (f i), mul_comm (∑ i ∈ S, f i)]

/-- The reference's factor of a row's entries. -/
def factor (h x g : Fin 2048 → EReal) : EReal :=
  Ideal.div ((∑ e, x e * (h e * g e)) * (Ideal.ofBits .f32 0xBF000000#32 * Ideal.div (inv x) (msq x))) (Ideal.ofBits .f32 0x45000000#32)

/-- The kernel's row is the reference's. -/
theorem row_eq (h x g : Fin 2048 → EReal) (y : EReal) (d : Fin 2048) : rowOf h x g y d = y + (h d * g d * inv x + x d * factor h x g + factor h x g * x d) := by
  unfold rowOf factor
  have hi : inv x = Ideal.rsqrt (msq x) := rfl
  rw [hi, width, half]
  obtain hm | ⟨q, hq, hm⟩ := msq_cases x
  · rw [hm, Ideal.rsqrt_top, Ideal.div_coe (by norm_num), Ideal.div_coe (by norm_num)]
    simp [Ideal.div]
  · have hs : 0 < Real.sqrt q := Real.sqrt_pos.mpr hq
    have hss : Real.sqrt q * Real.sqrt q = q := Real.mul_self_sqrt hq.le
    rw [hm, Ideal.rsqrt_coe, if_neg (not_lt.mpr hq.le), if_neg hq.ne']
    rw [Ideal.div_coe hq.ne', Ideal.div_coe (by norm_num), Ideal.div_coe (by norm_num)]
    generalize hr : (Real.sqrt q)⁻¹ = r
    have hr0 : 0 < r := hr ▸ inv_pos.mpr hs
    have hq' : 1 / q = r * r := by rw [← hr, ← mul_inv, hss, one_div]
    have e1 : ∑ e, h e * g e * (x e * (r : EReal)) = (∑ e, x e * (h e * g e)) * (r : EReal) := by
      rw [← sum_mul_real _ _ _ hr0.le]
      exact Finset.sum_congr rfl fun e _ => by rw [← mul_assoc, mul_comm (h e * g e)]
    rw [e1, hq']
    generalize ∑ e, x e * (h e * g e) = A
    generalize x d = u
    have e2 : u * r * (A * r * ((1 / 2048 : ℝ) : EReal)) = u * A * ((r * r * (1 / 2048) : ℝ) : EReal) := by
      simp only [EReal.coe_mul, mul_assoc, mul_left_comm (r : EReal) A]
    have e3 : A * (((-(1 / 2) : ℝ) : EReal) * (r * ((r * r : ℝ) : EReal))) * ((1 / 2048 : ℝ) : EReal) = A * ((-(r * r * r * (1 / 4096)) : ℝ) : EReal) := by
      rw [← EReal.coe_mul, ← EReal.coe_mul, mul_assoc, ← EReal.coe_mul]
      congr 2
      ring
    have e4 : (r : EReal) * -(u * A * ((r * r * (1 / 2048) : ℝ) : EReal)) = -(u * A) * ((r * r * r * (1 / 4096) : ℝ) : EReal) + -(u * A) * ((r * r * r * (1 / 4096) : ℝ) : EReal) := by
      have hp : (0 : EReal) ≤ ((r * r * r * (1 / 4096) : ℝ) : EReal) := by exact_mod_cast (by positivity : (0 : ℝ) ≤ r * r * r * (1 / 4096))
      rw [← EReal.left_distrib_of_nonneg hp hp, ← EReal.coe_add, ← neg_mul, mul_left_comm, ← EReal.coe_mul]
      congr 2
      ring
    have e5 : u * (A * ((-(r * r * r * (1 / 4096)) : ℝ) : EReal)) = -(u * A) * ((r * r * r * (1 / 4096) : ℝ) : EReal) := by
      rw [EReal.coe_neg, mul_neg, mul_neg, neg_mul, ← mul_assoc u A]
    rw [e2, e3, mul_comm (A * _) u, e5, sub_eq_add_neg, EReal.left_distrib_of_nonneg_of_ne_top (by exact_mod_cast hr0.le) (EReal.coe_ne_top r), e4, mul_comm (r : EReal) (h d * g d), add_assoc]

/-! ## The reference -/

section reference
variable (x0 : Cert.DhRefIdeal.S8192x2048.Idx → EReal) (x1 : Cert.DhRefIdeal.S2048.Idx → EReal) (x2 : Cert.DhRefIdeal.S2048x11264.Idx → EReal)
  (x3 : Cert.DhRefIdeal.S8192x11264.Idx → EReal) (x4 : Cert.DhRefIdeal.S8192x2048.Idx → EReal)

/-- A row of the residual stream, of the product's gradient, and the gain. -/
def xRow (p : ℕ) (e : Fin 2048) : EReal := at2 x0 p e.val
@[inherit_doc xRow] def hRow (p : ℕ) (e : Fin 2048) : EReal := ∑ f : Fin 11264, at2 x3 p f.val * at2 x2 e.val f.val
@[inherit_doc xRow] def gRow (e : Fin 2048) : EReal := x1 (ix1 e)

theorem v6_at (i : Cert.DhRefIdeal.S8192x1.Idx) (p : ℕ) (hp : (i 0).val = p) : val_main_v6 (F := Ideal) x0 i = msq (xRow x0 p) := by
  subst hp
  rw [val_main_v6_apply, val_main_v4_apply, val_main_v2_apply, val_main_v1_apply, val_main_v3_apply, val_main_v5_apply, val_main_cst_apply, val_main_cst_0_apply, val_main_cst_1_apply]
  simp only [Ideal.ofBits_def, Ideal.addf_def, Ideal.hostDivf_def, Ideal.ofBits_zero_f32, zero_add]
  unfold msq
  congr 2
  refine Finset.sum_congr rfl fun e _ => ?_
  have := at2_eq x0 (idx_main_v1 (idx_main_v2 i) e) (i 0).val e.val rfl rfl
  rw [val_main_v0_apply, this]
  rfl
theorem v7_at (i : Cert.DhRefIdeal.S8192x1.Idx) (p : ℕ) (hp : (i 0).val = p) : val_main_v7 (F := Ideal) x0 i = inv (xRow x0 p) := by
  rw [val_main_v7_apply, v6_at x0 i p hp]; rfl
theorem v17_at (p : Fin 8192) (e : Fin 2048) : val_main_v17 (F := Ideal) x2 x3 (ix2 p e) = hRow x2 x3 p.val e := by
  rw [val_main_v17_apply]
  refine Finset.sum_congr rfl fun f _ => ?_
  exact congrArg₂ (fun a b : EReal => a * b) (at2_eq x3 _ _ _ rfl rfl) (at2_eq x2 _ _ _ rfl rfl)
theorem v22_at (p : Fin 8192) (e : Fin 2048) : val_main_v22 (F := Ideal) x1 x2 x3 (ix2 p e) = hRow x2 x3 p.val e * gRow x1 e := by
  rw [val_main_v22_apply, v17_at, val_main_v21_apply, val_main_v13_apply]
  refine congrArg (hRow x2 x3 p.val e * ·) (congrArg x1 (funext fun a => ?_))
  match a with
  | ⟨0, _⟩ => rfl

/-- The reference's factor of row `p`. -/
theorem v33_at (p : Fin 8192) (d : Fin 2048) : val_main_v33 (F := Ideal) x0 x1 x2 x3 (ix2 p d) = factor (hRow x2 x3 p.val) (xRow x0 p.val) (gRow x1) := by
  rw [val_main_v33_apply, val_main_v32_apply, Fin.sum_univ_one, val_main_v31_apply, val_main_v29_apply, val_main_v26_apply, val_main_v25_apply, val_main_v10_apply, val_main_v8_apply,
    val_main_v30_apply, val_main_v9_apply, val_main_cst_2_apply, val_main_cst_5_apply, val_main_cst_6_apply, val_main_cst_7_apply, v7_at x0 _ p.val rfl, v6_at x0 _ p.val rfl]
  simp only [Ideal.ofBits_def, Ideal.mulf_def, Ideal.hostDivf_def, Ideal.ofBits_zero_f32, zero_add]
  unfold factor
  congr 2
  refine Finset.sum_congr rfl fun e _ => ?_
  have hidx : idx_main_v25 (idx_main_v26 (idx_main_v32 (idx_main_v33 (ix2 p d)) 0)) e = ix2 p e := funext fun a => match a with
    | ⟨0, _⟩ => Fin.ext (by show p.val * 1 + 0 = p.val; omega)
    | ⟨1, _⟩ => rfl
  rw [val_main_v24_apply, hidx, v22_at]
  exact congrArg (· * _) (at2_eq x0 _ _ _ rfl rfl)

/-- The reference's gradient of the residual stream. -/
theorem dx_eq (p : Fin 8192) (d : Fin 2048) : val_main_v38 (F := Ideal) x0 x1 x2 x3 x4 (ix2 p d) = rowOf (hRow x2 x3 p.val) (xRow x0 p.val) (gRow x1) (at2 x4 p.val d.val) d := by
  rw [row_eq, val_main_v38_apply, val_main_v37_apply, val_main_v35_apply, val_main_v36_apply, val_main_v34_apply, val_main_v28_apply, v33_at, v22_at, val_main_v27_apply, v7_at x0 _ p.val rfl,
    at2_eq x0 (ix2 p d) p.val d.val rfl rfl, at2_eq x4 (ix2 p d) p.val d.val rfl rfl]
  rfl

/-- The reference's gradient of the gain. -/
theorem dg_eq (z : Fin 1) (d : Fin 2048) : val_main_v39 (F := Ideal) x0 x2 x3 (ix2 z d) = ∑ p : Fin 8192, hRow x2 x3 p.val d * (xRow x0 p.val d * inv (xRow x0 p.val)) := by
  rw [val_main_v39_apply, val_main_v23_apply, Fin.sum_univ_one, val_main_v20_apply, val_main_v19_apply, val_main_cst_3_apply, val_main_cst_4_apply, Ideal.ofBits_def, Ideal.ofBits_zero_f32, zero_add, zero_add]
  refine Finset.sum_congr rfl fun p _ => ?_
  have hidx : idx_main_v19 (idx_main_v20 (idx_main_v23 (idx_main_v39 (ix2 z d)) 0)) p = ix2 p d := funext fun a => match a with
    | ⟨0, _⟩ => rfl
    | ⟨1, _⟩ => Fin.ext (by show 0 * 2048 + d.val = d.val; omega)
  rw [hidx, val_main_v18_apply, v17_at, val_main_v12_apply, val_main_v11_apply, v7_at x0 _ p.val rfl, at2_eq x0 (ix2 p d) p.val d.val rfl rfl]
  exact mul_comm _ _
end reference

/-! ## The claims -/

/-- The two programs have the same bodies and the same pipelines. -/
theorem eq_defs₀ : Cert.Dh.defs₀ (F := Bits) = Cert.DhIdeal.defs₀ (F := Bits) :=
  congrArg Defs.onTc (funext fun a => match a with | 0 => funext fun ⟨_, _⟩ => rfl)
@[inherit_doc eq_defs₀] theorem eq_defs : Cert.Dh.defs (F := Bits) = Cert.DhIdeal.defs (F := Bits) := congrArg (Pipeline.defs Cert.DhIdeal.pcfgs) eq_defs₀
/-- So the kernel, as printed, runs and leaves its arguments and the machine's counters as they were, as the idealised one does. -/
theorem frame_kernel : Cert.quiescent_Dh := by
  intro m ρ _
  rw [eq_defs]
  exact Cert.DhIdeal.Gen.frame (F := Bits) m ρ
/-- The idealised one does. -/
theorem frame_ideal : Cert.quiescent_DhIdeal := fun m ρ _ => Cert.DhIdeal.Gen.frame m ρ
/-- The reference does. -/
theorem frame_reference : Cert.quiescent_DhRefIdeal := fun m ρ _ =>
  (θ_run Cert.DhRefIdeal.defs _ _).mono (fun r h => ⟨fun c => (h c).2.2, sem_eq_zero_of_no_sems (by decide) r.2⟩) (Cert.DhRefIdeal.Value.run (F := Ideal) m ρ)

/-- Over the extended reals the kernel computes the reference's two gradients. -/
theorem algebraic : Cert.algebraic_DhIdeal_DhRefIdeal := by
  intro m ρ m' ρ' _ hagree
  refine ⟨Cert.DhIdeal.Val.resDx m, Cert.DhIdeal.Val.resDg m, ?_, ?_⟩
  · refine (θ_run Cert.DhIdeal.defs _ _).mono (fun r h c => ?_) (Cert.DhIdeal.Value.run_blocks (F := Ideal) m ρ)
    exact ⟨(h c).1.trans (Cert.DhIdeal.Val.final_5 m c), (h c).2.1.trans (Cert.DhIdeal.Val.final_6 m c), (h c).2.2⟩
  · refine (θ_run Cert.DhRefIdeal.defs _ _).mono (fun r h c => ?_) (Cert.DhRefIdeal.Value.run (F := Ideal) m' ρ')
    obtain ⟨g0, g1, g2, g3, g4⟩ := hagree c
    refine ⟨(h c).1.trans ?_, (h c).2.1.trans ?_, (h c).2.2⟩
    · rw [val_main_v38_eq, g0, g1, g2, g3, g4]
      funext i
      obtain ⟨p, d, rfl⟩ : ∃ (p : Fin 8192) (d : Fin 2048), i = ix2 p d := ⟨i 0, i 1, eq_ix2 i⟩
      exact dx_eq _ _ _ _ _ p d
    · rw [val_main_v39_eq, g0, g2, g3]
      funext i
      obtain ⟨z, d, rfl⟩ : ∃ (z : Fin 1) (d : Fin 2048), i = ix2 z d := ⟨i 0, i 1, eq_ix2 i⟩
      exact dg_eq _ _ _ z d

end Cert.Proof.Dh
-- ==== Proof.OutVal.lean ====
/-
  The attention's last product, with the residual stream added: every point of the kernel's grid writes its own block of the
  result, so together they write the reference's.
-/
module

public import proofs.«01_k».proof.Defs
public import proofs.«01_k».proof.Proof.Blocks
public import proofs.«01_k».proof.Proof.Gen.Out
public import proofs.«01_k».proof.Proof.Gen.OutIdeal.Value
public import proofs.«01_k».proof.Proof.Gen.OutRefIdeal.Run
public import proofs.«01_k».proof.Proof.Gen.OutRefIdeal.Read

@[expose] public section

set_option maxRecDepth 16384
noncomputable section

namespace Cert.OutIdeal.Val
open Cert.OutIdeal Cert.OutIdeal.Gen Cert.OutIdeal.Value Cert.Blocks
open Idealize.ShloMosaic Idealize.ShloMosaic.TcCoe Idealize.ShloMosaic.Tactic Idealize.SL.Sem

theorem pay1_at (x0 : S1024x2048.Idx → EReal) (x1 : S2048x1024.Idx → EReal) (x2 : S1024x1024.Idx → EReal) (a e : Fin 1024) :
    k0_pay1 (F := Ideal) x0 x1 x2 (ix2 a e) = (∑ r : Fin 2048, x0 (ix2 a r) * x1 (ix2 r e)) + x2 (ix2 a e) := by
  pointwise [k0_pay1]

/-- What a point stores. -/
theorem out_eq {F : FTy → Type} [FloatOps F] (x0 : Vec F S1024x2048 .bf16) (x1 : Vec F S2048x1024 .bf16) (x2 : Vec F S1024x1024 .f32) : out0_3 x0 x1 x2 = k0_pay1 x0 x1 x2 := by
  unfold out0_3
  rw [View.canon_unit_zero hz2]
  exact congr (congrArg₂ _ (View.ld_unit_zero (S := S1024x2048) hz2 _ _) (View.ld_unit_zero (S := S2048x1024) hz2 _ _)) (View.ld_unit_zero (S := S1024x1024) hz2 _ _)

variable (m : (ℓ : Loc nD τ sig) → Buf (Elt Ideal) ℓ) (ρ : Dev nD → PrngReg)

theorem V_v0 (c : Dev nD) : V m c main_v0 = truncf (F := Ideal) (φ := .f32) .bf16 (m ((c : Thread nD τ).loc main_arg0)) bitsLt_bf16_f32 := by
  show StableHlo.after hostOps0 (fun b => m (c, b)) _ = _
  after_results_simp
theorem V_v1 (c : Dev nD) : V m c main_v1 = truncf (F := Ideal) (φ := .f32) .bf16 (m ((c : Thread nD τ).loc main_arg1)) bitsLt_bf16_f32 := by
  show StableHlo.after hostOps0 (fun b => m (c, b)) _ = _
  after_results_simp

/-- The attention's output, the weights, and the residual stream. -/
def oA (c : Dev nD) : S8192x2048.Idx → EReal := m ((c : Thread nD τ).loc main_arg0)
@[inherit_doc oA] def wA (c : Dev nD) : S2048x2048.Idx → EReal := m ((c : Thread nD τ).loc main_arg1)
@[inherit_doc oA] def xA (c : Dev nD) : S8192x2048.Idx → EReal := m ((c : Thread nD τ).loc main_arg2)

theorem index0 (t : Fin cfg0.N) : win0_0.index t 0 = t.val / 2 ∧ win0_0.index t 1 = 0 :=
  (by decide +kernel : ∀ t : Fin grid0.N, win0_0.index t 0 = t.val / 2 ∧ win0_0.index t 1 = 0) t
theorem index1 (t : Fin cfg0.N) : win0_1.index t 0 = 0 ∧ win0_1.index t 1 = t.val % 2 :=
  (by decide +kernel : ∀ t : Fin grid0.N, win0_1.index t 0 = 0 ∧ win0_1.index t 1 = t.val % 2) t
theorem index2 (t : Fin cfg0.N) : win0_2.index t 0 = t.val / 2 ∧ win0_2.index t 1 = t.val % 2 :=
  (by decide +kernel : ∀ t : Fin grid0.N, win0_2.index t 0 = t.val / 2 ∧ win0_2.index t 1 = t.val % 2) t
theorem index3 (t : Fin cfg0.N) : win0_3.index t 0 = t.val / 2 ∧ win0_3.index t 1 = t.val % 2 :=
  (by decide +kernel : ∀ t : Fin grid0.N, win0_3.index t 0 = t.val / 2 ∧ win0_3.index t 1 = t.val % 2) t

/-- The blocks that a point reads. -/
theorem blk0 (c : Dev nD) (t : Fin cfg0.N) (a : Fin 1024) (r : Fin 2048) :
    (iblk m c 0 t : Vec Ideal S1024x2048 _) (ix2 a r) = at2 (oA m c) (1024 * (t.val / 2) + a.val) r.val := by
  have hi := index0 t
  unfold iblk
  rw [View.read_apply]
  refine Eq.trans (b := V m c main_v0 _) rfl ?_
  rw [V_v0]
  refine at2_eq (oA m c) _ _ _ ?_ ?_
  · show win0_0.index t 0 * 1024 + 1 * a.val = _; rw [hi.1]; omega
  · show win0_0.index t 1 * 2048 + 1 * r.val = _; rw [hi.2]; omega
@[inherit_doc blk0] theorem blk1 (c : Dev nD) (t : Fin cfg0.N) (r : Fin 2048) (e : Fin 1024) :
    (iblk m c 1 t : Vec Ideal S2048x1024 _) (ix2 r e) = at2 (wA m c) r.val (1024 * (t.val % 2) + e.val) := by
  have hi := index1 t
  unfold iblk
  rw [View.read_apply]
  refine Eq.trans (b := V m c main_v1 _) rfl ?_
  rw [V_v1]
  refine at2_eq (wA m c) _ _ _ ?_ ?_
  · show win0_1.index t 0 * 2048 + 1 * r.val = _; rw [hi.1]; omega
  · show win0_1.index t 1 * 1024 + 1 * e.val = _; rw [hi.2]; omega
@[inherit_doc blk0] theorem blk2 (c : Dev nD) (t : Fin cfg0.N) (a e : Fin 1024) :
    (iblk m c 2 t : Vec Ideal S1024x1024 _) (ix2 a e) = at2 (xA m c) (1024 * (t.val / 2) + a.val) (1024 * (t.val % 2) + e.val) := by
  have hi := index2 t
  unfold iblk
  rw [View.read_apply]
  refine Eq.trans (b := V m c main_arg2 _) rfl ?_
  rw [V_main_arg2]
  refine at2_eq (xA m c) _ _ _ ?_ ?_
  · show win0_2.index t 0 * 1024 + 1 * a.val = _; rw [hi.1]; omega
  · show win0_2.index t 1 * 1024 + 1 * e.val = _; rw [hi.2]; omega

/-- The result: the residual stream and the product of the attention's output and the weights. -/
def res (c : Dev nD) : S8192x2048.Idx → EReal := fun i =>
  (∑ k : Fin 2048, at2 (oA m c) (i 0).val k.val * at2 (wA m c) k.val (i 1).val) + at2 (xA m c) (i 0).val (i 1).val

theorem flushed_3 (c : Dev nD) (t : Fin cfg0.N) (_ : (cfg0.win 3).flush t = true) :
    (dats m 0 c).flushed 3 t = ((cfg0.win 3).blk t).view.read (Elt Ideal) (res m c) := by
  have hi := index3 t
  show (cfg0.win 3).cut (grid0.coords t) ((dats m 0 c).after 3 t) = _
  rw [after0_3, out_eq]
  funext z
  rw [View.read_apply]
  obtain ⟨a, e, rfl⟩ : ∃ (a : Fin 1024) (e : Fin 1024), z = ix2 a e := ⟨z 0, z 1, eq_ix2 z⟩
  refine (pay1_at _ _ _ a e).trans ?_
  have e0 : win0_3.index t 0 * 1024 + 1 * a.val = 1024 * (t.val / 2) + a.val := by rw [hi.1]; omega
  have e1 : win0_3.index t 1 * 1024 + 1 * e.val = 1024 * (t.val % 2) + e.val := by rw [hi.2]; omega
  show _ = (∑ k : Fin 2048, at2 (oA m c) (win0_3.index t 0 * 1024 + 1 * a.val) k.val * at2 (wA m c) k.val (win0_3.index t 1 * 1024 + 1 * e.val)) +
    at2 (xA m c) (win0_3.index t 0 * 1024 + 1 * a.val) (win0_3.index t 1 * 1024 + 1 * e.val)
  rw [e0, e1, blk2]
  refine congrArg (· + _) (Finset.sum_congr rfl fun r _ => ?_)
  rw [blk0, blk1]
theorem final_3 (c : Dev nD) : (dats m 0 c).arrAt 3 cfg0.N = res m c := by
  refine (dats m 0 c).arrAt_eq_of_cover 3 (res m c) (flushed_3 m c) fun i => ?_
  have b0 : (i 0).val < 8192 := (i 0).isLt
  have b1 : (i 1).val < 2048 := (i 1).isLt
  have hlt : 2 * ((i 0).val / 1024) + (i 1).val / 1024 < cfg0.N := (by omega : 2 * ((i 0).val / 1024) + (i 1).val / 1024 < 16).trans_eq N_0.symm
  refine ⟨⟨_, hlt⟩, flush0_3 _, ?_⟩
  have hi := index3 ⟨_, hlt⟩
  generalize hT : (⟨_, hlt⟩ : Fin cfg0.N) = T at hi ⊢
  have hv : T.val = 2 * ((i 0).val / 1024) + (i 1).val / 1024 := by rw [← hT]
  show i ∈ ((View.whole main_v2).slice (win0_3.rect T)).set
  rw [View.set_slice_whole, Rect.mem_set_unit]
  intro a
  match a with
  | ⟨0, _⟩ => show win0_3.index T 0 * 1024 ≤ (i 0).val ∧ (i 0).val < win0_3.index T 0 * 1024 + 1024; rw [hi.1]; omega
  | ⟨1, _⟩ => show win0_3.index T 1 * 1024 ≤ (i 1).val ∧ (i 1).val < win0_3.index T 1 * 1024 + 1024; rw [hi.2]; omega

end Cert.OutIdeal.Val

namespace Cert.Proof.Out
open Idealize.ShloMosaic Idealize.ShloMosaic.TcCoe Idealize.SL.Sem
open Cert.Blocks Cert.OutRefIdeal.Read

/-- The two programs have the same bodies and the same pipelines. -/
theorem eq_defs₀ : Cert.Out.defs₀ (F := Bits) = Cert.OutIdeal.defs₀ (F := Bits) :=
  congrArg Defs.onTc (funext fun a => match a with | 0 => funext fun ⟨_, _⟩ => rfl)
@[inherit_doc eq_defs₀] theorem eq_defs : Cert.Out.defs (F := Bits) = Cert.OutIdeal.defs (F := Bits) := congrArg (Pipeline.defs Cert.OutIdeal.pcfgs) eq_defs₀
/-- So the kernel, as printed, runs and leaves its arguments and the machine's counters as they were, as the idealised one does. -/
theorem frame_kernel : Cert.quiescent_Out := by
  intro m ρ _
  rw [eq_defs]
  exact Cert.OutIdeal.Gen.frame (F := Bits) m ρ
/-- The idealised one does. -/
theorem frame_ideal : Cert.quiescent_OutIdeal := fun m ρ _ => Cert.OutIdeal.Gen.frame m ρ
/-- The reference does. -/
theorem frame_reference : Cert.quiescent_OutRefIdeal := fun m ρ _ =>
  (θ_run Cert.OutRefIdeal.defs _ _).mono (fun r h => ⟨fun c => (h c).2, sem_eq_zero_of_no_sems (by decide) r.2⟩) (Cert.OutRefIdeal.Value.run (F := Ideal) m ρ)

/-- The reference's result is the same. -/
theorem ref_eq (x0 : Cert.OutRefIdeal.S8192x2048.Idx → EReal) (x1 : Cert.OutRefIdeal.S2048x2048.Idx → EReal) (x2 : Cert.OutRefIdeal.S8192x2048.Idx → EReal) (i : Cert.OutRefIdeal.S8192x2048.Idx) :
    val_main_v1 (F := Ideal) x0 x1 x2 i = (∑ k : Fin 2048, at2 x0 (i 0).val k.val * at2 x1 k.val (i 1).val) + at2 x2 (i 0).val (i 1).val := by
  rw [val_main_v1_apply]
  show x2 i + val_main_v0 (F := Ideal) x0 x1 i = _
  rw [val_main_v0_apply, add_comm]
  refine congrArg₂ (fun x y : EReal => x + y) (Finset.sum_congr rfl fun k _ => ?_) (at2_eq x2 _ _ _ rfl rfl)
  exact congr (congrArg _ (at2_eq x0 _ _ _ rfl rfl)) (at2_eq x1 _ _ _ rfl rfl)

/-- Over the extended reals the kernel computes the reference's result. -/
theorem algebraic : Cert.algebraic_OutIdeal_OutRefIdeal := by
  intro m ρ m' ρ' _ hagree
  refine ⟨Cert.OutIdeal.Val.res m, ?_, ?_⟩
  · refine (θ_run Cert.OutIdeal.defs _ _).mono (fun r h c => ?_) (Cert.OutIdeal.Value.run_blocks (F := Ideal) m ρ)
    exact ⟨(h c).1.trans (Cert.OutIdeal.Val.final_3 m c), (h c).2⟩
  · refine (θ_run Cert.OutRefIdeal.defs _ _).mono (fun r h c => ?_) (Cert.OutRefIdeal.Value.run (F := Ideal) m' ρ')
    obtain ⟨g0, g1, g2⟩ := hagree c
    refine ⟨(h c).1.trans ?_, (h c).2⟩
    rw [val_main_v1_eq, g0, g1, g2]
    funext i
    exact ref_eq _ _ _ i

end Cert.Proof.Out
-- ==== Proof.OutDxVal.lean ====
/-
  The gradient of the attention's output through its last product: every point of the kernel's grid writes its own block, so
  together they write the reference's.
-/
module

public import proofs.«01_k».proof.Defs
public import proofs.«01_k».proof.Proof.Blocks
public import proofs.«01_k».proof.Proof.Gen.OutDx
public import proofs.«01_k».proof.Proof.Gen.OutDxIdeal.Value
public import proofs.«01_k».proof.Proof.Gen.OutDxRefIdeal.Run
public import proofs.«01_k».proof.Proof.Gen.OutDxRefIdeal.Read

@[expose] public section

set_option maxRecDepth 16384
noncomputable section

namespace Cert.OutDxIdeal.Val
open Cert.OutDxIdeal Cert.OutDxIdeal.Gen Cert.OutDxIdeal.Value Cert.Blocks
open Idealize.ShloMosaic Idealize.ShloMosaic.TcCoe Idealize.ShloMosaic.Tactic Idealize.SL.Sem

theorem pay1_at (x0 : S1024x2048.Idx → EReal) (x1 : S1024x2048.Idx → EReal) (a e : Fin 1024) :
    k0_pay1 (F := Ideal) x0 x1 (ix2 a e) = ∑ r : Fin 2048, x0 (ix2 a r) * x1 (ix2 e r) := by
  pointwise [k0_pay1]

/-- What a point stores. -/
theorem out_eq {F : FTy → Type} [FloatOps F] (x0 : Vec F S1024x2048 .f32) (x1 : Vec F S1024x2048 .bf16) : out0_2 x0 x1 = k0_pay1 x0 x1 := by
  unfold out0_2
  rw [View.canon_unit_zero hz2]
  exact congrArg₂ _ (View.ld_unit_zero (S := S1024x2048) hz2 _ _) (View.ld_unit_zero (S := S1024x2048) hz2 _ _)

variable (m : (ℓ : Loc nD τ sig) → Buf (Elt Ideal) ℓ) (ρ : Dev nD → PrngReg)

theorem V_v0 (c : Dev nD) : V m c main_v0 = truncf (F := Ideal) (φ := .f32) .bf16 (m ((c : Thread nD τ).loc main_arg1)) bitsLt_bf16_f32 := by
  show StableHlo.after hostOps0 (fun b => m (c, b)) _ = _
  after_results_simp

/-- The gradient of the product, and the weights. -/
def gA (c : Dev nD) : S8192x2048.Idx → EReal := m ((c : Thread nD τ).loc main_arg2)
@[inherit_doc gA] def wA (c : Dev nD) : S2048x2048.Idx → EReal := m ((c : Thread nD τ).loc main_arg1)

theorem index0 (t : Fin cfg0.N) : win0_0.index t 0 = t.val / 2 ∧ win0_0.index t 1 = 0 :=
  (by decide +kernel : ∀ t : Fin grid0.N, win0_0.index t 0 = t.val / 2 ∧ win0_0.index t 1 = 0) t
theorem index1 (t : Fin cfg0.N) : win0_1.index t 0 = t.val % 2 ∧ win0_1.index t 1 = 0 :=
  (by decide +kernel : ∀ t : Fin grid0.N, win0_1.index t 0 = t.val % 2 ∧ win0_1.index t 1 = 0) t
theorem index2 (t : Fin cfg0.N) : win0_2.index t 0 = t.val / 2 ∧ win0_2.index t 1 = t.val % 2 :=
  (by decide +kernel : ∀ t : Fin grid0.N, win0_2.index t 0 = t.val / 2 ∧ win0_2.index t 1 = t.val % 2) t

/-- The blocks that a point reads. -/
theorem blk0 (c : Dev nD) (t : Fin cfg0.N) (a : Fin 1024) (r : Fin 2048) :
    (iblk m c 0 t : Vec Ideal S1024x2048 _) (ix2 a r) = at2 (gA m c) (1024 * (t.val / 2) + a.val) r.val := by
  have hi := index0 t
  unfold iblk
  rw [View.read_apply]
  refine Eq.trans (b := V m c main_arg2 _) rfl ?_
  rw [V_main_arg2]
  refine at2_eq (gA m c) _ _ _ ?_ ?_
  · show win0_0.index t 0 * 1024 + 1 * a.val = _; rw [hi.1]; omega
  · show win0_0.index t 1 * 2048 + 1 * r.val = _; rw [hi.2]; omega
@[inherit_doc blk0] theorem blk1 (c : Dev nD) (t : Fin cfg0.N) (e : Fin 1024) (r : Fin 2048) :
    (iblk m c 1 t : Vec Ideal S1024x2048 _) (ix2 e r) = at2 (wA m c) (1024 * (t.val % 2) + e.val) r.val := by
  have hi := index1 t
  unfold iblk
  rw [View.read_apply]
  refine Eq.trans (b := V m c main_v0 _) rfl ?_
  rw [V_v0]
  refine at2_eq (wA m c) _ _ _ ?_ ?_
  · show win0_1.index t 0 * 1024 + 1 * e.val = _; rw [hi.1]; omega
  · show win0_1.index t 1 * 2048 + 1 * r.val = _; rw [hi.2]; omega

/-- The result: the product of the gradient and the weights' transpose. -/
def res (c : Dev nD) : S8192x2048.Idx → EReal := fun i =>
  ∑ k : Fin 2048, at2 (gA m c) (i 0).val k.val * at2 (wA m c) (i 1).val k.val

theorem flushed_2 (c : Dev nD) (t : Fin cfg0.N) (_ : (cfg0.win 2).flush t = true) :
    (dats m 0 c).flushed 2 t = ((cfg0.win 2).blk t).view.read (Elt Ideal) (res m c) := by
  have hi := index2 t
  show (cfg0.win 2).cut (grid0.coords t) ((dats m 0 c).after 2 t) = _
  rw [after0_2, out_eq]
  funext z
  rw [View.read_apply]
  obtain ⟨a, e, rfl⟩ : ∃ (a : Fin 1024) (e : Fin 1024), z = ix2 a e := ⟨z 0, z 1, eq_ix2 z⟩
  refine (pay1_at _ _ a e).trans ?_
  have e0 : win0_2.index t 0 * 1024 + 1 * a.val = 1024 * (t.val / 2) + a.val := by rw [hi.1]; omega
  have e1 : win0_2.index t 1 * 1024 + 1 * e.val = 1024 * (t.val % 2) + e.val := by rw [hi.2]; omega
  show _ = ∑ k : Fin 2048, at2 (gA m c) (win0_2.index t 0 * 1024 + 1 * a.val) k.val * at2 (wA m c) (win0_2.index t 1 * 1024 + 1 * e.val) k.val
  rw [e0, e1]
  refine Finset.sum_congr rfl fun r _ => ?_
  rw [blk0, blk1]
theorem final_2 (c : Dev nD) : (dats m 0 c).arrAt 2 cfg0.N = res m c := by
  refine (dats m 0 c).arrAt_eq_of_cover 2 (res m c) (flushed_2 m c) fun i => ?_
  have b0 : (i 0).val < 8192 := (i 0).isLt
  have b1 : (i 1).val < 2048 := (i 1).isLt
  have hlt : 2 * ((i 0).val / 1024) + (i 1).val / 1024 < cfg0.N := (by omega : 2 * ((i 0).val / 1024) + (i 1).val / 1024 < 16).trans_eq N_0.symm
  refine ⟨⟨_, hlt⟩, flush0_2 _, ?_⟩
  have hi := index2 ⟨_, hlt⟩
  generalize hT : (⟨_, hlt⟩ : Fin cfg0.N) = T at hi ⊢
  have hv : T.val = 2 * ((i 0).val / 1024) + (i 1).val / 1024 := by rw [← hT]
  show i ∈ ((View.whole main_v1).slice (win0_2.rect T)).set
  rw [View.set_slice_whole, Rect.mem_set_unit]
  intro a
  match a with
  | ⟨0, _⟩ => show win0_2.index T 0 * 1024 ≤ (i 0).val ∧ (i 0).val < win0_2.index T 0 * 1024 + 1024; rw [hi.1]; omega
  | ⟨1, _⟩ => show win0_2.index T 1 * 1024 ≤ (i 1).val ∧ (i 1).val < win0_2.index T 1 * 1024 + 1024; rw [hi.2]; omega

end Cert.OutDxIdeal.Val

namespace Cert.Proof.OutDx
open Idealize.ShloMosaic Idealize.ShloMosaic.TcCoe Idealize.SL.Sem
open Cert.Blocks Cert.OutDxRefIdeal.Read

/-- The two programs have the same bodies and the same pipelines. -/
theorem eq_defs₀ : Cert.OutDx.defs₀ (F := Bits) = Cert.OutDxIdeal.defs₀ (F := Bits) :=
  congrArg Defs.onTc (funext fun a => match a with | 0 => funext fun ⟨_, _⟩ => rfl)
@[inherit_doc eq_defs₀] theorem eq_defs : Cert.OutDx.defs (F := Bits) = Cert.OutDxIdeal.defs (F := Bits) := congrArg (Pipeline.defs Cert.OutDxIdeal.pcfgs) eq_defs₀
/-- So the kernel, as printed, runs and leaves its arguments and the machine's counters as they were, as the idealised one does. -/
theorem frame_kernel : Cert.quiescent_OutDx := by
  intro m ρ _
  rw [eq_defs]
  exact Cert.OutDxIdeal.Gen.frame (F := Bits) m ρ
/-- The idealised one does. -/
theorem frame_ideal : Cert.quiescent_OutDxIdeal := fun m ρ _ => Cert.OutDxIdeal.Gen.frame m ρ
/-- The reference does. -/
theorem frame_reference : Cert.quiescent_OutDxRefIdeal := fun m ρ _ =>
  (θ_run Cert.OutDxRefIdeal.defs _ _).mono (fun r h => ⟨fun c => (h c).2, sem_eq_zero_of_no_sems (by decide) r.2⟩) (Cert.OutDxRefIdeal.Value.run (F := Ideal) m ρ)

/-- The reference's result is the same. -/
theorem ref_eq (x1 : Cert.OutDxRefIdeal.S2048x2048.Idx → EReal) (x2 : Cert.OutDxRefIdeal.S8192x2048.Idx → EReal) (i : Cert.OutDxRefIdeal.S8192x2048.Idx) :
    val_main_v2 (F := Ideal) x1 x2 i = ∑ k : Fin 2048, at2 x2 (i 0).val k.val * at2 x1 (i 1).val k.val := by
  rw [val_main_v2_apply]
  show val_main_v1 (F := Ideal) x1 x2 i = _
  rw [val_main_v1_apply]
  refine Finset.sum_congr rfl fun k _ => ?_
  exact congr (congrArg _ (at2_eq x2 _ _ _ rfl rfl)) (at2_eq x1 _ _ _ rfl rfl)

/-- Over the extended reals the kernel computes the reference's gradient. -/
theorem algebraic : Cert.algebraic_OutDxIdeal_OutDxRefIdeal := by
  intro m ρ m' ρ' _ hagree
  refine ⟨Cert.OutDxIdeal.Val.res m, ?_, ?_⟩
  · refine (θ_run Cert.OutDxIdeal.defs _ _).mono (fun r h c => ?_) (Cert.OutDxIdeal.Value.run_blocks (F := Ideal) m ρ)
    exact ⟨(h c).1.trans (Cert.OutDxIdeal.Val.final_2 m c), (h c).2⟩
  · refine (θ_run Cert.OutDxRefIdeal.defs _ _).mono (fun r h c => ?_) (Cert.OutDxRefIdeal.Value.run (F := Ideal) m' ρ')
    obtain ⟨_, g1, g2⟩ := hagree c
    refine ⟨(h c).1.trans ?_, (h c).2⟩
    rw [val_main_v2_eq, g1, g2]
    funext i
    exact ref_eq _ _ i

end Cert.Proof.OutDx
-- ==== Proof.OutDwVal.lean ====
/-
  The gradient of the attention's last weights: the kernel's accumulator over four blocks of rows ends at the
  sum over all rows, which is the reference's product.
-/
module

public import proofs.«01_k».proof.Defs
public import proofs.«01_k».proof.Proof.Blocks
public import proofs.«01_k».proof.Proof.Gen.OutDw
public import proofs.«01_k».proof.Proof.Gen.OutDwIdeal.Value
public import proofs.«01_k».proof.Proof.Gen.OutDwRefIdeal.Run
public import proofs.«01_k».proof.Proof.Gen.OutDwRefIdeal.Read

@[expose] public section

set_option maxRecDepth 16384
noncomputable section

namespace Cert.OutDwIdeal.Val
open Cert.OutDwIdeal Cert.OutDwIdeal.Gen Cert.OutDwIdeal.Value Cert.Blocks
open Idealize.ShloMosaic Idealize.ShloMosaic.TcCoe Idealize.ShloMosaic.Tactic Idealize.SL.Sem

section stores
variable {F : FTy → Type} [FloatOps F]
variable (c : Dev nD) (i : grid0.Coords) (a3 : Memref sig .tc .vmem S2048x1024 .bf16) (h3 : a3.IsWhole) (a4 : Memref sig .tc .vmem S2048x1024 .f32) (h4 : a4.IsWhole)
  (a5 : Memref sig .tc .vmem S1024x1024 .bf16) (h5 : a5.IsWhole) (a6 : Memref sig .tc .vmem S1024x1024 .f32) (h6 : a6.IsWhole)
  (x0 : Vec F S2048x1024 .bf16) (x1 : Vec F S2048x1024 .f32) (s : Vec F S1024x1024 .f32)

/-- The first point of a run leaves the product of its blocks over zero. -/
theorem sout_A (hc0 : cond0_0 i) (hc1 : ¬cond0_1 i) : sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S2048x1024) hz2, View.ld_unit_zero (S := S2048x1024) hz2]

/-- A middle point adds the product of its blocks. -/
theorem sout_B (hc0 : ¬cond0_0 i) (hc1 : ¬cond0_1 i) : sout0_B_0 c i a3 h3 a4 h4 a5 h5 a6 h6 hc0 hc1 x0 x1 s = k0_pay2 s x0 x1 := by
  unfold sout0_B_0
  rw [View.read_writes_eq_canon _ _ _ (scover0_B_0 c i a3 h3 a4 h4 a5 h5 a6 h6 hc0 hc1 x0 x1 s)]
  unfold kernelRun0_B
  dsimp only
  rw [View.canon_unit_zero hz2]
  simp only [View.readAt_eq_ld, h3.read_unread, h4.read_unread, h6.read_unread, View.ld_unit_zero (S := S2048x1024) hz2, View.ld_unit_zero (S := S2048x1024) hz2,
    View.ld_unit_zero (S := S1024x1024) hz2]

/-- So does the last point of a run. -/
theorem sout_C (hc0 : ¬cond0_0 i) (hc1 : cond0_1 i) : sout0_C_0 c i a3 h3 a4 h4 a5 h5 a6 h6 hc0 hc1 x0 x1 s = k0_pay2 s x0 x1 := by
  unfold sout0_C_0
  rw [View.read_writes_eq_canon _ _ _ (scover0_C_0 c i a3 h3 a4 h4 a5 h5 a6 h6 hc0 hc1 x0 x1 s)]
  unfold kernelRun0_C
  dsimp only
  sl_unfold_words
  rw [View.canon_unit_zero hz2]
  simp only [View.readAt_eq_ld, h3.read_unread, h4.read_unread, h6.read_unread, View.ld_unit_zero (S := S2048x1024) hz2, View.ld_unit_zero (S := S2048x1024) hz2,
    View.ld_unit_zero (S := S1024x1024) hz2]

/-- And it stores the sum, in the narrow format, to the output. -/
theorem out_C (hc0 : ¬cond0_0 i) (hc1 : cond0_1 i) : out0_C_2 c i a3 h3 a4 h4 a5 h5 a6 h6 hc0 hc1 x0 x1 s = k0_pay3 (k0_pay2 s x0 x1) := by
  unfold out0_C_2
  rw [View.read_writes_eq_canon _ _ _ (cover0_C_2 c i a3 h3 a4 h4 a5 h5 a6 h6 hc0 hc1 x0 x1 s)]
  unfold kernelRun0_C
  dsimp only
  sl_unfold_words
  rw [View.canon_unit_zero hz2, View.readCov_unit_zero (S := S1024x1024) _ hz2]
  simp only [View.readAt_eq_ld, h3.read_unread, h4.read_unread, h6.read_unread, View.ld_unit_zero (S := S2048x1024) hz2, View.ld_unit_zero (S := S2048x1024) hz2,
    View.ld_unit_zero (S := S1024x1024) hz2]
end stores

/-! ## At the ideal values -/

theorem pay1_at (y : S1024x1024.Idx) : k0_pay1 (F := Ideal) y = 0 := by
  pointwise [k0_pay1]
theorem pay2_at (s : S1024x1024.Idx → EReal) (x0 : S2048x1024.Idx → EReal) (x1 : S2048x1024.Idx → EReal) (a : Fin 1024) (e : Fin 1024) :
    k0_pay2 (F := Ideal) s x0 x1 (ix2 a e) = s (ix2 a e) + ∑ r : Fin 2048, x0 (ix2 r a) * x1 (ix2 r e) := by
  pointwise [k0_pay2]

variable (m : (ℓ : Loc nD τ sig) → Buf (Elt Ideal) ℓ) (ρ : Dev nD → PrngReg)

theorem V_v0 (c : Dev nD) : V m c main_v0 = truncf (F := Ideal) (φ := .f32) .bf16 (m ((c : Thread nD τ).loc main_arg0)) bitsLt_bf16_f32 := by
  show StableHlo.after hostOps0 (fun b => m (c, b)) _ = _
  after_results_simp

/-- The attention's output and the gradient of its last product. -/
def oA (c : Dev nD) : S8192x2048.Idx → EReal := m ((c : Thread nD τ).loc main_arg0)
@[inherit_doc oA] def gA (c : Dev nD) : S8192x2048.Idx → EReal := m ((c : Thread nD τ).loc main_arg2)

theorem index0 (t : Fin cfg0.N) : win0_0.index t 0 = t.val % 4 ∧ win0_0.index t 1 = t.val / 8 :=
  (by decide +kernel : ∀ t : Fin grid0.N, win0_0.index t 0 = t.val % 4 ∧ win0_0.index t 1 = t.val / 8) t
theorem index1 (t : Fin cfg0.N) : win0_1.index t 0 = t.val % 4 ∧ win0_1.index t 1 = t.val / 4 % 2 :=
  (by decide +kernel : ∀ t : Fin grid0.N, win0_1.index t 0 = t.val % 4 ∧ win0_1.index t 1 = t.val / 4 % 2) t

/-- The block of the attention's output that a point reads. -/
theorem blk0 (c : Dev nD) (t : Fin cfg0.N) (r : Fin 2048) (a : Fin 1024) :
    (iblk m c 0 t : Vec Ideal S2048x1024 _) (ix2 r a) = at2 (oA m c) (2048 * (t.val % 4) + r.val) (1024 * (t.val / 8) + a.val) := by
  have hi := index0 t
  unfold iblk
  rw [View.read_apply]
  refine Eq.trans (b := V m c main_v0 _) rfl ?_
  rw [V_v0]
  refine at2_eq (oA m c) _ _ _ ?_ ?_
  · show win0_0.index t 0 * 2048 + 1 * r.val = _; rw [hi.1]; omega
  · show win0_0.index t 1 * 1024 + 1 * a.val = _; rw [hi.2]; omega

/-- The block of the gradient that a point reads. -/
theorem blk1 (c : Dev nD) (t : Fin cfg0.N) (r : Fin 2048) (e : Fin 1024) :
    (iblk m c 1 t : Vec Ideal S2048x1024 _) (ix2 r e) = at2 (gA m c) (2048 * (t.val % 4) + r.val) (1024 * (t.val / 4 % 2) + e.val) := by
  have hi := index1 t
  unfold iblk
  rw [View.read_apply]
  refine Eq.trans (b := V m c main_arg2 _) rfl ?_
  rw [V_main_arg2]
  refine at2_eq (gA m c) _ _ _ ?_ ?_
  · show win0_1.index t 0 * 2048 + 1 * r.val = _; rw [hi.1]; omega
  · show win0_1.index t 1 * 1024 + 1 * e.val = _; rw [hi.2]; omega

/-- What point `n` adds to the accumulator. -/
def M (c : Dev nD) (n : ℕ) (y : S1024x1024.Idx) : EReal :=
  ∑ r : Fin 2048, at2 (oA m c) (2048 * (n % 4) + r.val) (1024 * (n / 8) + (y 0).val) * at2 (gA m c) (2048 * (n % 4) + r.val) (1024 * (n / 4 % 2) + (y 1).val)

theorem step (c : Dev nD) (t : Fin cfg0.N) (s : S1024x1024.Idx → EReal) (y : S1024x1024.Idx) :
    k0_pay2 (F := Ideal) s (iblk m c 0 t) (iblk m c 1 t) y = s y + M m c t.val y := by
  obtain ⟨a, e, rfl⟩ : ∃ (a : Fin 1024) (e : Fin 1024), y = ix2 a e := ⟨y 0, y 1, eq_ix2 y⟩
  rw [pay2_at]
  refine congrArg (s (ix2 a e) + ·) (Finset.sum_congr rfl fun r _ => ?_)
  rw [blk0, blk1]
  rfl

/-- The accumulator after a point: the sum of what its run's points added. -/
theorem acc_eq (c : Dev nD) (t : Fin cfg0.N) (y : S1024x1024.Idx) :
    (outsAt0 m c t.val t.isLt).2 y = ∑ s ∈ Finset.range (t.val % 4 + 1), M m c (4 * (t.val / 4) + s) y := by
  rw [soutsAt0_0_eq]
  rw [Pipeline.accAt_add_apply (ι := S1024x1024.Idx) (β := EReal) _ _ (fun _ => 0) (M m c) (4 * (t.val / 4)) 3 ?_ ?_ (t.val % 4) (by omega), zero_add]
  · intro h i
    unfold scAt0_0
    rw [dif_pos (by omega), dif_neg (by omega), sout_A, step m c ⟨_, h⟩, pay1_at]
  · intro n h acc i h0 h1
    unfold scAt0_0
    rw [dif_neg (by omega)]
    by_cases hc : n % 4 = 3
    · rw [dif_pos hc, sout_C, step m c ⟨_, h⟩]
    · rw [dif_neg hc, sout_B, step m c ⟨_, h⟩]

/-- The result: the product of the attention's output and the gradient over all rows. -/
def res (c : Dev nD) : S2048x2048.Idx → EReal := fun i => ∑ k : Fin 8192, at2 (oA m c) k.val (i 0).val * at2 (gA m c) k.val (i 1).val

theorem G_eq (c : Dev nD) : G2 m c = res m c := by
  funext i
  obtain ⟨f, d, rfl⟩ : ∃ (f : Fin 2048) (d : Fin 2048), i = ix2 f d := ⟨i 0, i 1, eq_ix2 i⟩
  have hN : cfg0.N = 16 := N_0
  have hp : pt2Of (ix2 f d) = 8 * (f.val / 1024) + 4 * (d.val / 1024) + 3 := by
    show 4 * (2 * (f.val / 1024 - 0) + 1 * (d.val / 1024 - 0)) + 3 = _
    omega
  have hlt : pt2Of (ix2 f d) < cfg0.N := by rw [hp, hN]; omega
  unfold G2
  rw [dif_pos hlt, ← outsAt0_sweep m c _ hlt]
  have h3 : pt2Of (ix2 f d) % 4 = 3 := by rw [hp]; omega
  have e1 := outsAt0_C m c ⟨_, hlt⟩ (by show ¬ pt2Of (ix2 f d) % 4 = 0; omega) h3
  have e2 := congrArg Prod.fst e1
  have e3 := congrArg Prod.snd e1
  dsimp only at e2 e3
  rw [out_C] at e2
  rw [sout_C] at e3
  rw [e2, ← e3]
  refine Eq.trans (acc_eq m c ⟨_, hlt⟩ (loc2Of (ix2 f d))) ?_
  show ∑ s ∈ Finset.range (pt2Of (ix2 f d) % 4 + 1), M m c (4 * (pt2Of (ix2 f d) / 4) + s) _ = _
  rw [h3]
  show _ = ∑ k : Fin 8192, at2 (oA m c) k.val f.val * at2 (gA m c) k.val d.val
  rw [← sum_blocks 4 2048 (fun k => at2 (oA m c) k f.val * at2 (gA m c) k d.val)]
  refine Finset.sum_congr rfl fun s hs => Finset.sum_congr rfl fun r _ => ?_
  have hs := Finset.mem_range.mp hs
  rw [hp]
  show at2 _ (2048 * ((4 * ((8 * (f.val / 1024) + 4 * (d.val / 1024) + 3) / 4) + s) % 4) + r.val) (1024 * ((4 * ((8 * (f.val / 1024) + 4 * (d.val / 1024) + 3) / 4) + s) / 8) + f.val % 1024) *
    at2 _ (2048 * ((4 * ((8 * (f.val / 1024) + 4 * (d.val / 1024) + 3) / 4) + s) % 4) + r.val) (1024 * ((4 * ((8 * (f.val / 1024) + 4 * (d.val / 1024) + 3) / 4) + s) / 4 % 2) + d.val % 1024) = _
  congr 2 <;> omega

end Cert.OutDwIdeal.Val

namespace Cert.Proof.OutDw
open Idealize.ShloMosaic Idealize.ShloMosaic.TcCoe Idealize.SL.Sem
open Cert.Blocks Cert.OutDwRefIdeal.Read

/-- The two programs have the same bodies and the same pipelines. -/
theorem eq_defs₀ : Cert.OutDw.defs₀ (F := Bits) = Cert.OutDwIdeal.defs₀ (F := Bits) :=
  congrArg Defs.onTc (funext fun a => match a with | 0 => funext fun ⟨_, _⟩ => rfl)
@[inherit_doc eq_defs₀] theorem eq_defs : Cert.OutDw.defs (F := Bits) = Cert.OutDwIdeal.defs (F := Bits) := congrArg (Pipeline.defs Cert.OutDwIdeal.pcfgs) eq_defs₀
/-- So the kernel, as printed, runs and leaves its arguments and the machine's counters as they were, as the idealised one does. -/
theorem frame_kernel : Cert.quiescent_OutDw := by
  intro m ρ _
  rw [eq_defs]
  exact Cert.OutDwIdeal.Gen.frame (F := Bits) m ρ
/-- The idealised one does. -/
theorem frame_ideal : Cert.quiescent_OutDwIdeal := fun m ρ _ => Cert.OutDwIdeal.Gen.frame m ρ
/-- The reference does. -/
theorem frame_reference : Cert.quiescent_OutDwRefIdeal := fun m ρ _ =>
  (θ_run Cert.OutDwRefIdeal.defs _ _).mono (fun r h => ⟨fun c => (h c).2, sem_eq_zero_of_no_sems (by decide) r.2⟩) (Cert.OutDwRefIdeal.Value.run (F := Ideal) m ρ)

/-- The reference's result is the same sum. -/
theorem ref_eq (x0 : Cert.OutDwRefIdeal.S8192x2048.Idx → EReal) (x2 : Cert.OutDwRefIdeal.S8192x2048.Idx → EReal) (i : Cert.OutDwRefIdeal.S2048x2048.Idx) :
    val_main_v3 (F := Ideal) x0 x2 i = ∑ k : Fin 8192, at2 x0 k.val (i 0).val * at2 x2 k.val (i 1).val := by
  rw [val_main_v3_apply]
  show val_main_v2 (F := Ideal) x0 x2 i = _
  rw [val_main_v2_apply, val_main_v1_apply]
  refine Finset.sum_congr rfl fun k _ => ?_
  rw [mul_comm]
  exact congr (congrArg _ (at2_eq x0 _ _ _ rfl rfl)) (at2_eq x2 _ _ _ rfl rfl)

/-- Over the extended reals the kernel computes the reference's gradient. -/
theorem algebraic : Cert.algebraic_OutDwIdeal_OutDwRefIdeal := by
  intro m ρ m' ρ' _ hagree
  refine ⟨Cert.OutDwIdeal.Val.res m, ?_, ?_⟩
  · refine (θ_run Cert.OutDwIdeal.defs _ _).mono (fun r h c => ?_) (Cert.OutDwIdeal.Value.run (F := Ideal) m ρ)
    exact ⟨(h c).1.trans (Cert.OutDwIdeal.Val.G_eq m c), (h c).2⟩
  · refine (θ_run Cert.OutDwRefIdeal.defs _ _).mono (fun r h c => ?_) (Cert.OutDwRefIdeal.Value.run (F := Ideal) m' ρ')
    obtain ⟨g0, _, g2⟩ := hagree c
    refine ⟨(h c).1.trans ?_, (h c).2⟩
    rw [val_main_v3_eq, g0, g2]
    funext i
    exact ref_eq _ _ i

end Cert.Proof.OutDw
-- ==== Proof.Pads.lean ====
/-
  A matrix with columns of zeros appended, and sums over them.
-/
module

public import proofs.«01_k».proof.Proof.Blocks

@[expose] public section

noncomputable section

namespace Cert.Blocks
open Idealize.ShloMosaic

/-- A matrix's entry at two natural numbers, zero from its last column on. -/
def atZ {a b : ℕ} [NeZero a] [NeZero b] (X : (⟨2, ![a, b]⟩ : Shape).Idx → EReal) (i j : ℕ) : EReal := if j < b then at2 X i j else 0

/-- The padding value: the integer zero as a float. -/
theorem zeroPad {φ : FTy} {u : Shape} (v : u.Idx → BitVec 32) (hv : ∀ i, v i = 0#32) (i : u.Idx) : (sitofp (F := Ideal) φ v i : EReal) = 0 := by
  show ((((v i).toInt : ℤ) : ℝ) : EReal) = 0
  rw [hv]
  simp

/-- The matrix with columns of the padding value appended, where that is zero. -/
theorem pad_atZ {a b d p : ℕ} [NeZero a] [NeZero b] (X : (⟨2, ![a, b]⟩ : Shape).Idx → EReal) {u : Shape} (v : u.Idx → EReal) (hv : ∀ i, v i = 0)
    (h : (⟨2, ![a, b]⟩ : Shape).Pads (![0, 0] : Fin 2 → Nat) ![0, p] ![0, 0] ⟨2, ![a, d]⟩) (hu : 0 < u.numel) (z : (⟨2, ![a, d]⟩ : Shape).Idx) (i j : ℕ)
    (h0 : (z 0).val = i) (h1 : (z 1).val = j) : pad ⟨2, ![a, d]⟩ ![0, 0] ![0, p] ![0, 0] X v h hu z = atZ X i j := by
  subst h0 h1
  have b0 : (z 0).val < a := (z 0).isLt
  unfold atZ
  rw [pad_apply]
  by_cases hj : (z 1).val < b
  · rw [if_pos hj, dif_pos]
    · refine at2_eq X _ _ _ ?_ ?_
      · show ((z 0).val - 0) / (0 + 1) = _; omega
      · show ((z 1).val - 0) / (0 + 1) = _; omega
    · intro k
      match k with
      | ⟨0, _⟩ => exact ⟨Nat.zero_le _, Nat.mod_one _, (by omega : ((z 0).val - 0) / (0 + 1) < a)⟩
      | ⟨1, _⟩ => exact ⟨Nat.zero_le _, Nat.mod_one _, (by omega : ((z 1).val - 0) / (0 + 1) < b)⟩
  · rw [if_neg hj, dif_neg, hv]
    intro hin
    have h2 : ((z 1).val - 0) / (0 + 1) < b := (hin 1).2.2
    omega

/-- Products of appended zeros add nothing to a sum. -/
theorem sum_atZ {a b d n p : ℕ} [NeZero a] [NeZero b] [NeZero d] (X : (⟨2, ![a, b]⟩ : Shape).Idx → EReal) (Y : (⟨2, ![d, b]⟩ : Shape).Idx → EReal) (i j : ℕ) (hn : n = b + p) :
    ∑ k : Fin n, atZ X i k.val * atZ Y j k.val = ∑ k : Fin b, at2 X i k.val * at2 Y j k.val := by
  subst hn
  rw [Fin.sum_univ_add]
  refine Eq.trans (congrArg₂ (· + ·) (Finset.sum_congr rfl fun k _ => ?_) (Finset.sum_eq_zero fun k _ => ?_)) (add_zero _)
  · unfold atZ
    rw [if_pos (by exact k.isLt), if_pos (by exact k.isLt)]
    rfl
  · unfold atZ
    rw [if_neg (by show ¬ b + k.val < b; omega), zero_mul]

/-- A column of zeros gives a column of zeros. -/
theorem sum_atZ_col {a b n : ℕ} [NeZero a] [NeZero b] (f : Fin n → EReal) (X : (⟨2, ![a, b]⟩ : Shape).Idx → EReal) (i : Fin n → ℕ) (j : ℕ) :
    ∑ k : Fin n, f k * atZ X (i k) j = if j < b then ∑ k : Fin n, f k * at2 X (i k) j else 0 := by
  unfold atZ
  by_cases hj : j < b
  · simp only [if_pos hj]
  · simp only [if_neg hj, mul_zero, Finset.sum_const_zero]

end Cert.Blocks
-- ==== Proof.InVal.lean ====
/-
  The product of the normed input and the attention's first weights: every point of the kernel's grid writes its own block of
  the result, so together they write the reference's, zeros in the appended columns.
-/
module

public import proofs.«01_k».proof.Defs
public import proofs.«01_k».proof.Proof.Pads
public import proofs.«01_k».proof.Proof.Gen.In
public import proofs.«01_k».proof.Proof.Gen.InIdeal.Value
public import proofs.«01_k».proof.Proof.Gen.InRefIdeal.Run
public import proofs.«01_k».proof.Proof.Gen.InRefIdeal.Read

@[expose] public section

set_option maxRecDepth 16384
noncomputable section

namespace Cert.InIdeal.Val
open Cert.InIdeal Cert.InIdeal.Gen Cert.InIdeal.Value Cert.Blocks
open Idealize.ShloMosaic Idealize.ShloMosaic.TcCoe Idealize.ShloMosaic.Tactic Idealize.SL.Sem

theorem pay1_at (x0 : S1024x2048.Idx → EReal) (x1 : S2048x896.Idx → EReal) (a : Fin 1024) (e : Fin 896) :
    k0_pay1 (F := Ideal) x0 x1 (ix2 a e) = ∑ r : Fin 2048, x0 (ix2 a r) * x1 (ix2 r e) := by
  pointwise [k0_pay1]

/-- What a point stores. -/
theorem out_eq {F : FTy → Type} [FloatOps F] (x0 : Vec F S1024x2048 .bf16) (x1 : Vec F S2048x896 .bf16) : out0_2 x0 x1 = k0_pay1 x0 x1 := by
  unfold out0_2
  rw [View.canon_unit_zero hz2]
  exact congrArg₂ _ (View.ld_unit_zero (S := S1024x2048) hz2 _ _) (View.ld_unit_zero (S := S2048x896) hz2 _ _)

variable (m : (ℓ : Loc nD τ sig) → Buf (Elt Ideal) ℓ) (ρ : Dev nD → PrngReg)

theorem V_v0 (c : Dev nD) : V m c main_v0 = truncf (F := Ideal) (φ := .f32) .bf16 (m ((c : Thread nD τ).loc main_arg0)) bitsLt_bf16_f32 := by
  show StableHlo.after (List.flatten [hostOps0, hostOps0_1]) (fun b => m (c, b)) _ = _
  simp only [List.flatten_cons, List.flatten_nil, List.append_nil, List.cons_append, List.nil_append]
  after_results_simp
theorem V_v2 (c : Dev nD) : V m c main_v2 = pad S2048x6272 ![0, 0] ![0, 112] ![0, 0] (truncf (F := Ideal) (φ := .f32) .bf16 (m ((c : Thread nD τ).loc main_arg1)) bitsLt_bf16_f32)
    (sitofp (F := Ideal) .bf16 (constantI S_ 32 0#32)) pads_S2048x6160_S2048x6272_000_01120 h_S_ := by
  show StableHlo.after (List.flatten [hostOps0, hostOps0_1]) (fun b => m (c, b)) _ = _
  simp only [List.flatten_cons, List.flatten_nil, List.append_nil, List.cons_append, List.nil_append]
  after_results_simp
  rfl

/-- The normed input and the weights. -/
def hA (c : Dev nD) : S8192x2048.Idx → EReal := m ((c : Thread nD τ).loc main_arg0)
@[inherit_doc hA] def wA (c : Dev nD) : S2048x6160.Idx → EReal := m ((c : Thread nD τ).loc main_arg1)

theorem index0 (t : Fin cfg0.N) : win0_0.index t 0 = t.val / 7 ∧ win0_0.index t 1 = 0 :=
  (by decide +kernel : ∀ t : Fin grid0.N, win0_0.index t 0 = t.val / 7 ∧ win0_0.index t 1 = 0) t
theorem index1 (t : Fin cfg0.N) : win0_1.index t 0 = 0 ∧ win0_1.index t 1 = t.val % 7 :=
  (by decide +kernel : ∀ t : Fin grid0.N, win0_1.index t 0 = 0 ∧ win0_1.index t 1 = t.val % 7) t
theorem index2 (t : Fin cfg0.N) : win0_2.index t 0 = t.val / 7 ∧ win0_2.index t 1 = t.val % 7 :=
  (by decide +kernel : ∀ t : Fin grid0.N, win0_2.index t 0 = t.val / 7 ∧ win0_2.index t 1 = t.val % 7) t

/-- The blocks that a point reads. -/
theorem blk0 (c : Dev nD) (t : Fin cfg0.N) (a : Fin 1024) (r : Fin 2048) :
    (iblk m c 0 t : Vec Ideal S1024x2048 _) (ix2 a r) = at2 (hA m c) (1024 * (t.val / 7) + a.val) r.val := by
  have hi := index0 t
  unfold iblk
  rw [View.read_apply]
  refine Eq.trans (b := V m c main_v0 _) rfl ?_
  rw [V_v0]
  refine at2_eq (hA m c) _ _ _ ?_ ?_
  · show win0_0.index t 0 * 1024 + 1 * a.val = _; rw [hi.1]; omega
  · show win0_0.index t 1 * 2048 + 1 * r.val = _; rw [hi.2]; omega
@[inherit_doc blk0] theorem blk1 (c : Dev nD) (t : Fin cfg0.N) (r : Fin 2048) (e : Fin 896) :
    (iblk m c 1 t : Vec Ideal S2048x896 _) (ix2 r e) = atZ (wA m c) r.val (896 * (t.val % 7) + e.val) := by
  have hi := index1 t
  unfold iblk
  rw [View.read_apply]
  refine Eq.trans (b := V m c main_v2 _) rfl ?_
  rw [V_v2]
  refine pad_atZ (wA m c) _ (zeroPad _ fun _ => rfl) _ _ _ _ _ ?_ ?_
  · show win0_1.index t 0 * 2048 + 1 * r.val = _; rw [hi.1]; omega
  · show win0_1.index t 1 * 896 + 1 * e.val = _; rw [hi.2]; omega

/-- The result: the product of the normed input and the weights, with its columns of zeros. -/
def res (c : Dev nD) : S8192x6272.Idx → EReal := fun i =>
  ∑ k : Fin 2048, at2 (hA m c) (i 0).val k.val * atZ (wA m c) k.val (i 1).val

theorem flushed_2 (c : Dev nD) (t : Fin cfg0.N) (_ : (cfg0.win 2).flush t = true) :
    (dats m 0 c).flushed 2 t = ((cfg0.win 2).blk t).view.read (Elt Ideal) (res m c) := by
  have hi := index2 t
  show (cfg0.win 2).cut (grid0.coords t) ((dats m 0 c).after 2 t) = _
  rw [after0_2, out_eq]
  funext z
  rw [View.read_apply]
  obtain ⟨a, e, rfl⟩ : ∃ (a : Fin 1024) (e : Fin 896), z = ix2 a e := ⟨z 0, z 1, eq_ix2 z⟩
  refine (pay1_at _ _ a e).trans ?_
  have e0 : win0_2.index t 0 * 1024 + 1 * a.val = 1024 * (t.val / 7) + a.val := by rw [hi.1]; omega
  have e1 : win0_2.index t 1 * 896 + 1 * e.val = 896 * (t.val % 7) + e.val := by rw [hi.2]; omega
  show _ = ∑ k : Fin 2048, at2 (hA m c) (win0_2.index t 0 * 1024 + 1 * a.val) k.val * atZ (wA m c) k.val (win0_2.index t 1 * 896 + 1 * e.val)
  rw [e0, e1]
  refine Finset.sum_congr rfl fun r _ => ?_
  rw [blk0, blk1]
theorem final_2 (c : Dev nD) : (dats m 0 c).arrAt 2 cfg0.N = res m c := by
  refine (dats m 0 c).arrAt_eq_of_cover 2 (res m c) (flushed_2 m c) fun i => ?_
  have b0 : (i 0).val < 8192 := (i 0).isLt
  have b1 : (i 1).val < 6272 := (i 1).isLt
  have hlt : 7 * ((i 0).val / 1024) + (i 1).val / 896 < cfg0.N := (by omega : 7 * ((i 0).val / 1024) + (i 1).val / 896 < 56).trans_eq N_0.symm
  refine ⟨⟨_, hlt⟩, flush0_2 _, ?_⟩
  have hi := index2 ⟨_, hlt⟩
  generalize hT : (⟨_, hlt⟩ : Fin cfg0.N) = T at hi ⊢
  have hv : T.val = 7 * ((i 0).val / 1024) + (i 1).val / 896 := by rw [← hT]
  show i ∈ ((View.whole main_v3).slice (win0_2.rect T)).set
  rw [View.set_slice_whole, Rect.mem_set_unit]
  intro a
  match a with
  | ⟨0, _⟩ => show win0_2.index T 0 * 1024 ≤ (i 0).val ∧ (i 0).val < win0_2.index T 0 * 1024 + 1024; rw [hi.1]; omega
  | ⟨1, _⟩ => show win0_2.index T 1 * 896 ≤ (i 1).val ∧ (i 1).val < win0_2.index T 1 * 896 + 896; rw [hi.2]; omega

end Cert.InIdeal.Val

namespace Cert.Proof.In
open Idealize.ShloMosaic Idealize.ShloMosaic.TcCoe Idealize.SL.Sem
open Cert.Blocks Cert.InRefIdeal.Read

/-- The two programs have the same bodies and the same pipelines. -/
theorem eq_defs₀ : Cert.In.defs₀ (F := Bits) = Cert.InIdeal.defs₀ (F := Bits) :=
  congrArg Defs.onTc (funext fun a => match a with | 0 => funext fun ⟨_, _⟩ => rfl)
@[inherit_doc eq_defs₀] theorem eq_defs : Cert.In.defs (F := Bits) = Cert.InIdeal.defs (F := Bits) := congrArg (Pipeline.defs Cert.InIdeal.pcfgs) eq_defs₀
/-- So the kernel, as printed, runs and leaves its arguments and the machine's counters as they were, as the idealised one does. -/
theorem frame_kernel : Cert.quiescent_In := by
  intro m ρ _
  rw [eq_defs]
  exact Cert.InIdeal.Gen.frame (F := Bits) m ρ
/-- The idealised one does. -/
theorem frame_ideal : Cert.quiescent_InIdeal := fun m ρ _ => Cert.InIdeal.Gen.frame m ρ
/-- The reference does. -/
theorem frame_reference : Cert.quiescent_InRefIdeal := fun m ρ _ =>
  (θ_run Cert.InRefIdeal.defs _ _).mono (fun r h => ⟨fun c => (h c).2, sem_eq_zero_of_no_sems (by decide) r.2⟩) (Cert.InRefIdeal.Value.run (F := Ideal) m ρ)

/-- The reference's result is the same. -/
theorem ref_eq (x0 : Cert.InRefIdeal.S8192x2048.Idx → EReal) (x1 : Cert.InRefIdeal.S2048x6160.Idx → EReal) (i : Cert.InRefIdeal.S8192x6272.Idx) :
    val_main_v1 (F := Ideal) x0 x1 i = ∑ k : Fin 2048, at2 x0 (i 0).val k.val * atZ x1 k.val (i 1).val := by
  have b0 : (i 0).val < 8192 := (i 0).isLt
  unfold val_main_v1
  refine (pad_atZ (val_main_v0 (F := Ideal) x0 x1) _ (zeroPad _ fun _ => rfl) _ _ i _ _ rfl rfl).trans ?_
  rw [sum_atZ_col (fun k : Fin 2048 => at2 x0 (i 0).val k.val) x1 (fun k => k.val) (i 1).val]
  unfold atZ
  by_cases hj : (i 1).val < 6160
  · rw [if_pos hj, if_pos hj]
    unfold at2
    rw [val_main_v0_apply]
    refine Finset.sum_congr rfl fun k _ => ?_
    refine congr (congrArg _ ((at2_eq x0 _ (i 0).val k.val ?_ rfl).trans rfl)) ((at2_eq x1 _ k.val (i 1).val rfl ?_).trans rfl)
    · exact Nat.mod_eq_of_lt b0
    · exact Nat.mod_eq_of_lt hj
  · rw [if_neg hj, if_neg hj]

/-- Over the extended reals the kernel computes the reference's result. -/
theorem algebraic : Cert.algebraic_InIdeal_InRefIdeal := by
  intro m ρ m' ρ' _ hagree
  refine ⟨Cert.InIdeal.Val.res m, ?_, ?_⟩
  · refine (θ_run Cert.InIdeal.defs _ _).mono (fun r h c => ?_) (Cert.InIdeal.Value.run_blocks (F := Ideal) m ρ)
    exact ⟨(h c).1.trans (Cert.InIdeal.Val.final_2 m c), (h c).2⟩
  · refine (θ_run Cert.InRefIdeal.defs _ _).mono (fun r h c => ?_) (Cert.InRefIdeal.Value.run (F := Ideal) m' ρ')
    obtain ⟨g0, g1⟩ := hagree c
    refine ⟨(h c).1.trans ?_, (h c).2⟩
    rw [val_main_v1_eq, g0, g1]
    funext i
    exact ref_eq _ _ i

end Cert.Proof.In
-- ==== Proof.InDwVal.lean ====
/-
  The gradient of the attention's first weights: the kernel's accumulator over four blocks of rows ends at the
  sum over all rows, which is the reference's product,
  zeros in the appended columns.
-/
module

public import proofs.«01_k».proof.Defs
public import proofs.«01_k».proof.Proof.Pads
public import proofs.«01_k».proof.Proof.Gen.InDw
public import proofs.«01_k».proof.Proof.Gen.InDwIdeal.Value
public import proofs.«01_k».proof.Proof.Gen.InDwRefIdeal.Run
public import proofs.«01_k».proof.Proof.Gen.InDwRefIdeal.Read

@[expose] public section

set_option maxRecDepth 16384
noncomputable section

namespace Cert.InDwIdeal.Val
open Cert.InDwIdeal Cert.InDwIdeal.Gen Cert.InDwIdeal.Value Cert.Blocks
open Idealize.ShloMosaic Idealize.ShloMosaic.TcCoe Idealize.ShloMosaic.Tactic Idealize.SL.Sem

section stores
variable {F : FTy → Type} [FloatOps F]
variable (c : Dev nD) (i : grid0.Coords) (a3 : Memref sig .tc .vmem S2048x1024 .bf16) (h3 : a3.IsWhole) (a4 : Memref sig .tc .vmem S2048x896 .bf16) (h4 : a4.IsWhole)
  (a5 : Memref sig .tc .vmem S1024x896 .bf16) (h5 : a5.IsWhole) (a6 : Memref sig .tc .vmem S1024x896 .f32) (h6 : a6.IsWhole)
  (x0 : Vec F S2048x1024 .bf16) (x1 : Vec F S2048x896 .bf16) (s : Vec F S1024x896 .f32)

/-- The first point of a run leaves the product of its blocks over zero. -/
theorem sout_A (hc0 : cond0_0 i) (hc1 : ¬cond0_1 i) : sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x896) hz2, View.readCov_unit_zero (S := S1024x896) _ hz2]
  simp only [View.readAt_eq_ld, h3.read_unread, h4.read_unread, View.ld_unit_zero (S := S2048x1024) hz2, View.ld_unit_zero (S := S2048x896) hz2]

/-- A middle point adds the product of its blocks. -/
theorem sout_B (hc0 : ¬cond0_0 i) (hc1 : ¬cond0_1 i) : sout0_B_0 c i a3 h3 a4 h4 a5 h5 a6 h6 hc0 hc1 x0 x1 s = k0_pay2 s x0 x1 := by
  unfold sout0_B_0
  rw [View.read_writes_eq_canon _ _ _ (scover0_B_0 c i a3 h3 a4 h4 a5 h5 a6 h6 hc0 hc1 x0 x1 s)]
  unfold kernelRun0_B
  dsimp only
  rw [View.canon_unit_zero hz2]
  simp only [View.readAt_eq_ld, h3.read_unread, h4.read_unread, h6.read_unread, View.ld_unit_zero (S := S2048x1024) hz2, View.ld_unit_zero (S := S2048x896) hz2,
    View.ld_unit_zero (S := S1024x896) hz2]

/-- So does the last point of a run. -/
theorem sout_C (hc0 : ¬cond0_0 i) (hc1 : cond0_1 i) : sout0_C_0 c i a3 h3 a4 h4 a5 h5 a6 h6 hc0 hc1 x0 x1 s = k0_pay2 s x0 x1 := by
  unfold sout0_C_0
  rw [View.read_writes_eq_canon _ _ _ (scover0_C_0 c i a3 h3 a4 h4 a5 h5 a6 h6 hc0 hc1 x0 x1 s)]
  unfold kernelRun0_C
  dsimp only
  sl_unfold_words
  rw [View.canon_unit_zero hz2]
  simp only [View.readAt_eq_ld, h3.read_unread, h4.read_unread, h6.read_unread, View.ld_unit_zero (S := S2048x1024) hz2, View.ld_unit_zero (S := S2048x896) hz2,
    View.ld_unit_zero (S := S1024x896) hz2]

/-- And it stores the sum, in the narrow format, to the output. -/
theorem out_C (hc0 : ¬cond0_0 i) (hc1 : cond0_1 i) : out0_C_2 c i a3 h3 a4 h4 a5 h5 a6 h6 hc0 hc1 x0 x1 s = k0_pay3 (k0_pay2 s x0 x1) := by
  unfold out0_C_2
  rw [View.read_writes_eq_canon _ _ _ (cover0_C_2 c i a3 h3 a4 h4 a5 h5 a6 h6 hc0 hc1 x0 x1 s)]
  unfold kernelRun0_C
  dsimp only
  sl_unfold_words
  rw [View.canon_unit_zero hz2, View.readCov_unit_zero (S := S1024x896) _ hz2]
  simp only [View.readAt_eq_ld, h3.read_unread, h4.read_unread, h6.read_unread, View.ld_unit_zero (S := S2048x1024) hz2, View.ld_unit_zero (S := S2048x896) hz2,
    View.ld_unit_zero (S := S1024x896) hz2]
end stores

/-! ## At the ideal values -/

theorem pay1_at (y : S1024x896.Idx) : k0_pay1 (F := Ideal) y = 0 := by
  pointwise [k0_pay1]
theorem pay2_at (s : S1024x896.Idx → EReal) (x0 : S2048x1024.Idx → EReal) (x1 : S2048x896.Idx → EReal) (a : Fin 1024) (e : Fin 896) :
    k0_pay2 (F := Ideal) s x0 x1 (ix2 a e) = s (ix2 a e) + ∑ r : Fin 2048, x0 (ix2 r a) * x1 (ix2 r e) := by
  pointwise [k0_pay2]

variable (m : (ℓ : Loc nD τ sig) → Buf (Elt Ideal) ℓ) (ρ : Dev nD → PrngReg)

theorem V_v0 (c : Dev nD) : V m c main_v0 = truncf (F := Ideal) (φ := .f32) .bf16 (m ((c : Thread nD τ).loc main_arg0)) bitsLt_bf16_f32 := by
  show StableHlo.after (List.flatten [hostOps0, hostOps0_1, hostOps0_2]) (fun b => m (c, b)) _ = _
  simp only [List.flatten_cons, List.flatten_nil, List.append_nil, List.cons_append, List.nil_append]
  after_results_simp

theorem V_v2 (c : Dev nD) : V m c main_v2 = truncf (F := Ideal) (φ := .f32) .bf16 (pad S8192x6272 ![0, 0] ![0, 112] ![0, 0] (m ((c : Thread nD τ).loc main_arg2))
    (sitofp (F := Ideal) .f32 (constantI S_ 32 0#32)) pads_S8192x6160_S8192x6272_000_01120 h_S_) bitsLt_bf16_f32 := by
  show StableHlo.after (List.flatten [hostOps0, hostOps0_1, hostOps0_2]) (fun b => m (c, b)) _ = _
  simp only [List.flatten_cons, List.flatten_nil, List.append_nil, List.cons_append, List.nil_append]
  after_results_simp
  rfl

/-- The normed input and the gradient of its product. -/
def hA (c : Dev nD) : S8192x2048.Idx → EReal := m ((c : Thread nD τ).loc main_arg0)
@[inherit_doc hA] def gA (c : Dev nD) : S8192x6160.Idx → EReal := m ((c : Thread nD τ).loc main_arg2)

theorem index0 (t : Fin cfg0.N) : win0_0.index t 0 = t.val % 4 ∧ win0_0.index t 1 = t.val / 28 :=
  (by decide +kernel : ∀ t : Fin grid0.N, win0_0.index t 0 = t.val % 4 ∧ win0_0.index t 1 = t.val / 28) t
theorem index1 (t : Fin cfg0.N) : win0_1.index t 0 = t.val % 4 ∧ win0_1.index t 1 = t.val / 4 % 7 :=
  (by decide +kernel : ∀ t : Fin grid0.N, win0_1.index t 0 = t.val % 4 ∧ win0_1.index t 1 = t.val / 4 % 7) t

/-- The block of the normed input that a point reads. -/
theorem blk0 (c : Dev nD) (t : Fin cfg0.N) (r : Fin 2048) (a : Fin 1024) :
    (iblk m c 0 t : Vec Ideal S2048x1024 _) (ix2 r a) = at2 (hA m c) (2048 * (t.val % 4) + r.val) (1024 * (t.val / 28) + a.val) := by
  have hi := index0 t
  unfold iblk
  rw [View.read_apply]
  refine Eq.trans (b := V m c main_v0 _) rfl ?_
  rw [V_v0]
  refine at2_eq (hA m c) _ _ _ ?_ ?_
  · show win0_0.index t 0 * 2048 + 1 * r.val = _; rw [hi.1]; omega
  · show win0_0.index t 1 * 1024 + 1 * a.val = _; rw [hi.2]; omega

/-- The block of the gradient that a point reads. -/
theorem blk1 (c : Dev nD) (t : Fin cfg0.N) (r : Fin 2048) (e : Fin 896) :
    (iblk m c 1 t : Vec Ideal S2048x896 _) (ix2 r e) = atZ (gA m c) (2048 * (t.val % 4) + r.val) (896 * (t.val / 4 % 7) + e.val) := by
  have hi := index1 t
  unfold iblk
  rw [View.read_apply]
  refine Eq.trans (b := V m c main_v2 _) rfl ?_
  rw [V_v2]
  refine Eq.trans (b := pad S8192x6272 ![0, 0] ![0, 112] ![0, 0] (gA m c) (sitofp (F := Ideal) .f32 (constantI S_ 32 0#32)) pads_S8192x6160_S8192x6272_000_01120 h_S_ _) rfl ?_
  refine pad_atZ (gA m c) _ (zeroPad _ fun _ => rfl) _ _ _ _ _ ?_ ?_
  · show win0_1.index t 0 * 2048 + 1 * r.val = _; rw [hi.1]; omega
  · show win0_1.index t 1 * 896 + 1 * e.val = _; rw [hi.2]; omega

/-- What point `n` adds to the accumulator. -/
def M (c : Dev nD) (n : ℕ) (y : S1024x896.Idx) : EReal :=
  ∑ r : Fin 2048, at2 (hA m c) (2048 * (n % 4) + r.val) (1024 * (n / 28) + (y 0).val) * atZ (gA m c) (2048 * (n % 4) + r.val) (896 * (n / 4 % 7) + (y 1).val)

theorem step (c : Dev nD) (t : Fin cfg0.N) (s : S1024x896.Idx → EReal) (y : S1024x896.Idx) :
    k0_pay2 (F := Ideal) s (iblk m c 0 t) (iblk m c 1 t) y = s y + M m c t.val y := by
  obtain ⟨a, e, rfl⟩ : ∃ (a : Fin 1024) (e : Fin 896), y = ix2 a e := ⟨y 0, y 1, eq_ix2 y⟩
  rw [pay2_at]
  refine congrArg (s (ix2 a e) + ·) (Finset.sum_congr rfl fun r _ => ?_)
  rw [blk0, blk1]
  rfl

/-- The accumulator after a point: the sum of what its run's points added. -/
theorem acc_eq (c : Dev nD) (t : Fin cfg0.N) (y : S1024x896.Idx) :
    (outsAt0 m c t.val t.isLt).2 y = ∑ s ∈ Finset.range (t.val % 4 + 1), M m c (4 * (t.val / 4) + s) y := by
  rw [soutsAt0_0_eq]
  rw [Pipeline.accAt_add_apply (ι := S1024x896.Idx) (β := EReal) _ _ (fun _ => 0) (M m c) (4 * (t.val / 4)) 3 ?_ ?_ (t.val % 4) (by omega), zero_add]
  · intro h i
    unfold scAt0_0
    rw [dif_pos (by omega), dif_neg (by omega), sout_A, step m c ⟨_, h⟩, pay1_at]
  · intro n h acc i h0 h1
    unfold scAt0_0
    rw [dif_neg (by omega)]
    by_cases hc : n % 4 = 3
    · rw [dif_pos hc, sout_C, step m c ⟨_, h⟩]
    · rw [dif_neg hc, sout_B, step m c ⟨_, h⟩]

/-- The result: the product of the normed input and the gradient over all rows. -/
def res (c : Dev nD) : S2048x6272.Idx → EReal := fun i => ∑ k : Fin 8192, at2 (hA m c) k.val (i 0).val * atZ (gA m c) k.val (i 1).val

theorem G_eq (c : Dev nD) : G2 m c = res m c := by
  funext i
  obtain ⟨f, d, rfl⟩ : ∃ (f : Fin 2048) (d : Fin 6272), i = ix2 f d := ⟨i 0, i 1, eq_ix2 i⟩
  have hN : cfg0.N = 56 := N_0
  have hp : pt2Of (ix2 f d) = 28 * (f.val / 1024) + 4 * (d.val / 896) + 3 := by
    show 4 * (7 * (f.val / 1024 - 0) + 1 * (d.val / 896 - 0)) + 3 = _
    omega
  have hlt : pt2Of (ix2 f d) < cfg0.N := by rw [hp, hN]; omega
  unfold G2
  rw [dif_pos hlt, ← outsAt0_sweep m c _ hlt]
  have h3 : pt2Of (ix2 f d) % 4 = 3 := by rw [hp]; omega
  have e1 := outsAt0_C m c ⟨_, hlt⟩ (by show ¬ pt2Of (ix2 f d) % 4 = 0; omega) h3
  have e2 := congrArg Prod.fst e1
  have e3 := congrArg Prod.snd e1
  dsimp only at e2 e3
  rw [out_C] at e2
  rw [sout_C] at e3
  rw [e2, ← e3]
  refine Eq.trans (acc_eq m c ⟨_, hlt⟩ (loc2Of (ix2 f d))) ?_
  show ∑ s ∈ Finset.range (pt2Of (ix2 f d) % 4 + 1), M m c (4 * (pt2Of (ix2 f d) / 4) + s) _ = _
  rw [h3]
  show _ = ∑ k : Fin 8192, at2 (hA m c) k.val f.val * atZ (gA m c) k.val d.val
  rw [← sum_blocks 4 2048 (fun k => at2 (hA m c) k f.val * atZ (gA m c) k d.val)]
  refine Finset.sum_congr rfl fun s hs => Finset.sum_congr rfl fun r _ => ?_
  have hs := Finset.mem_range.mp hs
  rw [hp]
  show at2 _ (2048 * ((4 * ((28 * (f.val / 1024) + 4 * (d.val / 896) + 3) / 4) + s) % 4) + r.val) (1024 * ((4 * ((28 * (f.val / 1024) + 4 * (d.val / 896) + 3) / 4) + s) / 28) + f.val % 1024) *
    atZ _ (2048 * ((4 * ((28 * (f.val / 1024) + 4 * (d.val / 896) + 3) / 4) + s) % 4) + r.val) (896 * ((4 * ((28 * (f.val / 1024) + 4 * (d.val / 896) + 3) / 4) + s) / 4 % 7) + d.val % 896) = _
  congr 2 <;> omega

end Cert.InDwIdeal.Val

namespace Cert.Proof.InDw
open Idealize.ShloMosaic Idealize.ShloMosaic.TcCoe Idealize.SL.Sem
open Cert.Blocks Cert.InDwRefIdeal.Read

/-- The two programs have the same bodies and the same pipelines. -/
theorem eq_defs₀ : Cert.InDw.defs₀ (F := Bits) = Cert.InDwIdeal.defs₀ (F := Bits) :=
  congrArg Defs.onTc (funext fun a => match a with | 0 => funext fun ⟨_, _⟩ => rfl)
@[inherit_doc eq_defs₀] theorem eq_defs : Cert.InDw.defs (F := Bits) = Cert.InDwIdeal.defs (F := Bits) := congrArg (Pipeline.defs Cert.InDwIdeal.pcfgs) eq_defs₀
/-- So the kernel, as printed, runs and leaves its arguments and the machine's counters as they were, as the idealised one does. -/
theorem frame_kernel : Cert.quiescent_InDw := by
  intro m ρ _
  rw [eq_defs]
  exact Cert.InDwIdeal.Gen.frame (F := Bits) m ρ
/-- The idealised one does. -/
theorem frame_ideal : Cert.quiescent_InDwIdeal := fun m ρ _ => Cert.InDwIdeal.Gen.frame m ρ
/-- The reference does. -/
theorem frame_reference : Cert.quiescent_InDwRefIdeal := fun m ρ _ =>
  (θ_run Cert.InDwRefIdeal.defs _ _).mono (fun r h => ⟨fun c => (h c).2, sem_eq_zero_of_no_sems (by decide) r.2⟩) (Cert.InDwRefIdeal.Value.run (F := Ideal) m ρ)

/-- The reference's result is the same. -/
theorem ref_eq (x0 : Cert.InDwRefIdeal.S8192x2048.Idx → EReal) (x2 : Cert.InDwRefIdeal.S8192x6160.Idx → EReal) (i : Cert.InDwRefIdeal.S2048x6272.Idx) :
    val_main_v4 (F := Ideal) x0 x2 i = ∑ k : Fin 8192, at2 x0 k.val (i 0).val * atZ x2 k.val (i 1).val := by
  have b0 : (i 0).val < 2048 := (i 0).isLt
  unfold val_main_v4
  refine (pad_atZ (val_main_v3 (F := Ideal) x0 x2) _ (zeroPad _ fun _ => rfl) _ _ i _ _ rfl rfl).trans ?_
  rw [sum_atZ_col (fun k : Fin 8192 => at2 x0 k.val (i 0).val) x2 (fun k => k.val) (i 1).val]
  unfold atZ
  by_cases hj : (i 1).val < 6160
  · rw [if_pos hj, if_pos hj]
    unfold at2
    rw [val_main_v3_apply]
    show val_main_v2 (F := Ideal) x0 x2 _ = _
    rw [val_main_v2_apply, val_main_v1_apply]
    refine Finset.sum_congr rfl fun k _ => ?_
    rw [mul_comm]
    refine congr (congrArg _ ((at2_eq x0 _ k.val (i 0).val rfl ?_).trans rfl)) ((at2_eq x2 _ k.val (i 1).val rfl ?_).trans rfl)
    · exact Nat.mod_eq_of_lt b0
    · exact Nat.mod_eq_of_lt hj
  · rw [if_neg hj, if_neg hj]

/-- Over the extended reals the kernel computes the reference's gradient. -/
theorem algebraic : Cert.algebraic_InDwIdeal_InDwRefIdeal := by
  intro m ρ m' ρ' _ hagree
  refine ⟨Cert.InDwIdeal.Val.res m, ?_, ?_⟩
  · refine (θ_run Cert.InDwIdeal.defs _ _).mono (fun r h c => ?_) (Cert.InDwIdeal.Value.run (F := Ideal) m ρ)
    exact ⟨(h c).1.trans (Cert.InDwIdeal.Val.G_eq m c), (h c).2⟩
  · refine (θ_run Cert.InDwRefIdeal.defs _ _).mono (fun r h c => ?_) (Cert.InDwRefIdeal.Value.run (F := Ideal) m' ρ')
    obtain ⟨g0, _, g2⟩ := hagree c
    refine ⟨(h c).1.trans ?_, (h c).2⟩
    rw [val_main_v4_eq, g0, g2]
    funext i
    exact ref_eq _ _ i

end Cert.Proof.InDw
-- ==== Proof.InDxVal.lean ====
/-
  The call through the attention's first product and the norm before it: what a point of its grid stores. Its last steps are
  those of the call through the feed-forward layer's first product, so its rows are too.
-/
module

public import proofs.«01_k».proof.Defs
public import proofs.«01_k».proof.Proof.DhArr
public import proofs.«01_k».proof.Proof.Gen.InDxIdeal.Value

@[expose] public section

set_option maxRecDepth 16384
noncomputable section

namespace Cert.InDxIdeal.Val
open Cert.InDxIdeal Cert.InDxIdeal.Gen Cert.Blocks
open Cert.DhIdeal.Val (rows fin mix gain rows_mix mix_all)
open Idealize Idealize.ShloMosaic Idealize.ShloMosaic.TcCoe Idealize.ShloMosaic.Tactic Idealize.SL.Sem

section stores
variable {F : FTy → Type} [FloatOps F]
variable (c : Dev nD) (i : grid0.Coords) (a2 : Memref sig .tc .vmem S512x896 .bf16) (h2 : a2.IsWhole) (a3 : Memref sig .tc .vmem S2048x896 .bf16) (h3 : a3.IsWhole)
  (a4 : Memref sig .tc .vmem S512x2048 .f32) (h4 : a4.IsWhole) (a5 : Memref sig .tc .vmem S1x2048 .f32) (h5 : a5.IsWhole) (a6 : Memref sig .tc .vmem S512x2048 .f32) (h6 : a6.IsWhole)
  (a7 : Memref sig .tc .vmem S512x2048 .f32) (h7 : a7.IsWhole) (a8 : Memref sig .tc .vmem S1x2048 .f32) (h8 : a8.IsWhole)
  (x0 : Vec F S512x896 .bf16) (x1 : Vec F S2048x896 .bf16) (x2 : Vec F S512x2048 .f32) (x3 : Vec F S1x2048 .f32) (x4 : Vec F S512x2048 .f32)
  (p : Vec F S512x2048 .f32) (q : Vec F S1x2048 .f32)

/-- The first point of a run leaves the product of its blocks over zero. -/
theorem out_A (hc0 : cond0_0 i) (hc1 : ¬cond0_1 i) : out0_A_5 c i a2 h2 a3 h3 a4 h4 a5 h5 a6 h6 a7 h7 a8 h8 hc0 hc1 x0 x1 x2 x3 x4 = k0_pay2 (k0_pay1 (F := F)) x0 x1 := by
  unfold out0_A_5
  rw [View.read_writes_eq_canon _ _ _ (cover0_A_5 c i a2 h2 a3 h3 a4 h4 a5 h5 a6 h6 a7 h7 a8 h8 hc0 hc1 x0 x1 x2 x3 x4)]
  unfold kernelRun0_A
  dsimp only
  sl_unfold_words
  rw [View.canon_cons_unit_zero (S := S512x2048) hz2, View.readCov_unit_zero (S := S512x2048) _ hz2]
  simp only [View.readAt_eq_ld, h2.read_unread, h3.read_unread, View.ld_unit_zero (S := S512x896) hz2, View.ld_unit_zero (S := S2048x896) hz2]

/-- A middle point adds the product of its blocks. -/
theorem out_B (hc0 : ¬cond0_0 i) (hc1 : ¬cond0_1 i) : out0_B_5 c i a2 h2 a3 h3 a4 h4 a5 h5 a6 h6 a7 h7 a8 h8 hc0 hc1 x0 x1 x2 x3 x4 p = k0_pay2 p x0 x1 := by
  unfold out0_B_5
  rw [View.read_writes_eq_canon _ _ _ (cover0_B_5 c i a2 h2 a3 h3 a4 h4 a5 h5 a6 h6 a7 h7 a8 h8 hc0 hc1 x0 x1 x2 x3 x4 p)]
  unfold kernelRun0_B
  dsimp only
  rw [View.canon_unit_zero hz2]
  simp only [View.readAt_eq_ld, h2.read_unread, h3.read_unread, h7.read_unread, View.ld_unit_zero (S := S512x896) hz2, View.ld_unit_zero (S := S2048x896) hz2,
    View.ld_unit_zero (S := S512x2048) hz2]

/-! ### The loop over the block's four chunks of rows -/

theorem off_eq : ∀ k : Fin k0_t1_loop.trips, k0_off1 k = ![128 * k.val, 0] := by decide +kernel
theorem trips_eq : k0_t1_loop.trips = 4 := by decide +kernel

/-- A load of a chunk. -/
theorem ld_rows (a : Memref sig .tc .vmem S512x2048 .f32) (f : BufTy.Contents (Elt F) a.view.ty) (k : Fin k0_t1_loop.trips)
    (inb : ∀ b, (k0_off1 k) b + S128x2048.size b ≤ S512x2048.size b) :
    View.readAt (Elt F) a.view (Rect.unit (s := S512x2048) (k0_off1 k) S128x2048.size inb).toLoadRect f = rows k.val (a.view.read (Elt F) f) := by
  have hk : k.val < 4 := trips_eq ▸ k.isLt
  rw [View.readAt_eq_ld]
  funext z
  have hz : (z 0).val < 128 := (z 0).isLt
  show a.view.read (Elt F) f _ = a.view.read (Elt F) f _
  congr 1
  funext b
  apply Fin.ext
  match b with
  | ⟨0, _⟩ =>
    have h0 : k0_off1 k 0 = 128 * k.val := congrFun (off_eq k) 0
    show k0_off1 k 0 + 1 * (z 0).val = (128 * k.val + (z 0).val) % 512
    omega
  | ⟨1, _⟩ =>
    have h1 : k0_off1 k 1 = 0 := congrFun (off_eq k) 1
    show k0_off1 k 1 + 1 * (z 1).val = (z 1).val
    omega

variable (P : Vec F S512x2048 .f32)

theorem tripR_eq (hk : k0_cond2 i = 1#1) (k : Fin k0_t1_loop.trips) (acc : FVec F S1x2048 .f32) (f : BufTy.Contents (Elt F) a7.view.ty) :
    tripR_k0_t1 (F := F) Variants.none c none i a2 h2 a3 h3 a4 h4 a5 h5 a6 h6 a7 h7 a8 h8 hk (h4.unread x2) (h5.unread x3) (h6.unread x4) k acc f
      = k0_pay8 acc (rows k.val (a7.view.read (Elt F) f)) (rows k.val x2) := by
  unfold tripR_k0_t1 trip_k0_t1
  dsimp only
  refine congrArg₂ (k0_pay8 acc) (ld_rows a7 f k _) ((ld_rows a4 _ k _).trans (congrArg (rows k.val) (h4.read_unread x2)))

theorem tripL_eq (hk : k0_cond2 i = 1#1) (k : Fin k0_t1_loop.trips) (acc : FVec F S1x2048 .f32) (f : BufTy.Contents (Elt F) a7.view.ty) :
    tripL_k0_t1 (F := F) Variants.none c none i a2 h2 a3 h3 a4 h4 a5 h5 a6 h6 a7 h7 a8 h8 hk (h4.unread x2) (h5.unread x3) (h6.unread x4) k acc f
      = [⟨Rect.unit (s := S512x2048) (k0_off1 k) S128x2048.size (k0_off1_inb i k hk), k0_pay7 (rows k.val (a7.view.read (Elt F) f)) (rows k.val x2) x3 (rows k.val x4)⟩] := by
  unfold tripL_k0_t1 trip_k0_t1
  dsimp only
  have e7 := ld_rows a7 f k (k0_off1_inb i k hk)
  have e4 := (ld_rows a4 (h4.unread x2) k (k0_off1_inb i k hk)).trans (congrArg (rows k.val) (h4.read_unread x2))
  have e6 := (ld_rows a6 (h6.unread x4) k (k0_off1_inb i k hk)).trans (congrArg (rows k.val) (h6.read_unread x4))
  have e5 : View.readAt (Elt F) a5.view (Rect.unit (s := S1x2048) ![0, 0] S1x2048.size inb_S1x2048_S1x2048_0_0).toLoadRect (h5.unread x3) = x3 := by
    rw [View.readAt_eq_ld, h5.read_unread, View.ld_unit_zero (S := S1x2048) hz2]
  rw [← e7, ← e4, ← e6]
  conv_rhs => rw [← e5]

/-- The loop's state before trip `k`. -/
theorem state (hk : k0_cond2 i = 1#1) (G : BufTy.Contents (Elt F) a7.view.ty) (hG : a7.view.read (Elt F) G = P) (k : ℕ) (h : k ≤ 4) :
    (st_k0_t1 (F := F) Variants.none c none i a2 h2 a3 h3 a4 h4 a5 h5 a6 h6 a7 h7 a8 h8 hk (h4.unread x2) (h5.unread x3) (h6.unread x4) G (k0_pay3 (F := F)) k).1 = gain x2 P k ∧
    a7.view.read (Elt F) (a7.view.writes (Elt F) G (st_k0_t1 (F := F) Variants.none c none i a2 h2 a3 h3 a4 h4 a5 h5 a6 h6 a7 h7 a8 h8 hk (h4.unread x2) (h5.unread x3) (h6.unread x4) G (k0_pay3 (F := F)) k).2)
      = mix x2 x3 x4 P k := by
  induction k with
  | zero =>
    refine ⟨rfl, ?_⟩
    show a7.view.read (Elt F) G = _
    rw [hG]
    funext y
    exact (if_neg (by omega)).symm
  | succ k ih =>
    obtain ⟨i1, i2⟩ := ih (by omega)
    have hkt : k < k0_t1_loop.trips := by rw [trips_eq]; omega
    have e := st_k0_t1_succ (F := F) Variants.none c none i a2 h2 a3 h3 a4 h4 a5 h5 a6 h6 a7 h7 a8 h8 hk (h4.unread x2) (h5.unread x3) (h6.unread x4) G (k0_pay3 (F := F)) ⟨k, hkt⟩
    dsimp only at e
    generalize hs : st_k0_t1 (F := F) Variants.none c none i a2 h2 a3 h3 a4 h4 a5 h5 a6 h6 a7 h7 a8 h8 hk (h4.unread x2) (h5.unread x3) (h6.unread x4) G (k0_pay3 (F := F)) k = s at i1 i2 e
    rw [e]
    dsimp only
    rw [tripR_eq, tripL_eq, i1, i2]
    dsimp only
    rw [rows_mix _ _ _ _ k (by omega)]
    refine ⟨rfl, ?_⟩
    funext y
    have hy : (y 0).val < 512 := (y 0).isLt
    have hy1 : (y 1).val < 2048 := (y 1).isLt
    rw [List.singleton_append]
    by_cases hm : 128 * k ≤ (y 0).val ∧ (y 0).val < 128 * (k + 1)
    · refine (View.read_writes_cons_unit_of_mem a7.view G _ _ s.2 y (ix2 (Fin.ofNat 128 ((y 0).val % 128)) (y 1)) (off_eq ⟨k, hkt⟩) (fun b => ?_)).trans ?_
      · match b with
        | ⟨0, _⟩ => show (y 0).val = 128 * k + (y 0).val % 128 % 128; omega
        | ⟨1, _⟩ => exact (Nat.zero_add _).symm
      · unfold mix fin
        rw [if_pos (by omega), show (y 0).val / 128 = k by omega]
        rfl
    · refine (View.read_writes_cons_unit_of_not_mem a7.view G _ _ s.2 y (off_eq ⟨k, hkt⟩) 0 ?_).trans ?_
      · show (y 0).val < 128 * k ∨ 128 * k + 128 ≤ (y 0).val
        omega
      · rw [i2]
        unfold mix
        by_cases hl : (y 0).val < 128 * k
        · rw [if_pos hl, if_pos (by omega)]
        · rw [if_neg hl, if_neg (by omega)]

theorem trips_eq' : Scf.trips (0#32) (Scalar.addi 0#32 4#32) 1#32 = 4 := trips_eq

/-- The last point of a run: the block's rows, rewritten. -/
theorem out_C5 (hc0 : ¬cond0_0 i) (hc1 : cond0_1 i) (hc2 : cond0_2 i) (hc3 : ¬cond0_3 i) :
    out0_C_5 c i a2 h2 a3 h3 a4 h4 a5 h5 a6 h6 a7 h7 a8 h8 hc0 hc1 hc2 hc3 x0 x1 x2 x3 x4 p = fin x2 x3 x4 (k0_pay2 p x0 x1) := by
  unfold out0_C_5
  rw [View.read_writes_eq_canon _ _ _ (cover0_C_5 c i a2 h2 a3 h3 a4 h4 a5 h5 a6 h6 a7 h7 a8 h8 hc0 hc1 hc2 hc3 x0 x1 x2 x3 x4 p),
    ← View.read_writes_eq_canon a7.view a7.view.junk _ (cover0_C_5 c i a2 h2 a3 h3 a4 h4 a5 h5 a6 h6 a7 h7 a8 h8 hc0 hc1 hc2 hc3 x0 x1 x2 x3 x4 p)]
  unfold kernelRun0_C
  dsimp only
  sl_unfold_words
  rw [View.writes_append, trips_eq', ← mix_all]
  refine (state c i a2 h2 a3 h3 a4 h4 a5 h5 a6 h6 a7 h7 a8 h8 x2 x3 x4 _ hc1 _ ?_ 4 (le_refl _)).2
  rw [View.read_writes_junk_eq_canon, View.canon_unit_zero hz2]
  simp only [View.readAt_eq_ld, h2.read_unread, h3.read_unread, h7.read_unread, View.ld_unit_zero (S := S512x896) hz2, View.ld_unit_zero (S := S2048x896) hz2,
    View.ld_unit_zero (S := S512x2048) hz2]
theorem out_D5 (hc0 : ¬cond0_0 i) (hc1 : cond0_1 i) (hc2 : ¬cond0_2 i) (hc3 : cond0_3 i) :
    out0_D_5 c i a2 h2 a3 h3 a4 h4 a5 h5 a6 h6 a7 h7 a8 h8 hc0 hc1 hc2 hc3 x0 x1 x2 x3 x4 p q = fin x2 x3 x4 (k0_pay2 p x0 x1) := by
  unfold out0_D_5
  rw [View.read_writes_eq_canon _ _ _ (cover0_D_5 c i a2 h2 a3 h3 a4 h4 a5 h5 a6 h6 a7 h7 a8 h8 hc0 hc1 hc2 hc3 x0 x1 x2 x3 x4 p q),
    ← View.read_writes_eq_canon a7.view a7.view.junk _ (cover0_D_5 c i a2 h2 a3 h3 a4 h4 a5 h5 a6 h6 a7 h7 a8 h8 hc0 hc1 hc2 hc3 x0 x1 x2 x3 x4 p q)]
  unfold kernelRun0_D
  dsimp only
  sl_unfold_words
  rw [View.writes_append, trips_eq', ← mix_all]
  refine (state c i a2 h2 a3 h3 a4 h4 a5 h5 a6 h6 a7 h7 a8 h8 x2 x3 x4 _ hc1 _ ?_ 4 (le_refl _)).2
  rw [View.read_writes_junk_eq_canon, View.canon_unit_zero hz2]
  simp only [View.readAt_eq_ld, h2.read_unread, h3.read_unread, h7.read_unread, View.ld_unit_zero (S := S512x896) hz2, View.ld_unit_zero (S := S2048x896) hz2,
    View.ld_unit_zero (S := S512x2048) hz2]
/-- The first run's share of the gain's gradient is stored; a later run's is added. -/
theorem out_C6 (hc0 : ¬cond0_0 i) (hc1 : cond0_1 i) (hc2 : cond0_2 i) (hc3 : ¬cond0_3 i) :
    out0_C_6 c i a2 h2 a3 h3 a4 h4 a5 h5 a6 h6 a7 h7 a8 h8 hc0 hc1 hc2 hc3 x0 x1 x2 x3 x4 p = gain x2 (k0_pay2 p x0 x1) 4 := by
  unfold out0_C_6
  rw [View.read_writes_eq_canon _ _ _ (cover0_C_6 c i a2 h2 a3 h3 a4 h4 a5 h5 a6 h6 a7 h7 a8 h8 hc0 hc1 hc2 hc3 x0 x1 x2 x3 x4 p)]
  unfold kernelRun0_C
  dsimp only
  sl_unfold_words
  rw [View.canon_unit_zero (S := S1x2048) hz2, trips_eq']
  refine (state c i a2 h2 a3 h3 a4 h4 a5 h5 a6 h6 a7 h7 a8 h8 x2 x3 x4 _ hc1 _ ?_ 4 (le_refl _)).1
  rw [View.read_writes_junk_eq_canon, View.canon_unit_zero hz2]
  simp only [View.readAt_eq_ld, h2.read_unread, h3.read_unread, h7.read_unread, View.ld_unit_zero (S := S512x896) hz2, View.ld_unit_zero (S := S2048x896) hz2,
    View.ld_unit_zero (S := S512x2048) hz2]
@[inherit_doc out_C6] theorem out_D6 (hc0 : ¬cond0_0 i) (hc1 : cond0_1 i) (hc2 : ¬cond0_2 i) (hc3 : cond0_3 i) :
    out0_D_6 c i a2 h2 a3 h3 a4 h4 a5 h5 a6 h6 a7 h7 a8 h8 hc0 hc1 hc2 hc3 x0 x1 x2 x3 x4 p q = k0_pay9 (gain x2 (k0_pay2 p x0 x1) 4) q := by
  unfold out0_D_6
  rw [View.read_writes_eq_canon _ _ _ (cover0_D_6 c i a2 h2 a3 h3 a4 h4 a5 h5 a6 h6 a7 h7 a8 h8 hc0 hc1 hc2 hc3 x0 x1 x2 x3 x4 p q)]
  unfold kernelRun0_D
  dsimp only
  sl_unfold_words
  rw [View.canon_unit_zero (S := S1x2048) hz2, trips_eq']
  refine congrArg₂ k0_pay9 (state c i a2 h2 a3 h3 a4 h4 a5 h5 a6 h6 a7 h7 a8 h8 x2 x3 x4 _ hc1 _ ?_ 4 (le_refl _)).1 ?_
  · rw [View.read_writes_junk_eq_canon, View.canon_unit_zero hz2]
    simp only [View.readAt_eq_ld, h2.read_unread, h3.read_unread, h7.read_unread, View.ld_unit_zero (S := S512x896) hz2, View.ld_unit_zero (S := S2048x896) hz2,
      View.ld_unit_zero (S := S512x2048) hz2]
  · rw [View.readAt_eq_ld, h8.read_unread]
    exact View.ld_unit_zero (S := S1x2048) hz2 _ _
end stores

/-! ## At the ideal values -/

theorem pay1_at (y : S512x2048.Idx) : k0_pay1 (F := Ideal) y = 0 := by
  pointwise [k0_pay1]
theorem pay2_at (s : S512x2048.Idx → EReal) (x0 : S512x896.Idx → EReal) (x1 : S2048x896.Idx → EReal) (a : Fin 512) (d : Fin 2048) :
    k0_pay2 (F := Ideal) s x0 x1 (ix2 a d) = s (ix2 a d) + ∑ r : Fin 896, x0 (ix2 a r) * x1 (ix2 d r) := by
  pointwise [k0_pay2]
end Cert.InDxIdeal.Val
-- ==== Proof.InDxArr.lean ====
/-
  What the call through the attention's first product leaves in its two arrays.
-/
module

public import proofs.«01_k».proof.Proof.InDxVal
public import proofs.«01_k».proof.Proof.Pads

@[expose] public section

set_option maxRecDepth 16384
noncomputable section

namespace Cert.InDxIdeal.Val
open Cert.InDxIdeal Cert.InDxIdeal.Gen Cert.InDxIdeal.Value Cert.Blocks
open Cert.DhIdeal.Val (rows fin gain rows_at rowOf inv pay3_at pay7_at pay8_at pay9_at)
open Idealize Idealize.ShloMosaic Idealize.ShloMosaic.TcCoe Idealize.ShloMosaic.Tactic Idealize.SL.Sem

variable (m : (ℓ : Loc nD τ sig) → Buf (Elt Ideal) ℓ) (ρ : Dev nD → PrngReg)

/-- The arguments: the residual stream, the norm's gain, the weights, the product's gradient, the residual stream's gradient. -/
def xA (c : Dev nD) : S8192x2048.Idx → EReal := m ((c : Thread nD τ).loc main_arg0)
@[inherit_doc xA] def gA (c : Dev nD) : S2048.Idx → EReal := m ((c : Thread nD τ).loc main_arg1)
@[inherit_doc xA] def wA (c : Dev nD) : S2048x6160.Idx → EReal := m ((c : Thread nD τ).loc main_arg2)
@[inherit_doc xA] def ctA (c : Dev nD) : S8192x6160.Idx → EReal := m ((c : Thread nD τ).loc main_arg3)
@[inherit_doc xA] def rA (c : Dev nD) : S8192x2048.Idx → EReal := m ((c : Thread nD τ).loc main_arg4)

theorem V_v1 (c : Dev nD) : V m c main_v1 = truncf (F := Ideal) (φ := .f32) .bf16 (pad S8192x6272 ![0, 0] ![0, 112] ![0, 0] (ctA m c)
    (sitofp (F := Ideal) .f32 (constantI S_ 32 0#32)) pads_S8192x6160_S8192x6272_000_01120 h_S_) bitsLt_bf16_f32 := by
  show StableHlo.after (List.flatten [hostOps0, hostOps0_1, hostOps0_2, hostOps0_3, hostOps0_4]) (fun b => m (c, b)) _ = _
  simp only [List.flatten_cons, List.flatten_nil, List.append_nil, List.cons_append, List.nil_append]
  after_results_simp
  rfl
theorem V_v3 (c : Dev nD) : V m c main_v3 = pad S2048x6272 ![0, 0] ![0, 112] ![0, 0] (truncf (F := Ideal) (φ := .f32) .bf16 (wA m c) bitsLt_bf16_f32)
    (sitofp (F := Ideal) .bf16 (constantI S_ 32 0#32)) pads_S2048x6160_S2048x6272_000_01120 h_S_ := by
  show StableHlo.after (List.flatten [hostOps0, hostOps0_1, hostOps0_2, hostOps0_3, hostOps0_4]) (fun b => m (c, b)) _ = _
  simp only [List.flatten_cons, List.flatten_nil, List.append_nil, List.cons_append, List.nil_append]
  after_results_simp
  rfl
theorem V_v4 (c : Dev nD) : V m c main_v4 = broadcastInDim S1x2048 ![1] bcast_S2048_S1x2048_1 (gA m c) := by
  show StableHlo.after (List.flatten [hostOps0, hostOps0_1, hostOps0_2, hostOps0_3, hostOps0_4]) (fun b => m (c, b)) _ = _
  simp only [List.flatten_cons, List.flatten_nil, List.append_nil, List.cons_append, List.nil_append]
  after_results_simp
  rfl

/-- Point `t` is block `t / 7` of the rows and block `t % 7` of the product's columns. -/
theorem index0 (t : Fin cfg0.N) : win0_0.index t 0 = t.val / 7 ∧ win0_0.index t 1 = t.val % 7 :=
  (by decide +kernel : ∀ t : Fin grid0.N, win0_0.index t 0 = t.val / 7 ∧ win0_0.index t 1 = t.val % 7) t
theorem index1 (t : Fin cfg0.N) : win0_1.index t 0 = 0 ∧ win0_1.index t 1 = t.val % 7 :=
  (by decide +kernel : ∀ t : Fin grid0.N, win0_1.index t 0 = 0 ∧ win0_1.index t 1 = t.val % 7) t
theorem index2 (t : Fin cfg0.N) : win0_2.index t 0 = t.val / 7 ∧ win0_2.index t 1 = 0 :=
  (by decide +kernel : ∀ t : Fin grid0.N, win0_2.index t 0 = t.val / 7 ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = t.val / 7 ∧ win0_4.index t 1 = 0 :=
  (by decide +kernel : ∀ t : Fin grid0.N, win0_4.index t 0 = t.val / 7 ∧ win0_4.index t 1 = 0) t
theorem index5 (t : Fin cfg0.N) : win0_5.index t 0 = t.val / 7 ∧ win0_5.index t 1 = 0 :=
  (by decide +kernel : ∀ t : Fin grid0.N, win0_5.index t 0 = t.val / 7 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t

theorem blk0 (c : Dev nD) (t : Fin cfg0.N) (a : Fin 512) (r : Fin 896) :
    (iblk m c 0 t : Vec Ideal S512x896 _) (ix2 a r) = atZ (ctA m c) (512 * (t.val / 7) + a.val) (896 * (t.val % 7) + r.val) := by
  have hi := index0 t
  unfold iblk
  rw [View.read_apply]
  refine Eq.trans (b := V m c main_v1 _) rfl ?_
  rw [V_v1]
  refine Eq.trans (b := pad S8192x6272 ![0, 0] ![0, 112] ![0, 0] (ctA m c) (sitofp (F := Ideal) .f32 (constantI S_ 32 0#32)) pads_S8192x6160_S8192x6272_000_01120 h_S_ _) rfl ?_
  refine pad_atZ (ctA m c) _ (zeroPad _ fun _ => rfl) _ _ _ _ _ ?_ ?_
  · show win0_0.index t 0 * 512 + 1 * a.val = _; rw [hi.1]; omega
  · show win0_0.index t 1 * 896 + 1 * r.val = _; rw [hi.2]; omega
theorem blk1 (c : Dev nD) (t : Fin cfg0.N) (d : Fin 2048) (r : Fin 896) :
    (iblk m c 1 t : Vec Ideal S2048x896 _) (ix2 d r) = atZ (wA m c) d.val (896 * (t.val % 7) + r.val) := by
  have hi := index1 t
  unfold iblk
  rw [View.read_apply]
  refine Eq.trans (b := V m c main_v3 _) rfl ?_
  rw [V_v3]
  refine pad_atZ (wA m c) _ (zeroPad _ fun _ => rfl) _ _ _ _ _ ?_ ?_
  · show win0_1.index t 0 * 2048 + 1 * d.val = _; rw [hi.1]; omega
  · show win0_1.index t 1 * 896 + 1 * r.val = _; rw [hi.2]; omega
theorem blk2 (c : Dev nD) (t : Fin cfg0.N) (a : Fin 512) (d : Fin 2048) :
    (iblk m c 2 t : Vec Ideal S512x2048 _) (ix2 a d) = at2 (xA m c) (512 * (t.val / 7) + a.val) d.val := by
  have hi := index2 t
  unfold iblk
  rw [View.read_apply]
  refine Eq.trans (b := V m c main_arg0 _) rfl ?_
  rw [V_main_arg0]
  refine at2_eq (xA m c) _ _ _ ?_ ?_
  · show win0_2.index t 0 * 512 + 1 * a.val = _; rw [hi.1]; omega
  · show win0_2.index t 1 * 2048 + 1 * d.val = _; rw [hi.2]; omega
theorem blk3 (c : Dev nD) (t : Fin cfg0.N) (d : Fin 2048) : (iblk m c 3 t : Vec Ideal S1x2048 _) (ix2 0 d) = gA m c (ix1 d) := by
  have hi := index3 t
  unfold iblk
  rw [View.read_apply]
  refine Eq.trans (b := V m c main_v4 _) rfl ?_
  rw [V_v4]
  refine broadcastInDim_apply _ _ _ _ (ix1 d) fun a => ?_
  match a with
  | ⟨0, _⟩ =>
    refine Eq.trans ?_ (if_neg (by show ¬ (2048 : ℕ) = 1; decide)).symm
    show d.val = win0_3.index t 1 * 2048 + 1 * d.val
    rw [hi.2]; omega
theorem blk4 (c : Dev nD) (t : Fin cfg0.N) (a : Fin 512) (d : Fin 2048) :
    (iblk m c 4 t : Vec Ideal S512x2048 _) (ix2 a d) = at2 (rA m c) (512 * (t.val / 7) + a.val) d.val := by
  have hi := index4 t
  unfold iblk
  rw [View.read_apply]
  refine Eq.trans (b := V m c main_arg4 _) rfl ?_
  rw [V_main_arg4]
  refine at2_eq (rA m c) _ _ _ ?_ ?_
  · show win0_4.index t 0 * 512 + 1 * a.val = _; rw [hi.1]; omega
  · show win0_4.index t 1 * 2048 + 1 * d.val = _; rw [hi.2]; omega

/-- What point `n` adds to its block, and the gradient of the product's left operand: the sum of seven of them. -/
def M (c : Dev nD) (n : ℕ) (a d : ℕ) : EReal :=
  ∑ r : Fin 896, atZ (ctA m c) (512 * (n / 7) + a) (896 * (n % 7) + r.val) * atZ (wA m c) d (896 * (n % 7) + r.val)
@[inherit_doc M] def prod (c : Dev nD) (p d : ℕ) : EReal := ∑ f : Fin 6272, atZ (ctA m c) p f.val * atZ (wA m c) d f.val

theorem step (c : Dev nD) (t : Fin cfg0.N) (s : S512x2048.Idx → EReal) (a : Fin 512) (d : Fin 2048) :
    k0_pay2 (F := Ideal) s (iblk m c 0 t) (iblk m c 1 t) (ix2 a d) = s (ix2 a d) + M m c t.val a.val d.val := by
  rw [pay2_at]
  refine congrArg (s (ix2 a d) + ·) (Finset.sum_congr rfl fun r _ => ?_)
  rw [blk0, blk1]

/-- The block before a run's last point: the sum of what the run's points added. -/
theorem acc (c : Dev nD) (n : ℕ) (hn : n < cfg0.N) (h : ¬ n % 7 = 6) (a : Fin 512) (d : Fin 2048) :
    (outsAt0 m c n hn).1 (ix2 a d) = ∑ s ∈ Finset.range (n % 7 + 1), M m c (7 * (n / 7) + s) a.val d.val := by
  induction n with
  | zero =>
    have e := congrArg Prod.fst (outsAt0_A m c ⟨0, hn⟩ rfl h)
    dsimp only at e
    rw [out_A] at e
    rw [e, step, pay1_at]
    simp
  | succ n ih =>
    by_cases h0 : (n + 1) % 7 = 0
    · have e := congrArg Prod.fst (outsAt0_A m c ⟨n + 1, hn⟩ h0 h)
      dsimp only at e
      rw [out_A] at e
      rw [e, step, pay1_at, h0, zero_add, Finset.sum_range_one]
      show M m c (n + 1) a.val d.val = _
      congr 1
      omega
    · have e := congrArg Prod.fst (outsAt0_B m c ⟨n + 1, hn⟩ h0 h)
      dsimp only at e
      rw [out_B] at e
      rw [e, step]
      show (outsAt0 m c n _).1 (ix2 a d) + M m c (n + 1) a.val d.val = _
      rw [ih _ (by omega), show (n + 1) % 7 = n % 7 + 1 by omega, show (n + 1) / 7 = n / 7 by omega, Finset.sum_range_succ _ (n % 7 + 1)]
      congr 2
      omega

/-- The last point's sum is the whole product. -/
theorem full (c : Dev nD) (t : Fin cfg0.N) (h : t.val % 7 = 6) (a : Fin 512) (d : Fin 2048) (hl : t.val - 1 < cfg0.N) :
    k0_pay2 (F := Ideal) (outsAt0 m c (t.val - 1) hl).1 (iblk m c 0 t) (iblk m c 1 t) (ix2 a d) = prod m c (512 * (t.val / 7) + a.val) d.val := by
  rw [step, acc m c (t.val - 1) hl (by omega), show (t.val - 1) % 7 + 1 = 6 by omega, show (t.val - 1) / 7 = t.val / 7 by omega]
  rw [show M m c t.val a.val d.val = M m c (7 * (t.val / 7) + 6) a.val d.val by congr 1; omega, ← Finset.sum_range_succ (fun s => M m c (7 * (t.val / 7) + s) a.val d.val) 6]
  refine Eq.trans (Finset.sum_congr rfl fun s hs => ?_) (sum_blocks 7 896 (fun f => atZ (ctA m c) (512 * (t.val / 7) + a.val) f * atZ (wA m c) d.val f))
  have hs := Finset.mem_range.mp hs
  unfold M
  rw [show (7 * (t.val / 7) + s) / 7 = t.val / 7 by omega, show (7 * (t.val / 7) + s) % 7 = s by omega]

/-- A row's gradient, and what a row adds to the gain's gradient. -/
def dxAt (c : Dev nD) (p : ℕ) (d : Fin 2048) : EReal :=
  rowOf (fun e => prod m c p e.val) (fun e => at2 (xA m c) p e.val) (fun e => gA m c (ix1 e)) (at2 (rA m c) p d.val) d
@[inherit_doc dxAt] def dgAt (c : Dev nD) (p : ℕ) (d : ℕ) : EReal := prod m c p d * (at2 (xA m c) p d * inv (fun e => at2 (xA m c) p e.val))

variable {m}
/-- The rewritten block's rows. -/
theorem fin_at (c : Dev nD) (t : Fin cfg0.N) (P : S512x2048.Idx → EReal) (hP : ∀ (a : Fin 512) (d : Fin 2048), P (ix2 a d) = prod m c (512 * (t.val / 7) + a.val) d.val) (a : Fin 512) (d : Fin 2048) :
    fin (F := Ideal) (iblk m c 2 t) (iblk m c 3 t) (iblk m c 4 t) P (ix2 a d) = dxAt m c (512 * (t.val / 7) + a.val) d := by
  have hk : a.val / 128 < 4 := by omega
  have ea : 128 * (a.val / 128) + (Fin.ofNat 128 (a.val % 128)).val = a.val := by show 128 * (a.val / 128) + a.val % 128 % 128 = a.val; omega
  unfold fin
  show Cert.DhIdeal.Gen.k0_pay7 (F := Ideal) (rows (a.val / 128) P) (rows (a.val / 128) (iblk m c 2 t)) (iblk m c 3 t) (rows (a.val / 128) (iblk m c 4 t)) (ix2 (Fin.ofNat 128 (a.val % 128)) d) = _
  rw [pay7_at]
  unfold dxAt
  congr 1
  · funext e; rw [rows_at hk hP, ea]
  · funext e; rw [rows_at hk (blk2 m c t), ea]
  · funext e; exact blk3 m c t e
  · rw [rows_at hk (blk4 m c t), ea]

/-- The gain's sum over the block's chunks is the sum over the block's rows. -/
theorem gain_at (c : Dev nD) (t : Fin cfg0.N) (P : S512x2048.Idx → EReal) (hP : ∀ (a : Fin 512) (d : Fin 2048), P (ix2 a d) = prod m c (512 * (t.val / 7) + a.val) d.val) (d : Fin 2048) :
    gain (F := Ideal) (iblk m c 2 t) P 4 (ix2 0 d) = ∑ r : Fin 512, dgAt m c (512 * (t.val / 7) + r.val) d.val := by
  have key : ∀ k : ℕ, k ≤ 4 → gain (F := Ideal) (iblk m c 2 t) P k (ix2 0 d) = ∑ s ∈ Finset.range k, ∑ a : Fin 128, dgAt m c (512 * (t.val / 7) + (128 * s + a.val)) d.val := by
    intro k hk
    induction k with
    | zero => exact pay3_at _
    | succ k ih =>
      rw [Finset.sum_range_succ, ← ih (by omega)]
      refine (pay8_at _ _ _ 0 d).trans ?_
      refine congrArg (gain (F := Ideal) (iblk m c 2 t) P k (ix2 0 d) + ·) (Finset.sum_congr rfl fun a _ => ?_)
      rw [rows_at (by omega) hP, rows_at (by omega) (blk2 m c t)]
      unfold dgAt
      congr 3
      funext e
      exact rows_at (by omega) (blk2 m c t) a e
  exact (key 4 le_rfl).trans (sum_blocks 4 128 (fun k => dgAt m c (512 * (t.val / 7) + k) d.val))

variable (m)
/-- The block a run's last point leaves. -/
theorem dx_out (c : Dev nD) (t : Fin cfg0.N) (h : t.val % 7 = 6) (a : Fin 512) (d : Fin 2048) :
    (outsAt0 m c t.val t.isLt).1 (ix2 a d) = dxAt m c (512 * (t.val / 7) + a.val) d := by
  by_cases h2 : t.val < 7
  · have e := congrArg Prod.fst (outsAt0_C m c t (by omega) h h2 (by omega))
    dsimp only at e
    rw [out_C5] at e
    rw [e]
    exact fin_at c t _ (fun a d => full m c t h a d _) a d
  · have e := congrArg Prod.fst (outsAt0_D m c t (by omega) h h2 (by omega))
    dsimp only at e
    rw [out_D5] at e
    rw [e]
    exact fin_at c t _ (fun a d => full m c t h a d _) a d

/-- The gain's gradient after a point: the sum over the rows of the blocks that are done. -/
theorem dg_out (c : Dev nD) (n : ℕ) (hn : n < cfg0.N) (h : 6 ≤ n) (d : Fin 2048) :
    (outsAt0 m c n hn).2 (ix2 0 d) = ∑ s ∈ Finset.range ((n + 1) / 7), ∑ r : Fin 512, dgAt m c (512 * s + r.val) d.val := by
  induction n with
  | zero => omega
  | succ n ih =>
    by_cases h7 : (n + 1) % 7 = 6
    · by_cases h2 : n + 1 < 7
      · have e := congrArg Prod.snd (outsAt0_C m c ⟨n + 1, hn⟩ (by show ¬ (n + 1) % 7 = 0; omega) h7 h2 (by show ¬ 7 ≤ n + 1; omega))
        dsimp only at e
        rw [out_C6] at e
        rw [e]
        refine (gain_at c ⟨n + 1, hn⟩ _ (fun a d => full m c ⟨n + 1, hn⟩ h7 a d _) d).trans ?_
        rw [show (n + 1 + 1) / 7 = 1 by omega, Finset.sum_range_one]
        show ∑ r : Fin 512, dgAt m c (512 * ((n + 1) / 7) + r.val) d.val = _
        rw [show (n + 1) / 7 = 0 by omega]
      · have e := congrArg Prod.snd (outsAt0_D m c ⟨n + 1, hn⟩ (by show ¬ (n + 1) % 7 = 0; omega) h7 h2 (by show 7 ≤ n + 1; omega))
        dsimp only at e
        rw [out_D6] at e
        rw [e]
        refine (pay9_at _ _ _).trans ?_
        have g := gain_at c ⟨n + 1, hn⟩ _ (fun a d => full m c ⟨n + 1, hn⟩ h7 a d (by show n + 1 - 1 < cfg0.N; omega)) d
        rw [g]
        show (outsAt0 m c n _).2 (ix2 0 d) + ∑ r : Fin 512, dgAt m c (512 * ((n + 1) / 7) + r.val) d.val = _
        rw [ih _ (by omega), show (n + 1 + 1) / 7 = (n + 1) / 7 + 1 by omega, Finset.sum_range_succ]
    · have hk : (outsAt0 m c (n + 1) hn).2 = (outsAt0 m c n (by omega)).2 := by
        by_cases h0 : (n + 1) % 7 = 0
        · have e := congrArg Prod.snd (outsAt0_A m c ⟨n + 1, hn⟩ h0 h7)
          dsimp only at e
          refine e.trans ?_
          unfold out0_A_6
          rfl
        · have e := congrArg Prod.snd (outsAt0_B m c ⟨n + 1, hn⟩ h0 h7)
          dsimp only at e
          refine e.trans ?_
          unfold out0_B_6
          rfl
      rw [hk, ih _ (by omega), show (n + 1 + 1) / 7 = (n + 1) / 7 by omega]

/-- The two arrays the call leaves. -/
def resDx (c : Dev nD) : S8192x2048.Idx → EReal := fun i => dxAt m c (i 0).val (i 1)
@[inherit_doc resDx] def resDg (c : Dev nD) : S1x2048.Idx → EReal := fun i => ∑ p : Fin 8192, dgAt m c p.val (i 1).val

theorem flushed_5 (c : Dev nD) (t : Fin cfg0.N) (hf : (cfg0.win 5).flush t = true) :
    (dats m 0 c).flushed 5 t = ((cfg0.win 5).blk t).view.read (Elt Ideal) (resDx m c) := by
  have hi := index5 t
  show (cfg0.win 5).cut (grid0.coords t) ((dats m 0 c).after 5 t) = _
  rw [after0_5]
  funext z
  rw [View.read_apply]
  obtain ⟨a, d, rfl⟩ : ∃ (a : Fin 512) (d : Fin 2048), z = ix2 a d := ⟨z 0, z 1, eq_ix2 z⟩
  refine (dx_out m c t ((flush0_5 t).mp hf) a d).trans ?_
  refine congrArg₂ (dxAt m c) ?_ (Fin.ext ?_)
  · show _ = win0_5.index t 0 * 512 + 1 * a.val; rw [hi.1]; omega
  · show _ = win0_5.index t 1 * 2048 + 1 * d.val; rw [hi.2]; omega
theorem final_5 (c : Dev nD) : (dats m 0 c).arrAt 5 cfg0.N = resDx m c := by
  refine (dats m 0 c).arrAt_eq_of_cover 5 (resDx m c) (flushed_5 m c) fun i => ?_
  have b0 : (i 0).val < 8192 := (i 0).isLt
  have b1 : (i 1).val < 2048 := (i 1).isLt
  have hlt : 7 * ((i 0).val / 512) + 6 < cfg0.N := (by omega : 7 * ((i 0).val / 512) + 6 < 112).trans_eq N_0.symm
  refine ⟨⟨7 * ((i 0).val / 512) + 6, hlt⟩, (flush0_5 _).mpr (by show (7 * ((i 0).val / 512) + 6) % 7 = 6; omega), ?_⟩
  have hi := index5 ⟨7 * ((i 0).val / 512) + 6, hlt⟩
  generalize hT : (⟨7 * ((i 0).val / 512) + 6, hlt⟩ : Fin cfg0.N) = T at hi ⊢
  have hv : T.val = 7 * ((i 0).val / 512) + 6 := by rw [← hT]
  show i ∈ ((View.whole main_v5_0).slice (win0_5.rect T)).set
  rw [View.set_slice_whole, Rect.mem_set_unit]
  intro a
  match a with
  | ⟨0, _⟩ => show win0_5.index T 0 * 512 ≤ (i 0).val ∧ (i 0).val < win0_5.index T 0 * 512 + 512; rw [hi.1]; omega
  | ⟨1, _⟩ => show win0_5.index T 1 * 2048 ≤ (i 1).val ∧ (i 1).val < win0_5.index T 1 * 2048 + 2048; rw [hi.2]; omega

theorem flushed_6 (c : Dev nD) (t : Fin cfg0.N) (hf : (cfg0.win 6).flush t = true) :
    (dats m 0 c).flushed 6 t = ((cfg0.win 6).blk t).view.read (Elt Ideal) (resDg m c) := by
  have hi := index6 t
  have ht : t.val = 111 := by
    have h1 := (flush0_6 t).mp hf
    have h2 := t.isLt.trans_eq N_0
    omega
  show (cfg0.win 6).cut (grid0.coords t) ((dats m 0 c).after 6 t) = _
  rw [after0_6]
  funext z
  rw [View.read_apply]
  obtain ⟨b, d, rfl⟩ : ∃ (b : Fin 1) (d : Fin 2048), z = ix2 b d := ⟨z 0, z 1, eq_ix2 z⟩
  rw [show b = 0 from Fin.ext (by omega)]
  refine (dg_out m c t.val t.isLt (by omega) d).trans ?_
  rw [ht]
  have e : win0_6.index t 1 * 2048 + 1 * d.val = d.val := by rw [hi.2]; omega
  show _ = ∑ p : Fin 8192, dgAt m c p.val (win0_6.index t 1 * 2048 + 1 * d.val)
  rw [e]
  exact sum_blocks 16 512 (fun p => dgAt m c p d.val)
theorem final_6 (c : Dev nD) : (dats m 0 c).arrAt 6 cfg0.N = resDg m c := by
  refine (dats m 0 c).arrAt_eq_of_cover 6 (resDg m c) (flushed_6 m c) fun i => ?_
  have b0 : (i 0).val < 1 := (i 0).isLt
  have b1 : (i 1).val < 2048 := (i 1).isLt
  have hlt : 111 < cfg0.N := (by omega : 111 < 112).trans_eq N_0.symm
  refine ⟨⟨111, hlt⟩, (flush0_6 _).mpr rfl, ?_⟩
  have hi := index6 ⟨111, hlt⟩
  generalize (⟨111, hlt⟩ : Fin cfg0.N) = T at hi ⊢
  show i ∈ ((View.whole main_v5_1).slice (win0_6.rect T)).set
  rw [View.set_slice_whole, Rect.mem_set_unit]
  intro a
  match a with
  | ⟨0, _⟩ => show win0_6.index T 0 * 1 ≤ (i 0).val ∧ (i 0).val < win0_6.index T 0 * 1 + 1; rw [hi.1]; omega
  | ⟨1, _⟩ => show win0_6.index T 1 * 2048 ≤ (i 1).val ∧ (i 1).val < win0_6.index T 1 * 2048 + 2048; rw [hi.2]; omega

end Cert.InDxIdeal.Val
-- ==== Proof.InDxClaim.lean ====
/-
  The call through the attention's first product: its reference's two gradients are what the kernel's arrays hold, by the
  same row as the feed-forward layer's call.
-/
module

public import proofs.«01_k».proof.Proof.InDxArr
public import proofs.«01_k».proof.Proof.DhClaim
public import proofs.«01_k».proof.Proof.Gen.InDx
public import proofs.«01_k».proof.Proof.Gen.InDxRefIdeal.Run
public import proofs.«01_k».proof.Proof.Gen.InDxRefIdeal.Read

@[expose] public section

set_option maxRecDepth 16384
noncomputable section

namespace Cert.Proof.InDx
open Idealize.ShloMosaic Idealize.ShloMosaic.TcCoe Idealize.SL.Sem
open Cert.Blocks Cert.InDxRefIdeal.Read
open Cert.DhIdeal.Val (msq inv rowOf)
open Cert.Proof.Dh (factor row_eq)

/-! ## The reference -/

section reference
variable (x0 : Cert.InDxRefIdeal.S8192x2048.Idx → EReal) (x1 : Cert.InDxRefIdeal.S2048.Idx → EReal) (x2 : Cert.InDxRefIdeal.S2048x6160.Idx → EReal)
  (x3 : Cert.InDxRefIdeal.S8192x6160.Idx → EReal) (x4 : Cert.InDxRefIdeal.S8192x2048.Idx → EReal)

/-- A row of the residual stream, of the product's gradient, and the gain. -/
def xRow (p : ℕ) (e : Fin 2048) : EReal := at2 x0 p e.val
@[inherit_doc xRow] def hRow (p : ℕ) (e : Fin 2048) : EReal := ∑ f : Fin 6160, at2 x3 p f.val * at2 x2 e.val f.val
@[inherit_doc xRow] def gRow (e : Fin 2048) : EReal := x1 (ix1 e)

theorem v6_at (i : Cert.InDxRefIdeal.S8192x1.Idx) (p : ℕ) (hp : (i 0).val = p) : val_main_v6 (F := Ideal) x0 i = msq (xRow x0 p) := by
  subst hp
  rw [val_main_v6_apply, val_main_v4_apply, val_main_v2_apply, val_main_v1_apply, val_main_v3_apply, val_main_v5_apply, val_main_cst_apply, val_main_cst_0_apply, val_main_cst_1_apply]
  simp only [Ideal.ofBits_def, Ideal.addf_def, Ideal.hostDivf_def, Ideal.ofBits_zero_f32, zero_add]
  unfold msq
  congr 2
  refine Finset.sum_congr rfl fun e _ => ?_
  have := at2_eq x0 (idx_main_v1 (idx_main_v2 i) e) (i 0).val e.val rfl rfl
  rw [val_main_v0_apply, this]
  rfl
theorem v7_at (i : Cert.InDxRefIdeal.S8192x1.Idx) (p : ℕ) (hp : (i 0).val = p) : val_main_v7 (F := Ideal) x0 i = inv (xRow x0 p) := by
  rw [val_main_v7_apply, v6_at x0 i p hp]; rfl
theorem v17_at (p : Fin 8192) (e : Fin 2048) : val_main_v17 (F := Ideal) x2 x3 (ix2 p e) = hRow x2 x3 p.val e := by
  rw [val_main_v17_apply]
  refine Finset.sum_congr rfl fun f _ => ?_
  exact congrArg₂ (fun a b : EReal => a * b) (at2_eq x3 _ _ _ rfl rfl) (at2_eq x2 _ _ _ rfl rfl)
theorem v22_at (p : Fin 8192) (e : Fin 2048) : val_main_v22 (F := Ideal) x1 x2 x3 (ix2 p e) = hRow x2 x3 p.val e * gRow x1 e := by
  rw [val_main_v22_apply, v17_at, val_main_v21_apply, val_main_v13_apply]
  refine congrArg (hRow x2 x3 p.val e * ·) (congrArg x1 (funext fun a => ?_))
  match a with
  | ⟨0, _⟩ => rfl

/-- The reference's factor of row `p`. -/
theorem v33_at (p : Fin 8192) (d : Fin 2048) : val_main_v33 (F := Ideal) x0 x1 x2 x3 (ix2 p d) = factor (hRow x2 x3 p.val) (xRow x0 p.val) (gRow x1) := by
  rw [val_main_v33_apply, val_main_v32_apply, Fin.sum_univ_one, val_main_v31_apply, val_main_v29_apply, val_main_v26_apply, val_main_v25_apply, val_main_v10_apply, val_main_v8_apply,
    val_main_v30_apply, val_main_v9_apply, val_main_cst_2_apply, val_main_cst_5_apply, val_main_cst_6_apply, val_main_cst_7_apply, v7_at x0 _ p.val rfl, v6_at x0 _ p.val rfl]
  simp only [Ideal.ofBits_def, Ideal.mulf_def, Ideal.hostDivf_def, Ideal.ofBits_zero_f32, zero_add]
  unfold factor
  congr 2
  refine Finset.sum_congr rfl fun e _ => ?_
  have hidx : idx_main_v25 (idx_main_v26 (idx_main_v32 (idx_main_v33 (ix2 p d)) 0)) e = ix2 p e := funext fun a => match a with
    | ⟨0, _⟩ => Fin.ext (by show p.val * 1 + 0 = p.val; omega)
    | ⟨1, _⟩ => rfl
  rw [val_main_v24_apply, hidx, v22_at]
  exact congrArg (· * _) (at2_eq x0 _ _ _ rfl rfl)

/-- The reference's gradient of the residual stream. -/
theorem dx_eq (p : Fin 8192) (d : Fin 2048) : val_main_v38 (F := Ideal) x0 x1 x2 x3 x4 (ix2 p d) = rowOf (hRow x2 x3 p.val) (xRow x0 p.val) (gRow x1) (at2 x4 p.val d.val) d := by
  rw [row_eq, val_main_v38_apply, val_main_v37_apply, val_main_v35_apply, val_main_v36_apply, val_main_v34_apply, val_main_v28_apply, v33_at, v22_at, val_main_v27_apply, v7_at x0 _ p.val rfl,
    at2_eq x0 (ix2 p d) p.val d.val rfl rfl, at2_eq x4 (ix2 p d) p.val d.val rfl rfl]
  rfl

/-- The reference's gradient of the gain. -/
theorem dg_eq (z : Fin 1) (d : Fin 2048) : val_main_v39 (F := Ideal) x0 x2 x3 (ix2 z d) = ∑ p : Fin 8192, hRow x2 x3 p.val d * (xRow x0 p.val d * inv (xRow x0 p.val)) := by
  rw [val_main_v39_apply, val_main_v23_apply, Fin.sum_univ_one, val_main_v20_apply, val_main_v19_apply, val_main_cst_3_apply, val_main_cst_4_apply, Ideal.ofBits_def, Ideal.ofBits_zero_f32, zero_add, zero_add]
  refine Finset.sum_congr rfl fun p _ => ?_
  have hidx : idx_main_v19 (idx_main_v20 (idx_main_v23 (idx_main_v39 (ix2 z d)) 0)) p = ix2 p d := funext fun a => match a with
    | ⟨0, _⟩ => rfl
    | ⟨1, _⟩ => Fin.ext (by show 0 * 2048 + d.val = d.val; omega)
  rw [hidx, val_main_v18_apply, v17_at, val_main_v12_apply, val_main_v11_apply, v7_at x0 _ p.val rfl, at2_eq x0 (ix2 p d) p.val d.val rfl rfl]
  exact mul_comm _ _
end reference

/-! ## The claims -/

/-- The two programs have the same bodies and the same pipelines. -/
theorem eq_defs₀ : Cert.InDx.defs₀ (F := Bits) = Cert.InDxIdeal.defs₀ (F := Bits) :=
  congrArg Defs.onTc (funext fun a => match a with | 0 => funext fun ⟨_, _⟩ => rfl)
@[inherit_doc eq_defs₀] theorem eq_defs : Cert.InDx.defs (F := Bits) = Cert.InDxIdeal.defs (F := Bits) := congrArg (Pipeline.defs Cert.InDxIdeal.pcfgs) eq_defs₀
/-- So the kernel, as printed, runs and leaves its arguments and the machine's counters as they were, as the idealised one does. -/
theorem frame_kernel : Cert.quiescent_InDx := by
  intro m ρ _
  rw [eq_defs]
  exact Cert.InDxIdeal.Gen.frame (F := Bits) m ρ
/-- The idealised one does. -/
theorem frame_ideal : Cert.quiescent_InDxIdeal := fun m ρ _ => Cert.InDxIdeal.Gen.frame m ρ
/-- The reference does. -/
theorem frame_reference : Cert.quiescent_InDxRefIdeal := fun m ρ _ =>
  (θ_run Cert.InDxRefIdeal.defs _ _).mono (fun r h => ⟨fun c => (h c).2.2, sem_eq_zero_of_no_sems (by decide) r.2⟩) (Cert.InDxRefIdeal.Value.run (F := Ideal) m ρ)

/-- The kernel's sum over the padded columns is the reference's over the columns there are. -/
theorem prod_eq (m : (ℓ : Loc Cert.InDxIdeal.nD Cert.InDxIdeal.τ Cert.InDxIdeal.sig) → Buf (Elt Ideal) ℓ) (c : Dev Cert.InDxIdeal.nD) (p : ℕ) (e : Fin 2048) :
    Cert.InDxIdeal.Val.prod m c p e.val = hRow (Cert.InDxIdeal.Val.wA m c) (Cert.InDxIdeal.Val.ctA m c) p e :=
  sum_atZ (p := 112) (Cert.InDxIdeal.Val.ctA m c) (Cert.InDxIdeal.Val.wA m c) p e.val rfl
/-- So its two arrays hold the reference's rows. -/
theorem resDx_eq (m : (ℓ : Loc Cert.InDxIdeal.nD Cert.InDxIdeal.τ Cert.InDxIdeal.sig) → Buf (Elt Ideal) ℓ) (c : Dev Cert.InDxIdeal.nD) (p : Fin 8192) (d : Fin 2048) :
    Cert.InDxIdeal.Val.resDx m c (ix2 p d) = rowOf (hRow (Cert.InDxIdeal.Val.wA m c) (Cert.InDxIdeal.Val.ctA m c) p.val) (xRow (Cert.InDxIdeal.Val.xA m c) p.val) (gRow (Cert.InDxIdeal.Val.gA m c))
      (at2 (Cert.InDxIdeal.Val.rA m c) p.val d.val) d :=
  congrArg (fun h => rowOf h (xRow (Cert.InDxIdeal.Val.xA m c) p.val) (gRow (Cert.InDxIdeal.Val.gA m c)) (at2 (Cert.InDxIdeal.Val.rA m c) p.val d.val) d) (funext fun e => prod_eq m c p.val e)
@[inherit_doc resDx_eq] theorem resDg_eq (m : (ℓ : Loc Cert.InDxIdeal.nD Cert.InDxIdeal.τ Cert.InDxIdeal.sig) → Buf (Elt Ideal) ℓ) (c : Dev Cert.InDxIdeal.nD) (z : Fin 1) (d : Fin 2048) :
    Cert.InDxIdeal.Val.resDg m c (ix2 z d) = ∑ p : Fin 8192, hRow (Cert.InDxIdeal.Val.wA m c) (Cert.InDxIdeal.Val.ctA m c) p.val d * (xRow (Cert.InDxIdeal.Val.xA m c) p.val d * inv (xRow (Cert.InDxIdeal.Val.xA m c) p.val)) :=
  Finset.sum_congr rfl fun p _ => congrArg (· * _) (prod_eq m c p.val d)

/-- Over the extended reals the kernel computes the reference's two gradients. -/
theorem algebraic : Cert.algebraic_InDxIdeal_InDxRefIdeal := by
  intro m ρ m' ρ' _ hagree
  refine ⟨Cert.InDxIdeal.Val.resDx m, Cert.InDxIdeal.Val.resDg m, ?_, ?_⟩
  · refine (θ_run Cert.InDxIdeal.defs _ _).mono (fun r h c => ?_) (Cert.InDxIdeal.Value.run_blocks (F := Ideal) m ρ)
    exact ⟨(h c).1.trans (Cert.InDxIdeal.Val.final_5 m c), (h c).2.1.trans (Cert.InDxIdeal.Val.final_6 m c), (h c).2.2⟩
  · refine (θ_run Cert.InDxRefIdeal.defs _ _).mono (fun r h c => ?_) (Cert.InDxRefIdeal.Value.run (F := Ideal) m' ρ')
    obtain ⟨g0, g1, g2, g3, g4⟩ := hagree c
    refine ⟨(h c).1.trans ?_, (h c).2.1.trans ?_, (h c).2.2⟩
    · rw [val_main_v38_eq, g0, g1, g2, g3, g4]
      funext i
      obtain ⟨p, d, rfl⟩ : ∃ (p : Fin 8192) (d : Fin 2048), i = ix2 p d := ⟨i 0, i 1, eq_ix2 i⟩
      exact (dx_eq _ _ _ _ _ p d).trans (resDx_eq m c p d).symm
    · rw [val_main_v39_eq, g0, g2, g3]
      funext i
      obtain ⟨z, d, rfl⟩ : ∃ (z : Fin 1) (d : Fin 2048), i = ix2 z d := ⟨i 0, i 1, eq_ix2 i⟩
      exact (dg_eq _ _ _ z d).trans (resDg_eq m c z d).symm

end Cert.Proof.InDx
-- ==== Proof.AttnVal.lean ====
/-
  The attention's forward call: the tiles of keys a query meets, one after the other, and what a point of the grid stores.
-/
module

public import proofs.«01_k».proof.Defs
public import proofs.«01_k».proof.Proof.Blocks
public import proofs.«01_k».proof.Proof.Gen.AttnIdeal.Value
public import proofs.«01_k».proof.Proof.Gen.AttnIdeal.Loops

@[expose] public section

set_option maxRecDepth 16384
noncomputable section

namespace Cert.AttnIdeal.Val
open Cert.AttnIdeal Cert.AttnIdeal.Gen Cert.Blocks
open Idealize Idealize.ShloMosaic Idealize.ShloMosaic.TcCoe Idealize.ShloMosaic.Tactic Idealize.SL.Sem

section loads
variable {α : EltTy → Type} {e : EltTy}

/-- A box of a table, by its corner. -/
theorem ld2 {n m u v : ℕ} [NeZero n] [NeZero m] (X : (⟨2, ![n, m]⟩ : Shape).Idx → α e) (off : Fin 2 → ℕ) (inb : ∀ b, off b + (![u, v] : Fin 2 → ℕ) b ≤ (![n, m] : Fin 2 → ℕ) b)
    (o0 o1 : ℕ) (h : off = ![o0, o1]) :
    View.ld (S := ⟨2, ![n, m]⟩) X (Rect.unit (s := ⟨2, ![n, m]⟩) off ![u, v] inb) = fun z => X (ix2 (Fin.ofNat n (o0 + (z 0).val)) (Fin.ofNat m (o1 + (z 1).val))) := by
  subst h
  funext z
  have b0 : o0 + u ≤ n := inb 0
  have b1 : o1 + v ≤ m := inb 1
  have z0 : (z 0).val < u := (z 0).isLt
  have z1 : (z 1).val < v := (z 1).isLt
  show X _ = X _
  congr 1
  funext b
  apply Fin.ext
  match b with
  | ⟨0, _⟩ =>
    show o0 + 1 * (z 0).val = (o0 + (z 0).val) % n
    rw [Nat.mod_eq_of_lt (by omega), Nat.one_mul]
  | ⟨1, _⟩ =>
    show o1 + 1 * (z 1).val = (o1 + (z 1).val) % m
    rw [Nat.mod_eq_of_lt (by omega), Nat.one_mul]

/-- A box of a stack of tables, by its corner. -/
theorem ld3 {l n m t u v : ℕ} [NeZero l] [NeZero n] [NeZero m] (X : (⟨3, ![l, n, m]⟩ : Shape).Idx → α e) (off : Fin 3 → ℕ)
    (inb : ∀ b, off b + (![t, u, v] : Fin 3 → ℕ) b ≤ (![l, n, m] : Fin 3 → ℕ) b) (o0 o1 o2 : ℕ) (h : off = ![o0, o1, o2]) :
    View.ld (S := ⟨3, ![l, n, m]⟩) X (Rect.unit (s := ⟨3, ![l, n, m]⟩) off ![t, u, v] inb)
      = fun z => X (ix3 (Fin.ofNat l (o0 + (z 0).val)) (Fin.ofNat n (o1 + (z 1).val)) (Fin.ofNat m (o2 + (z 2).val))) := by
  subst h
  funext z
  have b0 : o0 + t ≤ l := inb 0
  have b1 : o1 + u ≤ n := inb 1
  have b2 : o2 + v ≤ m := inb 2
  have z0 : (z 0).val < t := (z 0).isLt
  have z1 : (z 1).val < u := (z 1).isLt
  have z2 : (z 2).val < v := (z 2).isLt
  show X _ = X _
  congr 1
  funext b
  apply Fin.ext
  match b with
  | ⟨0, _⟩ =>
    show o0 + 1 * (z 0).val = (o0 + (z 0).val) % l
    rw [Nat.mod_eq_of_lt (by omega), Nat.one_mul]
  | ⟨1, _⟩ =>
    show o1 + 1 * (z 1).val = (o1 + (z 1).val) % n
    rw [Nat.mod_eq_of_lt (by omega), Nat.one_mul]
  | ⟨2, _⟩ =>
    show o2 + 1 * (z 2).val = (o2 + (z 2).val) % m
    rw [Nat.mod_eq_of_lt (by omega), Nat.one_mul]
end loads

section tile
variable {F : FTy → Type} [FloatOps F] [Named F]

/-- Head `h`'s columns of the block of queries. -/
def qt (h : ℕ) (X : Vec F S512x256 .bf16) : Vec F S512x128 .bf16 := fun z => X (ix2 (Fin.ofNat 512 (0 + (z 0).val)) (Fin.ofNat 256 (128 * h + (z 1).val)))
/-- Tile `j` of head `h`'s keys. -/
def kt (h j : ℕ) (X : Vec F S8192x256 .bf16) : Vec F S512x128 .bf16 := fun z => X (ix2 (Fin.ofNat 8192 (512 * j + (z 0).val)) (Fin.ofNat 256 (128 * h + (z 1).val)))
/-- Tile `j` of head `h`'s transposed values. -/
def vt (h j : ℕ) (X : Vec F S256x8192 .bf16) : Vec F S128x512 .bf16 := fun z => X (ix2 (Fin.ofNat 256 (128 * h + (z 0).val)) (Fin.ofNat 8192 (512 * j + (z 1).val)))
/-- Tile `j` of head `h`'s gates. -/
def ct (h j : ℕ) (X : Vec F S2x8192x1 .f32) : Vec F S1x512x1 .f32 := fun z => X (ix3 (Fin.ofNat 2 (h + (z 0).val)) (Fin.ofNat 8192 (512 * j + (z 1).val)) (Fin.ofNat 1 (0 + (z 2).val)))
/-- Head `h` of a pair of rows. -/
def row (h : ℕ) (X : Vec F S2x1x512 .f32) : Vec F S1x1x512 .f32 := fun z => X (ix3 (Fin.ofNat 2 (h + (z 0).val)) (Fin.ofNat 1 (0 + (z 1).val)) (Fin.ofNat 512 (0 + (z 2).val)))
/-- Head `h` of a pair of tables. -/
def tab (h : ℕ) (X : Vec F S2x128x512 .f32) : Vec F S1x128x512 .f32 := fun z => X (ix3 (Fin.ofNat 2 (h + (z 0).val)) (Fin.ofNat 128 (0 + (z 1).val)) (Fin.ofNat 512 (0 + (z 2).val)))

/-- One head's running maximum, denominator and unnormalised output. -/
abbrev St (F : FTy → Type) [FloatOps F] : Type := Vec F S1x1x512 .f32 × Vec F S1x1x512 .f32 × Vec F S1x128x512 .f32

/-- The state once a tile's scores `s` and values `v` have been met. -/
def meet (s : FVec F S512x512 .f32) (v : Vec F S128x512 .bf16) (p : St F) : St F :=
  (k0_pay10 (maximumf (k0_pay4 p.1) (shapeCast S1x512 (multiReduction .maximumf [0] S512 s 0xFF800000#32 reduces_S512x512_S512 (.inl rfl) rfl) shapeCasts_S512_S1x512)),
   k0_pay34 (k0_pay4 p.1) (maximumf (k0_pay4 p.1) (shapeCast S1x512 (multiReduction .maximumf [0] S512 s 0xFF800000#32 reduces_S512x512_S512 (.inl rfl) rfl) shapeCasts_S512_S1x512))
     (exp2 (subf s (broadcastTo S512x512 (maximumf (k0_pay4 p.1) (shapeCast S1x512 (multiReduction .maximumf [0] S512 s 0xFF800000#32 reduces_S512x512_S512 (.inl rfl) rfl) shapeCasts_S512_S1x512)) broadcasts_S1x512_S512x512))) p.2.1,
   k0_pay35 (k0_pay2 v) (k0_pay4 p.1) (maximumf (k0_pay4 p.1) (shapeCast S1x512 (multiReduction .maximumf [0] S512 s 0xFF800000#32 reduces_S512x512_S512 (.inl rfl) rfl) shapeCasts_S512_S1x512))
     (exp2 (subf s (broadcastTo S512x512 (maximumf (k0_pay4 p.1) (shapeCast S1x512 (multiReduction .maximumf [0] S512 s 0xFF800000#32 reduces_S512x512_S512 (.inl rfl) rfl) shapeCasts_S512_S1x512)) broadcasts_S1x512_S512x512))) p.2.2)

variable (x0 : Vec F S512x256 .bf16) (x1 : Vec F S8192x256 .bf16) (x2 : Vec F S256x8192 .bf16) (x3 : Vec F S2x1x512 .f32) (x4 : Vec F S2x8192x1 .f32)

/-- The scores of head `h`'s queries against tile `j`, a key per row. -/
def sco (h j : ℕ) : FVec F S512x512 .f32 := k0_pay3 (kt h j x1) (qt h x0) (ct h j x4)
/-- The same for the queries' own tile: a query sees no key after it. -/
def scoD (h j : ℕ) : FVec F S512x512 .f32 := k0_pay53 (kt h j x1) (qt h x0) (ct h j x4)
/-- The state before the first tile. -/
def st0 (h : ℕ) : St F := (row h k0_pay30, row h k0_pay31, tab h k0_pay32)
/-- The state after `n` tiles. -/
def stn (h : ℕ) : ℕ → St F
  | 0 => st0 h
  | n + 1 => meet (sco x0 x1 x4 h n) (vt h n x2) (stn h n)
/-- The state after the queries' own tile, the `j`-th. -/
def stD (h j : ℕ) : St F := meet (scoD x0 x1 x4 h j) (vt h j x2) (stn x0 x1 x2 x4 h j)
end tile

section pieces
variable {F : FTy → Type} [FloatOps F] [Named F]

theorem row_writes {sp : Space} (v : View sig .tc sp S2x1x512 .f32) (f : v.ty.Contents (Elt F)) (p q : Vec F S1x1x512 .f32) (L : List (View.Piece (Elt F) S2x1x512 .f32)) :
    row 0 (v.read (Elt F) (v.writes (Elt F) f (⟨Rect.unit (s := S2x1x512) ![1, 0, 0] S1x1x512.size inb_S2x1x512_S1x1x512_1_0_0, q⟩ :: ⟨Rect.unit (s := S2x1x512) ![0, 0, 0] S1x1x512.size inb_S2x1x512_S1x1x512_0_0_0, p⟩ :: L))) = p ∧
    row 1 (v.read (Elt F) (v.writes (Elt F) f (⟨Rect.unit (s := S2x1x512) ![1, 0, 0] S1x1x512.size inb_S2x1x512_S1x1x512_1_0_0, q⟩ :: ⟨Rect.unit (s := S2x1x512) ![0, 0, 0] S1x1x512.size inb_S2x1x512_S1x1x512_0_0_0, p⟩ :: L))) = q := by
  constructor
  · funext z
    have z0 : (z 0).val < 1 := (z 0).isLt
    have z1 : (z 1).val < 1 := (z 1).isLt
    have z2 : (z 2).val < 512 := (z 2).isLt
    refine (View.read_writes_cons_unit_of_not_mem v f _ _ _ _ rfl 0 (Or.inl ?_)).trans (View.read_writes_cons_unit_of_mem v f _ _ _ _ z rfl fun b => ?_)
    · show (0 + (z 0).val) % 2 < 1
      omega
    · match b with
      | ⟨0, _⟩ => show (0 + (z 0).val) % 2 = 0 + (z 0).val; omega
      | ⟨1, _⟩ => show (0 + (z 1).val) % 1 = 0 + (z 1).val; omega
      | ⟨2, _⟩ => show (0 + (z 2).val) % 512 = 0 + (z 2).val; omega
  · funext z
    have z0 : (z 0).val < 1 := (z 0).isLt
    have z1 : (z 1).val < 1 := (z 1).isLt
    have z2 : (z 2).val < 512 := (z 2).isLt
    refine View.read_writes_cons_unit_of_mem v f _ _ _ _ z rfl fun b => ?_
    match b with
    | ⟨0, _⟩ => show (1 + (z 0).val) % 2 = 1 + (z 0).val; omega
    | ⟨1, _⟩ => show (0 + (z 1).val) % 1 = 0 + (z 1).val; omega
    | ⟨2, _⟩ => show (0 + (z 2).val) % 512 = 0 + (z 2).val; omega

theorem tab_writes {sp : Space} (v : View sig .tc sp S2x128x512 .f32) (f : v.ty.Contents (Elt F)) (p q : Vec F S1x128x512 .f32) (L : List (View.Piece (Elt F) S2x128x512 .f32)) :
    tab 0 (v.read (Elt F) (v.writes (Elt F) f (⟨Rect.unit (s := S2x128x512) ![1, 0, 0] S1x128x512.size inb_S2x128x512_S1x128x512_1_0_0, q⟩ :: ⟨Rect.unit (s := S2x128x512) ![0, 0, 0] S1x128x512.size inb_S2x128x512_S1x128x512_0_0_0, p⟩ :: L))) = p ∧
    tab 1 (v.read (Elt F) (v.writes (Elt F) f (⟨Rect.unit (s := S2x128x512) ![1, 0, 0] S1x128x512.size inb_S2x128x512_S1x128x512_1_0_0, q⟩ :: ⟨Rect.unit (s := S2x128x512) ![0, 0, 0] S1x128x512.size inb_S2x128x512_S1x128x512_0_0_0, p⟩ :: L))) = q := by
  constructor
  · funext z
    have z0 : (z 0).val < 1 := (z 0).isLt
    have z1 : (z 1).val < 128 := (z 1).isLt
    have z2 : (z 2).val < 512 := (z 2).isLt
    refine (View.read_writes_cons_unit_of_not_mem v f _ _ _ _ rfl 0 (Or.inl ?_)).trans (View.read_writes_cons_unit_of_mem v f _ _ _ _ z rfl fun b => ?_)
    · show (0 + (z 0).val) % 2 < 1
      omega
    · match b with
      | ⟨0, _⟩ => show (0 + (z 0).val) % 2 = 0 + (z 0).val; omega
      | ⟨1, _⟩ => show (0 + (z 1).val) % 128 = 0 + (z 1).val; omega
      | ⟨2, _⟩ => show (0 + (z 2).val) % 512 = 0 + (z 2).val; omega
  · funext z
    have z0 : (z 0).val < 1 := (z 0).isLt
    have z1 : (z 1).val < 128 := (z 1).isLt
    have z2 : (z 2).val < 512 := (z 2).isLt
    refine View.read_writes_cons_unit_of_mem v f _ _ _ _ z rfl fun b => ?_
    match b with
    | ⟨0, _⟩ => show (1 + (z 0).val) % 2 = 1 + (z 0).val; omega
    | ⟨1, _⟩ => show (0 + (z 1).val) % 128 = 0 + (z 1).val; omega
    | ⟨2, _⟩ => show (0 + (z 2).val) % 512 = 0 + (z 2).val; omega

/-- Head 1's row is not touched by a store to head 0's. -/
theorem row_skip {sp : Space} (v : View sig .tc sp S2x1x512 .f32) (f : v.ty.Contents (Elt F)) (p : Vec F S1x1x512 .f32) (L : List (View.Piece (Elt F) S2x1x512 .f32)) :
    row 1 (v.read (Elt F) (v.writes (Elt F) f (⟨(Rect.unit (s := S2x1x512) ![0, 0, 0] S1x1x512.size inb_S2x1x512_S1x1x512_0_0_0), p⟩ :: L))) = row 1 (v.read (Elt F) (v.writes (Elt F) f L)) := by
  funext z
  have z0 : (z 0).val < 1 := (z 0).isLt
  refine View.read_writes_cons_unit_of_not_mem v f _ _ _ _ rfl 0 (Or.inr ?_)
  show 0 + 1 ≤ (1 + (z 0).val) % 2
  omega

theorem tab_skip {sp : Space} (v : View sig .tc sp S2x128x512 .f32) (f : v.ty.Contents (Elt F)) (p : Vec F S1x128x512 .f32) (L : List (View.Piece (Elt F) S2x128x512 .f32)) :
    tab 1 (v.read (Elt F) (v.writes (Elt F) f (⟨(Rect.unit (s := S2x128x512) ![0, 0, 0] S1x128x512.size inb_S2x128x512_S1x128x512_0_0_0), p⟩ :: L))) = tab 1 (v.read (Elt F) (v.writes (Elt F) f L)) := by
  funext z
  have z0 : (z 0).val < 1 := (z 0).isLt
  refine View.read_writes_cons_unit_of_not_mem v f _ _ _ _ rfl 0 (Or.inr ?_)
  show 0 + 1 ≤ (1 + (z 0).val) % 2
  omega

theorem cov_row0 {sp : Space} (v : View sig .tc sp S2x1x512 .f32) (L : List (View.Piece (Elt F) S2x1x512 .f32)) : v.readCov L (Rect.unit (s := S2x1x512) ![0, 0, 0] S1x1x512.size inb_S2x1x512_S1x1x512_0_0_0).toLoadRect = row 0 (v.read (Elt F) (v.writes (Elt F) v.junk L)) :=
  ld3 _ _ _ 0 0 0 rfl

theorem cov_row1 {sp : Space} (v : View sig .tc sp S2x1x512 .f32) (L : List (View.Piece (Elt F) S2x1x512 .f32)) : v.readCov L (Rect.unit (s := S2x1x512) ![1, 0, 0] S1x1x512.size inb_S2x1x512_S1x1x512_1_0_0).toLoadRect = row 1 (v.read (Elt F) (v.writes (Elt F) v.junk L)) :=
  ld3 _ _ _ 1 0 0 rfl

theorem cov_tab0 {sp : Space} (v : View sig .tc sp S2x128x512 .f32) (L : List (View.Piece (Elt F) S2x128x512 .f32)) : v.readCov L (Rect.unit (s := S2x128x512) ![0, 0, 0] S1x128x512.size inb_S2x128x512_S1x128x512_0_0_0).toLoadRect = tab 0 (v.read (Elt F) (v.writes (Elt F) v.junk L)) :=
  ld3 _ _ _ 0 0 0 rfl

theorem cov_tab1 {sp : Space} (v : View sig .tc sp S2x128x512 .f32) (L : List (View.Piece (Elt F) S2x128x512 .f32)) : v.readCov L (Rect.unit (s := S2x128x512) ![1, 0, 0] S1x128x512.size inb_S2x128x512_S1x128x512_1_0_0).toLoadRect = tab 1 (v.read (Elt F) (v.writes (Elt F) v.junk L)) :=
  ld3 _ _ _ 1 0 0 rfl
end pieces

section run
variable {F : FTy → Type} [FloatOps F] [Named F]
variable (c : Dev nD) (i : grid0.Coords) (a2 : Memref sig .tc .vmem S512x256 .bf16) (h2 : a2.IsWhole) (a3 : Memref sig .tc .vmem S8192x256 .bf16) (h3 : a3.IsWhole)
  (a4 : Memref sig .tc .vmem S256x8192 .bf16) (h4 : a4.IsWhole) (a5 : Memref sig .tc .vmem S2x1x512 .f32) (h5 : a5.IsWhole) (a6 : Memref sig .tc .vmem S2x8192x1 .f32) (h6 : a6.IsWhole)
  (a7 : Memref sig .tc .vmem S512x256 .bf16) (h7 : a7.IsWhole) (a8 : Memref sig .tc .vmem S2x1x512 .f32) (h8 : a8.IsWhole)
  (a9 : Memref sig .tc .vmem S2x1x512 .f32) (h9 : a9.IsWhole) (a10 : Memref sig .tc .vmem S2x1x512 .f32) (h10 : a10.IsWhole) (a11 : Memref sig .tc .vmem S2x128x512 .f32) (h11 : a11.IsWhole)
  (x0 : Vec F S512x256 .bf16) (x1 : Vec F S8192x256 .bf16) (x2 : Vec F S256x8192 .bf16) (x3 : Vec F S2x1x512 .f32) (x4 : Vec F S2x8192x1 .f32)

theorem off1_eq : ∀ (i : grid0.Coords) (k : Fin (k0_t1_loop i).trips), k0_off1 i k = ![512 * k.val, 128 * 0] := by decide +kernel
theorem off2_eq : ∀ (i : grid0.Coords) (k : Fin (k0_t1_loop i).trips), k0_off2 i k = ![128 * 0, 512 * k.val] := by decide +kernel
theorem off3_eq : ∀ (i : grid0.Coords) (k : Fin (k0_t1_loop i).trips), k0_off3 i k = ![0, 512 * k.val, 0] := by decide +kernel
theorem off4_eq : ∀ (i : grid0.Coords) (k : Fin (k0_t1_loop i).trips), k0_off4 i k = ![512 * k.val, 128 * 1] := by decide +kernel
theorem off5_eq : ∀ (i : grid0.Coords) (k : Fin (k0_t1_loop i).trips), k0_off5 i k = ![128 * 1, 512 * k.val] := by decide +kernel
theorem off6_eq : ∀ (i : grid0.Coords) (k : Fin (k0_t1_loop i).trips), k0_off6 i k = ![1, 512 * k.val, 0] := by decide +kernel
theorem off13_eq : ∀ i : grid0.Coords, k0_off13 i = ![512 * (i 1).val, 128 * 0] := by decide +kernel
theorem off14_eq : ∀ i : grid0.Coords, k0_off14 i = ![128 * 0, 512 * (i 1).val] := by decide +kernel
theorem off15_eq : ∀ i : grid0.Coords, k0_off15 i = ![0, 512 * (i 1).val, 0] := by decide +kernel
theorem off16_eq : ∀ i : grid0.Coords, k0_off16 i = ![512 * (i 1).val, 128 * 1] := by decide +kernel
theorem off17_eq : ∀ i : grid0.Coords, k0_off17 i = ![128 * 1, 512 * (i 1).val] := by decide +kernel
theorem off18_eq : ∀ i : grid0.Coords, k0_off18 i = ![1, 512 * (i 1).val, 0] := by decide +kernel
theorem trips_eq : ∀ i : grid0.Coords, (k0_t1_loop i).trips = (i 1).val := by decide +kernel
theorem trips2_eq : ∀ i : grid0.Coords, (k0_t2_loop i).trips = 0 := by decide +kernel

variable (k : Fin (k0_t1_loop i).trips) (f9 : BufTy.Contents (Elt F) a9.view.ty) (f10 : BufTy.Contents (Elt F) a10.view.ty) (f11 : BufTy.Contents (Elt F) a11.view.ty)

/-- A head's state, read out of the three buffers. -/
def rd (h : ℕ) (f9 : BufTy.Contents (Elt F) a9.view.ty) (f10 : BufTy.Contents (Elt F) a10.view.ty) (f11 : BufTy.Contents (Elt F) a11.view.ty) : St F :=
  (row h (a9.view.read (Elt F) f9), row h (a10.view.read (Elt F) f10), tab h (a11.view.read (Elt F) f11))

/-- A trip stores the two heads' states once tile `k` has been met. -/
theorem tripL_eq :
    tripL_k0_t1 (F := F) Variants.none c none i a2 h2 a3 h3 a4 h4 a5 h5 a6 h6 a7 h7 a8 h8 a9 h9 a10 h10 a11 h11 (h2.unread x0) (h3.unread x1) (h4.unread x2) (h6.unread x4) k f9 f10 f11
      = ([⟨Rect.unit (s := S2x1x512) ![1, 0, 0] S1x1x512.size inb_S2x1x512_S1x1x512_1_0_0, (meet (sco x0 x1 x4 1 k.val) (vt 1 k.val x2) (rd a9 a10 a11 1 f9 f10 f11)).1⟩,
          ⟨Rect.unit (s := S2x1x512) ![0, 0, 0] S1x1x512.size inb_S2x1x512_S1x1x512_0_0_0, (meet (sco x0 x1 x4 0 k.val) (vt 0 k.val x2) (rd a9 a10 a11 0 f9 f10 f11)).1⟩],
         [⟨Rect.unit (s := S2x1x512) ![1, 0, 0] S1x1x512.size inb_S2x1x512_S1x1x512_1_0_0, (meet (sco x0 x1 x4 1 k.val) (vt 1 k.val x2) (rd a9 a10 a11 1 f9 f10 f11)).2.1⟩,
          ⟨Rect.unit (s := S2x1x512) ![0, 0, 0] S1x1x512.size inb_S2x1x512_S1x1x512_0_0_0, (meet (sco x0 x1 x4 0 k.val) (vt 0 k.val x2) (rd a9 a10 a11 0 f9 f10 f11)).2.1⟩],
         [⟨Rect.unit (s := S2x128x512) ![1, 0, 0] S1x128x512.size inb_S2x128x512_S1x128x512_1_0_0, (meet (sco x0 x1 x4 1 k.val) (vt 1 k.val x2) (rd a9 a10 a11 1 f9 f10 f11)).2.2⟩,
          ⟨Rect.unit (s := S2x128x512) ![0, 0, 0] S1x128x512.size inb_S2x128x512_S1x128x512_0_0_0, (meet (sco x0 x1 x4 0 k.val) (vt 0 k.val x2) (rd a9 a10 a11 0 f9 f10 f11)).2.2⟩]) := by
  have q0 : View.readAt (Elt F) a2.view (Rect.unit (s := S512x256) ![0, 0] S512x128.size inb_S512x256_S512x128_0_0).toLoadRect (h2.unread x0) = qt 0 x0 := by
    rw [View.readAt_eq_ld, h2.read_unread]; exact ld2 x0 _ _ 0 (128 * 0) rfl
  have q1 : View.readAt (Elt F) a2.view (Rect.unit (s := S512x256) ![0, 128] S512x128.size inb_S512x256_S512x128_0_128).toLoadRect (h2.unread x0) = qt 1 x0 := by
    rw [View.readAt_eq_ld, h2.read_unread]; exact ld2 x0 _ _ 0 (128 * 1) rfl
  have k0 : View.readAt (Elt F) a3.view (Rect.unit (s := S8192x256) (k0_off1 i k) S512x128.size (k0_off1_inb i k)).toLoadRect (h3.unread x1) = kt 0 k.val x1 := by
    rw [View.readAt_eq_ld, h3.read_unread]; exact ld2 x1 _ _ _ _ (off1_eq i k)
  have k1 : View.readAt (Elt F) a3.view (Rect.unit (s := S8192x256) (k0_off4 i k) S512x128.size (k0_off4_inb i k)).toLoadRect (h3.unread x1) = kt 1 k.val x1 := by
    rw [View.readAt_eq_ld, h3.read_unread]; exact ld2 x1 _ _ _ _ (off4_eq i k)
  have v0 : View.readAt (Elt F) a4.view (Rect.unit (s := S256x8192) (k0_off2 i k) S128x512.size (k0_off2_inb i k)).toLoadRect (h4.unread x2) = vt 0 k.val x2 := by
    rw [View.readAt_eq_ld, h4.read_unread]; exact ld2 x2 _ _ _ _ (off2_eq i k)
  have v1 : View.readAt (Elt F) a4.view (Rect.unit (s := S256x8192) (k0_off5 i k) S128x512.size (k0_off5_inb i k)).toLoadRect (h4.unread x2) = vt 1 k.val x2 := by
    rw [View.readAt_eq_ld, h4.read_unread]; exact ld2 x2 _ _ _ _ (off5_eq i k)
  have c0 : View.readAt (Elt F) a6.view (Rect.unit (s := S2x8192x1) (k0_off3 i k) S1x512x1.size (k0_off3_inb i k)).toLoadRect (h6.unread x4) = ct 0 k.val x4 := by
    rw [View.readAt_eq_ld, h6.read_unread]; exact ld3 x4 _ _ _ _ _ (off3_eq i k)
  have c1 : View.readAt (Elt F) a6.view (Rect.unit (s := S2x8192x1) (k0_off6 i k) S1x512x1.size (k0_off6_inb i k)).toLoadRect (h6.unread x4) = ct 1 k.val x4 := by
    rw [View.readAt_eq_ld, h6.read_unread]; exact ld3 x4 _ _ _ _ _ (off6_eq i k)
  have m0 : View.readAt (Elt F) a9.view (Rect.unit (s := S2x1x512) ![0, 0, 0] S1x1x512.size inb_S2x1x512_S1x1x512_0_0_0).toLoadRect f9 = row 0 (a9.view.read (Elt F) f9) := by
    rw [View.readAt_eq_ld]; exact ld3 _ _ _ 0 0 0 rfl
  have m1 : View.readAt (Elt F) a9.view (Rect.unit (s := S2x1x512) ![1, 0, 0] S1x1x512.size inb_S2x1x512_S1x1x512_1_0_0).toLoadRect f9 = row 1 (a9.view.read (Elt F) f9) := by
    rw [View.readAt_eq_ld]; exact ld3 _ _ _ 1 0 0 rfl
  have l0 : View.readAt (Elt F) a10.view (Rect.unit (s := S2x1x512) ![0, 0, 0] S1x1x512.size inb_S2x1x512_S1x1x512_0_0_0).toLoadRect f10 = row 0 (a10.view.read (Elt F) f10) := by
    rw [View.readAt_eq_ld]; exact ld3 _ _ _ 0 0 0 rfl
  have l1 : View.readAt (Elt F) a10.view (Rect.unit (s := S2x1x512) ![1, 0, 0] S1x1x512.size inb_S2x1x512_S1x1x512_1_0_0).toLoadRect f10 = row 1 (a10.view.read (Elt F) f10) := by
    rw [View.readAt_eq_ld]; exact ld3 _ _ _ 1 0 0 rfl
  have o0 : View.readAt (Elt F) a11.view (Rect.unit (s := S2x128x512) ![0, 0, 0] S1x128x512.size inb_S2x128x512_S1x128x512_0_0_0).toLoadRect f11 = tab 0 (a11.view.read (Elt F) f11) := by
    rw [View.readAt_eq_ld]; exact ld3 _ _ _ 0 0 0 rfl
  have o1 : View.readAt (Elt F) a11.view (Rect.unit (s := S2x128x512) ![1, 0, 0] S1x128x512.size inb_S2x128x512_S1x128x512_1_0_0).toLoadRect f11 = tab 1 (a11.view.read (Elt F) f11) := by
    rw [View.readAt_eq_ld]; exact ld3 _ _ _ 1 0 0 rfl
  unfold sco rd
  rw [← q0, ← q1, ← k0, ← k1, ← v0, ← v1, ← c0, ← c1, ← m0, ← m1, ← l0, ← l1, ← o0, ← o1]
  unfold tripL_k0_t1 trip_k0_t1
  rfl

/-- A head's state before trip `n`. -/
theorem state (g9 : BufTy.Contents (Elt F) a9.view.ty) (g10 : BufTy.Contents (Elt F) a10.view.ty) (g11 : BufTy.Contents (Elt F) a11.view.ty)
    (e0 : rd a9 a10 a11 0 g9 g10 g11 = st0 0) (e1 : rd a9 a10 a11 1 g9 g10 g11 = st0 1) (n : ℕ) (hn : n ≤ (i 1).val) :
    rd a9 a10 a11 0 (a9.view.writes (Elt F) g9 (pb_k0_t1 (F := F) Variants.none c none i a2 h2 a3 h3 a4 h4 a5 h5 a6 h6 a7 h7 a8 h8 a9 h9 a10 h10 a11 h11 (h2.unread x0) (h3.unread x1) (h4.unread x2) (h6.unread x4) g9 g10 g11 n).1)
        (a10.view.writes (Elt F) g10 (pb_k0_t1 (F := F) Variants.none c none i a2 h2 a3 h3 a4 h4 a5 h5 a6 h6 a7 h7 a8 h8 a9 h9 a10 h10 a11 h11 (h2.unread x0) (h3.unread x1) (h4.unread x2) (h6.unread x4) g9 g10 g11 n).2.1)
        (a11.view.writes (Elt F) g11 (pb_k0_t1 (F := F) Variants.none c none i a2 h2 a3 h3 a4 h4 a5 h5 a6 h6 a7 h7 a8 h8 a9 h9 a10 h10 a11 h11 (h2.unread x0) (h3.unread x1) (h4.unread x2) (h6.unread x4) g9 g10 g11 n).2.2) = stn x0 x1 x2 x4 0 n ∧
    rd a9 a10 a11 1 (a9.view.writes (Elt F) g9 (pb_k0_t1 (F := F) Variants.none c none i a2 h2 a3 h3 a4 h4 a5 h5 a6 h6 a7 h7 a8 h8 a9 h9 a10 h10 a11 h11 (h2.unread x0) (h3.unread x1) (h4.unread x2) (h6.unread x4) g9 g10 g11 n).1)
        (a10.view.writes (Elt F) g10 (pb_k0_t1 (F := F) Variants.none c none i a2 h2 a3 h3 a4 h4 a5 h5 a6 h6 a7 h7 a8 h8 a9 h9 a10 h10 a11 h11 (h2.unread x0) (h3.unread x1) (h4.unread x2) (h6.unread x4) g9 g10 g11 n).2.1)
        (a11.view.writes (Elt F) g11 (pb_k0_t1 (F := F) Variants.none c none i a2 h2 a3 h3 a4 h4 a5 h5 a6 h6 a7 h7 a8 h8 a9 h9 a10 h10 a11 h11 (h2.unread x0) (h3.unread x1) (h4.unread x2) (h6.unread x4) g9 g10 g11 n).2.2) = stn x0 x1 x2 x4 1 n := by
  induction n with
  | zero => exact ⟨e0, e1⟩
  | succ n ih =>
    obtain ⟨i0, i1⟩ := ih (by omega)
    have hk : n < (k0_t1_loop i).trips := by rw [trips_eq]; omega
    have e := pb_k0_t1_succ (F := F) Variants.none c none i a2 h2 a3 h3 a4 h4 a5 h5 a6 h6 a7 h7 a8 h8 a9 h9 a10 h10 a11 h11 (h2.unread x0) (h3.unread x1) (h4.unread x2) (h6.unread x4) g9 g10 g11 ⟨n, hk⟩
    rw [tripL_eq] at e
    dsimp only at e
    generalize hs : pb_k0_t1 (F := F) Variants.none c none i a2 h2 a3 h3 a4 h4 a5 h5 a6 h6 a7 h7 a8 h8 a9 h9 a10 h10 a11 h11 (h2.unread x0) (h3.unread x1) (h4.unread x2) (h6.unread x4) g9 g10 g11 n = s at i0 i1 e
    rw [e, i0, i1]
    dsimp only [List.cons_append, List.nil_append]
    unfold rd
    constructor
    · rw [(row_writes a9.view g9 _ _ _).1, (row_writes a10.view g10 _ _ _).1, (tab_writes a11.view g11 _ _ _).1]
      rfl
    · rw [(row_writes a9.view g9 _ _ _).2, (row_writes a10.view g10 _ _ _).2, (tab_writes a11.view g11 _ _ _).2]
      rfl

theorem pb2 (n : ℕ) (hn : n = 0) (e : BitVec 32) (g2 : BufTy.Contents (Elt F) a2.view.ty) (g3 : BufTy.Contents (Elt F) a3.view.ty) (g4 : BufTy.Contents (Elt F) a4.view.ty) (g6 : BufTy.Contents (Elt F) a6.view.ty) :
    pb_k0_t2 (F := F) Variants.none c none i a2 h2 a3 h3 a4 h4 a5 h5 a6 h6 a7 h7 a8 h8 a9 h9 a10 h10 a11 h11 e g2 g3 g4 g6 f9 f10 f11 n = ([], [], []) := by
  subst hn; rfl

/-- The buffers' stores before the queries' own tile. -/
def pre9 : List (View.Piece (Elt F) S2x1x512 .f32) :=
  (pb_k0_t1 (F := F) Variants.none c none i a2 h2 a3 h3 a4 h4 a5 h5 a6 h6 a7 h7 a8 h8 a9 h9 a10 h10 a11 h11 (h2.unread x0) (h3.unread x1) (h4.unread x2) (h6.unread x4) (a9.view.writes (Elt F) a9.view.junk [⟨Rect.unit (s := S2x1x512) ![0, 0, 0] S2x1x512.size inb_S2x1x512_S2x1x512_0_0_0, k0_pay30⟩]) (a10.view.writes (Elt F) a10.view.junk [⟨Rect.unit (s := S2x1x512) ![0, 0, 0] S2x1x512.size inb_S2x1x512_S2x1x512_0_0_0, k0_pay31⟩]) (a11.view.writes (Elt F) a11.view.junk [⟨Rect.unit (s := S2x128x512) ![0, 0, 0] S2x128x512.size inb_S2x128x512_S2x128x512_0_0_0, k0_pay32⟩]) (k0_t1_loop i).trips).1 ++ [⟨Rect.unit (s := S2x1x512) ![0, 0, 0] S2x1x512.size inb_S2x1x512_S2x1x512_0_0_0, k0_pay30⟩]
def pre10 : List (View.Piece (Elt F) S2x1x512 .f32) :=
  (pb_k0_t1 (F := F) Variants.none c none i a2 h2 a3 h3 a4 h4 a5 h5 a6 h6 a7 h7 a8 h8 a9 h9 a10 h10 a11 h11 (h2.unread x0) (h3.unread x1) (h4.unread x2) (h6.unread x4) (a9.view.writes (Elt F) a9.view.junk [⟨Rect.unit (s := S2x1x512) ![0, 0, 0] S2x1x512.size inb_S2x1x512_S2x1x512_0_0_0, k0_pay30⟩]) (a10.view.writes (Elt F) a10.view.junk [⟨Rect.unit (s := S2x1x512) ![0, 0, 0] S2x1x512.size inb_S2x1x512_S2x1x512_0_0_0, k0_pay31⟩]) (a11.view.writes (Elt F) a11.view.junk [⟨Rect.unit (s := S2x128x512) ![0, 0, 0] S2x128x512.size inb_S2x128x512_S2x128x512_0_0_0, k0_pay32⟩]) (k0_t1_loop i).trips).2.1 ++ [⟨Rect.unit (s := S2x1x512) ![0, 0, 0] S2x1x512.size inb_S2x1x512_S2x1x512_0_0_0, k0_pay31⟩]
def pre11 : List (View.Piece (Elt F) S2x128x512 .f32) :=
  (pb_k0_t1 (F := F) Variants.none c none i a2 h2 a3 h3 a4 h4 a5 h5 a6 h6 a7 h7 a8 h8 a9 h9 a10 h10 a11 h11 (h2.unread x0) (h3.unread x1) (h4.unread x2) (h6.unread x4) (a9.view.writes (Elt F) a9.view.junk [⟨Rect.unit (s := S2x1x512) ![0, 0, 0] S2x1x512.size inb_S2x1x512_S2x1x512_0_0_0, k0_pay30⟩]) (a10.view.writes (Elt F) a10.view.junk [⟨Rect.unit (s := S2x1x512) ![0, 0, 0] S2x1x512.size inb_S2x1x512_S2x1x512_0_0_0, k0_pay31⟩]) (a11.view.writes (Elt F) a11.view.junk [⟨Rect.unit (s := S2x128x512) ![0, 0, 0] S2x128x512.size inb_S2x128x512_S2x128x512_0_0_0, k0_pay32⟩]) (k0_t1_loop i).trips).2.2 ++ [⟨Rect.unit (s := S2x128x512) ![0, 0, 0] S2x128x512.size inb_S2x128x512_S2x128x512_0_0_0, k0_pay32⟩]

theorem state0 :
    rd a9 a10 a11 0 (a9.view.writes (Elt F) a9.view.junk (pre9 c i a2 h2 a3 h3 a4 h4 a5 h5 a6 h6 a7 h7 a8 h8 a9 h9 a10 h10 a11 h11 x0 x1 x2 x4)) (a10.view.writes (Elt F) a10.view.junk (pre10 c i a2 h2 a3 h3 a4 h4 a5 h5 a6 h6 a7 h7 a8 h8 a9 h9 a10 h10 a11 h11 x0 x1 x2 x4)) (a11.view.writes (Elt F) a11.view.junk (pre11 c i a2 h2 a3 h3 a4 h4 a5 h5 a6 h6 a7 h7 a8 h8 a9 h9 a10 h10 a11 h11 x0 x1 x2 x4)) = stn x0 x1 x2 x4 0 (i 1).val ∧
    rd a9 a10 a11 1 (a9.view.writes (Elt F) a9.view.junk (pre9 c i a2 h2 a3 h3 a4 h4 a5 h5 a6 h6 a7 h7 a8 h8 a9 h9 a10 h10 a11 h11 x0 x1 x2 x4)) (a10.view.writes (Elt F) a10.view.junk (pre10 c i a2 h2 a3 h3 a4 h4 a5 h5 a6 h6 a7 h7 a8 h8 a9 h9 a10 h10 a11 h11 x0 x1 x2 x4)) (a11.view.writes (Elt F) a11.view.junk (pre11 c i a2 h2 a3 h3 a4 h4 a5 h5 a6 h6 a7 h7 a8 h8 a9 h9 a10 h10 a11 h11 x0 x1 x2 x4)) = stn x0 x1 x2 x4 1 (i 1).val := by
  unfold pre9 pre10 pre11
  rw [View.writes_append, View.writes_append, View.writes_append, trips_eq]
  refine state c i a2 h2 a3 h3 a4 h4 a5 h5 a6 h6 a7 h7 a8 h8 a9 h9 a10 h10 a11 h11 x0 x1 x2 x4 _ _ _ ?_ ?_ (i 1).val (le_refl _) <;>
  · unfold rd
    rw [View.read_writes_junk_eq_canon, View.read_writes_junk_eq_canon, View.read_writes_junk_eq_canon, View.canon_unit_zero (S := S2x1x512) hz3, View.canon_unit_zero (S := S2x1x512) hz3, View.canon_unit_zero (S := S2x128x512) hz3]
    rfl

/-- The states the queries' own tile leaves, by the loads of it. -/
def dia0 : St F := meet (k0_pay53 (View.readAt (Elt F) a3.view (Rect.unit (s := S8192x256) (k0_off13 i) S512x128.size (k0_off13_inb i)).toLoadRect (h3.unread x1)) (View.readAt (Elt F) a2.view (Rect.unit (s := S512x256) ![0, 0] S512x128.size inb_S512x256_S512x128_0_0).toLoadRect (h2.unread x0)) (View.readAt (Elt F) a6.view (Rect.unit (s := S2x8192x1) (k0_off15 i) S1x512x1.size (k0_off15_inb i)).toLoadRect (h6.unread x4))) (View.readAt (Elt F) a4.view (Rect.unit (s := S256x8192) (k0_off14 i) S128x512.size (k0_off14_inb i)).toLoadRect (h4.unread x2)) (a9.view.readCov (pre9 c i a2 h2 a3 h3 a4 h4 a5 h5 a6 h6 a7 h7 a8 h8 a9 h9 a10 h10 a11 h11 x0 x1 x2 x4) (Rect.unit (s := S2x1x512) ![0, 0, 0] S1x1x512.size inb_S2x1x512_S1x1x512_0_0_0).toLoadRect, a10.view.readCov (pre10 c i a2 h2 a3 h3 a4 h4 a5 h5 a6 h6 a7 h7 a8 h8 a9 h9 a10 h10 a11 h11 x0 x1 x2 x4) (Rect.unit (s := S2x1x512) ![0, 0, 0] S1x1x512.size inb_S2x1x512_S1x1x512_0_0_0).toLoadRect, a11.view.readCov (pre11 c i a2 h2 a3 h3 a4 h4 a5 h5 a6 h6 a7 h7 a8 h8 a9 h9 a10 h10 a11 h11 x0 x1 x2 x4) (Rect.unit (s := S2x128x512) ![0, 0, 0] S1x128x512.size inb_S2x128x512_S1x128x512_0_0_0).toLoadRect)
def dia1 : St F := meet (k0_pay53 (View.readAt (Elt F) a3.view (Rect.unit (s := S8192x256) (k0_off16 i) S512x128.size (k0_off16_inb i)).toLoadRect (h3.unread x1)) (View.readAt (Elt F) a2.view (Rect.unit (s := S512x256) ![0, 128] S512x128.size inb_S512x256_S512x128_0_128).toLoadRect (h2.unread x0)) (View.readAt (Elt F) a6.view (Rect.unit (s := S2x8192x1) (k0_off18 i) S1x512x1.size (k0_off18_inb i)).toLoadRect (h6.unread x4))) (View.readAt (Elt F) a4.view (Rect.unit (s := S256x8192) (k0_off17 i) S128x512.size (k0_off17_inb i)).toLoadRect (h4.unread x2))
  (a9.view.readCov (⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).1⟩ :: pre9 c i a2 h2 a3 h3 a4 h4 a5 h5 a6 h6 a7 h7 a8 h8 a9 h9 a10 h10 a11 h11 x0 x1 x2 x4) (Rect.unit (s := S2x1x512) ![1, 0, 0] S1x1x512.size inb_S2x1x512_S1x1x512_1_0_0).toLoadRect, a10.view.readCov (⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).2.1⟩ :: pre10 c i a2 h2 a3 h3 a4 h4 a5 h5 a6 h6 a7 h7 a8 h8 a9 h9 a10 h10 a11 h11 x0 x1 x2 x4) (Rect.unit (s := S2x1x512) ![1, 0, 0] S1x1x512.size inb_S2x1x512_S1x1x512_1_0_0).toLoadRect, a11.view.readCov (⟨(Rect.unit (s := S2x128x512) ![0, 0, 0] S1x128x512.size inb_S2x128x512_S1x128x512_0_0_0), (dia0 c i a2 h2 a3 h3 a4 h4 a5 h5 a6 h6 a7 h7 a8 h8 a9 h9 a10 h10 a11 h11 x0 x1 x2 x4).2.2⟩ :: pre11 c i a2 h2 a3 h3 a4 h4 a5 h5 a6 h6 a7 h7 a8 h8 a9 h9 a10 h10 a11 h11 x0 x1 x2 x4) (Rect.unit (s := S2x128x512) ![1, 0, 0] S1x128x512.size inb_S2x128x512_S1x128x512_1_0_0).toLoadRect)

theorem dia0_eq : dia0 c i a2 h2 a3 h3 a4 h4 a5 h5 a6 h6 a7 h7 a8 h8 a9 h9 a10 h10 a11 h11 x0 x1 x2 x4 = stD x0 x1 x2 x4 0 (i 1).val := by
  have e := (state0 c i a2 h2 a3 h3 a4 h4 a5 h5 a6 h6 a7 h7 a8 h8 a9 h9 a10 h10 a11 h11 x0 x1 x2 x4).1
  unfold dia0 stD scoD
  rw [cov_row0, cov_row0, cov_tab0]
  refine (congrArg _ e).trans ?_
  rw [show View.readAt (Elt F) a3.view (Rect.unit (s := S8192x256) (k0_off13 i) S512x128.size (k0_off13_inb i)).toLoadRect (h3.unread x1) = kt 0 (i 1).val x1 by rw [View.readAt_eq_ld, h3.read_unread]; exact ld2 x1 _ _ _ _ (off13_eq i),
    show View.readAt (Elt F) a2.view (Rect.unit (s := S512x256) ![0, 0] S512x128.size inb_S512x256_S512x128_0_0).toLoadRect (h2.unread x0) = qt 0 x0 by rw [View.readAt_eq_ld, h2.read_unread]; exact ld2 x0 _ _ 0 (128 * 0) rfl,
    show View.readAt (Elt F) a6.view (Rect.unit (s := S2x8192x1) (k0_off15 i) S1x512x1.size (k0_off15_inb i)).toLoadRect (h6.unread x4) = ct 0 (i 1).val x4 by rw [View.readAt_eq_ld, h6.read_unread]; exact ld3 x4 _ _ _ _ _ (off15_eq i),
    show View.readAt (Elt F) a4.view (Rect.unit (s := S256x8192) (k0_off14 i) S128x512.size (k0_off14_inb i)).toLoadRect (h4.unread x2) = vt 0 (i 1).val x2 by rw [View.readAt_eq_ld, h4.read_unread]; exact ld2 x2 _ _ _ _ (off14_eq i)]

theorem dia1_eq : dia1 c i a2 h2 a3 h3 a4 h4 a5 h5 a6 h6 a7 h7 a8 h8 a9 h9 a10 h10 a11 h11 x0 x1 x2 x4 = stD x0 x1 x2 x4 1 (i 1).val := by
  have e := (state0 c i a2 h2 a3 h3 a4 h4 a5 h5 a6 h6 a7 h7 a8 h8 a9 h9 a10 h10 a11 h11 x0 x1 x2 x4).2
  unfold dia1 stD scoD
  rw [cov_row1, cov_row1, cov_tab1, row_skip, row_skip, tab_skip]
  refine (congrArg _ e).trans ?_
  rw [show View.readAt (Elt F) a3.view (Rect.unit (s := S8192x256) (k0_off16 i) S512x128.size (k0_off16_inb i)).toLoadRect (h3.unread x1) = kt 1 (i 1).val x1 by rw [View.readAt_eq_ld, h3.read_unread]; exact ld2 x1 _ _ _ _ (off16_eq i),
    show View.readAt (Elt F) a2.view (Rect.unit (s := S512x256) ![0, 128] S512x128.size inb_S512x256_S512x128_0_128).toLoadRect (h2.unread x0) = qt 1 x0 by rw [View.readAt_eq_ld, h2.read_unread]; exact ld2 x0 _ _ 0 (128 * 1) rfl,
    show View.readAt (Elt F) a6.view (Rect.unit (s := S2x8192x1) (k0_off18 i) S1x512x1.size (k0_off18_inb i)).toLoadRect (h6.unread x4) = ct 1 (i 1).val x4 by rw [View.readAt_eq_ld, h6.read_unread]; exact ld3 x4 _ _ _ _ _ (off18_eq i),
    show View.readAt (Elt F) a4.view (Rect.unit (s := S256x8192) (k0_off17 i) S128x512.size (k0_off17_inb i)).toLoadRect (h4.unread x2) = vt 1 (i 1).val x2 by rw [View.readAt_eq_ld, h4.read_unread]; exact ld2 x2 _ _ _ _ (off17_eq i)]

/-- The stores to the logarithms' block. -/
theorem L6_eq :
    (kernelRun0_A (F := F) c i a2 h2 a3 h3 a4 h4 a5 h5 a6 h6 a7 h7 a8 h8 a9 h9 a10 h10 a11 h11 x0 x1 x2 x3 x4).2.1 = [⟨(Rect.unit (s := S2x1x512) ![1, 0, 0] S1x1x512.size inb_S2x1x512_S1x1x512_1_0_0), k0_pay64 (k0_pay63 (stD x0 x1 x2 x4 1 (i 1).val).1) (stD x0 x1 x2 x4 1 (i 1).val).2.1 (row 1 x3)⟩,
      ⟨(Rect.unit (s := S2x1x512) ![0, 0, 0] S1x1x512.size inb_S2x1x512_S1x1x512_0_0_0), k0_pay64 (k0_pay63 (stD x0 x1 x2 x4 0 (i 1).val).1) (stD x0 x1 x2 x4 0 (i 1).val).2.1 (row 0 x3)⟩] := by
  have e2 : Scf.trips (k0_t2_loop i).lb (k0_t2_loop i).ub (k0_t2_loop i).st = 0 := trips2_eq i
  have E : (kernelRun0_A (F := F) c i a2 h2 a3 h3 a4 h4 a5 h5 a6 h6 a7 h7 a8 h8 a9 h9 a10 h10 a11 h11 x0 x1 x2 x3 x4).2.1 = [⟨(Rect.unit (s := S2x1x512) ![1, 0, 0] S1x1x512.size inb_S2x1x512_S1x1x512_1_0_0), k0_pay64 (k0_pay63 (a9.view.readCov (⟨(Rect.unit (s := S2x1x512) ![1, 0, 0] S1x1x512.size inb_S2x1x512_S1x1x512_1_0_0), (dia1 c i a2 h2 a3 h3 a4 h4 a5 h5 a6 h6 a7 h7 a8 h8 a9 h9 a10 h10 a11 h11 x0 x1 x2 x4).1⟩ :: ⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).1⟩ :: pre9 c i a2 h2 a3 h3 a4 h4 a5 h5 a6 h6 a7 h7 a8 h8 a9 h9 a10 h10 a11 h11 x0 x1 x2 x4) (Rect.unit (s := S2x1x512) ![1, 0, 0] S1x1x512.size inb_S2x1x512_S1x1x512_1_0_0).toLoadRect))
        (a10.view.readCov (⟨(Rect.unit (s := S2x1x512) ![1, 0, 0] S1x1x512.size inb_S2x1x512_S1x1x512_1_0_0), (dia1 c i a2 h2 a3 h3 a4 h4 a5 h5 a6 h6 a7 h7 a8 h8 a9 h9 a10 h10 a11 h11 x0 x1 x2 x4).2.1⟩ :: ⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).2.1⟩ :: pre10 c i a2 h2 a3 h3 a4 h4 a5 h5 a6 h6 a7 h7 a8 h8 a9 h9 a10 h10 a11 h11 x0 x1 x2 x4) (Rect.unit (s := S2x1x512) ![1, 0, 0] S1x1x512.size inb_S2x1x512_S1x1x512_1_0_0).toLoadRect) (View.readAt (Elt F) a5.view (Rect.unit (s := S2x1x512) ![1, 0, 0] S1x1x512.size inb_S2x1x512_S1x1x512_1_0_0).toLoadRect (h5.unread x3))⟩,
      ⟨(Rect.unit (s := S2x1x512) ![0, 0, 0] S1x1x512.size inb_S2x1x512_S1x1x512_0_0_0), k0_pay64 (k0_pay63 (a9.view.readCov (⟨(Rect.unit (s := S2x1x512) ![1, 0, 0] S1x1x512.size inb_S2x1x512_S1x1x512_1_0_0), (dia1 c i a2 h2 a3 h3 a4 h4 a5 h5 a6 h6 a7 h7 a8 h8 a9 h9 a10 h10 a11 h11 x0 x1 x2 x4).1⟩ :: ⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).1⟩ :: pre9 c i a2 h2 a3 h3 a4 h4 a5 h5 a6 h6 a7 h7 a8 h8 a9 h9 a10 h10 a11 h11 x0 x1 x2 x4) (Rect.unit (s := S2x1x512) ![0, 0, 0] S1x1x512.size inb_S2x1x512_S1x1x512_0_0_0).toLoadRect))
        (a10.view.readCov (⟨(Rect.unit (s := S2x1x512) ![1, 0, 0] S1x1x512.size inb_S2x1x512_S1x1x512_1_0_0), (dia1 c i a2 h2 a3 h3 a4 h4 a5 h5 a6 h6 a7 h7 a8 h8 a9 h9 a10 h10 a11 h11 x0 x1 x2 x4).2.1⟩ :: ⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).2.1⟩ :: pre10 c i a2 h2 a3 h3 a4 h4 a5 h5 a6 h6 a7 h7 a8 h8 a9 h9 a10 h10 a11 h11 x0 x1 x2 x4) (Rect.unit (s := S2x1x512) ![0, 0, 0] S1x1x512.size inb_S2x1x512_S1x1x512_0_0_0).toLoadRect) (View.readAt (Elt F) a5.view (Rect.unit (s := S2x1x512) ![0, 0, 0] S1x1x512.size inb_S2x1x512_S1x1x512_0_0_0).toLoadRect (h5.unread x3))⟩] := by
    unfold kernelRun0_A
    dsimp only
    sl_unfold_words
    simp only [pb2 c i a2 h2 a3 h3 a4 h4 a5 h5 a6 h6 a7 h7 a8 h8 a9 h9 a10 h10 a11 h11 _ _ _ _ e2, List.nil_append]
    rfl
  rw [E, cov_row0, cov_row0, cov_row1, cov_row1, (row_writes _ _ _ _ _).1, (row_writes _ _ _ _ _).1, (row_writes _ _ _ _ _).2, (row_writes _ _ _ _ _).2, dia0_eq, dia1_eq,
    show View.readAt (Elt F) a5.view (Rect.unit (s := S2x1x512) ![0, 0, 0] S1x1x512.size inb_S2x1x512_S1x1x512_0_0_0).toLoadRect (h5.unread x3) = row 0 x3 by rw [View.readAt_eq_ld, h5.read_unread]; exact ld3 x3 _ _ 0 0 0 rfl,
    show View.readAt (Elt F) a5.view (Rect.unit (s := S2x1x512) ![1, 0, 0] S1x1x512.size inb_S2x1x512_S1x1x512_1_0_0).toLoadRect (h5.unread x3) = row 1 x3 by rw [View.readAt_eq_ld, h5.read_unread]; exact ld3 x3 _ _ 1 0 0 rfl]

/-- The stores to the output's block. -/
theorem L5_eq :
    (kernelRun0_A (F := F) c i a2 h2 a3 h3 a4 h4 a5 h5 a6 h6 a7 h7 a8 h8 a9 h9 a10 h10 a11 h11 x0 x1 x2 x3 x4).1 = [⟨Rect.unit (s := S512x256) ![0, 128] S512x128.size inb_S512x256_S512x128_0_128, k0_pay62 (stD x0 x1 x2 x4 1 (i 1).val).2.2 (stD x0 x1 x2 x4 1 (i 1).val).2.1⟩,
      ⟨Rect.unit (s := S512x256) ![0, 0] S512x128.size inb_S512x256_S512x128_0_0, k0_pay62 (stD x0 x1 x2 x4 0 (i 1).val).2.2 (stD x0 x1 x2 x4 0 (i 1).val).2.1⟩] := by
  have e2 : Scf.trips (k0_t2_loop i).lb (k0_t2_loop i).ub (k0_t2_loop i).st = 0 := trips2_eq i
  have E : (kernelRun0_A (F := F) c i a2 h2 a3 h3 a4 h4 a5 h5 a6 h6 a7 h7 a8 h8 a9 h9 a10 h10 a11 h11 x0 x1 x2 x3 x4).1 = [⟨Rect.unit (s := S512x256) ![0, 128] S512x128.size inb_S512x256_S512x128_0_128, k0_pay62 (a11.view.readCov (⟨(Rect.unit (s := S2x128x512) ![1, 0, 0] S1x128x512.size inb_S2x128x512_S1x128x512_1_0_0), (dia1 c i a2 h2 a3 h3 a4 h4 a5 h5 a6 h6 a7 h7 a8 h8 a9 h9 a10 h10 a11 h11 x0 x1 x2 x4).2.2⟩ :: ⟨(Rect.unit (s := S2x128x512) ![0, 0, 0] S1x128x512.size inb_S2x128x512_S1x128x512_0_0_0), (dia0 c i a2 h2 a3 h3 a4 h4 a5 h5 a6 h6 a7 h7 a8 h8 a9 h9 a10 h10 a11 h11 x0 x1 x2 x4).2.2⟩ :: pre11 c i a2 h2 a3 h3 a4 h4 a5 h5 a6 h6 a7 h7 a8 h8 a9 h9 a10 h10 a11 h11 x0 x1 x2 x4) (Rect.unit (s := S2x128x512) ![1, 0, 0] S1x128x512.size inb_S2x128x512_S1x128x512_1_0_0).toLoadRect)
        (a10.view.readCov (⟨(Rect.unit (s := S2x1x512) ![1, 0, 0] S1x1x512.size inb_S2x1x512_S1x1x512_1_0_0), (dia1 c i a2 h2 a3 h3 a4 h4 a5 h5 a6 h6 a7 h7 a8 h8 a9 h9 a10 h10 a11 h11 x0 x1 x2 x4).2.1⟩ :: ⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).2.1⟩ :: pre10 c i a2 h2 a3 h3 a4 h4 a5 h5 a6 h6 a7 h7 a8 h8 a9 h9 a10 h10 a11 h11 x0 x1 x2 x4) (Rect.unit (s := S2x1x512) ![1, 0, 0] S1x1x512.size inb_S2x1x512_S1x1x512_1_0_0).toLoadRect)⟩,
      ⟨Rect.unit (s := S512x256) ![0, 0] S512x128.size inb_S512x256_S512x128_0_0, k0_pay62 (a11.view.readCov (⟨(Rect.unit (s := S2x128x512) ![1, 0, 0] S1x128x512.size inb_S2x128x512_S1x128x512_1_0_0), (dia1 c i a2 h2 a3 h3 a4 h4 a5 h5 a6 h6 a7 h7 a8 h8 a9 h9 a10 h10 a11 h11 x0 x1 x2 x4).2.2⟩ :: ⟨(Rect.unit (s := S2x128x512) ![0, 0, 0] S1x128x512.size inb_S2x128x512_S1x128x512_0_0_0), (dia0 c i a2 h2 a3 h3 a4 h4 a5 h5 a6 h6 a7 h7 a8 h8 a9 h9 a10 h10 a11 h11 x0 x1 x2 x4).2.2⟩ :: pre11 c i a2 h2 a3 h3 a4 h4 a5 h5 a6 h6 a7 h7 a8 h8 a9 h9 a10 h10 a11 h11 x0 x1 x2 x4) (Rect.unit (s := S2x128x512) ![0, 0, 0] S1x128x512.size inb_S2x128x512_S1x128x512_0_0_0).toLoadRect)
        (a10.view.readCov (⟨(Rect.unit (s := S2x1x512) ![1, 0, 0] S1x1x512.size inb_S2x1x512_S1x1x512_1_0_0), (dia1 c i a2 h2 a3 h3 a4 h4 a5 h5 a6 h6 a7 h7 a8 h8 a9 h9 a10 h10 a11 h11 x0 x1 x2 x4).2.1⟩ :: ⟨(Rect.unit (s := S2x1x512) ![0, 0, 0] S1x1x512.size inb_S2x1x512_S1x1x512_0_0_0), (dia0 c i a2 h2 a3 h3 a4 h4 a5 h5 a6 h6 a7 h7 a8 h8 a9 h9 a10 h10 a11 h11 x0 x1 x2 x4).2.1⟩ :: pre10 c i a2 h2 a3 h3 a4 h4 a5 h5 a6 h6 a7 h7 a8 h8 a9 h9 a10 h10 a11 h11 x0 x1 x2 x4) (Rect.unit (s := S2x1x512) ![0, 0, 0] S1x1x512.size inb_S2x1x512_S1x1x512_0_0_0).toLoadRect)⟩] := by
    unfold kernelRun0_A
    dsimp only
    sl_unfold_words
    simp only [pb2 c i a2 h2 a3 h3 a4 h4 a5 h5 a6 h6 a7 h7 a8 h8 a9 h9 a10 h10 a11 h11 _ _ _ _ e2, List.nil_append]
    rfl
  rw [E, cov_row0, cov_row1, cov_tab0, cov_tab1, (row_writes _ _ _ _ _).1, (row_writes _ _ _ _ _).2, (tab_writes _ _ _ _ _).1, (tab_writes _ _ _ _ _).2, dia0_eq, dia1_eq]

end run
end Cert.AttnIdeal.Val
end
-- ==== Proof.AttnTile.lean ====
/-
  The attention's forward call: what meeting a tile of keys makes of a head's state, at an index.
-/
module

public import proofs.«01_k».proof.Proof.AttnVal
public import proofs.«01_k».proof.Proof.RefVal
public import proofs.«01_k».proof.Proof.Tile
public import Idealize.ShloMosaic.Lib.Pointwise

@[expose] public section

set_option maxRecDepth 16384
noncomputable section

namespace Cert.AttnIdeal.Val
open Cert.AttnIdeal Cert.AttnIdeal.Gen Cert.Blocks
open Idealize Idealize.ShloMosaic Idealize.ShloMosaic.TcCoe Idealize.ShloMosaic.Tactic Idealize.SL.Sem

theorem named_ln2 : (Named.named (F := Ideal) κ "ln2" (φ := .f32) 0x3F317218#32) = ((Real.log 2 : ℝ) : EReal) :=
  IdealRules.named_const.ideal_named_scalar _ _ _ _ rfl
theorem named_log2e : (Named.named (F := Ideal) κ "log2e" (φ := .f32) 0x3FB8AA3B#32) = (((Real.log 2)⁻¹ : ℝ) : EReal) :=
  IdealRules.named_const.ideal_named_scalar _ _ _ _ rfl
theorem named_mask : (Named.named (F := Ideal) κ "mask" (φ := .f32) 0xF149F2CA#32) = (⊥ : EReal) :=
  IdealRules.named_const.ideal_named_scalar _ _ _ _ rfl

/-- A logit in base two. -/
def lgt (k q : S512x128.Idx → EReal) (g : S1x512x1.Idx → EReal) (a b : Fin 512) : EReal :=
  (∑ e : Fin 128, k (ix2 a e) * q (ix2 b e)) - g (ix3 0 a 0) * (((Real.log 2)⁻¹ : ℝ) : EReal)

theorem pay3_at (k q : S512x128.Idx → EReal) (g : S1x512x1.Idx → EReal) (a b : Fin 512) :
    k0_pay3 (F := Ideal) k q g (ix2 a b) = lgt k q g a b := by
  pointwise [k0_pay3]
  rw [named_log2e]
  rfl

theorem pay53_at (k q : S512x128.Idx → EReal) (g : S1x512x1.Idx → EReal) (a b : Fin 512) :
    k0_pay53 (F := Ideal) k q g (ix2 a b) = if a.val ≤ b.val then lgt k q g a b else ⊥ := by
  pointwise [k0_pay53]
  rw [named_log2e, named_mask]
  exact Cert.KernelIdeal.Val.select_sge a b _ _

/-- The greatest of a column's scores and what came before. -/
def mx (s : Fin 512 → EReal) (m : EReal) : EReal := max m ((Finset.univ : Finset (Fin 512)).sup s)

theorem mx_at (s : S512x512.Idx → EReal) (m : S1x1x512.Idx → EReal) (z : Fin 1) (b : Fin 512) :
    maximumf (F := Ideal) (k0_pay4 m) (shapeCast S1x512 (multiReduction (F := Ideal) (φ := .f32) .maximumf [0] S512 s 0xFF800000#32 reduces_S512x512_S512 (.inl rfl) rfl) shapeCasts_S512_S1x512) (ix2 z b)
      = mx (fun a => s (ix2 a b)) (m (ix3 0 0 b)) := by
  pointwise [k0_pay4]
  rw [Cert.Attn.ofBits_bot]
  rfl

theorem pay34_at (m n : S1x512.Idx → EReal) (p : S512x512.Idx → EReal) (l : S1x1x512.Idx → EReal) (b : Fin 512) :
    k0_pay34 (F := Ideal) m n p l (ix3 0 0 b) = Ideal.exp2 (m (ix2 0 b) - n (ix2 0 b)) * l (ix3 0 0 b) + ∑ a : Fin 512, p (ix2 a b) := by
  pointwise [k0_pay34, k0_pay33]
  rfl

theorem pay35_at (v : S128x512.Idx → EReal) (m n : S1x512.Idx → EReal) (p : S512x512.Idx → EReal) (o : S1x128x512.Idx → EReal) (e : Fin 128) (b : Fin 512) :
    k0_pay35 (F := Ideal) (k0_pay2 (F := Ideal) v) m n p o (ix3 0 e b) = Ideal.exp2 (m (ix2 0 b) - n (ix2 0 b)) * o (ix3 0 e b) + ∑ a : Fin 512, v (ix2 e a) * p (ix2 a b) := by
  pointwise [k0_pay35, k0_pay33, k0_pay2]
  rfl

theorem pay62_at (o : S1x128x512.Idx → EReal) (l : S1x1x512.Idx → EReal) (b : Fin 512) (e : Fin 128) :
    k0_pay62 (F := Ideal) o l (ix2 b e) = Ideal.div (o (ix3 0 e b)) (l (ix3 0 0 b)) := by
  pointwise [k0_pay62]

theorem pay64_at (m l g : S1x1x512.Idx → EReal) (b : Fin 512) :
    k0_pay64 (F := Ideal) (k0_pay63 (F := Ideal) m) l g (ix3 0 0 b)
      = (m (ix3 0 0 b) + Ideal.log (l (ix3 0 0 b)) * (((Real.log 2)⁻¹ : ℝ) : EReal)) * ((Real.log 2 : ℝ) : EReal) + g (ix3 0 0 b) := by
  pointwise [k0_pay64, k0_pay63]
  rw [named_log2e, named_ln2]
theorem meet0_at (s : S512x512.Idx → EReal) (v : S128x512.Idx → EReal) (p : St Ideal) (b : Fin 512) :
    (meet (F := Ideal) s v p).1 (ix3 0 0 b) = mx (fun a => s (ix2 a b)) (p.1 (ix3 0 0 b)) := by
  rw [← mx_at s p.1 0 b]
  unfold meet
  pointwise [k0_pay10]

theorem prob_at (s : S512x512.Idx → EReal) (m : S1x512.Idx → EReal) (a b : Fin 512) :
    exp2 (F := Ideal) (φ := .f32) (subf (F := Ideal) (φ := .f32) s (broadcastTo S512x512 m broadcasts_S1x512_S512x512)) (ix2 a b) = Ideal.exp2 (s (ix2 a b) - m (ix2 0 b)) := by
  pointwise []
  rfl

theorem meet1_at (s : S512x512.Idx → EReal) (v : S128x512.Idx → EReal) (p : St Ideal) (b : Fin 512) :
    (meet (F := Ideal) s v p).2.1 (ix3 0 0 b)
      = Ideal.exp2 (p.1 (ix3 0 0 b) - mx (fun a => s (ix2 a b)) (p.1 (ix3 0 0 b))) * p.2.1 (ix3 0 0 b)
        + ∑ a : Fin 512, Ideal.exp2 (s (ix2 a b) - mx (fun a => s (ix2 a b)) (p.1 (ix3 0 0 b))) := by
  rw [← mx_at s p.1 0 b, ← show k0_pay4 (F := Ideal) p.1 (ix2 0 b) = p.1 (ix3 0 0 b) by pointwise [k0_pay4]]
  exact (pay34_at _ _ _ _ b).trans (congrArg _ (Finset.sum_congr rfl fun a _ => prob_at _ _ a b))

theorem meet2_at (s : S512x512.Idx → EReal) (v : S128x512.Idx → EReal) (p : St Ideal) (e : Fin 128) (b : Fin 512) :
    (meet (F := Ideal) s v p).2.2 (ix3 0 e b)
      = Ideal.exp2 (p.1 (ix3 0 0 b) - mx (fun a => s (ix2 a b)) (p.1 (ix3 0 0 b))) * p.2.2 (ix3 0 e b)
        + ∑ a : Fin 512, v (ix2 e a) * Ideal.exp2 (s (ix2 a b) - mx (fun a => s (ix2 a b)) (p.1 (ix3 0 0 b))) := by
  rw [← mx_at s p.1 0 b, ← show k0_pay4 (F := Ideal) p.1 (ix2 0 b) = p.1 (ix3 0 0 b) by pointwise [k0_pay4]]
  exact (pay35_at _ _ _ _ _ e b).trans (congrArg _ (Finset.sum_congr rfl fun a _ => congrArg _ (prob_at _ _ a b)))

/-! ### A column over the real numbers -/

/-- Two to the power `x`. -/
def pw (x : ℝ) : ℝ := Real.exp (Real.log 2 * x)
theorem pw_add (x y : ℝ) : pw (x + y) = pw x * pw y := by unfold pw; rw [mul_add, Real.exp_add]
theorem pw_pos (x : ℝ) : 0 < pw x := Real.exp_pos _
theorem exp2_real (x : ℝ) : Ideal.exp2 (x : EReal) = ((pw x : ℝ) : EReal) := by
  show ((Real.rpow 2 x : ℝ) : EReal) = _
  unfold pw
  rw [show Real.rpow 2 x = Real.exp (Real.log 2 * x) from Real.rpow_def_of_pos (by norm_num) x]

/-- What has been met so far of a column: its sum `L` and its unnormalised output `A`, both less the running maximum `M`. -/
def Some' (m l : EReal) (o : Fin 128 → EReal) (L : ℝ) (A : Fin 128 → ℝ) (M : ℝ) : Prop :=
  m = (M : EReal) ∧ l = ((L * pw (-M) : ℝ) : EReal) ∧ ∀ e, o e = ((A e * pw (-M) : ℝ) : EReal)
/-- Nothing has been met yet. -/
def None' (m l : EReal) (o : Fin 128 → EReal) (L : ℝ) (A : Fin 128 → ℝ) : Prop :=
  m = ⊥ ∧ l = 0 ∧ (∀ e, o e = 0) ∧ L = 0 ∧ ∀ e, A e = 0

theorem mx_real (s : Fin 512 → EReal) (m : EReal) (hs : ∀ a, s a ≠ ⊤) (hm : m ≠ ⊤) (a : Fin 512) (x : ℝ) (hx : s a = (x : EReal)) :
    ∃ M : ℝ, mx s m = (M : EReal) := by
  refine ⟨(mx s m).toReal, (EReal.coe_toReal (ne_of_lt ?_) (ne_of_gt ?_)).symm⟩
  · unfold mx
    exact max_lt (lt_top_iff_ne_top.mpr hm) ((Finset.sup_lt_iff bot_lt_top).mpr fun b _ => lt_top_iff_ne_top.mpr (hs b))
  · exact lt_of_lt_of_le (hx ▸ EReal.bot_lt_coe x) ((Finset.le_sup (f := s) (Finset.mem_univ a)).trans (le_max_right _ _))

/-- A tile met by a column: some of its keys are seen, the rest are masked. -/
theorem step (m l : EReal) (o : Fin 128 → EReal) (L : ℝ) (A : Fin 128 → ℝ) (h0 : None' m l o L A ∨ ∃ M, Some' m l o L A M)
    (s : Fin 512 → EReal) (P : Fin 512 → Prop) [DecidablePred P] (t : Fin 512 → ℝ) (hs : ∀ a, s a = if P a then (t a : EReal) else ⊥) (a0 : Fin 512) (ha0 : P a0)
    (v : Fin 128 → Fin 512 → EReal) (w : Fin 128 → Fin 512 → ℝ) (hv : ∀ e a, v e a = (w e a : EReal)) :
    ∃ M, Some' (mx s m) (Ideal.exp2 (m - mx s m) * l + ∑ a, Ideal.exp2 (s a - mx s m)) (fun e => Ideal.exp2 (m - mx s m) * o e + ∑ a, v e a * Ideal.exp2 (s a - mx s m))
      (L + ∑ a, if P a then pw (t a) else 0) (fun e => A e + ∑ a, w e a * (if P a then pw (t a) else 0)) M := by
  have hm : m ≠ ⊤ := by
    rcases h0 with h | ⟨M, h⟩
    · rw [h.1]; exact bot_ne_top
    · rw [h.1]; exact EReal.coe_ne_top M
  obtain ⟨N, hN⟩ := mx_real s m (fun a => by rw [hs]; split; exacts [EReal.coe_ne_top _, bot_ne_top]) hm a0 (t a0) (by rw [hs, if_pos ha0])
  rw [hN]
  have hp : ∀ a, Ideal.exp2 (s a - (N : EReal)) = (((if P a then pw (t a) else 0) * pw (-N) : ℝ) : EReal) := by
    intro a
    rw [hs]
    split
    · rw [← EReal.coe_sub, exp2_real, sub_eq_add_neg, pw_add]
    · rw [show (⊥ : EReal) - (N : EReal) = ⊥ from EReal.bot_sub _, zero_mul]
      rfl
  refine ⟨N, rfl, ?_, fun e => ?_⟩
  · have h1 : Ideal.exp2 (m - (N : EReal)) * l = ((L * pw (-N) : ℝ) : EReal) := by
      rcases h0 with ⟨_, hl, _, hL, _⟩ | ⟨M, hm, hl, _⟩
      · rw [hl, hL, mul_zero, zero_mul]; rfl
      · rw [hm, hl, ← EReal.coe_sub, exp2_real, ← EReal.coe_mul]
        congr 1
        rw [show pw (M - N) = pw M * pw (-N) by rw [sub_eq_add_neg, pw_add]]
        have h2 : pw M * pw (-M) = 1 := by rw [← pw_add, add_neg_cancel]; simp [pw]
        linear_combination (L * pw (-N)) * h2
    rw [h1, Finset.sum_congr rfl fun a _ => hp a, Cert.Attn.coe_sum, ← EReal.coe_add, add_mul, Finset.sum_mul]
  · have h1 : Ideal.exp2 (m - (N : EReal)) * o e = ((A e * pw (-N) : ℝ) : EReal) := by
      rcases h0 with ⟨_, _, ho, _, hA⟩ | ⟨M, hm, _, ho⟩
      · rw [ho, hA, mul_zero, zero_mul]; rfl
      · rw [hm, ho, ← EReal.coe_sub, exp2_real, ← EReal.coe_mul]
        congr 1
        rw [show pw (M - N) = pw M * pw (-N) by rw [sub_eq_add_neg, pw_add]]
        have h2 : pw M * pw (-M) = 1 := by rw [← pw_add, add_neg_cancel]; simp [pw]
        linear_combination (A e * pw (-N)) * h2
    show Ideal.exp2 (m - (N : EReal)) * o e + _ = _
    rw [h1, Finset.sum_congr rfl fun a _ => by rw [hv, hp, ← EReal.coe_mul], Cert.Attn.coe_sum, ← EReal.coe_add, add_mul, Finset.sum_mul]
    congr 2
    exact Finset.sum_congr rfl fun a _ => by ring

section column
variable (x0 : S512x256.Idx → EReal) (x1 : S8192x256.Idx → EReal) (x2 : S256x8192.Idx → EReal) (x3 : S2x1x512.Idx → EReal) (x4 : S2x8192x1.Idx → EReal) (h : ℕ) (b : Fin 512)
variable (t : ℕ → Fin 512 → ℝ) (w : Fin 128 → ℕ → Fin 512 → ℝ)
  (ht : ∀ j a, j < 16 → lgt (kt (F := Ideal) h j x1) (qt (F := Ideal) h x0) (ct (F := Ideal) h j x4) a b = ((t j a : ℝ) : EReal))
  (hw : ∀ e j a, j < 16 → vt (F := Ideal) h j x2 (ix2 e a) = ((w e j a : ℝ) : EReal))

include ht hw
/-- After `n` tiles a column holds the sums over the keys of those tiles. -/
theorem stn_col (n : ℕ) (hn : n ≤ 16) :
    None' ((stn (F := Ideal) x0 x1 x2 x4 h n).1 (ix3 0 0 b)) ((stn (F := Ideal) x0 x1 x2 x4 h n).2.1 (ix3 0 0 b)) (fun e => (stn (F := Ideal) x0 x1 x2 x4 h n).2.2 (ix3 0 e b))
        (∑ j ∈ Finset.range n, ∑ a, pw (t j a)) (fun e => ∑ j ∈ Finset.range n, ∑ a, w e j a * pw (t j a))
      ∨ ∃ M, Some' ((stn (F := Ideal) x0 x1 x2 x4 h n).1 (ix3 0 0 b)) ((stn (F := Ideal) x0 x1 x2 x4 h n).2.1 (ix3 0 0 b)) (fun e => (stn (F := Ideal) x0 x1 x2 x4 h n).2.2 (ix3 0 e b))
        (∑ j ∈ Finset.range n, ∑ a, pw (t j a)) (fun e => ∑ j ∈ Finset.range n, ∑ a, w e j a * pw (t j a)) M := by
  induction n with
  | zero =>
    refine Or.inl ⟨?_, ?_, fun e => ?_, rfl, fun _ => rfl⟩
    · show row (F := Ideal) h (k0_pay30 (F := Ideal)) (ix3 0 0 b) = ⊥
      exact named_mask
    · show row (F := Ideal) h (k0_pay31 (F := Ideal)) (ix3 0 0 b) = 0
      exact Ideal.ofBits_zero_f32
    · show tab (F := Ideal) h (k0_pay32 (F := Ideal)) (ix3 0 e b) = 0
      exact Ideal.ofBits_zero_f32
  | succ n ih =>
    obtain ⟨M, e0, e1, e2⟩ := step _ _ _ _ _ (ih (by omega)) (fun a => sco (F := Ideal) x0 x1 x4 h n (ix2 a b)) (fun _ => True) (t n)
      (fun a => by rw [if_pos trivial]; exact (pay3_at _ _ _ a b).trans (ht n a (by omega))) 0 trivial (fun e a => vt (F := Ideal) h n x2 (ix2 e a)) (fun e => w e n) (fun e a => hw e n a (by omega))
    refine Or.inr ⟨M, (meet0_at _ _ _ b).trans e0, (meet1_at _ _ _ b).trans (e1.trans ?_), fun e => (meet2_at _ _ _ e b).trans ((e2 e).trans ?_)⟩
    · simp only [if_true, Finset.sum_range_succ]
    · simp only [if_true, Finset.sum_range_succ]

/-- After its own tile a column holds the sums over the keys it sees. -/
theorem stD_col (j : ℕ) (hj : j < 16) :
    ∃ M, Some' ((stD (F := Ideal) x0 x1 x2 x4 h j).1 (ix3 0 0 b)) ((stD (F := Ideal) x0 x1 x2 x4 h j).2.1 (ix3 0 0 b)) (fun e => (stD (F := Ideal) x0 x1 x2 x4 h j).2.2 (ix3 0 e b))
        ((∑ i ∈ Finset.range j, ∑ a, pw (t i a)) + ∑ a : Fin 512, if a.val ≤ b.val then pw (t j a) else 0)
        (fun e => (∑ i ∈ Finset.range j, ∑ a, w e i a * pw (t i a)) + ∑ a : Fin 512, w e j a * (if a.val ≤ b.val then pw (t j a) else 0)) M := by
  obtain ⟨M, e0, e1, e2⟩ := step _ _ _ _ _ (stn_col x0 x1 x2 x4 h b t w ht hw j hj.le) (fun a => scoD (F := Ideal) x0 x1 x4 h j (ix2 a b)) (fun a => a.val ≤ b.val) (t j)
    (fun a => by rw [← ht j a hj]; exact pay53_at _ _ _ a b) b le_rfl (fun e a => vt (F := Ideal) h j x2 (ix2 e a)) (fun e => w e j) (fun e a => hw e j a hj)
  exact ⟨M, (meet0_at _ _ _ b).trans e0, (meet1_at _ _ _ b).trans e1, fun e => (meet2_at _ _ _ e b).trans (e2 e)⟩

/-- The head's output and its log-sum-exp, at a query that sees a key. -/
theorem outs_col (j : ℕ) (hj : j < 16) (g : S1x1x512.Idx → EReal) (C : ℝ) (hg : g (ix3 0 0 b) = (C : EReal)) (L : ℝ) (A : Fin 128 → ℝ) (hL : 0 < L)
    (eL : (∑ i ∈ Finset.range j, ∑ a, pw (t i a)) + (∑ a : Fin 512, if a.val ≤ b.val then pw (t j a) else 0) = L)
    (eA : ∀ e, (∑ i ∈ Finset.range j, ∑ a, w e i a * pw (t i a)) + (∑ a : Fin 512, w e j a * (if a.val ≤ b.val then pw (t j a) else 0)) = A e) :
    (∀ e, k0_pay62 (F := Ideal) (stD (F := Ideal) x0 x1 x2 x4 h j).2.2 (stD (F := Ideal) x0 x1 x2 x4 h j).2.1 (ix2 b e) = ((A e * (1 / L) : ℝ) : EReal)) ∧
    k0_pay64 (F := Ideal) (k0_pay63 (F := Ideal) (stD (F := Ideal) x0 x1 x2 x4 h j).1) (stD (F := Ideal) x0 x1 x2 x4 h j).2.1 g (ix3 0 0 b) = ((Real.log L + C : ℝ) : EReal) := by
  obtain ⟨M, e0, e1, e2⟩ := stD_col x0 x1 x2 x4 h b t w ht hw j hj
  rw [eL] at e1
  have hp := pw_pos (-M)
  constructor
  · intro e
    have e3 := e2 e
    dsimp only at e3
    rw [eA] at e3
    rw [pay62_at, e1, e3, Cert.Attn.div_real _ _ (mul_pos hL hp).ne']
    congr 1
    field_simp
  · rw [pay64_at, e0, e1, hg, Cert.Attn.log_real _ (mul_pos hL hp), ← EReal.coe_mul, ← EReal.coe_add, ← EReal.coe_mul, ← EReal.coe_add]
    congr 1
    rw [Real.log_mul hL.ne' hp.ne', show Real.log (pw (-M)) = Real.log 2 * -M from Real.log_exp _]
    have h2 := Cert.Attn.log_two_pos.ne'
    field_simp
    ring
end column
end Cert.AttnIdeal.Val
end
-- ==== Proof.AttnArr.lean ====
/-
  The attention's forward call over the real numbers: what its windows hand to a point, what a point leaves in its two blocks,
  and what the two result arrays end holding.
-/
module

public import proofs.«01_k».proof.Proof.AttnTile
public import proofs.«01_k».proof.Proof.HostVal
public import proofs.«01_k».proof.Proof.Gen.AttnRefIdeal.Read

@[expose] public section

set_option maxRecDepth 16384
noncomputable section

/-! ## The real numbers -/

namespace Cert.Attn

variable (Q K W : Fin 8192 → Fin 2048 → ℝ) (C M M' : Fin 16 → Fin 8192 → ℝ)

/-- Another shift of a row scales its exponentials. -/
theorem E_shift (h : Fin 16) (r a : Fin 8192) : E Q K C M h r a = E Q K C M' h r a * Real.exp (M' h r - M h r) := by
  unfold E
  split
  · rw [← Real.exp_add]; congr 1; ring
  · rw [zero_mul]
theorem L_shift (h : Fin 16) (r : Fin 8192) : L Q K C M h r = L Q K C M' h r * Real.exp (M' h r - M h r) := by
  unfold L
  rw [Finset.sum_mul]
  exact Finset.sum_congr rfl fun a _ => E_shift Q K C M M' h r a
/-- The probabilities do not depend on the shift. -/
theorem Pr_shift (h : Fin 16) (r a : Fin 8192) : Pr Q K C M h r a = Pr Q K C M' h r a := by
  have hL := (L_pos Q K C M' h r).ne'
  have hE := (Real.exp_pos (M' h r - M h r)).ne'
  unfold Pr
  rw [E_shift Q K C M M' h r a, L_shift Q K C M M' h r]
  field_simp
/-- Nor does the log-sum-exp. -/
theorem lse_shift (h : Fin 16) (r : Fin 8192) : M h r + Real.log (L Q K C M h r) = M' h r + Real.log (L Q K C M' h r) := by
  rw [L_shift Q K C M M' h r, Real.log_mul (L_pos Q K C M' h r).ne' (Real.exp_pos _).ne', Real.log_exp]
  ring

/-- Key `a` of tile `j`. -/
def key (j : ℕ) (a : Fin 512) : Fin 8192 := Fin.ofNat 8192 (512 * j + a.val)
theorem key_val (j : ℕ) (hj : j < 16) (a : Fin 512) : (key j a).val = 512 * j + a.val := Nat.mod_eq_of_lt (by omega)

/-- The tiles before a query's own and the keys of its own tile up to it are the keys it sees. -/
theorem seen (f : Fin 8192 → ℝ) (j : ℕ) (hj : j < 16) (b : Fin 512) (r : Fin 8192) (hr : r.val = 512 * j + b.val) :
    (∑ i ∈ Finset.range j, ∑ a, f (key i a)) + (∑ a : Fin 512, if a.val ≤ b.val then f (key j a) else 0) = ∑ k : Fin 8192, if k.val ≤ r.val then f k else 0 := by
  rw [← sum_blocks (fun k => if k.val ≤ r.val then f k else 0) key key_val,
    ← Finset.sum_subset (Finset.range_subset_range.mpr (show j + 1 ≤ 16 by omega)) (fun i hi hn => Finset.sum_eq_zero fun a _ => if_neg ?_), Finset.sum_range_succ]
  · refine congrArg₂ (· + ·) (Finset.sum_congr rfl fun i hi => Finset.sum_congr rfl fun a _ => ?_) (Finset.sum_congr rfl fun a _ => ?_)
    · have := Finset.mem_range.mp hi
      rw [if_pos (by rw [key_val i (by omega)]; omega)]
    · rw [key_val j hj, hr]
      exact if_congr (by omega) rfl rfl
  · have h1 := Finset.mem_range.mp hi
    have h2 : ¬ i < j + 1 := fun h => hn (Finset.mem_range.mpr h)
    rw [key_val i h1]; omega

/-- A folded logit in base two. -/
def lg (h : Fin 16) (r k : Fin 8192) : ℝ := (∑ e, K k (ch h e) * fold * (Q r (ch h e) * fold)) - C h k * (Real.log 2)⁻¹
/-- Two to its power is the exponential of the logit less the query's gate. -/
theorem pw_lg (h : Fin 16) (r k : Fin 8192) : Real.exp (Real.log 2 * lg Q K C h r k) = Real.exp (S Q K C h r k - C h r) := by
  have e1 : (∑ e, K k (ch h e) * fold * (Q r (ch h e) * fold)) = (∑ e, Q r (ch h e) * K k (ch h e)) * (fold * fold) := by
    rw [Finset.sum_mul]; exact Finset.sum_congr rfl fun e _ => by ring
  have hl := log_two_pos.ne'
  congr 1
  unfold lg S
  rw [e1, ← fold_fold]
  field_simp
  ring

/-- The sums of a query's column. -/
theorem L_tiles (h : Fin 16) (j : ℕ) (hj : j < 16) (b : Fin 512) (r : Fin 8192) (hr : r.val = 512 * j + b.val) :
    (∑ i ∈ Finset.range j, ∑ a, Real.exp (Real.log 2 * lg Q K C h r (key i a))) + (∑ a : Fin 512, if a.val ≤ b.val then Real.exp (Real.log 2 * lg Q K C h r (key j a)) else 0) = L Q K C C h r := by
  rw [seen (fun k => Real.exp (Real.log 2 * lg Q K C h r k)) j hj b r hr]
  simp only [pw_lg]
  rfl
theorem A_tiles (h : Fin 16) (j : ℕ) (hj : j < 16) (b : Fin 512) (r : Fin 8192) (hr : r.val = 512 * j + b.val) (e : Fin 128) :
    (∑ i ∈ Finset.range j, ∑ a, W (key i a) (ch h e) * Real.exp (Real.log 2 * lg Q K C h r (key i a))) + (∑ a : Fin 512, W (key j a) (ch h e) * (if a.val ≤ b.val then Real.exp (Real.log 2 * lg Q K C h r (key j a)) else 0))
      = ∑ k, W k (ch h e) * E Q K C C h r k := by
  simp only [mul_ite, mul_zero]
  rw [seen (fun k => W k (ch h e) * Real.exp (Real.log 2 * lg Q K C h r k)) j hj b r hr]
  refine Finset.sum_congr rfl fun k _ => ?_
  unfold E
  rw [pw_lg, mul_ite, mul_zero]
theorem out_shift (h : Fin 16) (r : Fin 8192) (e : Fin 128) :
    (∑ k, W k (ch h e) * E Q K C C h r k) * (1 / L Q K C C h r) = ∑ k, W k (ch h e) * Pr Q K C M h r k := by
  rw [Finset.sum_mul]
  refine Finset.sum_congr rfl fun k _ => ?_
  rw [Pr_shift Q K C M C, mul_assoc]
  rfl

end Cert.Attn

/-! ## The blocks -/

namespace Cert.AttnIdeal.Val
open Cert.AttnIdeal Cert.AttnIdeal.Gen Cert.AttnIdeal.Value Cert.Blocks Cert.Attn
open Idealize Idealize.ShloMosaic Idealize.ShloMosaic.TcCoe Idealize.ShloMosaic.Tactic Idealize.SL.Sem
open Cert.KernelIdeal.Val (foldedH foldedH_mat)

variable (m : (ℓ : Loc nD τ sig) → Buf (Elt Ideal) ℓ)

theorem V_v7 (c : Dev nD) : V m c main_v7 = foldedH (m ((c : Thread nD τ).loc main_arg0)) := by
  show StableHlo.after hostOps0 (fun b => m (c, b)) _ = _
  after_results_simp
  rfl
theorem V_v15 (c : Dev nD) : V m c main_v15 = foldedH (m ((c : Thread nD τ).loc main_arg1)) := by
  show StableHlo.after hostOps0 (fun b => m (c, b)) _ = _
  after_results_simp
  rfl
theorem V_v17 (c : Dev nD) : V m c main_v17 = transpose S2048x8192 [1, 0] (truncf (F := Ideal) (φ := .f32) .bf16 (m ((c : Thread nD τ).loc main_arg2)) bitsLt_bf16_f32) transposes_S8192x2048_S2048x8192_1_0 := by
  show StableHlo.after hostOps0 (fun b => m (c, b)) _ = _
  after_results_simp
theorem V_v18 (c : Dev nD) : V m c main_v18 = broadcastInDim S16x1x8192 ![0, 2] bcast_S16x8192_S16x1x8192_0_2 (m ((c : Thread nD τ).loc main_arg3)) := by
  show StableHlo.after hostOps0 (fun b => m (c, b)) _ = _
  after_results_simp
theorem V_v19 (c : Dev nD) : V m c main_v19 = broadcastInDim S16x8192x1 ![0, 1] bcast_S16x8192_S16x8192x1_0_1 (m ((c : Thread nD τ).loc main_arg3)) := by
  show StableHlo.after hostOps0 (fun b => m (c, b)) _ = _
  after_results_simp

theorem t_lt (t : Fin cfg0.N) : t.val < 128 := t.isLt.trans_eq N_0
theorem coord1 (t : Fin cfg0.N) : (grid0.coords t 1).val = t.val % 16 :=
  (Pipeline.Grid.coords_val t 1 (by decide) rfl : _ = t.val / 1 % 16).trans (by rw [Nat.div_one])

theorem index0 (t : Fin cfg0.N) : win0_0.index t 0 = t.val % 16 ∧ win0_0.index t 1 = t.val / 16 :=
  (by decide +kernel : ∀ t : Fin grid0.N, win0_0.index t 0 = t.val % 16 ∧ win0_0.index t 1 = t.val / 16) t
theorem index1 (t : Fin cfg0.N) : win0_1.index t 0 = 0 ∧ win0_1.index t 1 = t.val / 16 :=
  (by decide +kernel : ∀ t : Fin grid0.N, win0_1.index t 0 = 0 ∧ win0_1.index t 1 = t.val / 16) t
theorem index2 (t : Fin cfg0.N) : win0_2.index t 0 = t.val / 16 ∧ win0_2.index t 1 = 0 :=
  (by decide +kernel : ∀ t : Fin grid0.N, win0_2.index t 0 = t.val / 16 ∧ win0_2.index t 1 = 0) t
theorem index3 (t : Fin cfg0.N) : win0_3.index t 0 = t.val / 16 ∧ win0_3.index t 1 = 0 ∧ win0_3.index t 2 = t.val % 16 :=
  (by decide +kernel : ∀ t : Fin grid0.N, win0_3.index t 0 = t.val / 16 ∧ win0_3.index t 1 = 0 ∧ win0_3.index t 2 = t.val % 16) t
theorem index4 (t : Fin cfg0.N) : win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0) t
theorem index5 (t : Fin cfg0.N) : win0_5.index t 0 = t.val % 16 ∧ win0_5.index t 1 = t.val / 16 :=
  (by decide +kernel : ∀ t : Fin grid0.N, win0_5.index t 0 = t.val % 16 ∧ win0_5.index t 1 = t.val / 16) t
theorem index6 (t : Fin cfg0.N) : win0_6.index t 0 = t.val / 16 ∧ win0_6.index t 1 = 0 ∧ win0_6.index t 2 = t.val % 16 :=
  (by decide +kernel : ∀ t : Fin grid0.N, win0_6.index t 0 = t.val / 16 ∧ win0_6.index t 1 = 0 ∧ win0_6.index t 2 = t.val % 16) t

/-- The head that a point computes first or second, and the query that a column of its block is. -/
def hdOf (t : Fin cfg0.N) (p : ℕ) (hp : p < 2) : Fin 16 := ⟨2 * (t.val / 16) + p, by have := t_lt t; omega⟩
@[inherit_doc hdOf] def qOf (t : Fin cfg0.N) (b : Fin 512) : Fin 8192 := ⟨512 * (t.val % 16) + b.val, by omega⟩

/-- The arguments hold real numbers. -/
structure Args (Q K W : Fin 8192 → Fin 2048 → ℝ) (C : Fin 16 → Fin 8192 → ℝ) (c : Dev nD) : Prop where
  a0 : m ((c : Thread nD τ).loc main_arg0) = mat Q
  a1 : m ((c : Thread nD τ).loc main_arg1) = mat K
  a2 : m ((c : Thread nD τ).loc main_arg2) = mat W
  a3 : m ((c : Thread nD τ).loc main_arg3) = gate C

variable {m} {Q K W : Fin 8192 → Fin 2048 → ℝ} {C : Fin 16 → Fin 8192 → ℝ} {c : Dev nD} (H : Args m Q K W C c)
include H

/-- The blocks that a point reads. -/
theorem blk0 (t : Fin cfg0.N) (z : S512x256.Idx) (r : Fin 8192) (x : Fin 2048) (h0 : r.val = 512 * (t.val % 16) + (z 0).val) (h1 : x.val = 256 * (t.val / 16) + (z 1).val) :
    (iblk m c 0 t : Vec Ideal S512x256 _) z = ((Q r x * Attn.fold : ℝ) : EReal) := by
  have hi := index0 t
  unfold iblk
  rw [View.read_apply]
  refine Eq.trans (b := V m c main_v7 (ix2 r x)) (congrArg (V m c main_v7) (e2 _ r x ?_ ?_)) ?_
  · show win0_0.index t 0 * 512 + 1 * (z 0).val = _; rw [hi.1]; omega
  · show win0_0.index t 1 * 256 + 1 * (z 1).val = _; rw [hi.2]; omega
  · rw [V_v7, H.a0]; exact congrFun (foldedH_mat Q) (ix2 r x)
@[inherit_doc blk0] theorem blk1 (t : Fin cfg0.N) (z : S8192x256.Idx) (r : Fin 8192) (x : Fin 2048) (h0 : r.val = (z 0).val) (h1 : x.val = 256 * (t.val / 16) + (z 1).val) :
    (iblk m c 1 t : Vec Ideal S8192x256 _) z = ((K r x * Attn.fold : ℝ) : EReal) := by
  have hi := index1 t
  unfold iblk
  rw [View.read_apply]
  refine Eq.trans (b := V m c main_v15 (ix2 r x)) (congrArg (V m c main_v15) (e2 _ r x ?_ ?_)) ?_
  · show win0_1.index t 0 * 8192 + 1 * (z 0).val = _; rw [hi.1]; omega
  · show win0_1.index t 1 * 256 + 1 * (z 1).val = _; rw [hi.2]; omega
  · rw [V_v15, H.a1]; exact congrFun (foldedH_mat K) (ix2 r x)
@[inherit_doc blk0] theorem blk2 (t : Fin cfg0.N) (z : S256x8192.Idx) (r : Fin 8192) (x : Fin 2048) (h0 : x.val = 256 * (t.val / 16) + (z 0).val) (h1 : r.val = (z 1).val) :
    (iblk m c 2 t : Vec Ideal S256x8192 _) z = ((W r x : ℝ) : EReal) := by
  have hi := index2 t
  unfold iblk
  rw [View.read_apply]
  refine Eq.trans (b := V m c main_v17 (ix2 x r)) (congrArg (V m c main_v17) (e2 _ x r ?_ ?_)) ?_
  · show win0_2.index t 0 * 256 + 1 * (z 0).val = _; rw [hi.1]; omega
  · show win0_2.index t 1 * 8192 + 1 * (z 1).val = _; rw [hi.2]; omega
  · rw [V_v17, H.a2]
    exact transpose_apply [1, 0] (mat W) transposes_S8192x2048_S2048x8192_1_0 (ix2 x r) (ix2 r x) (fun b => match b with | ⟨0, _⟩ => rfl | ⟨1, _⟩ => rfl)
@[inherit_doc blk0] theorem blk3 (t : Fin cfg0.N) (z : S2x1x512.Idx) (h : Fin 16) (r : Fin 8192) (h0 : h.val = 2 * (t.val / 16) + (z 0).val) (h1 : r.val = 512 * (t.val % 16) + (z 2).val) :
    (iblk m c 3 t : Vec Ideal S2x1x512 _) z = ((C h r : ℝ) : EReal) := by
  have hi := index3 t
  have z1 : (z 1).val < 1 := (z 1).isLt
  unfold iblk
  rw [View.read_apply]
  refine Eq.trans (b := V m c main_v18 (ix3 h 0 r)) (congrArg (V m c main_v18) (e3 _ h 0 r ?_ ?_ ?_)) ?_
  · show win0_3.index t 0 * 2 + 1 * (z 0).val = _; rw [hi.1]; omega
  · show win0_3.index t 1 * 1 + 1 * (z 1).val = 0; rw [hi.2.1]; omega
  · show win0_3.index t 2 * 512 + 1 * (z 2).val = _; rw [hi.2.2]; omega
  · rw [V_v18, H.a3]; exact Cert.KernelIdeal.Val.v9_at (gate C) h 0 r
@[inherit_doc blk0] theorem blk4 (t : Fin cfg0.N) (z : S2x8192x1.Idx) (h : Fin 16) (r : Fin 8192) (h0 : h.val = 2 * (t.val / 16) + (z 0).val) (h1 : r.val = (z 1).val) :
    (iblk m c 4 t : Vec Ideal S2x8192x1 _) z = ((C h r : ℝ) : EReal) := by
  have hi := index4 t
  have z1 : (z 2).val < 1 := (z 2).isLt
  unfold iblk
  rw [View.read_apply]
  refine Eq.trans (b := V m c main_v19 (ix3 h r 0)) (congrArg (V m c main_v19) (e3 _ h r 0 ?_ ?_ ?_)) ?_
  · show win0_4.index t 0 * 2 + 1 * (z 0).val = _; rw [hi.1]; omega
  · show win0_4.index t 1 * 8192 + 1 * (z 1).val = _; rw [hi.2.1]; omega
  · show win0_4.index t 2 * 1 + 1 * (z 2).val = 0; rw [hi.2.2]; omega
  · rw [V_v19, H.a3]; exact Cert.KernelIdeal.Val.v8_at (gate C) h r 0

/-- What a point computes for a head and a query: the head's output and the log-sum-exp. -/
theorem point (t : Fin cfg0.N) (p : ℕ) (hp : p < 2) (b : Fin 512) :
    (∀ e, k0_pay62 (F := Ideal) (stD (F := Ideal) (iblk m c 0 t) (iblk m c 1 t) (iblk m c 2 t) (iblk m c 4 t) p (t.val % 16)).2.2
        (stD (F := Ideal) (iblk m c 0 t) (iblk m c 1 t) (iblk m c 2 t) (iblk m c 4 t) p (t.val % 16)).2.1 (ix2 b e)
      = ((∑ k, W k (ch (hdOf t p hp) e) * Pr Q K C (Mx Q K C) (hdOf t p hp) (qOf t b) k : ℝ) : EReal)) ∧
    k0_pay64 (F := Ideal) (k0_pay63 (F := Ideal) (stD (F := Ideal) (iblk m c 0 t) (iblk m c 1 t) (iblk m c 2 t) (iblk m c 4 t) p (t.val % 16)).1)
        (stD (F := Ideal) (iblk m c 0 t) (iblk m c 1 t) (iblk m c 2 t) (iblk m c 4 t) p (t.val % 16)).2.1 (row (F := Ideal) p (iblk m c 3 t)) (ix3 0 0 b)
      = ((Mx Q K C (hdOf t p hp) (qOf t b) + Real.log (L Q K C (Mx Q K C) (hdOf t p hp) (qOf t b)) : ℝ) : EReal) := by
  have ht : ∀ j a, j < 16 → lgt (kt (F := Ideal) p j (iblk m c 1 t)) (qt (F := Ideal) p (iblk m c 0 t)) (ct (F := Ideal) p j (iblk m c 4 t)) a b
      = ((lg Q K C (hdOf t p hp) (qOf t b) (key j a) : ℝ) : EReal) := by
    intro j a hj
    have ek := key_val j hj a
    unfold lgt lg
    rw [EReal.coe_sub, EReal.coe_mul, ← coe_sum]
    refine congrArg₂ (fun x y : EReal => x - y) (Finset.sum_congr rfl fun e _ => ?_) (congrArg (· * _) ?_)
    · rw [EReal.coe_mul]
      refine congrArg₂ (fun x y : EReal => x * y) (blk1 H t _ (key j a) (ch (hdOf t p hp) e) ?_ ?_) (blk0 H t _ (qOf t b) (ch (hdOf t p hp) e) ?_ ?_)
      · rfl
      · show 128 * (2 * (t.val / 16) + p) + e.val = 256 * (t.val / 16) + (128 * p + e.val) % 256
        omega
      · show 512 * (t.val % 16) + b.val = 512 * (t.val % 16) + (0 + b.val) % 512
        omega
      · show 128 * (2 * (t.val / 16) + p) + e.val = 256 * (t.val / 16) + (128 * p + e.val) % 256
        omega
    · refine blk4 H t _ (hdOf t p hp) (key j a) ?_ ?_
      · show 2 * (t.val / 16) + p = 2 * (t.val / 16) + (p + 0) % 2
        omega
      · rfl
  have hw : ∀ (e : Fin 128) (j : ℕ) (a : Fin 512), j < 16 → vt (F := Ideal) p j (iblk m c 2 t) (ix2 e a) = ((W (key j a) (ch (hdOf t p hp) e) : ℝ) : EReal) := by
    intro e j a hj
    refine blk2 H t _ (key j a) (ch (hdOf t p hp) e) ?_ ?_
    · show 128 * (2 * (t.val / 16) + p) + e.val = 256 * (t.val / 16) + (128 * p + e.val) % 256
      omega
    · rfl
  have hg : row (F := Ideal) p (iblk m c 3 t) (ix3 0 0 b) = ((C (hdOf t p hp) (qOf t b) : ℝ) : EReal) := by
    refine blk3 H t _ (hdOf t p hp) (qOf t b) ?_ ?_
    · show 2 * (t.val / 16) + p = 2 * (t.val / 16) + (p + 0) % 2
      omega
    · show 512 * (t.val % 16) + b.val = 512 * (t.val % 16) + (0 + b.val) % 512
      omega
  have hj : t.val % 16 < 16 := Nat.mod_lt _ (by decide)
  obtain ⟨h1, h2⟩ := outs_col (iblk m c 0 t) (iblk m c 1 t) (iblk m c 2 t) (iblk m c 4 t) p b _ _ ht hw (t.val % 16) hj _ _ hg _ _ (L_pos Q K C C (hdOf t p hp) (qOf t b))
    (L_tiles Q K C (hdOf t p hp) (t.val % 16) hj b (qOf t b) rfl) (A_tiles Q K W C (hdOf t p hp) (t.val % 16) hj b (qOf t b) rfl)
  refine ⟨fun e => (h1 e).trans (congrArg _ (out_shift Q K W C (Mx Q K C) (hdOf t p hp) (qOf t b) e)), h2.trans (congrArg _ ?_)⟩
  rw [add_comm, lse_shift Q K C C (Mx Q K C)]

end Cert.AttnIdeal.Val
end
-- ==== Proof.AttnClaim.lean ====
/-
  The claims about the attention's forward call: on finite arguments it leaves the attention's output and its log-sum-exps.
-/
module

public import proofs.«01_k».proof.Proof.AttnArr
public import proofs.«01_k».proof.Proof.Claims
public import proofs.«01_k».proof.Proof.Gen.Attn
public import proofs.«01_k».proof.Proof.Gen.Attn.Frame
public import proofs.«01_k».proof.Proof.Gen.AttnRefIdeal.Run

@[expose] public section

set_option maxRecDepth 16384
noncomputable section

/-! ## The arrays -/

namespace Cert.AttnIdeal.Val
open Cert.AttnIdeal Cert.AttnIdeal.Gen Cert.AttnIdeal.Value Cert.Blocks Cert.Attn
open Idealize Idealize.ShloMosaic Idealize.ShloMosaic.TcCoe Idealize.ShloMosaic.Tactic Idealize.SL.Sem

/-- The output and the log-sum-exps, over the real numbers. -/
def outR (Q K W : Fin 8192 → Fin 2048 → ℝ) (C : Fin 16 → Fin 8192 → ℝ) : S8192x2048.Idx → EReal := mat fun r x => ∑ k, W k x * Pr Q K C (Mx Q K C) (hd x) r k
@[inherit_doc outR] def lseR (Q K : Fin 8192 → Fin 2048 → ℝ) (C : Fin 16 → Fin 8192 → ℝ) : S16x1x8192.Idx → EReal := fun i =>
  ((Mx Q K C (i 0) (i 2) + Real.log (L Q K C (Mx Q K C) (i 0) (i 2)) : ℝ) : EReal)

variable {m : (ℓ : Loc nD τ sig) → Buf (Elt Ideal) ℓ} {Q K W : Fin 8192 → Fin 2048 → ℝ} {C : Fin 16 → Fin 8192 → ℝ} {c : Dev nD} (H : Args m Q K W C c)
include H

theorem outR_at (t : Fin cfg0.N) (p : ℕ) (hp : p < 2) (b : Fin 512) (e : Fin 128) (i : S8192x2048.Idx) (h0 : (i 0).val = 512 * (t.val % 16) + b.val)
    (h1 : (i 1).val = 256 * (t.val / 16) + 128 * p + e.val) :
    k0_pay62 (F := Ideal) (stD (F := Ideal) (iblk m c 0 t) (iblk m c 1 t) (iblk m c 2 t) (iblk m c 4 t) p (t.val % 16)).2.2
        (stD (F := Ideal) (iblk m c 0 t) (iblk m c 1 t) (iblk m c 2 t) (iblk m c 4 t) p (t.val % 16)).2.1 (ix2 b e) = outR Q K W C i := by
  refine ((point H t p hp b).1 e).trans ?_
  have e0 : i 0 = qOf t b := Fin.ext h0
  have e1 : i 1 = ch (hdOf t p hp) e := Fin.ext (h1.trans (by show _ = 128 * (2 * (t.val / 16) + p) + e.val; omega))
  have e2 : hd (ch (hdOf t p hp) e) = hdOf t p hp := Fin.ext (by show (128 * (2 * (t.val / 16) + p) + e.val) / 128 = 2 * (t.val / 16) + p; omega)
  unfold outR mat
  dsimp only
  rw [e0, e1, e2]

theorem flushed_5 (t : Fin cfg0.N) (_ : (cfg0.win 5).flush t = true) :
    (dats m 0 c).flushed 5 t = ((cfg0.win 5).blk t).view.read (Elt Ideal) (outR Q K W C) := by
  have hi := index5 t
  rw [flushed5_A]
  unfold out0_A_5
  rw [L5_eq, coord1]
  funext z
  rw [View.read_apply]
  have z0 : (z 0).val < 512 := (z 0).isLt
  have z1 : (z 1).val < 256 := (z 1).isLt
  by_cases hz : (z 1).val < 128
  · refine ((View.read_writes_cons_unit_of_not_mem VO0_5 _ _ _ _ _ rfl 1 (Or.inl hz)).trans
      (View.read_writes_cons_unit_of_mem VO0_5 _ _ _ _ _ (ix2 (z 0) ⟨(z 1).val, hz⟩) rfl fun b => ?_)).trans (outR_at H t 0 (by decide) _ _ _ ?_ ?_)
    · match b with
      | ⟨0, _⟩ => show (z 0).val = 0 + (z 0).val; omega
      | ⟨1, _⟩ => show (z 1).val = 0 + (z 1).val; omega
    · show win0_5.index t 0 * 512 + 1 * (z 0).val = 512 * (t.val % 16) + (z 0).val; rw [hi.1]; omega
    · show win0_5.index t 1 * 256 + 1 * (z 1).val = 256 * (t.val / 16) + 128 * 0 + (z 1).val; rw [hi.2]; omega
  · refine (View.read_writes_cons_unit_of_mem VO0_5 _ _ _ _ _ (ix2 (z 0) ⟨(z 1).val - 128, by omega⟩) rfl fun b => ?_).trans (outR_at H t 1 (by decide) _ _ _ ?_ ?_)
    · match b with
      | ⟨0, _⟩ => show (z 0).val = 0 + (z 0).val; omega
      | ⟨1, _⟩ => show (z 1).val = 128 + ((z 1).val - 128); omega
    · show win0_5.index t 0 * 512 + 1 * (z 0).val = 512 * (t.val % 16) + (z 0).val; rw [hi.1]; omega
    · show win0_5.index t 1 * 256 + 1 * (z 1).val = 256 * (t.val / 16) + 128 * 1 + ((z 1).val - 128); rw [hi.2]; omega

theorem lseR_at (t : Fin cfg0.N) (p : ℕ) (hp : p < 2) (b : Fin 512) (i : S16x1x8192.Idx) (h0 : (i 0).val = 2 * (t.val / 16) + p) (h1 : (i 2).val = 512 * (t.val % 16) + b.val) :
    k0_pay64 (F := Ideal) (k0_pay63 (F := Ideal) (stD (F := Ideal) (iblk m c 0 t) (iblk m c 1 t) (iblk m c 2 t) (iblk m c 4 t) p (t.val % 16)).1)
        (stD (F := Ideal) (iblk m c 0 t) (iblk m c 1 t) (iblk m c 2 t) (iblk m c 4 t) p (t.val % 16)).2.1 (row (F := Ideal) p (iblk m c 3 t)) (ix3 0 0 b) = lseR Q K C i := by
  refine (point H t p hp b).2.trans ?_
  have e0 : i 0 = hdOf t p hp := Fin.ext h0
  have e1 : i 2 = qOf t b := Fin.ext h1
  unfold lseR
  rw [e0, e1]

theorem flushed_6 (t : Fin cfg0.N) (_ : (cfg0.win 6).flush t = true) :
    (dats m 0 c).flushed 6 t = ((cfg0.win 6).blk t).view.read (Elt Ideal) (lseR Q K C) := by
  have hi := index6 t
  rw [flushed6_A]
  unfold out0_A_6
  rw [L6_eq, coord1]
  funext z
  rw [View.read_apply]
  have z0 : (z 0).val < 2 := (z 0).isLt
  have z1 : (z 1).val < 1 := (z 1).isLt
  have z2 : (z 2).val < 512 := (z 2).isLt
  by_cases hz : (z 0).val < 1
  · refine ((View.read_writes_cons_unit_of_not_mem VO0_6 _ _ _ _ _ rfl 0 (Or.inl hz)).trans
      (View.read_writes_cons_unit_of_mem VO0_6 _ _ _ _ _ (ix3 0 0 (z 2)) rfl fun b => ?_)).trans (lseR_at H t 0 (by decide) _ _ ?_ ?_)
    · match b with
      | ⟨0, _⟩ => show (z 0).val = 0 + 0; omega
      | ⟨1, _⟩ => show (z 1).val = 0 + 0; omega
      | ⟨2, _⟩ => show (z 2).val = 0 + (z 2).val; omega
    · show win0_6.index t 0 * 2 + 1 * (z 0).val = 2 * (t.val / 16) + 0; rw [hi.1]; omega
    · show win0_6.index t 2 * 512 + 1 * (z 2).val = 512 * (t.val % 16) + (z 2).val; rw [hi.2.2]; omega
  · refine (View.read_writes_cons_unit_of_mem VO0_6 _ _ _ _ _ (ix3 0 0 (z 2)) rfl fun b => ?_).trans (lseR_at H t 1 (by decide) _ _ ?_ ?_)
    · match b with
      | ⟨0, _⟩ => show (z 0).val = 1 + 0; omega
      | ⟨1, _⟩ => show (z 1).val = 0 + 0; omega
      | ⟨2, _⟩ => show (z 2).val = 0 + (z 2).val; omega
    · show win0_6.index t 0 * 2 + 1 * (z 0).val = 2 * (t.val / 16) + 1; rw [hi.1]; omega
    · show win0_6.index t 2 * 512 + 1 * (z 2).val = 512 * (t.val % 16) + (z 2).val; rw [hi.2.2]; omega

/-- What the two arrays end holding. -/
theorem final_5 : (dats m 0 c).arrAt 5 cfg0.N = outR Q K W C := by
  refine (dats m 0 c).arrAt_eq_of_cover 5 (outR Q K W C) (flushed_5 H) fun i => ?_
  have b0 : (i 0).val < 8192 := (i 0).isLt
  have b1 : (i 1).val < 2048 := (i 1).isLt
  have hlt : (i 1).val / 256 * 16 + (i 0).val / 512 < cfg0.N := (by omega : (i 1).val / 256 * 16 + (i 0).val / 512 < 128).trans_eq N_0.symm
  refine ⟨⟨_, hlt⟩, flush0_5 _, ?_⟩
  have hi := index5 ⟨_, hlt⟩
  generalize hT : (⟨_, hlt⟩ : Fin cfg0.N) = T at hi ⊢
  have hv : T.val = (i 1).val / 256 * 16 + (i 0).val / 512 := by rw [← hT]
  show i ∈ ((View.whole main_v20_0).slice (win0_5.rect T)).set
  rw [View.set_slice_whole, Rect.mem_set_unit]
  intro a
  match a with
  | ⟨0, _⟩ => show win0_5.index T 0 * 512 ≤ (i 0).val ∧ (i 0).val < win0_5.index T 0 * 512 + 512; rw [hi.1]; omega
  | ⟨1, _⟩ => show win0_5.index T 1 * 256 ≤ (i 1).val ∧ (i 1).val < win0_5.index T 1 * 256 + 256; rw [hi.2]; omega
@[inherit_doc final_5] theorem final_6 : (dats m 0 c).arrAt 6 cfg0.N = lseR Q K C := by
  refine (dats m 0 c).arrAt_eq_of_cover 6 (lseR Q K C) (flushed_6 H) fun i => ?_
  have b0 : (i 0).val < 16 := (i 0).isLt
  have b1 : (i 1).val < 1 := (i 1).isLt
  have b2 : (i 2).val < 8192 := (i 2).isLt
  have hlt : (i 0).val / 2 * 16 + (i 2).val / 512 < cfg0.N := (by omega : (i 0).val / 2 * 16 + (i 2).val / 512 < 128).trans_eq N_0.symm
  refine ⟨⟨_, hlt⟩, flush0_6 _, ?_⟩
  have hi := index6 ⟨_, hlt⟩
  generalize hT : (⟨_, hlt⟩ : Fin cfg0.N) = T at hi ⊢
  have hv : T.val = (i 0).val / 2 * 16 + (i 2).val / 512 := by rw [← hT]
  show i ∈ ((View.whole main_v20_1).slice (win0_6.rect T)).set
  rw [View.set_slice_whole, Rect.mem_set_unit]
  intro a
  match a with
  | ⟨0, _⟩ => show win0_6.index T 0 * 2 ≤ (i 0).val ∧ (i 0).val < win0_6.index T 0 * 2 + 2; rw [hi.1]; omega
  | ⟨1, _⟩ => show win0_6.index T 1 * 1 ≤ (i 1).val ∧ (i 1).val < win0_6.index T 1 * 1 + 1; rw [hi.2.1]; omega
  | ⟨2, _⟩ => show win0_6.index T 2 * 512 ≤ (i 2).val ∧ (i 2).val < win0_6.index T 2 * 512 + 512; rw [hi.2.2]; omega

end Cert.AttnIdeal.Val

namespace Cert.Proof.Attn
open Idealize Idealize.ShloMosaic Idealize.ShloMosaic.TcCoe Idealize.SL.Sem
open Cert.Blocks Cert.AttnRefIdeal.Read Cert.AttnIdeal.Val Cert.Attn
open Cert.KernelIdeal.Val (sumH outH sumH_eq outH_eq lse_eq v9_at)

instance facts_pre : Cert.Pre_finite_attn.Facts where
  bcast_S_S8192x2048 := Cert.KernelIdeal.Facts₀.bcast_S_S8192x2048
  reducesTo_S8192x2048_S_d0_1 := by decide
  h_S_ := by decide
  bcast_S_S16x8192 := by decide
  reducesTo_S16x8192_S_d0_1 := by decide

/-- The kernel, as printed, runs and leaves its arguments and the machine's counters as they were. -/
theorem frame_kernel : Cert.quiescent_Attn := fun m ρ _ => Cert.Attn.Gen.frame m ρ
/-- The idealised one does. -/
theorem frame_ideal : Cert.quiescent_AttnIdeal := fun m ρ _ => Cert.AttnIdeal.Gen.frame m ρ
@[inherit_doc frame_ideal] theorem frame_ideal_pre : Cert.quiescent_AttnIdeal_pre_finite_attn := fun m ρ _ => frame_ideal m ρ trivial
/-- The reference does. -/
theorem frame_reference : Cert.quiescent_AttnRefIdeal := fun m ρ _ =>
  (θ_run Cert.AttnRefIdeal.defs _ _).mono (fun r h => ⟨fun c => (h c).2.2, sem_eq_zero_of_no_sems (by decide) r.2⟩) (Cert.AttnRefIdeal.Value.run (F := Ideal) m ρ)
@[inherit_doc frame_reference] theorem frame_reference_pre : Cert.quiescent_AttnRefIdeal_pre_finite_attn := fun m ρ _ => frame_reference m ρ trivial

/-- The named constants are the printed ones, read as the real numbers (or the infinity) they stand for. -/
theorem preserves : Cert.preserves_Attn_AttnIdeal :=
  ⟨IdealRules.named_const.statement Cert.AttnIdeal.κ "mask" .f32 0xF149F2CA#32 _ rfl,
    IdealRules.named_const.statement Cert.AttnIdeal.κ "log2e" .f32 0x3FB8AA3B#32 _ rfl,
    IdealRules.named_const.statement Cert.AttnIdeal.κ "ln2" .f32 0x3F317218#32 _ rfl⟩

/-- Where the precondition's predicate is true, all four arrays hold real numbers. -/
theorem finite_real (x0 x1 x2 : Cert.Pre_finite_attn.S8192x2048.Idx → EReal) (x3 : Cert.Pre_finite_attn.S16x8192.Idx → EReal)
    (e : Cert.Pre_finite_attn.fn (F := Ideal) x0 x1 x2 x3 = fun _ => 1#1) :
    x0 = mat (Claims.reals x0) ∧ x1 = mat (Claims.reals x1) ∧ x2 = mat (Claims.reals x2) ∧ x3 = gate (Claims.reals x3) := by
  have e := congrFun e (fun k => k.elim0)
  dsimp only [Cert.Pre_finite_attn.fn, Cert.Pre_finite_attn.fn_part1] at e
  have h3 := IntOp.andi_eq_one.mp e
  have h2 := IntOp.andi_eq_one.mp h3.1
  have h1 := IntOp.andi_eq_one.mp h2.1
  exact ⟨Claims.mat_reals _ (Claims.real_of_all _ _ _ (fun _ => rfl) _ _ _ _ _ h1.1), Claims.mat_reals _ (Claims.real_of_all _ _ _ (fun _ => rfl) _ _ _ _ _ h1.2),
    Claims.mat_reals _ (Claims.real_of_all _ _ _ (fun _ => rfl) _ _ _ _ _ h2.2), Claims.gate_reals _ (Claims.real_of_all _ _ _ (fun _ => rfl) _ _ _ _ _ h3.2)⟩

/-! ## The reference's results: the attention that the backward pass differentiates -/

section reference
theorem v21_eq (x0 x1 : Cert.AttnRefIdeal.S8192x2048.Idx → EReal) (x3 : Cert.AttnRefIdeal.S16x8192.Idx → EReal) :
    val_main_v21 (F := Ideal) x0 x1 x3 = Cert.ReferenceIdeal.Read.val_main_v21 (F := Ideal) x0 x1 x3 := rfl
theorem v26_eq (x0 x1 : Cert.AttnRefIdeal.S8192x2048.Idx → EReal) (x3 : Cert.AttnRefIdeal.S16x8192.Idx → EReal) :
    val_main_v26 (F := Ideal) x0 x1 x3 = sumH x0 x1 x3 (Cert.ReferenceIdeal.Read.val_main_v21 (F := Ideal) x0 x1 x3) := rfl
theorem v31_eq (x0 x1 x2 : Cert.AttnRefIdeal.S8192x2048.Idx → EReal) (x3 : Cert.AttnRefIdeal.S16x8192.Idx → EReal) :
    val_main_v31 (F := Ideal) x0 x1 x2 x3 = outH x0 x1 x2 x3 (Cert.ReferenceIdeal.Read.val_main_v21 (F := Ideal) x0 x1 x3) := rfl

variable (Q K W : Fin 8192 → Fin 2048 → ℝ) (C : Fin 16 → Fin 8192 → ℝ)

theorem v33_real : val_main_v33 (F := Ideal) (mat Q) (mat K) (mat W) (gate C) = outR Q K W C := by
  funext i
  obtain ⟨r, x, rfl⟩ : ∃ (r : Fin 8192) (x : Fin 2048), i = ix2 r x := ⟨i 0, i 1, eq_ix2 i⟩
  rw [val_main_v33_apply]
  show val_main_v32 (F := Ideal) (mat Q) (mat K) (mat W) (gate C) (ix2 r x) = _
  rw [val_main_v32_apply, e3 (idx_main_v32 (ix2 r x)) r (hd x) (wi x)
      (by show (r.val * 2048 + x.val) / 2048 = r.val; omega) (by show (r.val * 2048 + x.val) / 128 % 16 = x.val / 128; omega)
      (by show (r.val * 2048 + x.val) % 128 = x.val % 128; omega),
    v31_eq, ← r28, outH_eq, r50, ch_hd]
  rfl

theorem v36_real : val_main_v36 (F := Ideal) (mat Q) (mat K) (gate C) = lseR Q K C := by
  funext i
  obtain ⟨h, z, r, rfl⟩ : ∃ (h : Fin 16) (z : Fin 1) (r : Fin 8192), i = ix3 h z r := ⟨i 0, i 1, i 2, eq_ix3 i⟩
  rw [val_main_v36_apply, e2 (idx_main_v36 (ix3 h z r)) h r rfl rfl]
  exact lse_eq Q K C h r
end reference

/-- Over the extended reals, on finite arguments, the call computes the attention's output and the log-sum-exps of its rows: the
reference's results. -/
theorem algebraic : Cert.algebraic_AttnIdeal_AttnRefIdeal_pre_finite_attn := by
  intro m ρ m' ρ' hpre hagree
  refine ⟨fun c => (Cert.AttnIdeal.Gen.dats m 0 c).arrAt 5 Cert.AttnIdeal.cfg0.N, fun c => (Cert.AttnIdeal.Gen.dats m 0 c).arrAt 6 Cert.AttnIdeal.cfg0.N, ?_, ?_⟩
  · exact Cert.AttnIdeal.Value.run_blocks (F := Ideal) m ρ
  · refine (θ_run Cert.AttnRefIdeal.defs _ _).mono (fun r h c => ?_) (Cert.AttnRefIdeal.Value.run (F := Ideal) m' ρ')
    obtain ⟨h0, h1, h2, h3⟩ := finite_real _ _ _ _ (hpre c)
    have H : Args m _ _ _ _ c := ⟨h0, h1, h2, h3⟩
    obtain ⟨g0, g1, g2, g3⟩ := hagree c
    replace g0 := g0.trans h0
    replace g1 := g1.trans h1
    replace g2 := g2.trans h2
    replace g3 := g3.trans h3
    refine ⟨(h c).1.trans ?_, (h c).2.1.trans ?_, (h c).2.2⟩
    · rw [val_main_v33_eq, g0, g1, g2, g3]; exact (v33_real _ _ _ _).trans (final_5 H).symm
    · rw [val_main_v36_eq, g0, g1, g3]; exact (v36_real _ _ _).trans (final_6 H).symm

end Cert.Proof.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DwUp
public import proofs.«01_k».proof.Proof.Gen.DwUpIdeal
public import proofs.«01_k».proof.Proof.Gen.DwUpRefIdeal
public import proofs.«01_k».proof.Proof.Gen.DwDown
public import proofs.«01_k».proof.Proof.Gen.DwDownIdeal
public import proofs.«01_k».proof.Proof.Gen.DwDownRefIdeal
public import proofs.«01_k».proof.Proof.Gen.Down
public import proofs.«01_k».proof.Proof.Gen.DownIdeal
public import proofs.«01_k».proof.Proof.Gen.DownRefIdeal
public import proofs.«01_k».proof.Proof.Gen.Act
public import proofs.«01_k».proof.Proof.Gen.ActIdeal
public import proofs.«01_k».proof.Proof.Gen.ActRefIdeal
public import proofs.«01_k».proof.Proof.Gen.Dh
public import proofs.«01_k».proof.Proof.Gen.DhIdeal
public import proofs.«01_k».proof.Proof.Gen.DhRefIdeal
public import proofs.«01_k».proof.Proof.Gen.Out
public import proofs.«01_k».proof.Proof.Gen.OutIdeal
public import proofs.«01_k».proof.Proof.Gen.OutRefIdeal
public import proofs.«01_k».proof.Proof.Gen.OutDx
public import proofs.«01_k».proof.Proof.Gen.OutDxIdeal
public import proofs.«01_k».proof.Proof.Gen.OutDxRefIdeal
public import proofs.«01_k».proof.Proof.Gen.OutDw
public import proofs.«01_k».proof.Proof.Gen.OutDwIdeal
public import proofs.«01_k».proof.Proof.Gen.OutDwRefIdeal
public import proofs.«01_k».proof.Proof.Gen.In
public import proofs.«01_k».proof.Proof.Gen.InIdeal
public import proofs.«01_k».proof.Proof.Gen.InRefIdeal
public import proofs.«01_k».proof.Proof.Gen.InDw
public import proofs.«01_k».proof.Proof.Gen.InDwIdeal
public import proofs.«01_k».proof.Proof.Gen.InDwRefIdeal
public import proofs.«01_k».proof.Proof.Gen.InDx
public import proofs.«01_k».proof.Proof.Gen.InDxIdeal
public import proofs.«01_k».proof.Proof.Gen.InDxRefIdeal
public import proofs.«01_k».proof.Proof.Gen.Attn
public import proofs.«01_k».proof.Proof.Gen.AttnIdeal
public import proofs.«01_k».proof.Proof.Gen.AttnRefIdeal
public import proofs.«01_k».proof.Proof.DwUpVal
public import proofs.«01_k».proof.Proof.DwDownVal
public import proofs.«01_k».proof.Proof.DownVal
public import proofs.«01_k».proof.Proof.Claims
public import proofs.«01_k».proof.Proof.ActClaim
public import proofs.«01_k».proof.Proof.DhClaim
public import proofs.«01_k».proof.Proof.OutVal
public import proofs.«01_k».proof.Proof.OutDxVal
public import proofs.«01_k».proof.Proof.OutDwVal
public import proofs.«01_k».proof.Proof.InVal
public import proofs.«01_k».proof.Proof.InDwVal
public import proofs.«01_k».proof.Proof.InDxClaim
public import proofs.«01_k».proof.Proof.AttnClaim

@[expose] public section

noncomputable section

namespace Cert.Proof

/-- Everything that is claimed. -/
theorem claim : Cert.Claim :=
  ⟨Cert.Kernel.Gen.facts, Cert.KernelIdeal.Gen.facts, Cert.ReferenceIdeal.Gen.facts,
    Cert.DwUp.Gen.facts, Cert.DwUpIdeal.Gen.facts, Cert.DwUpRefIdeal.Gen.facts,
    Cert.DwDown.Gen.facts, Cert.DwDownIdeal.Gen.facts, Cert.DwDownRefIdeal.Gen.facts,
    Cert.Down.Gen.facts, Cert.DownIdeal.Gen.facts, Cert.DownRefIdeal.Gen.facts,
    Cert.Act.Gen.facts, Cert.ActIdeal.Gen.facts, Cert.ActRefIdeal.Gen.facts,
    Cert.Dh.Gen.facts, Cert.DhIdeal.Gen.facts, Cert.DhRefIdeal.Gen.facts,
    Cert.Out.Gen.facts, Cert.OutIdeal.Gen.facts, Cert.OutRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.In.Gen.facts, Cert.InIdeal.Gen.facts, Cert.InRefIdeal.Gen.facts,
    Cert.InDw.Gen.facts, Cert.InDwIdeal.Gen.facts, Cert.InDwRefIdeal.Gen.facts,
    Cert.InDx.Gen.facts, Cert.InDxIdeal.Gen.facts, Cert.InDxRefIdeal.Gen.facts,
    Cert.Attn.Gen.facts, Cert.AttnIdeal.Gen.facts, Cert.AttnRefIdeal.Gen.facts,
    Claims.facts_pre, Act.facts_pre, Cert.Proof.Attn.facts_pre,
    Claims.frame_kernel, Claims.frame_kernel_ideal, Claims.frame_kernel_ideal_pre, Claims.frame_reference, Claims.frame_reference_pre,
    DwUp.frame_kernel, DwUp.frame_ideal, DwUp.frame_reference,
    DwDown.frame_kernel, DwDown.frame_ideal, DwDown.frame_reference,
    Down.frame_kernel, Down.frame_ideal, Down.frame_reference,
    Act.frame_kernel, Act.frame_ideal, Act.frame_ideal_pre, Act.frame_reference, Act.frame_reference_pre,
    Dh.frame_kernel, Dh.frame_ideal, Dh.frame_reference,
    Out.frame_kernel, Out.frame_ideal, Out.frame_reference,
    OutDx.frame_kernel, OutDx.frame_ideal, OutDx.frame_reference,
    OutDw.frame_kernel, OutDw.frame_ideal, OutDw.frame_reference,
    In.frame_kernel, In.frame_ideal, In.frame_reference,
    InDw.frame_kernel, InDw.frame_ideal, InDw.frame_reference,
    InDx.frame_kernel, InDx.frame_ideal, InDx.frame_reference,
    Cert.Proof.Attn.frame_kernel, Cert.Proof.Attn.frame_ideal, Cert.Proof.Attn.frame_ideal_pre, Cert.Proof.Attn.frame_reference, Cert.Proof.Attn.frame_reference_pre,
    Claims.preserves, Claims.algebraic, trivial, DwUp.algebraic, trivial, DwDown.algebraic, trivial, Down.algebraic, trivial, Act.algebraic, trivial, Dh.algebraic,
    trivial, Out.algebraic, trivial, OutDx.algebraic, trivial, OutDw.algebraic, trivial, In.algebraic, trivial, InDw.algebraic, trivial, InDx.algebraic,
    Cert.Proof.Attn.preserves, Cert.Proof.Attn.algebraic⟩

end Cert.Proof

end
